-- ==== Defs.lean ====
def Pre_Kernel2 [hPre_ranges : Cert.Pre_ranges.Facts] (m : (ℓ : Loc Cert.Kernel2.nD Cert.Kernel2.τ Cert.Kernel2.sig) → Buf (Elt Bits) ℓ) : Prop :=
  ∀ c : Dev Cert.Kernel2.nD,
    (Cert.Pre_ranges.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_ranges : Cert.Pre_ranges.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ranges.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ranges [hPre_ranges : Cert.Pre_ranges.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ranges.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_NextProj (m : (ℓ : Loc Cert.NextProj.nD Cert.NextProj.τ Cert.NextProj.sig) → Buf (Elt Bits) ℓ) : Prop :=
  True

def Pre_NextProjIdeal (m : (ℓ : Loc Cert.NextProjIdeal.nD Cert.NextProjIdeal.τ Cert.NextProjIdeal.sig) → Buf (Elt Ideal) ℓ) : Prop :=
  True

def Pre_NextProjRefIdeal (m : (ℓ : Loc Cert.NextProjRefIdeal.nD Cert.NextProjRefIdeal.τ Cert.NextProjRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite [hPre_finite : Cert.Pre_finite.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9)) (m ((c.tc : Thread Cert.OutProjIdeal.nD Cert.OutProjIdeal.τ).loc Cert.OutProjIdeal.main_arg10)) (m ((c.tc : Thread Cert.OutProjIdeal.nD Cert.OutProjIdeal.τ).loc Cert.OutProjIdeal.main_arg11)) (m ((c.tc : Thread Cert.OutProjIdeal.nD Cert.OutProjIdeal.τ).loc Cert.OutProjIdeal.main_arg12))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite [hPre_finite : Cert.Pre_finite.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9)) (m ((c.tc : Thread Cert.OutProjRefIdeal.nD Cert.OutProjRefIdeal.τ).loc Cert.OutProjRefIdeal.main_arg10)) (m ((c.tc : Thread Cert.OutProjRefIdeal.nD Cert.OutProjRefIdeal.τ).loc Cert.OutProjRefIdeal.main_arg11)) (m ((c.tc : Thread Cert.OutProjRefIdeal.nD Cert.OutProjRefIdeal.τ).loc Cert.OutProjRefIdeal.main_arg12))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Sparse (m : (ℓ : Loc Cert.Sparse.nD Cert.Sparse.τ Cert.Sparse.sig) → Buf (Elt Bits) ℓ) : Prop :=
  True

def Pre_SparseIdeal (m : (ℓ : Loc Cert.SparseIdeal.nD Cert.SparseIdeal.τ Cert.SparseIdeal.sig) → Buf (Elt Ideal) ℓ) : Prop :=
  True

def Pre_SparseRefIdeal (m : (ℓ : Loc Cert.SparseRefIdeal.nD Cert.SparseRefIdeal.τ Cert.SparseRefIdeal.sig) → Buf (Elt Ideal) ℓ) : Prop :=
  True

def quiescent_Kernel2 [hKernel2 : Cert.Kernel2.Facts] [hPre_ranges : Cert.Pre_ranges.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_ranges : Cert.Pre_ranges.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_ranges [hReference2Ideal : Cert.Reference2Ideal.Facts] [hPre_ranges : Cert.Pre_ranges.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ranges m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_NextProj [hNextProj : Cert.NextProj.Facts] : Prop :=
  ∀ (m : (ℓ : Loc Cert.NextProj.nD Cert.NextProj.τ Cert.NextProj.sig) → Buf (Elt Bits) ℓ) (g : Dev Cert.NextProj.nD → PrngReg), Pre_NextProj m →
    θ_run (Cert.NextProj.defs (F := Bits)) (onTc (τ := Cert.NextProj.τ) (Cert.NextProj.main (F := Bits))) ⟨m, fun _ => 0, g⟩ (fun r => (∀ c : Dev Cert.NextProj.nD,
      r.2.mem ((c.tc : Thread Cert.NextProj.nD Cert.NextProj.τ).loc Cert.NextProj.main_arg0) = m ((c.tc : Thread Cert.NextProj.nD Cert.NextProj.τ).loc Cert.NextProj.main_arg0)
      ∧ r.2.mem ((c.tc : Thread Cert.NextProj.nD Cert.NextProj.τ).loc Cert.NextProj.main_arg1) = m ((c.tc : Thread Cert.NextProj.nD Cert.NextProj.τ).loc Cert.NextProj.main_arg1)
      ∧ r.2.mem ((c.tc : Thread Cert.NextProj.nD Cert.NextProj.τ).loc Cert.NextProj.main_arg2) = m ((c.tc : Thread Cert.NextProj.nD Cert.NextProj.τ).loc Cert.NextProj.main_arg2)
      ∧ r.2.mem ((c.tc : Thread Cert.NextProj.nD Cert.NextProj.τ).loc Cert.NextProj.main_arg3) = m ((c.tc : Thread Cert.NextProj.nD Cert.NextProj.τ).loc Cert.NextProj.main_arg3)
      ∧ r.2.mem ((c.tc : Thread Cert.NextProj.nD Cert.NextProj.τ).loc Cert.NextProj.main_arg4) = m ((c.tc : Thread Cert.NextProj.nD Cert.NextProj.τ).loc Cert.NextProj.main_arg4)
      ∧ r.2.mem ((c.tc : Thread Cert.NextProj.nD Cert.NextProj.τ).loc Cert.NextProj.main_arg5) = m ((c.tc : Thread Cert.NextProj.nD Cert.NextProj.τ).loc Cert.NextProj.main_arg5)
      ∧ r.2.mem ((c.tc : Thread Cert.NextProj.nD Cert.NextProj.τ).loc Cert.NextProj.main_arg6) = m ((c.tc : Thread Cert.NextProj.nD Cert.NextProj.τ).loc Cert.NextProj.main_arg6)
      ∧ r.2.mem ((c.tc : Thread Cert.NextProj.nD Cert.NextProj.τ).loc Cert.NextProj.main_arg7) = m ((c.tc : Thread Cert.NextProj.nD Cert.NextProj.τ).loc Cert.NextProj.main_arg7)
      ∧ r.2.mem ((c.tc : Thread Cert.NextProj.nD Cert.NextProj.τ).loc Cert.NextProj.main_arg8) = m ((c.tc : Thread Cert.NextProj.nD Cert.NextProj.τ).loc Cert.NextProj.main_arg8)
      ∧ r.2.mem ((c.tc : Thread Cert.NextProj.nD Cert.NextProj.τ).loc Cert.NextProj.main_arg9) = m ((c.tc : Thread Cert.NextProj.nD Cert.NextProj.τ).loc Cert.NextProj.main_arg9))
      ∧ r.2.sem = fun _ => 0)

def quiescent_NextProjIdeal [hNextProjIdeal : Cert.NextProjIdeal.Facts] : Prop :=
  ∀ (m : (ℓ : Loc Cert.NextProjIdeal.nD Cert.NextProjIdeal.τ Cert.NextProjIdeal.sig) → Buf (Elt Ideal) ℓ) (g : Dev Cert.NextProjIdeal.nD → PrngReg), Pre_NextProjIdeal m →
    θ_run (Cert.NextProjIdeal.defs (F := Ideal)) (onTc (τ := Cert.NextProjIdeal.τ) (Cert.NextProjIdeal.main (F := Ideal))) ⟨m, fun _ => 0, g⟩ (fun r => (∀ c : Dev Cert.NextProjIdeal.nD,
      r.2.mem ((c.tc : Thread Cert.NextProjIdeal.nD Cert.NextProjIdeal.τ).loc Cert.NextProjIdeal.main_arg0) = m ((c.tc : Thread Cert.NextProjIdeal.nD Cert.NextProjIdeal.τ).loc Cert.NextProjIdeal.main_arg0)
      ∧ r.2.mem ((c.tc : Thread Cert.NextProjIdeal.nD Cert.NextProjIdeal.τ).loc Cert.NextProjIdeal.main_arg1) = m ((c.tc : Thread Cert.NextProjIdeal.nD Cert.NextProjIdeal.τ).loc Cert.NextProjIdeal.main_arg1)
      ∧ r.2.mem ((c.tc : Thread Cert.NextProjIdeal.nD Cert.NextProjIdeal.τ).loc Cert.NextProjIdeal.main_arg2) = m ((c.tc : Thread Cert.NextProjIdeal.nD Cert.NextProjIdeal.τ).loc Cert.NextProjIdeal.main_arg2)
      ∧ r.2.mem ((c.tc : Thread Cert.NextProjIdeal.nD Cert.NextProjIdeal.τ).loc Cert.NextProjIdeal.main_arg3) = m ((c.tc : Thread Cert.NextProjIdeal.nD Cert.NextProjIdeal.τ).loc Cert.NextProjIdeal.main_arg3)
      ∧ r.2.mem ((c.tc : Thread Cert.NextProjIdeal.nD Cert.NextProjIdeal.τ).loc Cert.NextProjIdeal.main_arg4) = m ((c.tc : Thread Cert.NextProjIdeal.nD Cert.NextProjIdeal.τ).loc Cert.NextProjIdeal.main_arg4)
      ∧ r.2.mem ((c.tc : Thread Cert.NextProjIdeal.nD Cert.NextProjIdeal.τ).loc Cert.NextProjIdeal.main_arg5) = m ((c.tc : Thread Cert.NextProjIdeal.nD Cert.NextProjIdeal.τ).loc Cert.NextProjIdeal.main_arg5)
      ∧ r.2.mem ((c.tc : Thread Cert.NextProjIdeal.nD Cert.NextProjIdeal.τ).loc Cert.NextProjIdeal.main_arg6) = m ((c.tc : Thread Cert.NextProjIdeal.nD Cert.NextProjIdeal.τ).loc Cert.NextProjIdeal.main_arg6)
      ∧ r.2.mem ((c.tc : Thread Cert.NextProjIdeal.nD Cert.NextProjIdeal.τ).loc Cert.NextProjIdeal.main_arg7) = m ((c.tc : Thread Cert.NextProjIdeal.nD Cert.NextProjIdeal.τ).loc Cert.NextProjIdeal.main_arg7)
      ∧ r.2.mem ((c.tc : Thread Cert.NextProjIdeal.nD Cert.NextProjIdeal.τ).loc Cert.NextProjIdeal.main_arg8) = m ((c.tc : Thread Cert.NextProjIdeal.nD Cert.NextProjIdeal.τ).loc Cert.NextProjIdeal.main_arg8)
      ∧ r.2.mem ((c.tc : Thread Cert.NextProjIdeal.nD Cert.NextProjIdeal.τ).loc Cert.NextProjIdeal.main_arg9) = m ((c.tc : Thread Cert.NextProjIdeal.nD Cert.NextProjIdeal.τ).loc Cert.NextProjIdeal.main_arg9))
      ∧ r.2.sem = fun _ => 0)

def quiescent_NextProjRefIdeal [hNextProjRefIdeal : Cert.NextProjRefIdeal.Facts] : Prop :=
  ∀ (m : (ℓ : Loc Cert.NextProjRefIdeal.nD Cert.NextProjRefIdeal.τ Cert.NextProjRefIdeal.sig) → Buf (Elt Ideal) ℓ) (g : Dev Cert.NextProjRefIdeal.nD → PrngReg), Pre_NextProjRefIdeal m →
    θ_run (Cert.NextProjRefIdeal.defs (F := Ideal)) (onTc (τ := Cert.NextProjRefIdeal.τ) (Cert.NextProjRefIdeal.main (F := Ideal))) ⟨m, fun _ => 0, g⟩ (fun r => (∀ c : Dev Cert.NextProjRefIdeal.nD,
      r.2.mem ((c.tc : Thread Cert.NextProjRefIdeal.nD Cert.NextProjRefIdeal.τ).loc Cert.NextProjRefIdeal.main_arg0) = m ((c.tc : Thread Cert.NextProjRefIdeal.nD Cert.NextProjRefIdeal.τ).loc Cert.NextProjRefIdeal.main_arg0)
      ∧ r.2.mem ((c.tc : Thread Cert.NextProjRefIdeal.nD Cert.NextProjRefIdeal.τ).loc Cert.NextProjRefIdeal.main_arg1) = m ((c.tc : Thread Cert.NextProjRefIdeal.nD Cert.NextProjRefIdeal.τ).loc Cert.NextProjRefIdeal.main_arg1)
      ∧ r.2.mem ((c.tc : Thread Cert.NextProjRefIdeal.nD Cert.NextProjRefIdeal.τ).loc Cert.NextProjRefIdeal.main_arg2) = m ((c.tc : Thread Cert.NextProjRefIdeal.nD Cert.NextProjRefIdeal.τ).loc Cert.NextProjRefIdeal.main_arg2)
      ∧ r.2.mem ((c.tc : Thread Cert.NextProjRefIdeal.nD Cert.NextProjRefIdeal.τ).loc Cert.NextProjRefIdeal.main_arg3) = m ((c.tc : Thread Cert.NextProjRefIdeal.nD Cert.NextProjRefIdeal.τ).loc Cert.NextProjRefIdeal.main_arg3)
      ∧ r.2.mem ((c.tc : Thread Cert.NextProjRefIdeal.nD Cert.NextProjRefIdeal.τ).loc Cert.NextProjRefIdeal.main_arg4) = m ((c.tc : Thread Cert.NextProjRefIdeal.nD Cert.NextProjRefIdeal.τ).loc Cert.NextProjRefIdeal.main_arg4)
      ∧ r.2.mem ((c.tc : Thread Cert.NextProjRefIdeal.nD Cert.NextProjRefIdeal.τ).loc Cert.NextProjRefIdeal.main_arg5) = m ((c.tc : Thread Cert.NextProjRefIdeal.nD Cert.NextProjRefIdeal.τ).loc Cert.NextProjRefIdeal.main_arg5)
      ∧ r.2.mem ((c.tc : Thread Cert.NextProjRefIdeal.nD Cert.NextProjRefIdeal.τ).loc Cert.NextProjRefIdeal.main_arg6) = m ((c.tc : Thread Cert.NextProjRefIdeal.nD Cert.NextProjRefIdeal.τ).loc Cert.NextProjRefIdeal.main_arg6)
      ∧ r.2.mem ((c.tc : Thread Cert.NextProjRefIdeal.nD Cert.NextProjRefIdeal.τ).loc Cert.NextProjRefIdeal.main_arg7) = m ((c.tc : Thread Cert.NextProjRefIdeal.nD Cert.NextProjRefIdeal.τ).loc Cert.NextProjRefIdeal.main_arg7)
      ∧ r.2.mem ((c.tc : Thread Cert.NextProjRefIdeal.nD Cert.NextProjRefIdeal.τ).loc Cert.NextProjRefIdeal.main_arg8) = m ((c.tc : Thread Cert.NextProjRefIdeal.nD Cert.NextProjRefIdeal.τ).loc Cert.NextProjRefIdeal.main_arg8)
      ∧ r.2.mem ((c.tc : Thread Cert.NextProjRefIdeal.nD Cert.NextProjRefIdeal.τ).loc Cert.NextProjRefIdeal.main_arg9) = m ((c.tc : Thread Cert.NextProjRefIdeal.nD Cert.NextProjRefIdeal.τ).loc Cert.NextProjRefIdeal.main_arg9))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1)
      ∧ r.2.mem ((c.tc : Thread Cert.FinalNorm.nD Cert.FinalNorm.τ).loc Cert.FinalNorm.main_arg2) = m ((c.tc : Thread Cert.FinalNorm.nD Cert.FinalNorm.τ).loc Cert.FinalNorm.main_arg2)
      ∧ r.2.mem ((c.tc : Thread Cert.FinalNorm.nD Cert.FinalNorm.τ).loc Cert.FinalNorm.main_arg3) = m ((c.tc : Thread Cert.FinalNorm.nD Cert.FinalNorm.τ).loc Cert.FinalNorm.main_arg3)
      ∧ r.2.mem ((c.tc : Thread Cert.FinalNorm.nD Cert.FinalNorm.τ).loc Cert.FinalNorm.main_arg4) = m ((c.tc : Thread Cert.FinalNorm.nD Cert.FinalNorm.τ).loc Cert.FinalNorm.main_arg4)
      ∧ r.2.mem ((c.tc : Thread Cert.FinalNorm.nD Cert.FinalNorm.τ).loc Cert.FinalNorm.main_arg5) = m ((c.tc : Thread Cert.FinalNorm.nD Cert.FinalNorm.τ).loc Cert.FinalNorm.main_arg5)
      ∧ r.2.mem ((c.tc : Thread Cert.FinalNorm.nD Cert.FinalNorm.τ).loc Cert.FinalNorm.main_arg6) = m ((c.tc : Thread Cert.FinalNorm.nD Cert.FinalNorm.τ).loc Cert.FinalNorm.main_arg6)
      ∧ r.2.mem ((c.tc : Thread Cert.FinalNorm.nD Cert.FinalNorm.τ).loc Cert.FinalNorm.main_arg7) = m ((c.tc : Thread Cert.FinalNorm.nD Cert.FinalNorm.τ).loc Cert.FinalNorm.main_arg7))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
      ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2)
      ∧ r.2.mem ((c.tc : Thread Cert.FinalNormIdeal.nD Cert.FinalNormIdeal.τ).loc Cert.FinalNormIdeal.main_arg3) = m ((c.tc : Thread Cert.FinalNormIdeal.nD Cert.FinalNormIdeal.τ).loc Cert.FinalNormIdeal.main_arg3)
      ∧ r.2.mem ((c.tc : Thread Cert.FinalNormIdeal.nD Cert.FinalNormIdeal.τ).loc Cert.FinalNormIdeal.main_arg4) = m ((c.tc : Thread Cert.FinalNormIdeal.nD Cert.FinalNormIdeal.τ).loc Cert.FinalNormIdeal.main_arg4)
      ∧ r.2.mem ((c.tc : Thread Cert.FinalNormIdeal.nD Cert.FinalNormIdeal.τ).loc Cert.FinalNormIdeal.main_arg5) = m ((c.tc : Thread Cert.FinalNormIdeal.nD Cert.FinalNormIdeal.τ).loc Cert.FinalNormIdeal.main_arg5)
      ∧ r.2.mem ((c.tc : Thread Cert.FinalNormIdeal.nD Cert.FinalNormIdeal.τ).loc Cert.FinalNormIdeal.main_arg6) = m ((c.tc : Thread Cert.FinalNormIdeal.nD Cert.FinalNormIdeal.τ).loc Cert.FinalNormIdeal.main_arg6)
      ∧ r.2.mem ((c.tc : Thread Cert.FinalNormIdeal.nD Cert.FinalNormIdeal.τ).loc Cert.FinalNormIdeal.main_arg7) = m ((c.tc : Thread Cert.FinalNormIdeal.nD Cert.FinalNormIdeal.τ).loc Cert.FinalNormIdeal.main_arg7))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1)
      ∧ r.2.mem ((c.tc : Thread Cert.FinalNormRefIdeal.nD Cert.FinalNormRefIdeal.τ).loc Cert.FinalNormRefIdeal.main_arg2) = m ((c.tc : Thread Cert.FinalNormRefIdeal.nD Cert.FinalNormRefIdeal.τ).loc Cert.FinalNormRefIdeal.main_arg2)
      ∧ r.2.mem ((c.tc : Thread Cert.FinalNormRefIdeal.nD Cert.FinalNormRefIdeal.τ).loc Cert.FinalNormRefIdeal.main_arg3) = m ((c.tc : Thread Cert.FinalNormRefIdeal.nD Cert.FinalNormRefIdeal.τ).loc Cert.FinalNormRefIdeal.main_arg3)
      ∧ r.2.mem ((c.tc : Thread Cert.FinalNormRefIdeal.nD Cert.FinalNormRefIdeal.τ).loc Cert.FinalNormRefIdeal.main_arg4) = m ((c.tc : Thread Cert.FinalNormRefIdeal.nD Cert.FinalNormRefIdeal.τ).loc Cert.FinalNormRefIdeal.main_arg4)
      ∧ r.2.mem ((c.tc : Thread Cert.FinalNormRefIdeal.nD Cert.FinalNormRefIdeal.τ).loc Cert.FinalNormRefIdeal.main_arg5) = m ((c.tc : Thread Cert.FinalNormRefIdeal.nD Cert.FinalNormRefIdeal.τ).loc Cert.FinalNormRefIdeal.main_arg5)
      ∧ r.2.mem ((c.tc : Thread Cert.FinalNormRefIdeal.nD Cert.FinalNormRefIdeal.τ).loc Cert.FinalNormRefIdeal.main_arg6) = m ((c.tc : Thread Cert.FinalNormRefIdeal.nD Cert.FinalNormRefIdeal.τ).loc Cert.FinalNormRefIdeal.main_arg6)
      ∧ r.2.mem ((c.tc : Thread Cert.FinalNormRefIdeal.nD Cert.FinalNormRefIdeal.τ).loc Cert.FinalNormRefIdeal.main_arg7) = m ((c.tc : Thread Cert.FinalNormRefIdeal.nD Cert.FinalNormRefIdeal.τ).loc Cert.FinalNormRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9)
      ∧ r.2.mem ((c.tc : Thread Cert.OutProj.nD Cert.OutProj.τ).loc Cert.OutProj.main_arg10) = m ((c.tc : Thread Cert.OutProj.nD Cert.OutProj.τ).loc Cert.OutProj.main_arg10)
      ∧ r.2.mem ((c.tc : Thread Cert.OutProj.nD Cert.OutProj.τ).loc Cert.OutProj.main_arg11) = m ((c.tc : Thread Cert.OutProj.nD Cert.OutProj.τ).loc Cert.OutProj.main_arg11)
      ∧ r.2.mem ((c.tc : Thread Cert.OutProj.nD Cert.OutProj.τ).loc Cert.OutProj.main_arg12) = m ((c.tc : Thread Cert.OutProj.nD Cert.OutProj.τ).loc Cert.OutProj.main_arg12))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12))
      ∧ r.2.sem = fun _ => 0)

def quiescent_OutProjIdeal_pre_finite [hOutProjIdeal : Cert.OutProjIdeal.Facts] [hPre_finite : Cert.Pre_finite.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
      ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
      ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
      ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11)
      ∧ r.2.mem ((c.tc : Thread Cert.OutProjRefIdeal.nD Cert.OutProjRefIdeal.τ).loc Cert.OutProjRefIdeal.main_arg12) = m ((c.tc : Thread Cert.OutProjRefIdeal.nD Cert.OutProjRefIdeal.τ).loc Cert.OutProjRefIdeal.main_arg12))
      ∧ r.2.sem = fun _ => 0)

def quiescent_OutProjRefIdeal_pre_finite [hOutProjRefIdeal : Cert.OutProjRefIdeal.Facts] [hPre_finite : Cert.Pre_finite.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9)
      ∧ r.2.mem ((c.tc : Thread Cert.OutProjRefIdeal.nD Cert.OutProjRefIdeal.τ).loc Cert.OutProjRefIdeal.main_arg10) = m ((c.tc : Thread Cert.OutProjRefIdeal.nD Cert.OutProjRefIdeal.τ).loc Cert.OutProjRefIdeal.main_arg10)
      ∧ r.2.mem ((c.tc : Thread Cert.OutProjRefIdeal.nD Cert.OutProjRefIdeal.τ).loc Cert.OutProjRefIdeal.main_arg11) = m ((c.tc : Thread Cert.OutProjRefIdeal.nD Cert.OutProjRefIdeal.τ).loc Cert.OutProjRefIdeal.main_arg11)
      ∧ r.2.mem ((c.tc : Thread Cert.OutProjRefIdeal.nD Cert.OutProjRefIdeal.τ).loc Cert.OutProjRefIdeal.main_arg12) = m ((c.tc : Thread Cert.OutProjRefIdeal.nD Cert.OutProjRefIdeal.τ).loc Cert.OutProjRefIdeal.main_arg12))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Sparse [hSparse : Cert.Sparse.Facts] : Prop :=
  ∀ (m : (ℓ : Loc Cert.Sparse.nD Cert.Sparse.τ Cert.Sparse.sig) → Buf (Elt Bits) ℓ) (g : Dev Cert.Sparse.nD → PrngReg), Pre_Sparse m →
    θ_run (Cert.Sparse.defs (F := Bits)) (onTc (τ := Cert.Sparse.τ) (Cert.Sparse.main (F := Bits))) ⟨m, fun _ => 0, g⟩ (fun r => (∀ c : Dev Cert.Sparse.nD,
      r.2.mem ((c.tc : Thread Cert.Sparse.nD Cert.Sparse.τ).loc Cert.Sparse.main_arg0) = m ((c.tc : Thread Cert.Sparse.nD Cert.Sparse.τ).loc Cert.Sparse.main_arg0)
      ∧ r.2.mem ((c.tc : Thread Cert.Sparse.nD Cert.Sparse.τ).loc Cert.Sparse.main_arg1) = m ((c.tc : Thread Cert.Sparse.nD Cert.Sparse.τ).loc Cert.Sparse.main_arg1)
      ∧ r.2.mem ((c.tc : Thread Cert.Sparse.nD Cert.Sparse.τ).loc Cert.Sparse.main_arg2) = m ((c.tc : Thread Cert.Sparse.nD Cert.Sparse.τ).loc Cert.Sparse.main_arg2)
      ∧ r.2.mem ((c.tc : Thread Cert.Sparse.nD Cert.Sparse.τ).loc Cert.Sparse.main_arg3) = m ((c.tc : Thread Cert.Sparse.nD Cert.Sparse.τ).loc Cert.Sparse.main_arg3)
      ∧ r.2.mem ((c.tc : Thread Cert.Sparse.nD Cert.Sparse.τ).loc Cert.Sparse.main_arg4) = m ((c.tc : Thread Cert.Sparse.nD Cert.Sparse.τ).loc Cert.Sparse.main_arg4)
      ∧ r.2.mem ((c.tc : Thread Cert.Sparse.nD Cert.Sparse.τ).loc Cert.Sparse.main_arg5) = m ((c.tc : Thread Cert.Sparse.nD Cert.Sparse.τ).loc Cert.Sparse.main_arg5))
      ∧ r.2.sem = fun _ => 0)

def quiescent_SparseIdeal [hSparseIdeal : Cert.SparseIdeal.Facts] : Prop :=
  ∀ (m : (ℓ : Loc Cert.SparseIdeal.nD Cert.SparseIdeal.τ Cert.SparseIdeal.sig) → Buf (Elt Ideal) ℓ) (g : Dev Cert.SparseIdeal.nD → PrngReg), Pre_SparseIdeal m →
    θ_run (Cert.SparseIdeal.defs (F := Ideal)) (onTc (τ := Cert.SparseIdeal.τ) (Cert.SparseIdeal.main (F := Ideal))) ⟨m, fun _ => 0, g⟩ (fun r => (∀ c : Dev Cert.SparseIdeal.nD,
      r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
      ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
      ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
      ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
      ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
      ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5))
      ∧ r.2.sem = fun _ => 0)

def quiescent_SparseRefIdeal [hSparseRefIdeal : Cert.SparseRefIdeal.Facts] : Prop :=
  ∀ (m : (ℓ : Loc Cert.SparseRefIdeal.nD Cert.SparseRefIdeal.τ Cert.SparseRefIdeal.sig) → Buf (Elt Ideal) ℓ) (g : Dev Cert.SparseRefIdeal.nD → PrngReg), Pre_SparseRefIdeal m →
    θ_run (Cert.SparseRefIdeal.defs (F := Ideal)) (onTc (τ := Cert.SparseRefIdeal.τ) (Cert.SparseRefIdeal.main (F := Ideal))) ⟨m, fun _ => 0, g⟩ (fun r => (∀ c : Dev Cert.SparseRefIdeal.nD,
      r.2.mem ((c.tc : Thread Cert.SparseRefIdeal.nD Cert.SparseRefIdeal.τ).loc Cert.SparseRefIdeal.main_arg0) = m ((c.tc : Thread Cert.SparseRefIdeal.nD Cert.SparseRefIdeal.τ).loc Cert.SparseRefIdeal.main_arg0)
      ∧ r.2.mem ((c.tc : Thread Cert.SparseRefIdeal.nD Cert.SparseRefIdeal.τ).loc Cert.SparseRefIdeal.main_arg1) = m ((c.tc : Thread Cert.SparseRefIdeal.nD Cert.SparseRefIdeal.τ).loc Cert.SparseRefIdeal.main_arg1)
      ∧ r.2.mem ((c.tc : Thread Cert.SparseRefIdeal.nD Cert.SparseRefIdeal.τ).loc Cert.SparseRefIdeal.main_arg2) = m ((c.tc : Thread Cert.SparseRefIdeal.nD Cert.SparseRefIdeal.τ).loc Cert.SparseRefIdeal.main_arg2)
      ∧ r.2.mem ((c.tc : Thread Cert.SparseRefIdeal.nD Cert.SparseRefIdeal.τ).loc Cert.SparseRefIdeal.main_arg3) = m ((c.tc : Thread Cert.SparseRefIdeal.nD Cert.SparseRefIdeal.τ).loc Cert.SparseRefIdeal.main_arg3)
      ∧ r.2.mem ((c.tc : Thread Cert.SparseRefIdeal.nD Cert.SparseRefIdeal.τ).loc Cert.SparseRefIdeal.main_arg4) = m ((c.tc : Thread Cert.SparseRefIdeal.nD Cert.SparseRefIdeal.τ).loc Cert.SparseRefIdeal.main_arg4)
      ∧ r.2.mem ((c.tc : Thread Cert.SparseRefIdeal.nD Cert.SparseRefIdeal.τ).loc Cert.SparseRefIdeal.main_arg5) = m ((c.tc : Thread Cert.SparseRefIdeal.nD Cert.SparseRefIdeal.τ).loc Cert.SparseRefIdeal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] [hPre_ranges : Cert.Pre_ranges.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_v27) = v1 c
          ∧ r.2.mem ((c.tc : Thread Cert.InProjRefIdeal.nD Cert.InProjRefIdeal.τ).loc Cert.InProjRefIdeal.main_v28) = v2 c
          ∧ r.2.mem ((c.tc : Thread Cert.InProjRefIdeal.nD Cert.InProjRefIdeal.τ).loc Cert.InProjRefIdeal.main_v30) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_NextProj_NextProjIdeal : Prop :=
  True

def algebraic_NextProjIdeal_NextProjRefIdeal [hNextProjIdeal : Cert.NextProjIdeal.Facts] [hNextProjRefIdeal : Cert.NextProjRefIdeal.Facts] : Prop :=
  ∀ (m : (ℓ : Loc Cert.NextProjIdeal.nD Cert.NextProjIdeal.τ Cert.NextProjIdeal.sig) → Buf (Elt Ideal) ℓ) (g : Dev Cert.NextProjIdeal.nD → PrngReg)
    (m' : (ℓ : Loc Cert.NextProjRefIdeal.nD Cert.NextProjRefIdeal.τ Cert.NextProjRefIdeal.sig) → Buf (Elt Ideal) ℓ) (g' : Dev Cert.NextProjRefIdeal.nD → PrngReg), Pre_NextProjIdeal m →
    (∀ c : Dev Cert.NextProjIdeal.nD,
      m' ((c.tc : Thread Cert.NextProjRefIdeal.nD Cert.NextProjRefIdeal.τ).loc Cert.NextProjRefIdeal.main_arg0) = m ((c.tc : Thread Cert.NextProjIdeal.nD Cert.NextProjIdeal.τ).loc Cert.NextProjIdeal.main_arg0)
      ∧ m' ((c.tc : Thread Cert.NextProjRefIdeal.nD Cert.NextProjRefIdeal.τ).loc Cert.NextProjRefIdeal.main_arg1) = m ((c.tc : Thread Cert.NextProjIdeal.nD Cert.NextProjIdeal.τ).loc Cert.NextProjIdeal.main_arg1)
      ∧ m' ((c.tc : Thread Cert.NextProjRefIdeal.nD Cert.NextProjRefIdeal.τ).loc Cert.NextProjRefIdeal.main_arg2) = m ((c.tc : Thread Cert.NextProjIdeal.nD Cert.NextProjIdeal.τ).loc Cert.NextProjIdeal.main_arg2)
      ∧ m' ((c.tc : Thread Cert.NextProjRefIdeal.nD Cert.NextProjRefIdeal.τ).loc Cert.NextProjRefIdeal.main_arg3) = m ((c.tc : Thread Cert.NextProjIdeal.nD Cert.NextProjIdeal.τ).loc Cert.NextProjIdeal.main_arg3)
      ∧ m' ((c.tc : Thread Cert.NextProjRefIdeal.nD Cert.NextProjRefIdeal.τ).loc Cert.NextProjRefIdeal.main_arg4) = m ((c.tc : Thread Cert.NextProjIdeal.nD Cert.NextProjIdeal.τ).loc Cert.NextProjIdeal.main_arg4)
      ∧ m' ((c.tc : Thread Cert.NextProjRefIdeal.nD Cert.NextProjRefIdeal.τ).loc Cert.NextProjRefIdeal.main_arg5) = m ((c.tc : Thread Cert.NextProjIdeal.nD Cert.NextProjIdeal.τ).loc Cert.NextProjIdeal.main_arg5)
      ∧ m' ((c.tc : Thread Cert.NextProjRefIdeal.nD Cert.NextProjRefIdeal.τ).loc Cert.NextProjRefIdeal.main_arg6) = m ((c.tc : Thread Cert.NextProjIdeal.nD Cert.NextProjIdeal.τ).loc Cert.NextProjIdeal.main_arg6)
      ∧ m' ((c.tc : Thread Cert.NextProjRefIdeal.nD Cert.NextProjRefIdeal.τ).loc Cert.NextProjRefIdeal.main_arg7) = m ((c.tc : Thread Cert.NextProjIdeal.nD Cert.NextProjIdeal.τ).loc Cert.NextProjIdeal.main_arg7)
      ∧ m' ((c.tc : Thread Cert.NextProjRefIdeal.nD Cert.NextProjRefIdeal.τ).loc Cert.NextProjRefIdeal.main_arg8) = m ((c.tc : Thread Cert.NextProjIdeal.nD Cert.NextProjIdeal.τ).loc Cert.NextProjIdeal.main_arg8)
      ∧ m' ((c.tc : Thread Cert.NextProjRefIdeal.nD Cert.NextProjRefIdeal.τ).loc Cert.NextProjRefIdeal.main_arg9) = m ((c.tc : Thread Cert.NextProjIdeal.nD Cert.NextProjIdeal.τ).loc Cert.NextProjIdeal.main_arg9)) →
    ∃ (v0 : (c : Dev Cert.NextProjIdeal.nD) → Buf (Elt Ideal) ((c.tc : Thread Cert.NextProjIdeal.nD Cert.NextProjIdeal.τ).loc Cert.NextProjIdeal.main_v0_0)) (v1 : (c : Dev Cert.NextProjIdeal.nD) → Buf (Elt Ideal) ((c.tc : Thread Cert.NextProjIdeal.nD Cert.NextProjIdeal.τ).loc Cert.NextProjIdeal.main_v0_1)) (v2 : (c : Dev Cert.NextProjIdeal.nD) → Buf (Elt Ideal) ((c.tc : Thread Cert.NextProjIdeal.nD Cert.NextProjIdeal.τ).loc Cert.NextProjIdeal.main_v0_2)) (v3 : (c : Dev Cert.NextProjIdeal.nD) → Buf (Elt Ideal) ((c.tc : Thread Cert.NextProjIdeal.nD Cert.NextProjIdeal.τ).loc Cert.NextProjIdeal.main_v0_3)) (v4 : (c : Dev Cert.NextProjIdeal.nD) → Buf (Elt Ideal) ((c.tc : Thread Cert.NextProjIdeal.nD Cert.NextProjIdeal.τ).loc Cert.NextProjIdeal.main_v0_4)),
      θ_run (Cert.NextProjIdeal.defs (F := Ideal)) (onTc (τ := Cert.NextProjIdeal.τ) (Cert.NextProjIdeal.main (F := Ideal))) ⟨m, fun _ => 0, g⟩ (fun r => ∀ c : Dev Cert.NextProjIdeal.nD,
          r.2.mem ((c.tc : Thread Cert.NextProjIdeal.nD Cert.NextProjIdeal.τ).loc Cert.NextProjIdeal.main_v0_0) = v0 c
          ∧ r.2.mem ((c.tc : Thread Cert.NextProjIdeal.nD Cert.NextProjIdeal.τ).loc Cert.NextProjIdeal.main_v0_1) = v1 c
          ∧ r.2.mem ((c.tc : Thread Cert.NextProjIdeal.nD Cert.NextProjIdeal.τ).loc Cert.NextProjIdeal.main_v0_2) = v2 c
          ∧ r.2.mem ((c.tc : Thread Cert.NextProjIdeal.nD Cert.NextProjIdeal.τ).loc Cert.NextProjIdeal.main_v0_3) = v3 c
          ∧ r.2.mem ((c.tc : Thread Cert.NextProjIdeal.nD Cert.NextProjIdeal.τ).loc Cert.NextProjIdeal.main_v0_4) = v4 c
          ∧ r.2.mem ((c.tc : Thread Cert.NextProjIdeal.nD Cert.NextProjIdeal.τ).loc Cert.NextProjIdeal.main_arg0) = m ((c.tc : Thread Cert.NextProjIdeal.nD Cert.NextProjIdeal.τ).loc Cert.NextProjIdeal.main_arg0)
          ∧ r.2.mem ((c.tc : Thread Cert.NextProjIdeal.nD Cert.NextProjIdeal.τ).loc Cert.NextProjIdeal.main_arg1) = m ((c.tc : Thread Cert.NextProjIdeal.nD Cert.NextProjIdeal.τ).loc Cert.NextProjIdeal.main_arg1)
          ∧ r.2.mem ((c.tc : Thread Cert.NextProjIdeal.nD Cert.NextProjIdeal.τ).loc Cert.NextProjIdeal.main_arg2) = m ((c.tc : Thread Cert.NextProjIdeal.nD Cert.NextProjIdeal.τ).loc Cert.NextProjIdeal.main_arg2)
          ∧ r.2.mem ((c.tc : Thread Cert.NextProjIdeal.nD Cert.NextProjIdeal.τ).loc Cert.NextProjIdeal.main_arg3) = m ((c.tc : Thread Cert.NextProjIdeal.nD Cert.NextProjIdeal.τ).loc Cert.NextProjIdeal.main_arg3)
          ∧ r.2.mem ((c.tc : Thread Cert.NextProjIdeal.nD Cert.NextProjIdeal.τ).loc Cert.NextProjIdeal.main_arg4) = m ((c.tc : Thread Cert.NextProjIdeal.nD Cert.NextProjIdeal.τ).loc Cert.NextProjIdeal.main_arg4)
          ∧ r.2.mem ((c.tc : Thread Cert.NextProjIdeal.nD Cert.NextProjIdeal.τ).loc Cert.NextProjIdeal.main_arg5) = m ((c.tc : Thread Cert.NextProjIdeal.nD Cert.NextProjIdeal.τ).loc Cert.NextProjIdeal.main_arg5)
          ∧ r.2.mem ((c.tc : Thread Cert.NextProjIdeal.nD Cert.NextProjIdeal.τ).loc Cert.NextProjIdeal.main_arg6) = m ((c.tc : Thread Cert.NextProjIdeal.nD Cert.NextProjIdeal.τ).loc Cert.NextProjIdeal.main_arg6)
          ∧ r.2.mem ((c.tc : Thread Cert.NextProjIdeal.nD Cert.NextProjIdeal.τ).loc Cert.NextProjIdeal.main_arg7) = m ((c.tc : Thread Cert.NextProjIdeal.nD Cert.NextProjIdeal.τ).loc Cert.NextProjIdeal.main_arg7)
          ∧ r.2.mem ((c.tc : Thread Cert.NextProjIdeal.nD Cert.NextProjIdeal.τ).loc Cert.NextProjIdeal.main_arg8) = m ((c.tc : Thread Cert.NextProjIdeal.nD Cert.NextProjIdeal.τ).loc Cert.NextProjIdeal.main_arg8)
          ∧ r.2.mem ((c.tc : Thread Cert.NextProjIdeal.nD Cert.NextProjIdeal.τ).loc Cert.NextProjIdeal.main_arg9) = m ((c.tc : Thread Cert.NextProjIdeal.nD Cert.NextProjIdeal.τ).loc Cert.NextProjIdeal.main_arg9))
      ∧ θ_run (Cert.NextProjRefIdeal.defs (F := Ideal)) (onTc (τ := Cert.NextProjRefIdeal.τ) (Cert.NextProjRefIdeal.main (F := Ideal))) ⟨m', fun _ => 0, g'⟩ (fun r => ∀ c : Dev Cert.NextProjRefIdeal.nD,
          r.2.mem ((c.tc : Thread Cert.NextProjRefIdeal.nD Cert.NextProjRefIdeal.τ).loc Cert.NextProjRefIdeal.main_v56) = v0 c
          ∧ r.2.mem ((c.tc : Thread Cert.NextProjRefIdeal.nD Cert.NextProjRefIdeal.τ).loc Cert.NextProjRefIdeal.main_v57) = v1 c
          ∧ r.2.mem ((c.tc : Thread Cert.NextProjRefIdeal.nD Cert.NextProjRefIdeal.τ).loc Cert.NextProjRefIdeal.main_v58) = v2 c
          ∧ r.2.mem ((c.tc : Thread Cert.NextProjRefIdeal.nD Cert.NextProjRefIdeal.τ).loc Cert.NextProjRefIdeal.main_v59) = v3 c
          ∧ r.2.mem ((c.tc : Thread Cert.NextProjRefIdeal.nD Cert.NextProjRefIdeal.τ).loc Cert.NextProjRefIdeal.main_v61) = v4 c
          ∧ r.2.mem ((c.tc : Thread Cert.NextProjRefIdeal.nD Cert.NextProjRefIdeal.τ).loc Cert.NextProjRefIdeal.main_arg0) = m' ((c.tc : Thread Cert.NextProjRefIdeal.nD Cert.NextProjRefIdeal.τ).loc Cert.NextProjRefIdeal.main_arg0)
          ∧ r.2.mem ((c.tc : Thread Cert.NextProjRefIdeal.nD Cert.NextProjRefIdeal.τ).loc Cert.NextProjRefIdeal.main_arg1) = m' ((c.tc : Thread Cert.NextProjRefIdeal.nD Cert.NextProjRefIdeal.τ).loc Cert.NextProjRefIdeal.main_arg1)
          ∧ r.2.mem ((c.tc : Thread Cert.NextProjRefIdeal.nD Cert.NextProjRefIdeal.τ).loc Cert.NextProjRefIdeal.main_arg2) = m' ((c.tc : Thread Cert.NextProjRefIdeal.nD Cert.NextProjRefIdeal.τ).loc Cert.NextProjRefIdeal.main_arg2)
          ∧ r.2.mem ((c.tc : Thread Cert.NextProjRefIdeal.nD Cert.NextProjRefIdeal.τ).loc Cert.NextProjRefIdeal.main_arg3) = m' ((c.tc : Thread Cert.NextProjRefIdeal.nD Cert.NextProjRefIdeal.τ).loc Cert.NextProjRefIdeal.main_arg3)
          ∧ r.2.mem ((c.tc : Thread Cert.NextProjRefIdeal.nD Cert.NextProjRefIdeal.τ).loc Cert.NextProjRefIdeal.main_arg4) = m' ((c.tc : Thread Cert.NextProjRefIdeal.nD Cert.NextProjRefIdeal.τ).loc Cert.NextProjRefIdeal.main_arg4)
          ∧ r.2.mem ((c.tc : Thread Cert.NextProjRefIdeal.nD Cert.NextProjRefIdeal.τ).loc Cert.NextProjRefIdeal.main_arg5) = m' ((c.tc : Thread Cert.NextProjRefIdeal.nD Cert.NextProjRefIdeal.τ).loc Cert.NextProjRefIdeal.main_arg5)
          ∧ r.2.mem ((c.tc : Thread Cert.NextProjRefIdeal.nD Cert.NextProjRefIdeal.τ).loc Cert.NextProjRefIdeal.main_arg6) = m' ((c.tc : Thread Cert.NextProjRefIdeal.nD Cert.NextProjRefIdeal.τ).loc Cert.NextProjRefIdeal.main_arg6)
          ∧ r.2.mem ((c.tc : Thread Cert.NextProjRefIdeal.nD Cert.NextProjRefIdeal.τ).loc Cert.NextProjRefIdeal.main_arg7) = m' ((c.tc : Thread Cert.NextProjRefIdeal.nD Cert.NextProjRefIdeal.τ).loc Cert.NextProjRefIdeal.main_arg7)
          ∧ r.2.mem ((c.tc : Thread Cert.NextProjRefIdeal.nD Cert.NextProjRefIdeal.τ).loc Cert.NextProjRefIdeal.main_arg8) = m' ((c.tc : Thread Cert.NextProjRefIdeal.nD Cert.NextProjRefIdeal.τ).loc Cert.NextProjRefIdeal.main_arg8)
          ∧ r.2.mem ((c.tc : Thread Cert.NextProjRefIdeal.nD Cert.NextProjRefIdeal.τ).loc Cert.NextProjRefIdeal.main_arg9) = m' ((c.tc : Thread Cert.NextProjRefIdeal.nD Cert.NextProjRefIdeal.τ).loc Cert.NextProjRefIdeal.main_arg9))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)
      ∧ m' ((c.tc : Thread Cert.FinalNormRefIdeal.nD Cert.FinalNormRefIdeal.τ).loc Cert.FinalNormRefIdeal.main_arg2) = m ((c.tc : Thread Cert.FinalNormIdeal.nD Cert.FinalNormIdeal.τ).loc Cert.FinalNormIdeal.main_arg2)
      ∧ m' ((c.tc : Thread Cert.FinalNormRefIdeal.nD Cert.FinalNormRefIdeal.τ).loc Cert.FinalNormRefIdeal.main_arg3) = m ((c.tc : Thread Cert.FinalNormIdeal.nD Cert.FinalNormIdeal.τ).loc Cert.FinalNormIdeal.main_arg3)
      ∧ m' ((c.tc : Thread Cert.FinalNormRefIdeal.nD Cert.FinalNormRefIdeal.τ).loc Cert.FinalNormRefIdeal.main_arg4) = m ((c.tc : Thread Cert.FinalNormIdeal.nD Cert.FinalNormIdeal.τ).loc Cert.FinalNormIdeal.main_arg4)
      ∧ m' ((c.tc : Thread Cert.FinalNormRefIdeal.nD Cert.FinalNormRefIdeal.τ).loc Cert.FinalNormRefIdeal.main_arg5) = m ((c.tc : Thread Cert.FinalNormIdeal.nD Cert.FinalNormIdeal.τ).loc Cert.FinalNormIdeal.main_arg5)
      ∧ m' ((c.tc : Thread Cert.FinalNormRefIdeal.nD Cert.FinalNormRefIdeal.τ).loc Cert.FinalNormRefIdeal.main_arg6) = m ((c.tc : Thread Cert.FinalNormIdeal.nD Cert.FinalNormIdeal.τ).loc Cert.FinalNormIdeal.main_arg6)
      ∧ m' ((c.tc : Thread Cert.FinalNormRefIdeal.nD Cert.FinalNormRefIdeal.τ).loc Cert.FinalNormRefIdeal.main_arg7) = m ((c.tc : Thread Cert.FinalNormIdeal.nD Cert.FinalNormIdeal.τ).loc Cert.FinalNormIdeal.main_arg7)) →
    ∃ (v0 : (c : Dev Cert.FinalNormIdeal.nD) → Buf (Elt Ideal) ((c.tc : Thread Cert.FinalNormIdeal.nD Cert.FinalNormIdeal.τ).loc Cert.FinalNormIdeal.main_v0)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v0) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
          ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2)
          ∧ r.2.mem ((c.tc : Thread Cert.FinalNormIdeal.nD Cert.FinalNormIdeal.τ).loc Cert.FinalNormIdeal.main_arg3) = m ((c.tc : Thread Cert.FinalNormIdeal.nD Cert.FinalNormIdeal.τ).loc Cert.FinalNormIdeal.main_arg3)
          ∧ r.2.mem ((c.tc : Thread Cert.FinalNormIdeal.nD Cert.FinalNormIdeal.τ).loc Cert.FinalNormIdeal.main_arg4) = m ((c.tc : Thread Cert.FinalNormIdeal.nD Cert.FinalNormIdeal.τ).loc Cert.FinalNormIdeal.main_arg4)
          ∧ r.2.mem ((c.tc : Thread Cert.FinalNormIdeal.nD Cert.FinalNormIdeal.τ).loc Cert.FinalNormIdeal.main_arg5) = m ((c.tc : Thread Cert.FinalNormIdeal.nD Cert.FinalNormIdeal.τ).loc Cert.FinalNormIdeal.main_arg5)
          ∧ r.2.mem ((c.tc : Thread Cert.FinalNormIdeal.nD Cert.FinalNormIdeal.τ).loc Cert.FinalNormIdeal.main_arg6) = m ((c.tc : Thread Cert.FinalNormIdeal.nD Cert.FinalNormIdeal.τ).loc Cert.FinalNormIdeal.main_arg6)
          ∧ r.2.mem ((c.tc : Thread Cert.FinalNormIdeal.nD Cert.FinalNormIdeal.τ).loc Cert.FinalNormIdeal.main_arg7) = m ((c.tc : Thread Cert.FinalNormIdeal.nD Cert.FinalNormIdeal.τ).loc Cert.FinalNormIdeal.main_arg7))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v44) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1)
          ∧ r.2.mem ((c.tc : Thread Cert.FinalNormRefIdeal.nD Cert.FinalNormRefIdeal.τ).loc Cert.FinalNormRefIdeal.main_arg2) = m' ((c.tc : Thread Cert.FinalNormRefIdeal.nD Cert.FinalNormRefIdeal.τ).loc Cert.FinalNormRefIdeal.main_arg2)
          ∧ r.2.mem ((c.tc : Thread Cert.FinalNormRefIdeal.nD Cert.FinalNormRefIdeal.τ).loc Cert.FinalNormRefIdeal.main_arg3) = m' ((c.tc : Thread Cert.FinalNormRefIdeal.nD Cert.FinalNormRefIdeal.τ).loc Cert.FinalNormRefIdeal.main_arg3)
          ∧ r.2.mem ((c.tc : Thread Cert.FinalNormRefIdeal.nD Cert.FinalNormRefIdeal.τ).loc Cert.FinalNormRefIdeal.main_arg4) = m' ((c.tc : Thread Cert.FinalNormRefIdeal.nD Cert.FinalNormRefIdeal.τ).loc Cert.FinalNormRefIdeal.main_arg4)
          ∧ r.2.mem ((c.tc : Thread Cert.FinalNormRefIdeal.nD Cert.FinalNormRefIdeal.τ).loc Cert.FinalNormRefIdeal.main_arg5) = m' ((c.tc : Thread Cert.FinalNormRefIdeal.nD Cert.FinalNormRefIdeal.τ).loc Cert.FinalNormRefIdeal.main_arg5)
          ∧ r.2.mem ((c.tc : Thread Cert.FinalNormRefIdeal.nD Cert.FinalNormRefIdeal.τ).loc Cert.FinalNormRefIdeal.main_arg6) = m' ((c.tc : Thread Cert.FinalNormRefIdeal.nD Cert.FinalNormRefIdeal.τ).loc Cert.FinalNormRefIdeal.main_arg6)
          ∧ r.2.mem ((c.tc : Thread Cert.FinalNormRefIdeal.nD Cert.FinalNormRefIdeal.τ).loc Cert.FinalNormRefIdeal.main_arg7) = m' ((c.tc : Thread Cert.FinalNormRefIdeal.nD Cert.FinalNormRefIdeal.τ).loc Cert.FinalNormRefIdeal.main_arg7))

def preserves_OutProj_OutProjIdeal : Prop :=
  True

def algebraic_OutProjIdeal_OutProjRefIdeal_pre_finite [hOutProjIdeal : Cert.OutProjIdeal.Facts] [hOutProjRefIdeal : Cert.OutProjRefIdeal.Facts] [hPre_finite : Cert.Pre_finite.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)
      ∧ m' ((c.tc : Thread Cert.OutProjRefIdeal.nD Cert.OutProjRefIdeal.τ).loc Cert.OutProjRefIdeal.main_arg10) = m ((c.tc : Thread Cert.OutProjIdeal.nD Cert.OutProjIdeal.τ).loc Cert.OutProjIdeal.main_arg10)
      ∧ m' ((c.tc : Thread Cert.OutProjRefIdeal.nD Cert.OutProjRefIdeal.τ).loc Cert.OutProjRefIdeal.main_arg11) = m ((c.tc : Thread Cert.OutProjIdeal.nD Cert.OutProjIdeal.τ).loc Cert.OutProjIdeal.main_arg11)
      ∧ m' ((c.tc : Thread Cert.OutProjRefIdeal.nD Cert.OutProjRefIdeal.τ).loc Cert.OutProjRefIdeal.main_arg12) = m ((c.tc : Thread Cert.OutProjIdeal.nD Cert.OutProjIdeal.τ).loc Cert.OutProjIdeal.main_arg12)) →
    ∃ (v0 : (c : Dev Cert.OutProjIdeal.nD) → Buf (Elt Ideal) ((c.tc : Thread Cert.OutProjIdeal.nD Cert.OutProjIdeal.τ).loc Cert.OutProjIdeal.main_v19_0)) (v1 : (c : Dev Cert.OutProjIdeal.nD) → Buf (Elt Ideal) ((c.tc : Thread Cert.OutProjIdeal.nD Cert.OutProjIdeal.τ).loc Cert.OutProjIdeal.main_v19_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v19_0) = v0 c
          ∧ r.2.mem ((c.tc : Thread Cert.OutProjIdeal.nD Cert.OutProjIdeal.τ).loc Cert.OutProjIdeal.main_v19_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9)
          ∧ r.2.mem ((c.tc : Thread Cert.OutProjIdeal.nD Cert.OutProjIdeal.τ).loc Cert.OutProjIdeal.main_arg10) = m ((c.tc : Thread Cert.OutProjIdeal.nD Cert.OutProjIdeal.τ).loc Cert.OutProjIdeal.main_arg10)
          ∧ r.2.mem ((c.tc : Thread Cert.OutProjIdeal.nD Cert.OutProjIdeal.τ).loc Cert.OutProjIdeal.main_arg11) = m ((c.tc : Thread Cert.OutProjIdeal.nD Cert.OutProjIdeal.τ).loc Cert.OutProjIdeal.main_arg11)
          ∧ r.2.mem ((c.tc : Thread Cert.OutProjIdeal.nD Cert.OutProjIdeal.τ).loc Cert.OutProjIdeal.main_arg12) = m ((c.tc : Thread Cert.OutProjIdeal.nD Cert.OutProjIdeal.τ).loc Cert.OutProjIdeal.main_arg12))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v64) = v0 c
          ∧ r.2.mem ((c.tc : Thread Cert.OutProjRefIdeal.nD Cert.OutProjRefIdeal.τ).loc Cert.OutProjRefIdeal.main_v65) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9)
          ∧ r.2.mem ((c.tc : Thread Cert.OutProjRefIdeal.nD Cert.OutProjRefIdeal.τ).loc Cert.OutProjRefIdeal.main_arg10) = m' ((c.tc : Thread Cert.OutProjRefIdeal.nD Cert.OutProjRefIdeal.τ).loc Cert.OutProjRefIdeal.main_arg10)
          ∧ r.2.mem ((c.tc : Thread Cert.OutProjRefIdeal.nD Cert.OutProjRefIdeal.τ).loc Cert.OutProjRefIdeal.main_arg11) = m' ((c.tc : Thread Cert.OutProjRefIdeal.nD Cert.OutProjRefIdeal.τ).loc Cert.OutProjRefIdeal.main_arg11)
          ∧ r.2.mem ((c.tc : Thread Cert.OutProjRefIdeal.nD Cert.OutProjRefIdeal.τ).loc Cert.OutProjRefIdeal.main_arg12) = m' ((c.tc : Thread Cert.OutProjRefIdeal.nD Cert.OutProjRefIdeal.τ).loc Cert.OutProjRefIdeal.main_arg12))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v11) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Sparse_SparseIdeal : Prop :=
  True

def algebraic_SparseIdeal_SparseRefIdeal [hSparseIdeal : Cert.SparseIdeal.Facts] [hSparseRefIdeal : Cert.SparseRefIdeal.Facts] : Prop :=
  ∀ (m : (ℓ : Loc Cert.SparseIdeal.nD Cert.SparseIdeal.τ Cert.SparseIdeal.sig) → Buf (Elt Ideal) ℓ) (g : Dev Cert.SparseIdeal.nD → PrngReg)
    (m' : (ℓ : Loc Cert.SparseRefIdeal.nD Cert.SparseRefIdeal.τ Cert.SparseRefIdeal.sig) → Buf (Elt Ideal) ℓ) (g' : Dev Cert.SparseRefIdeal.nD → PrngReg), Pre_SparseIdeal m →
    (∀ c : Dev Cert.SparseIdeal.nD,
      m' ((c.tc : Thread Cert.SparseRefIdeal.nD Cert.SparseRefIdeal.τ).loc Cert.SparseRefIdeal.main_arg0) = m ((c.tc : Thread Cert.SparseIdeal.nD Cert.SparseIdeal.τ).loc Cert.SparseIdeal.main_arg0)
      ∧ m' ((c.tc : Thread Cert.SparseRefIdeal.nD Cert.SparseRefIdeal.τ).loc Cert.SparseRefIdeal.main_arg1) = m ((c.tc : Thread Cert.SparseIdeal.nD Cert.SparseIdeal.τ).loc Cert.SparseIdeal.main_arg1)
      ∧ m' ((c.tc : Thread Cert.SparseRefIdeal.nD Cert.SparseRefIdeal.τ).loc Cert.SparseRefIdeal.main_arg2) = m ((c.tc : Thread Cert.SparseIdeal.nD Cert.SparseIdeal.τ).loc Cert.SparseIdeal.main_arg2)
      ∧ m' ((c.tc : Thread Cert.SparseRefIdeal.nD Cert.SparseRefIdeal.τ).loc Cert.SparseRefIdeal.main_arg3) = m ((c.tc : Thread Cert.SparseIdeal.nD Cert.SparseIdeal.τ).loc Cert.SparseIdeal.main_arg3)
      ∧ m' ((c.tc : Thread Cert.SparseRefIdeal.nD Cert.SparseRefIdeal.τ).loc Cert.SparseRefIdeal.main_arg4) = m ((c.tc : Thread Cert.SparseIdeal.nD Cert.SparseIdeal.τ).loc Cert.SparseIdeal.main_arg4)
      ∧ m' ((c.tc : Thread Cert.SparseRefIdeal.nD Cert.SparseRefIdeal.τ).loc Cert.SparseRefIdeal.main_arg5) = m ((c.tc : Thread Cert.SparseIdeal.nD Cert.SparseIdeal.τ).loc Cert.SparseIdeal.main_arg5)) →
    ∃ (v0 : (c : Dev Cert.SparseIdeal.nD) → Buf (Elt Ideal) ((c.tc : Thread Cert.SparseIdeal.nD Cert.SparseIdeal.τ).loc Cert.SparseIdeal.main_v30_0)) (v1 : (c : Dev Cert.SparseIdeal.nD) → Buf (Elt Ideal) ((c.tc : Thread Cert.SparseIdeal.nD Cert.SparseIdeal.τ).loc Cert.SparseIdeal.main_v30_1)) (v2 : (c : Dev Cert.SparseIdeal.nD) → Buf (Elt Ideal) ((c.tc : Thread Cert.SparseIdeal.nD Cert.SparseIdeal.τ).loc Cert.SparseIdeal.main_v30_2)) (v3 : (c : Dev Cert.SparseIdeal.nD) → Buf (Elt Ideal) ((c.tc : Thread Cert.SparseIdeal.nD Cert.SparseIdeal.τ).loc Cert.SparseIdeal.main_v30_3)) (v4 : (c : Dev Cert.SparseIdeal.nD) → Buf (Elt Ideal) ((c.tc : Thread Cert.SparseIdeal.nD Cert.SparseIdeal.τ).loc Cert.SparseIdeal.main_v30_4)) (v5 : (c : Dev Cert.SparseIdeal.nD) → Buf (Elt Ideal) ((c.tc : Thread Cert.SparseIdeal.nD Cert.SparseIdeal.τ).loc Cert.SparseIdeal.main_v30_5)),
      θ_run (Cert.SparseIdeal.defs (F := Ideal)) (onTc (τ := Cert.SparseIdeal.τ) (Cert.SparseIdeal.main (F := Ideal))) ⟨m, fun _ => 0, g⟩ (fun r => ∀ c : Dev Cert.SparseIdeal.nD,
          r.2.mem ((c.tc : Thread Cert.SparseIdeal.nD Cert.SparseIdeal.τ).loc Cert.SparseIdeal.main_v30_0) = v0 c
          ∧ r.2.mem ((c.tc : Thread Cert.SparseIdeal.nD Cert.SparseIdeal.τ).loc Cert.SparseIdeal.main_v30_1) = v1 c
          ∧ r.2.mem ((c.tc : Thread Cert.SparseIdeal.nD Cert.SparseIdeal.τ).loc Cert.SparseIdeal.main_v30_2) = v2 c
          ∧ r.2.mem ((c.tc : Thread Cert.SparseIdeal.nD Cert.SparseIdeal.τ).loc Cert.SparseIdeal.main_v30_3) = v3 c
          ∧ r.2.mem ((c.tc : Thread Cert.SparseIdeal.nD Cert.SparseIdeal.τ).loc Cert.SparseIdeal.main_v30_4) = v4 c
          ∧ r.2.mem ((c.tc : Thread Cert.SparseIdeal.nD Cert.SparseIdeal.τ).loc Cert.SparseIdeal.main_v30_5) = v5 c
          ∧ r.2.mem ((c.tc : Thread Cert.SparseIdeal.nD Cert.SparseIdeal.τ).loc Cert.SparseIdeal.main_arg0) = m ((c.tc : Thread Cert.SparseIdeal.nD Cert.SparseIdeal.τ).loc Cert.SparseIdeal.main_arg0)
          ∧ r.2.mem ((c.tc : Thread Cert.SparseIdeal.nD Cert.SparseIdeal.τ).loc Cert.SparseIdeal.main_arg1) = m ((c.tc : Thread Cert.SparseIdeal.nD Cert.SparseIdeal.τ).loc Cert.SparseIdeal.main_arg1)
          ∧ r.2.mem ((c.tc : Thread Cert.SparseIdeal.nD Cert.SparseIdeal.τ).loc Cert.SparseIdeal.main_arg2) = m ((c.tc : Thread Cert.SparseIdeal.nD Cert.SparseIdeal.τ).loc Cert.SparseIdeal.main_arg2)
          ∧ r.2.mem ((c.tc : Thread Cert.SparseIdeal.nD Cert.SparseIdeal.τ).loc Cert.SparseIdeal.main_arg3) = m ((c.tc : Thread Cert.SparseIdeal.nD Cert.SparseIdeal.τ).loc Cert.SparseIdeal.main_arg3)
          ∧ r.2.mem ((c.tc : Thread Cert.SparseIdeal.nD Cert.SparseIdeal.τ).loc Cert.SparseIdeal.main_arg4) = m ((c.tc : Thread Cert.SparseIdeal.nD Cert.SparseIdeal.τ).loc Cert.SparseIdeal.main_arg4)
          ∧ r.2.mem ((c.tc : Thread Cert.SparseIdeal.nD Cert.SparseIdeal.τ).loc Cert.SparseIdeal.main_arg5) = m ((c.tc : Thread Cert.SparseIdeal.nD Cert.SparseIdeal.τ).loc Cert.SparseIdeal.main_arg5))
      ∧ θ_run (Cert.SparseRefIdeal.defs (F := Ideal)) (onTc (τ := Cert.SparseRefIdeal.τ) (Cert.SparseRefIdeal.main (F := Ideal))) ⟨m', fun _ => 0, g'⟩ (fun r => ∀ c : Dev Cert.SparseRefIdeal.nD,
          r.2.mem ((c.tc : Thread Cert.SparseRefIdeal.nD Cert.SparseRefIdeal.τ).loc Cert.SparseRefIdeal.main_v97) = v0 c
          ∧ r.2.mem ((c.tc : Thread Cert.SparseRefIdeal.nD Cert.SparseRefIdeal.τ).loc Cert.SparseRefIdeal.main_v100) = v1 c
          ∧ r.2.mem ((c.tc : Thread Cert.SparseRefIdeal.nD Cert.SparseRefIdeal.τ).loc Cert.SparseRefIdeal.main_v102) = v2 c
          ∧ r.2.mem ((c.tc : Thread Cert.SparseRefIdeal.nD Cert.SparseRefIdeal.τ).loc Cert.SparseRefIdeal.main_v104) = v3 c
          ∧ r.2.mem ((c.tc : Thread Cert.SparseRefIdeal.nD Cert.SparseRefIdeal.τ).loc Cert.SparseRefIdeal.main_v106) = v4 c
          ∧ r.2.mem ((c.tc : Thread Cert.SparseRefIdeal.nD Cert.SparseRefIdeal.τ).loc Cert.SparseRefIdeal.main_v108) = v5 c
          ∧ r.2.mem ((c.tc : Thread Cert.SparseRefIdeal.nD Cert.SparseRefIdeal.τ).loc Cert.SparseRefIdeal.main_arg0) = m' ((c.tc : Thread Cert.SparseRefIdeal.nD Cert.SparseRefIdeal.τ).loc Cert.SparseRefIdeal.main_arg0)
          ∧ r.2.mem ((c.tc : Thread Cert.SparseRefIdeal.nD Cert.SparseRefIdeal.τ).loc Cert.SparseRefIdeal.main_arg1) = m' ((c.tc : Thread Cert.SparseRefIdeal.nD Cert.SparseRefIdeal.τ).loc Cert.SparseRefIdeal.main_arg1)
          ∧ r.2.mem ((c.tc : Thread Cert.SparseRefIdeal.nD Cert.SparseRefIdeal.τ).loc Cert.SparseRefIdeal.main_arg2) = m' ((c.tc : Thread Cert.SparseRefIdeal.nD Cert.SparseRefIdeal.τ).loc Cert.SparseRefIdeal.main_arg2)
          ∧ r.2.mem ((c.tc : Thread Cert.SparseRefIdeal.nD Cert.SparseRefIdeal.τ).loc Cert.SparseRefIdeal.main_arg3) = m' ((c.tc : Thread Cert.SparseRefIdeal.nD Cert.SparseRefIdeal.τ).loc Cert.SparseRefIdeal.main_arg3)
          ∧ r.2.mem ((c.tc : Thread Cert.SparseRefIdeal.nD Cert.SparseRefIdeal.τ).loc Cert.SparseRefIdeal.main_arg4) = m' ((c.tc : Thread Cert.SparseRefIdeal.nD Cert.SparseRefIdeal.τ).loc Cert.SparseRefIdeal.main_arg4)
          ∧ r.2.mem ((c.tc : Thread Cert.SparseRefIdeal.nD Cert.SparseRefIdeal.τ).loc Cert.SparseRefIdeal.main_arg5) = m' ((c.tc : Thread Cert.SparseRefIdeal.nD Cert.SparseRefIdeal.τ).loc Cert.SparseRefIdeal.main_arg5))

def Claim : Prop :=
  ∃ (hKernel2 : Cert.Kernel2.Facts) (hKernel2Ideal : Cert.Kernel2Ideal.Facts) (hReference2Ideal : Cert.Reference2Ideal.Facts) (hInProj : Cert.InProj.Facts) (hInProjIdeal : Cert.InProjIdeal.Facts) (hInProjRefIdeal : Cert.InProjRefIdeal.Facts) (hNextProj : Cert.NextProj.Facts) (hNextProjIdeal : Cert.NextProjIdeal.Facts) (hNextProjRefIdeal : Cert.NextProjRefIdeal.Facts) (hFinalNorm : Cert.FinalNorm.Facts) (hFinalNormIdeal : Cert.FinalNormIdeal.Facts) (hFinalNormRefIdeal : Cert.FinalNormRefIdeal.Facts) (hOutProj : Cert.OutProj.Facts) (hOutProjIdeal : Cert.OutProjIdeal.Facts) (hOutProjRefIdeal : Cert.OutProjRefIdeal.Facts) (hMod : Cert.Mod.Facts) (hModIdeal : Cert.ModIdeal.Facts) (hModRefIdeal : Cert.ModRefIdeal.Facts) (hSparse : Cert.Sparse.Facts) (hSparseIdeal : Cert.SparseIdeal.Facts) (hSparseRefIdeal : Cert.SparseRefIdeal.Facts) (hPre_ranges : Cert.Pre_ranges.Facts) (hPre_finite : Cert.Pre_finite.Facts),
    quiescent_Kernel2 (hKernel2 := hKernel2) (hPre_ranges := hPre_ranges)
    ∧ quiescent_Kernel2Ideal (hKernel2Ideal := hKernel2Ideal) (hPre_ranges := hPre_ranges)
    ∧ quiescent_Reference2Ideal (hReference2Ideal := hReference2Ideal)
    ∧ quiescent_Reference2Ideal_pre_ranges (hReference2Ideal := hReference2Ideal) (hPre_ranges := hPre_ranges)
    ∧ quiescent_InProj (hInProj := hInProj)
    ∧ quiescent_InProjIdeal (hInProjIdeal := hInProjIdeal)
    ∧ quiescent_InProjRefIdeal (hInProjRefIdeal := hInProjRefIdeal)
    ∧ quiescent_NextProj (hNextProj := hNextProj)
    ∧ quiescent_NextProjIdeal (hNextProjIdeal := hNextProjIdeal)
    ∧ quiescent_NextProjRefIdeal (hNextProjRefIdeal := hNextProjRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_OutProj (hOutProj := hOutProj)
    ∧ quiescent_OutProjIdeal (hOutProjIdeal := hOutProjIdeal)
    ∧ quiescent_OutProjIdeal_pre_finite (hOutProjIdeal := hOutProjIdeal) (hPre_finite := hPre_finite)
    ∧ quiescent_OutProjRefIdeal (hOutProjRefIdeal := hOutProjRefIdeal)
    ∧ quiescent_OutProjRefIdeal_pre_finite (hOutProjRefIdeal := hOutProjRefIdeal) (hPre_finite := hPre_finite)
    ∧ quiescent_Mod (hMod := hMod)
    ∧ quiescent_ModIdeal (hModIdeal := hModIdeal)
    ∧ quiescent_ModRefIdeal (hModRefIdeal := hModRefIdeal)
    ∧ quiescent_Sparse (hSparse := hSparse)
    ∧ quiescent_SparseIdeal (hSparseIdeal := hSparseIdeal)
    ∧ quiescent_SparseRefIdeal (hSparseRefIdeal := hSparseRefIdeal)
    ∧ preserves_Kernel2_Kernel2Ideal
    ∧ algebraic_Kernel2Ideal_Reference2Ideal (hKernel2Ideal := hKernel2Ideal) (hReference2Ideal := hReference2Ideal) (hPre_ranges := hPre_ranges)
    ∧ preserves_InProj_InProjIdeal
    ∧ algebraic_InProjIdeal_InProjRefIdeal (hInProjIdeal := hInProjIdeal) (hInProjRefIdeal := hInProjRefIdeal)
    ∧ preserves_NextProj_NextProjIdeal
    ∧ algebraic_NextProjIdeal_NextProjRefIdeal (hNextProjIdeal := hNextProjIdeal) (hNextProjRefIdeal := hNextProjRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_OutProj_OutProjIdeal
    ∧ algebraic_OutProjIdeal_OutProjRefIdeal_pre_finite (hOutProjIdeal := hOutProjIdeal) (hOutProjRefIdeal := hOutProjRefIdeal) (hPre_finite := hPre_finite)
    ∧ preserves_Mod_ModIdeal
    ∧ algebraic_ModIdeal_ModRefIdeal (hModIdeal := hModIdeal) (hModRefIdeal := hModRefIdeal)
    ∧ preserves_Sparse_SparseIdeal
    ∧ algebraic_SparseIdeal_SparseRefIdeal (hSparseIdeal := hSparseIdeal) (hSparseRefIdeal := hSparseRefIdeal)
-- ==== Pre_finite.lean ====
abbrev S32768x256 : Shape := ⟨2, ![32768, 256]⟩
abbrev S1x256 : Shape := ⟨2, ![1, 256]⟩
abbrev S32768x1024 : Shape := ⟨2, ![32768, 1024]⟩
abbrev S48x1x1024 : Shape := ⟨3, ![48, 1, 1024]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S_ : Shape := ⟨0, ![]⟩

class Facts : Prop where
  bitsLt_bf16_f32 : FTy.bits .bf16 < FTy.bits .f32
  bcast_S_S32768x256 : S_.BroadcastsInDim S32768x256 (![] : Fin 0 → Fin S32768x256.rank)

variable [Facts]

def fn {F : FTy → Type} [FloatOps F] (main_arg0 : FVec F S32768x256 .bf16) (main_arg1 : FVec F S32768x256 .bf16) (main_arg2 : FVec F S32768x256 .bf16) (main_arg3 : FVec F S32768x256 .bf16) (main_arg4 : FVec F S32768x256 .bf16) (main_arg5 : FVec F S32768x256 .bf16) (main_arg6 : FVec F S1x256 .f32) (main_arg7 : FVec F S32768x1024 .f32) (main_arg8 : FVec F S48x1x1024 .f32) (main_arg9 : FVec F S1x1024 .f32) (main_arg10 : FVec F S1024x1024 .bf16) (main_arg11 : FVec F S1024x32 .f32) (main_arg12 : FVec F S1x32 .f32) : IVec S32768x256 1 :=
  let main_v0 : FVec F S32768x256 .f32 := (extf .f32 · bitsLt_bf16_f32) main_arg3
  let main_v1 : FVec F S32768x256 .f32 := Host.absf main_v0
  let main_cst : FVec F S_ .f32 := constant S_ .f32 0x7F800000#32
  let main_v2 : FVec F S32768x256 .f32 := broadcastInDim S32768x256 ![] bcast_S_S32768x256 main_cst
  let main_v3 : IVec S32768x256 1 := cmpf .olt main_v1 main_v2
  main_v3
-- ==== Pre_ranges.lean ====
abbrev S288 : Shape := ⟨1, ![288]⟩
abbrev S1 : Shape := ⟨1, ![1]⟩
abbrev S147456x1024 : Shape := ⟨2, ![147456, 1024]⟩
abbrev S2x32x1024x2048 : Shape := ⟨4, ![2, 32, 1024, 2048]⟩
abbrev S64x1x2048 : Shape := ⟨3, ![64, 1, 2048]⟩
abbrev S2x32x1024x1024 : Shape := ⟨4, ![2, 32, 1024, 1024]⟩
abbrev S64x1x1024 : Shape := ⟨3, ![64, 1, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)
  bcast_S1_S288_0 : S1.BroadcastsInDim S288 (![0] : Fin 1 → Fin S288.rank)

variable [Facts]

def fn {F : FTy → Type} [FloatOps F] (main_arg0 : IVec S288 32) (main_arg1 : IVec S1 32) (main_arg2 : FVec F S147456x1024 .f32) (main_arg3 : FVec F S2x32x1024x2048 .f32) (main_arg4 : FVec F S64x1x2048 .f32) (main_arg5 : FVec F S2x32x1024x1024 .f32) (main_arg6 : FVec F S64x1x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S288 1 := broadcastInDim S288 ![0] bcast_S1_S288_0 main_v6
  let main_v8 : IVec S288 1 := andi main_v4 main_v7
  let main_c_2 : IVec S_ 32 := constantI S_ 32 288#32
  let main_v9 : IVec S1 32 := broadcastInDim S1 ![] bcast_S_S1 main_c_2
  let main_v10 : IVec S1 1 := cmpi .sle main_arg1 main_v9
  let main_v11 : IVec S288 1 := broadcastInDim S288 ![0] bcast_S1_S288_0 main_v10
  let main_v12 : IVec S288 1 := andi main_v8 main_v11
  main_v12
-- ==== Kernel2.lean ====
abbrev S288 : Shape := ⟨1, ![288]⟩
abbrev S1 : Shape := ⟨1, ![1]⟩
abbrev S147456x1024 : Shape := ⟨2, ![147456, 1024]⟩
abbrev S2x32x1024x2048 : Shape := ⟨4, ![2, 32, 1024, 2048]⟩
abbrev S64x1x2048 : Shape := ⟨3, ![64, 1, 2048]⟩
abbrev S2x32x1024x1024 : Shape := ⟨4, ![2, 32, 1024, 1024]⟩
abbrev S64x1x1024 : Shape := ⟨3, ![64, 1, 1024]⟩
abbrev S512x1024 : Shape := ⟨2, ![512, 1024]⟩
abbrev S1x1x1024x2048 : Shape := ⟨4, ![1, 1, 1024, 2048]⟩
abbrev S1x1x2048 : Shape := ⟨3, ![1, 1, 2048]⟩
abbrev S1x1x1024x1024 : Shape := ⟨4, ![1, 1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S147456x1024, .f32⟩
  | .hbm, ⟨1, _⟩ => ⟨S2x32x1024x2048, .f32⟩
  | .hbm, ⟨2, _⟩ => ⟨S64x1x2048, .f32⟩
  | .hbm, ⟨3, _⟩ => ⟨S2x32x1024x1024, .f32⟩
  | .hbm, ⟨4, _⟩ => ⟨S64x1x1024, .f32⟩
  | .hbm, ⟨5, _⟩ => ⟨S147456x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S1 : Shape := ⟨1, ![1]⟩
abbrev S147456x1024 : Shape := ⟨2, ![147456, 1024]⟩
abbrev S2x32x1024x2048 : Shape := ⟨4, ![2, 32, 1024, 2048]⟩
abbrev S64x1x2048 : Shape := ⟨3, ![64, 1, 2048]⟩
abbrev S2x32x1024x1024 : Shape := ⟨4, ![2, 32, 1024, 1024]⟩
abbrev S64x1x1024 : Shape := ⟨3, ![64, 1, 1024]⟩
abbrev S288x512x1024 : Shape := ⟨3, ![288, 512, 1024]⟩
abbrev S1x32x1024x2048 : Shape := ⟨4, ![1, 32, 1024, 2048]⟩
abbrev S32x1024x2048 : Shape := ⟨3, ![32, 1024, 2048]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S2x32x2048 : Shape := ⟨3, ![2, 32, 2048]⟩
abbrev S1x32x2048 : Shape := ⟨3, ![1, 32, 2048]⟩
abbrev S32x2048 : Shape := ⟨2, ![32, 2048]⟩
abbrev S288x2048 : Shape := ⟨2, ![288, 2048]⟩
abbrev S288x1x2048 : Shape := ⟨3, ![288, 1, 2048]⟩
abbrev S1x32x1024x1024 : Shape := ⟨4, ![1, 32, 1024, 1024]⟩
abbrev S32x1024x1024 : Shape := ⟨3, ![32, 1024, 1024]⟩
abbrev S288x1024x1024 : Shape := ⟨3, ![288, 1024, 1024]⟩
abbrev S2x32x1024 : Shape := ⟨3, ![2, 32, 1024]⟩
abbrev S1x32x1024 : Shape := ⟨3, ![1, 32, 1024]⟩
abbrev S32x1024 : Shape := ⟨2, ![32, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .f32⟩
  | .hbm, ⟨3, _⟩ => ⟨S2x32x1024x2048, .f32⟩
  | .hbm, ⟨4, _⟩ => ⟨S64x1x2048, .f32⟩
  | .hbm, ⟨5, _⟩ => ⟨S2x32x1024x1024, .f32⟩
  | .hbm, ⟨6, _⟩ => ⟨S64x1x1024, .f32⟩
  | .hbm, ⟨7, _⟩ => ⟨S288x512x1024, .f32⟩
  | .hbm, ⟨8, _⟩ => ⟨S1x32x1024x2048, .f32⟩
  | .hbm, ⟨9, _⟩ => ⟨S32x1024x2048, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x2048, .f32⟩
  | .hbm, ⟨19, _⟩ => ⟨S288x512x2048, .f32⟩
  | .hbm, ⟨20, _⟩ => ⟨S2x32x2048, .f32⟩
  | .hbm, ⟨21, _⟩ => ⟨S1x32x2048, .f32⟩
  | .hbm, ⟨22, _⟩ => ⟨S32x2048, .f32⟩
  | .hbm, ⟨23, _⟩ => ⟨S_, .i32⟩
  | .hbm, ⟨24, _⟩ => ⟨S288, .i32⟩
  | .hbm, ⟨25, _⟩ => ⟨S288, .i1⟩
  | .hbm, ⟨26, _⟩ => ⟨S_, .i32⟩
  | .hbm, ⟨27, _⟩ => ⟨S288, .i32⟩
  | .hbm, ⟨28, _⟩ => ⟨S288, .i32⟩
  | .hbm, ⟨29, _⟩ => ⟨S288, .i32⟩
  | .hbm, ⟨30, _⟩ => ⟨S288x1, .i32⟩
  | .hbm, ⟨31, _⟩ => ⟨S288x2048, .f32⟩
  | .hbm, ⟨32, _⟩ => ⟨S288x1x2048, .f32⟩
  | .hbm, ⟨33, _⟩ => ⟨S288x512x2048, .f32⟩
  | .hbm, ⟨34, _⟩ => ⟨S288x512x2048, .f32⟩
  | .hbm, ⟨35, _⟩ => ⟨S288x512x1024, .f32⟩
  | .hbm, ⟨36, _⟩ => ⟨S288x512x1024, .f32⟩
  | .hbm, ⟨37, _⟩ => ⟨S_, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S_, .f32⟩
  | .hbm, ⟨47, _⟩ => ⟨S288x512x1024, .f32⟩
  | .hbm, ⟨48, _⟩ => ⟨S288x512x1024, .f32⟩
  | .hbm, ⟨49, _⟩ => ⟨S288x512x1024, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S_, .f32⟩
  | .hbm, ⟨55, _⟩ => ⟨S288x512x1024, .f32⟩
  | .hbm, ⟨56, _⟩ => ⟨S288x512x1024, .f32⟩
  | .hbm, ⟨57, _⟩ => ⟨S288x512x1024, .f32⟩
  | .hbm, ⟨58, _⟩ => ⟨S_, .f32⟩
  | .hbm, ⟨59, _⟩ => ⟨S288x512x1024, .f32⟩
  | .hbm, ⟨60, _⟩ => ⟨S288x512x1024, .f32⟩
  | .hbm, ⟨61, _⟩ => ⟨S288x512x1024, .f32⟩
  | .hbm, ⟨62, _⟩ => ⟨S1x32x1024x1024, .f32⟩
  | .hbm, ⟨63, _⟩ => ⟨S32x1024x1024, .f32⟩
  | .hbm, ⟨64, _⟩ => ⟨S_, .i32⟩
  | .hbm, ⟨65, _⟩ => ⟨S288, .i32⟩
  | .hbm, ⟨66, _⟩ => ⟨S288, .i1⟩
  | .hbm, ⟨67, _⟩ => ⟨S_, .i32⟩
  | .hbm, ⟨68, _⟩ => ⟨S288, .i32⟩
  | .hbm, ⟨69, _⟩ => ⟨S288, .i32⟩
  | .hbm, ⟨70, _⟩ => ⟨S288, .i32⟩
  | .hbm, ⟨71, _⟩ => ⟨S288x1, .i32⟩
  | .hbm, ⟨72, _⟩ => ⟨S288x1024x1024, .f32⟩
  | .hbm, ⟨73, _⟩ => ⟨S288x512x1024, .f32⟩
  | .hbm, ⟨74, _⟩ => ⟨S2x32x1024, .f32⟩
  | .hbm, ⟨75, _⟩ => ⟨S1x32x1024, .f32⟩
  | .hbm, ⟨76, _⟩ => ⟨S32x1024, .f32⟩
  | .hbm, ⟨77, _⟩ => ⟨S_, .i32⟩
  | .hbm, ⟨78, _⟩ => ⟨S288, .i32⟩
  | .hbm, ⟨79, _⟩ => ⟨S288, .i1⟩
  | .hbm, ⟨80, _⟩ => ⟨S_, .i32⟩
  | .hbm, ⟨81, _⟩ => ⟨S288, .i32⟩
  | .hbm, ⟨82, _⟩ => ⟨S288, .i32⟩
  | .hbm, ⟨83, _⟩ => ⟨S288, .i32⟩
  | .hbm, ⟨84, _⟩ => ⟨S288x1, .i32⟩
  | .hbm, ⟨85, _⟩ => ⟨S288x1024, .f32⟩
  | .hbm, ⟨86, _⟩ => ⟨S288x1x1024, .f32⟩
  | .hbm, ⟨87, _⟩ => ⟨S288x512x1024, .f32⟩
  | .hbm, ⟨88, _⟩ => ⟨S288x512x1024, .f32⟩
  | .hbm, ⟨89, _⟩ => ⟨S288, .i32⟩
  | .hbm, ⟨90, _⟩ => ⟨S_, .i32⟩
  | .hbm, ⟨91, _⟩ => ⟨S288, .i32⟩
  | .hbm, ⟨92, _⟩ => ⟨S288, .i1⟩
  | .hbm, ⟨93, _⟩ => ⟨S288x1x1, .i1⟩
  | .hbm, ⟨94, _⟩ => ⟨S_, .f32⟩
  | .hbm, ⟨95, _⟩ => ⟨S_, .f32⟩
  | .hbm, ⟨96, _⟩ => ⟨S288x512x1024, .i1⟩
  | .hbm, ⟨97, _⟩ => ⟨S288x512x1024, .f32⟩
  | .hbm, ⟨98, _⟩ => ⟨S288x512x1024, .f32⟩
  | .hbm, ⟨99, _⟩ => ⟨S147456x1024, .f32⟩
  | .hbm, ⟨100, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_v58 : Ref sig .tc := ⟨.hbm, 79, rfl⟩
abbrev main_c_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== InProj.lean ====
abbrev S32768x1024 : Shape := ⟨2, ![32768, 1024]⟩
abbrev S1x1024 : Shape := ⟨2, ![1, 1024]⟩
abbrev S48x1x1024 : Shape := ⟨3, ![48, 1, 1024]⟩
abbrev S1024x3072 : Shape := ⟨2, ![1024, 3072]⟩
abbrev S32768x896 : Shape := ⟨2, ![32768, 896]⟩
abbrev S32768x384 : Shape := ⟨2, ![32768, 384]⟩
abbrev S32768x768 : Shape := ⟨2, ![32768, 768]⟩
abbrev S512x1024 : Shape := ⟨2, ![512, 1024]⟩
abbrev S1x1x1024 : Shape := ⟨3, ![1, 1, 1024]⟩
abbrev S512x896 : Shape := ⟨2, ![512, 896]⟩
abbrev S512x384 : Shape := ⟨2, ![512, 384]⟩
abbrev S512x768 : Shape := ⟨2, ![512, 768]⟩
abbrev S512 : Shape := ⟨1, ![512]⟩
abbrev S512x1 : Shape := ⟨2, ![512, 1]⟩
abbrev S1024x1024 : Shape := ⟨2, ![1024, 1024]⟩
abbrev S1024x896 : Shape := ⟨2, ![1024, 896]⟩
abbrev S1024x384 : Shape := ⟨2, ![1024, 384]⟩
abbrev S1024x768 : Shape := ⟨2, ![1024, 768]⟩

abbrev nBuf : Space → Nat
  | .hbm => 8
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S48x1x1024, .f32⟩
  | .hbm, ⟨3, _⟩ => ⟨S1024x3072, .bf16⟩
  | .hbm, ⟨4, _⟩ => ⟨S32768x1024, .f32⟩
  | .hbm, ⟨5, _⟩ => ⟨S32768x896, .f32⟩
  | .hbm, ⟨6, _⟩ => ⟨S32768x384, .f32⟩
  | .hbm, ⟨7, _⟩ => ⟨S32768x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x1024, .f32⟩
  | .local _ .vmem, ⟨9, _⟩ => ⟨S512x1024, .f32⟩
  | .local _ .vmem, ⟨10, _⟩ => ⟨S512x896, .f32⟩
  | .local _ .vmem, ⟨11, _⟩ => ⟨S512x896, .f32⟩
  | .local _ .vmem, ⟨12, _⟩ => ⟨S512x384, .f32⟩
  | .local _ .vmem, ⟨13, _⟩ => ⟨S512x384, .f32⟩
  | .local _ .vmem, ⟨14, _⟩ => ⟨S512x768, .bf16⟩
  | .local _ .vmem, ⟨15, _⟩ => ⟨S512x768, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S32768x1024 : Shape := ⟨2, ![32768, 1024]⟩
abbrev S1x1024 : Shape := ⟨2, ![1, 1024]⟩
abbrev S48x1x1024 : Shape := ⟨3, ![48, 1, 1024]⟩
abbrev S1024x3072 : Shape := ⟨2, ![1024, 3072]⟩
abbrev S8x4096x1024 : Shape := ⟨3, ![8, 4096, 1024]⟩
abbrev S8x6x1024 : Shape := ⟨3, ![8, 6, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S32768x3072 : Shape := ⟨2, ![32768, 3072]⟩
abbrev S32768x896 : Shape := ⟨2, ![32768, 896]⟩
abbrev S32768x384 : Shape := ⟨2, ![32768, 384]⟩
abbrev S32768x768 : Shape := ⟨2, ![32768, 768]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S48x1x1024, .f32⟩
  | .hbm, ⟨3, _⟩ => ⟨S1024x3072, .bf16⟩
  | .hbm, ⟨4, _⟩ => ⟨S8x4096x1024, .f32⟩
  | .hbm, ⟨5, _⟩ => ⟨S8x6x1024, .f32⟩
  | .hbm, ⟨6, _⟩ => ⟨S8x1x1024, .f32⟩
  | .hbm, ⟨7, _⟩ => ⟨S8x1x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S1024x3072, .f32⟩
  | .hbm, ⟨32, _⟩ => ⟨S8x4096x3072, .f32⟩
  | .hbm, ⟨33, _⟩ => ⟨S32768x3072, .f32⟩
  | .hbm, ⟨34, _⟩ => ⟨S32768x1024, .f32⟩
  | .hbm, ⟨35, _⟩ => ⟨S32768x896, .f32⟩
  | .hbm, ⟨36, _⟩ => ⟨S32768x384, .f32⟩
  | .hbm, ⟨37, _⟩ => ⟨S32768x768, .f32⟩
  | .hbm, ⟨38, _⟩ => ⟨S32768x768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== NextProj.lean ====
abbrev S32768x1024 : Shape := ⟨2, ![32768, 1024]⟩
abbrev S48x1x1024 : Shape := ⟨3, ![48, 1, 1024]⟩
abbrev S32768x128 : Shape := ⟨2, ![32768, 128]⟩
abbrev S1x1024 : Shape := ⟨2, ![1, 1024]⟩
abbrev S1024x3072 : Shape := ⟨2, ![1024, 3072]⟩
abbrev S32768x896 : Shape := ⟨2, ![32768, 896]⟩
abbrev S32768x384 : Shape := ⟨2, ![32768, 384]⟩
abbrev S32768x768 : Shape := ⟨2, ![32768, 768]⟩
abbrev S512x1024 : Shape := ⟨2, ![512, 1024]⟩
abbrev S1x1x1024 : Shape := ⟨3, ![1, 1, 1024]⟩
abbrev S512x128 : Shape := ⟨2, ![512, 128]⟩
abbrev S512x896 : Shape := ⟨2, ![512, 896]⟩
abbrev S512x384 : Shape := ⟨2, ![512, 384]⟩
abbrev S512x768 : Shape := ⟨2, ![512, 768]⟩
abbrev S512x1 : Shape := ⟨2, ![512, 1]⟩
abbrev S512 : Shape := ⟨1, ![512]⟩
abbrev S1024x1024 : Shape := ⟨2, ![1024, 1024]⟩
abbrev S1024x896 : Shape := ⟨2, ![1024, 896]⟩
abbrev S1024x384 : Shape := ⟨2, ![1024, 384]⟩
abbrev S1024x768 : Shape := ⟨2, ![1024, 768]⟩

abbrev nBuf : Space → Nat
  | .hbm => 15
  | .vmem => 30
  | .smem => 0
  | _ => 0

abbrev bufTy : (tb : Table) → Fin (tcTables nBuf tb) → BufTy
  | .hbm, ⟨0, _⟩ => ⟨S32768x1024, .f32⟩
  | .hbm, ⟨1, _⟩ => ⟨S48x1x1024, .f32⟩
  | .hbm, ⟨2, _⟩ => ⟨S32768x128, .f32⟩
  | .hbm, ⟨3, _⟩ => ⟨S32768x1024, .bf16⟩
  | .hbm, ⟨4, _⟩ => ⟨S32768x1024, .bf16⟩
  | .hbm, ⟨5, _⟩ => ⟨S32768x1024, .bf16⟩
  | .hbm, ⟨6, _⟩ => ⟨S32768x1024, .bf16⟩
  | .hbm, ⟨7, _⟩ => ⟨S1x1024, .f32⟩
  | .hbm, ⟨8, _⟩ => ⟨S48x1x1024, .f32⟩
  | .hbm, ⟨9, _⟩ => ⟨S1024x3072, .bf16⟩
  | .hbm, ⟨10, _⟩ => ⟨S32768x1024, .f32⟩
  | .hbm, ⟨11, _⟩ => ⟨S32768x1024, .f32⟩
  | .hbm, ⟨12, _⟩ => ⟨S32768x896, .f32⟩
  | .hbm, ⟨13, _⟩ => ⟨S32768x384, .f32⟩
  | .hbm, ⟨14, _⟩ => ⟨S32768x768, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1024x3072, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x896, .f32⟩
  | .local _ .vmem, ⟨25, _⟩ => ⟨S512x896, .f32⟩
  | .local _ .vmem, ⟨26, _⟩ => ⟨S512x384, .f32⟩
  | .local _ .vmem, ⟨27, _⟩ => ⟨S512x384, .f32⟩
  | .local _ .vmem, ⟨28, _⟩ => ⟨S512x768, .bf16⟩
  | .local _ .vmem, ⟨29, _⟩ => ⟨S512x768, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x896 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== NextProjRefIdeal.lean ====
abbrev S32768x1024 : Shape := ⟨2, ![32768, 1024]⟩
abbrev S48x1x1024 : Shape := ⟨3, ![48, 1, 1024]⟩
abbrev S32768x128 : Shape := ⟨2, ![32768, 128]⟩
abbrev S1x1024 : Shape := ⟨2, ![1, 1024]⟩
abbrev S1024x3072 : Shape := ⟨2, ![1024, 3072]⟩
abbrev S8x4096x128 : Shape := ⟨3, ![8, 4096, 128]⟩
abbrev S8x4096x4 : Shape := ⟨3, ![8, 4096, 4]⟩
abbrev S8x4096x1 : Shape := ⟨3, ![8, 4096, 1]⟩
abbrev S8x4096x1024 : Shape := ⟨3, ![8, 4096, 1024]⟩
abbrev S8x6x1024 : Shape := ⟨3, ![8, 6, 1024]⟩
abbrev S8x1x1024 : Shape := ⟨3, ![8, 1, 1024]⟩
abbrev S_ : Shape := ⟨0, ![]⟩
abbrev S8x4096 : Shape := ⟨2, ![8, 4096]⟩
abbrev S1x1x1024 : Shape := ⟨3, ![1, 1, 1024]⟩
abbrev S8x4096x3072 : Shape := ⟨3, ![8, 4096, 3072]⟩
abbrev S32768x3072 : Shape := ⟨2, ![32768, 3072]⟩
abbrev S32768x896 : Shape := ⟨2, ![32768, 896]⟩
abbrev S32768x384 : Shape := ⟨2, ![32768, 384]⟩
abbrev S32768x768 : Shape := ⟨2, ![32768, 768]⟩

abbrev nBuf : Space → Nat
  | .hbm => 76
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S48x1x1024, .f32⟩
  | .hbm, ⟨2, _⟩ => ⟨S32768x128, .f32⟩
  | .hbm, ⟨3, _⟩ => ⟨S32768x1024, .bf16⟩
  | .hbm, ⟨4, _⟩ => ⟨S32768x1024, .bf16⟩
  | .hbm, ⟨5, _⟩ => ⟨S32768x1024, .bf16⟩
  | .hbm, ⟨6, _⟩ => ⟨S32768x1024, .bf16⟩
  | .hbm, ⟨7, _⟩ => ⟨S1x1024, .f32⟩
  | .hbm, ⟨8, _⟩ => ⟨S48x1x1024, .f32⟩
  | .hbm, ⟨9, _⟩ => ⟨S1024x3072, .bf16⟩
  | .hbm, ⟨10, _⟩ => ⟨S8x4096x128, .f32⟩
  | .hbm, ⟨11, _⟩ => ⟨S8x4096x4, .f32⟩
  | .hbm, ⟨12, _⟩ => ⟨S8x4096x1, .f32⟩
  | .hbm, ⟨13, _⟩ => ⟨S32768x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1, .f32⟩
  | .hbm, ⟨18, _⟩ => ⟨S32768x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1, .f32⟩
  | .hbm, ⟨24, _⟩ => ⟨S32768x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1, .f32⟩
  | .hbm, ⟨30, _⟩ => ⟨S32768x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x6x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x6x1024, .f32⟩
  | .hbm, ⟨42, _⟩ => ⟨S8x1x1024, .f32⟩
  | .hbm, ⟨43, _⟩ => ⟨S8x1x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S1024x3072, .f32⟩
  | .hbm, ⟨68, _⟩ => ⟨S8x4096x3072, .f32⟩
  | .hbm, ⟨69, _⟩ => ⟨S32768x3072, .f32⟩
  | .hbm, ⟨70, _⟩ => ⟨S32768x1024, .f32⟩
  | .hbm, ⟨71, _⟩ => ⟨S32768x1024, .f32⟩
  | .hbm, ⟨72, _⟩ => ⟨S32768x896, .f32⟩
  | .hbm, ⟨73, _⟩ => ⟨S32768x384, .f32⟩
  | .hbm, ⟨74, _⟩ => ⟨S32768x768, .f32⟩
  | .hbm, ⟨75, _⟩ => ⟨S32768x768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_cst_0 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_2 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩

abbrev nD : Nat := 1
abbrev τ : Topo := Topo.v7x

variable {F : FTy → Type} [FloatOps F]
-- ==== FinalNorm.lean ====
abbrev S32768x1024 : Shape := ⟨2, ![32768, 1024]⟩
abbrev S48x1x1024 : Shape := ⟨3, ![48, 1, 1024]⟩
abbrev S32768x128 : Shape := ⟨2, ![32768, 128]⟩
abbrev S1x1024 : Shape := ⟨2, ![1, 1024]⟩
abbrev S512x1024 : Shape := ⟨2, ![512, 1024]⟩
abbrev S1x1x1024 : Shape := ⟨3, ![1, 1, 1024]⟩
abbrev S512x128 : Shape := ⟨2, ![512, 128]⟩
abbrev S512x1 : Shape := ⟨2, ![512, 1]⟩
abbrev S512 : Shape := ⟨1, ![512]⟩

abbrev nBuf : Space → Nat
  | .hbm => 9
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S48x1x1024, .f32⟩
  | .hbm, ⟨2, _⟩ => ⟨S32768x128, .f32⟩
  | .hbm, ⟨3, _⟩ => ⟨S32768x1024, .bf16⟩
  | .hbm, ⟨4, _⟩ => ⟨S32768x1024, .bf16⟩
  | .hbm, ⟨5, _⟩ => ⟨S32768x1024, .bf16⟩
  | .hbm, ⟨6, _⟩ => ⟨S32768x1024, .bf16⟩
  | .hbm, ⟨7, _⟩ => ⟨S1x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FinalNormRefIdeal.lean ====
abbrev S32768x1024 : Shape := ⟨2, ![32768, 1024]⟩
abbrev S48x1x1024 : Shape := ⟨3, ![48, 1, 1024]⟩
abbrev S32768x128 : Shape := ⟨2, ![32768, 128]⟩
abbrev S1x1024 : Shape := ⟨2, ![1, 1024]⟩
abbrev S8x4096x128 : Shape := ⟨3, ![8, 4096, 128]⟩
abbrev S8x4096x4 : Shape := ⟨3, ![8, 4096, 4]⟩
abbrev S8x4096x1 : Shape := ⟨3, ![8, 4096, 1]⟩
abbrev S8x4096x1024 : Shape := ⟨3, ![8, 4096, 1024]⟩
abbrev S8x6x1024 : Shape := ⟨3, ![8, 6, 1024]⟩
abbrev S8x1x1024 : Shape := ⟨3, ![8, 1, 1024]⟩
abbrev S_ : Shape := ⟨0, ![]⟩
abbrev S8x4096 : Shape := ⟨2, ![8, 4096]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S48x1x1024, .f32⟩
  | .hbm, ⟨2, _⟩ => ⟨S32768x128, .f32⟩
  | .hbm, ⟨3, _⟩ => ⟨S32768x1024, .bf16⟩
  | .hbm, ⟨4, _⟩ => ⟨S32768x1024, .bf16⟩
  | .hbm, ⟨5, _⟩ => ⟨S32768x1024, .bf16⟩
  | .hbm, ⟨6, _⟩ => ⟨S32768x1024, .bf16⟩
  | .hbm, ⟨7, _⟩ => ⟨S1x1024, .f32⟩
  | .hbm, ⟨8, _⟩ => ⟨S8x4096x128, .f32⟩
  | .hbm, ⟨9, _⟩ => ⟨S8x4096x4, .f32⟩
  | .hbm, ⟨10, _⟩ => ⟨S8x4096x1, .f32⟩
  | .hbm, ⟨11, _⟩ => ⟨S32768x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1, .f32⟩
  | .hbm, ⟨16, _⟩ => ⟨S32768x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1, .f32⟩
  | .hbm, ⟨22, _⟩ => ⟨S32768x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1, .f32⟩
  | .hbm, ⟨28, _⟩ => ⟨S32768x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x6x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_v33 : Ref sig .tc := ⟨.hbm, 42, rfl⟩
abbrev main_cst_0 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== OutProj.lean ====
abbrev S32768x256 : Shape := ⟨2, ![32768, 256]⟩
abbrev S1x256 : Shape := ⟨2, ![1, 256]⟩
abbrev S32768x1024 : Shape := ⟨2, ![32768, 1024]⟩
abbrev S48x1x1024 : Shape := ⟨3, ![48, 1, 1024]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S256 : Shape := ⟨1, ![256]⟩
abbrev S256x1 : Shape := ⟨2, ![256, 1]⟩
abbrev S_ : Shape := ⟨0, ![]⟩
abbrev S256x256 : Shape := ⟨2, ![256, 256]⟩
abbrev S1x1024x32 : Shape := ⟨3, ![1, 1024, 32]⟩
abbrev S2x1024x32 : Shape := ⟨3, ![2, 1024, 32]⟩
abbrev S2x1024x128 : Shape := ⟨3, ![2, 1024, 128]⟩
abbrev S1x128 : Shape := ⟨2, ![1, 128]⟩
abbrev S32768x128 : Shape := ⟨2, ![32768, 128]⟩
abbrev S512x256 : Shape := ⟨2, ![512, 256]⟩
abbrev S512x1024 : Shape := ⟨2, ![512, 1024]⟩
abbrev S1x1x1024 : Shape := ⟨3, ![1, 1, 1024]⟩
abbrev S512x128 : Shape := ⟨2, ![512, 128]⟩
abbrev S256x1024 : Shape := ⟨2, ![256, 1024]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩

abbrev nBuf : Space → Nat
  | .hbm => 73
  | .vmem => 32
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S32768x256, .bf16⟩
  | .hbm, ⟨6, _⟩ => ⟨S1x256, .f32⟩
  | .hbm, ⟨7, _⟩ => ⟨S32768x1024, .f32⟩
  | .hbm, ⟨8, _⟩ => ⟨S48x1x1024, .f32⟩
  | .hbm, ⟨9, _⟩ => ⟨S1x1024, .f32⟩
  | .hbm, ⟨10, _⟩ => ⟨S1024x1024, .bf16⟩
  | .hbm, ⟨11, _⟩ => ⟨S1024x32, .f32⟩
  | .hbm, ⟨12, _⟩ => ⟨S1x32, .f32⟩
  | .hbm, ⟨13, _⟩ => ⟨S256, .i32⟩
  | .hbm, ⟨14, _⟩ => ⟨S256x1, .i32⟩
  | .hbm, ⟨15, _⟩ => ⟨S_, .i32⟩
  | .hbm, ⟨16, _⟩ => ⟨S_, .i32⟩
  | .hbm, ⟨17, _⟩ => ⟨S256x1, .i32⟩
  | .hbm, ⟨18, _⟩ => ⟨S256x1, .i32⟩
  | .hbm, ⟨19, _⟩ => ⟨S256x1, .i32⟩
  | .hbm, ⟨20, _⟩ => ⟨S_, .i32⟩
  | .hbm, ⟨21, _⟩ => ⟨S256x1, .i32⟩
  | .hbm, ⟨22, _⟩ => ⟨S256x1, .i1⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S256x1, .i1⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S256x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S_, .i32⟩
  | .hbm, ⟨37, _⟩ => ⟨S1x256, .i32⟩
  | .hbm, ⟨38, _⟩ => ⟨S1x256, .i32⟩
  | .hbm, ⟨39, _⟩ => ⟨S1x256, .i32⟩
  | .hbm, ⟨40, _⟩ => ⟨S_, .i32⟩
  | .hbm, ⟨41, _⟩ => ⟨S1x256, .i32⟩
  | .hbm, ⟨42, _⟩ => ⟨S1x256, .i1⟩
  | .hbm, ⟨43, _⟩ => ⟨S1x256, .i32⟩
  | .hbm, ⟨44, _⟩ => ⟨S1x256, .i32⟩
  | .hbm, ⟨45, _⟩ => ⟨S_, .i32⟩
  | .hbm, ⟨46, _⟩ => ⟨S1x256, .i32⟩
  | .hbm, ⟨47, _⟩ => ⟨S1x256, .i1⟩
  | .hbm, ⟨48, _⟩ => ⟨S1x256, .i1⟩
  | .hbm, ⟨49, _⟩ => ⟨S_, .i32⟩
  | .hbm, ⟨50, _⟩ => ⟨S1x256, .i32⟩
  | .hbm, ⟨51, _⟩ => ⟨S1x256, .i32⟩
  | .hbm, ⟨52, _⟩ => ⟨S1x256, .i32⟩
  | .hbm, ⟨53, _⟩ => ⟨S256x256, .i32⟩
  | .hbm, ⟨54, _⟩ => ⟨S256x256, .i32⟩
  | .hbm, ⟨55, _⟩ => ⟨S256x256, .i1⟩
  | .hbm, ⟨56, _⟩ => ⟨S256x256, .bf16⟩
  | .hbm, ⟨57, _⟩ => ⟨S1024x32, .bf16⟩
  | .hbm, ⟨58, _⟩ => ⟨S1024x32, .f32⟩
  | .hbm, ⟨59, _⟩ => ⟨S1024x32, .f32⟩
  | .hbm, ⟨60, _⟩ => ⟨S1024x32, .bf16⟩
  | .hbm, ⟨61, _⟩ => ⟨S1x1024x32, .bf16⟩
  | .hbm, ⟨62, _⟩ => ⟨S1x1024x32, .bf16⟩
  | .hbm, ⟨63, _⟩ => ⟨S2x1024x32, .bf16⟩
  | .hbm, ⟨64, _⟩ => ⟨S_, .i32⟩
  | .hbm, ⟨65, _⟩ => ⟨S_, .bf16⟩
  | .hbm, ⟨66, _⟩ => ⟨S2x1024x128, .bf16⟩
  | .hbm, ⟨67, _⟩ => ⟨S_, .f32⟩
  | .hbm, ⟨68, _⟩ => ⟨S_, .f32⟩
  | .hbm, ⟨69, _⟩ => ⟨S1x128, .f32⟩
  | .hbm, ⟨70, _⟩ => ⟨S32768x1024, .f32⟩
  | .hbm, ⟨71, _⟩ => ⟨S32768x1024, .f32⟩
  | .hbm, ⟨72, _⟩ => ⟨S32768x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S1x256, .f32⟩
  | .local _ .vmem, ⟨13, _⟩ => ⟨S256x256, .bf16⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | .local _ .vmem, ⟨23, _⟩ => ⟨S1024x1024, .bf16⟩
  | .local _ .vmem, ⟨24, _⟩ => ⟨S2x1024x128, .bf16⟩
  | .local _ .vmem, ⟨25, _⟩ => ⟨S1x128, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x128, .f32⟩
  | .local _ .vmem, ⟨31, _⟩ => ⟨S512x128, .f32⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_c_1 : Ref sig .tc := ⟨.hbm, 64, rfl⟩
abbrev main_call2_v0 : Ref sig .tc := ⟨.hbm, 65, rfl⟩
abbrev main_v17 : Ref sig .tc := ⟨.hbm, 66, rfl⟩
abbrev main_cst : Ref sig .tc := ⟨.hbm, 67, rfl⟩
abbrev main_call3_v0 : Ref sig .tc := ⟨.hbm, 68, rfl⟩
abbrev main_v18 : Ref sig .tc := ⟨.hbm, 69, rfl⟩
abbrev main_v19_0 : Ref sig .tc := ⟨.hbm, 70, rfl⟩
abbrev main_v19_1 : Ref sig .tc := ⟨.hbm, 71, rfl⟩
abbrev main_v19_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== OutProjRefIdeal.lean ====
abbrev S32768x256 : Shape := ⟨2, ![32768, 256]⟩
abbrev S1x256 : Shape := ⟨2, ![1, 256]⟩
abbrev S32768x1024 : Shape := ⟨2, ![32768, 1024]⟩
abbrev S48x1x1024 : Shape := ⟨3, ![48, 1, 1024]⟩
abbrev S1x1024 : Shape := ⟨2, ![1, 1024]⟩
abbrev S1024x1024 : Shape := ⟨2, ![1024, 1024]⟩
abbrev S1024x32 : Shape := ⟨2, ![1024, 32]⟩
abbrev S1x32 : Shape := ⟨2, ![1, 32]⟩
abbrev S8x4096x4x64 : Shape := ⟨4, ![8, 4096, 4, 64]⟩
abbrev S_ : Shape := ⟨0, ![]⟩
abbrev S8x4096x4 : Shape := ⟨3, ![8, 4096, 4]⟩
abbrev S8x4096x4x1 : Shape := ⟨4, ![8, 4096, 4, 1]⟩
abbrev S8x4096x256 : Shape := ⟨3, ![8, 4096, 256]⟩
abbrev S1x1x256 : Shape := ⟨3, ![1, 1, 256]⟩
abbrev S8x4096x1024 : Shape := ⟨3, ![8, 4096, 1024]⟩
abbrev S8x6x1024 : Shape := ⟨3, ![8, 6, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S32768x256, .bf16⟩
  | .hbm, ⟨6, _⟩ => ⟨S1x256, .f32⟩
  | .hbm, ⟨7, _⟩ => ⟨S32768x1024, .f32⟩
  | .hbm, ⟨8, _⟩ => ⟨S48x1x1024, .f32⟩
  | .hbm, ⟨9, _⟩ => ⟨S1x1024, .f32⟩
  | .hbm, ⟨10, _⟩ => ⟨S1024x1024, .bf16⟩
  | .hbm, ⟨11, _⟩ => ⟨S1024x32, .f32⟩
  | .hbm, ⟨12, _⟩ => ⟨S1x32, .f32⟩
  | .hbm, ⟨13, _⟩ => ⟨S32768x256, .f32⟩
  | .hbm, ⟨14, _⟩ => ⟨S8x4096x4x64, .f32⟩
  | .hbm, ⟨15, _⟩ => ⟨S_, .f32⟩
  | .hbm, ⟨16, _⟩ => ⟨S8x4096x4, .f32⟩
  | .hbm, ⟨17, _⟩ => ⟨S8x4096x4x1, .f32⟩
  | .hbm, ⟨18, _⟩ => ⟨S_, .f32⟩
  | .hbm, ⟨19, _⟩ => ⟨S8x4096x4x1, .f32⟩
  | .hbm, ⟨20, _⟩ => ⟨S8x4096x4x1, .f32⟩
  | .hbm, ⟨21, _⟩ => ⟨S8x4096x4x64, .f32⟩
  | .hbm, ⟨22, _⟩ => ⟨S8x4096x4x64, .f32⟩
  | .hbm, ⟨23, _⟩ => ⟨S8x4096x4x64, .f32⟩
  | .hbm, ⟨24, _⟩ => ⟨S_, .f32⟩
  | .hbm, ⟨25, _⟩ => ⟨S8x4096x4, .f32⟩
  | .hbm, ⟨26, _⟩ => ⟨S8x4096x4x1, .f32⟩
  | .hbm, ⟨27, _⟩ => ⟨S_, .f32⟩
  | .hbm, ⟨28, _⟩ => ⟨S8x4096x4x1, .f32⟩
  | .hbm, ⟨29, _⟩ => ⟨S8x4096x4x1, .f32⟩
  | .hbm, ⟨30, _⟩ => ⟨S_, .f32⟩
  | .hbm, ⟨31, _⟩ => ⟨S8x4096x4x1, .f32⟩
  | .hbm, ⟨32, _⟩ => ⟨S8x4096x4x1, .f32⟩
  | .hbm, ⟨33, _⟩ => ⟨S8x4096x4x1, .f32⟩
  | .hbm, ⟨34, _⟩ => ⟨S8x4096x4x64, .f32⟩
  | .hbm, ⟨35, _⟩ => ⟨S8x4096x4x64, .f32⟩
  | .hbm, ⟨36, _⟩ => ⟨S8x4096x256, .f32⟩
  | .hbm, ⟨37, _⟩ => ⟨S1x1x256, .f32⟩
  | .hbm, ⟨38, _⟩ => ⟨S8x4096x256, .f32⟩
  | .hbm, ⟨39, _⟩ => ⟨S8x4096x256, .f32⟩
  | .hbm, ⟨40, _⟩ => ⟨S32768x256, .f32⟩
  | .hbm, ⟨41, _⟩ => ⟨S8x4096x256, .f32⟩
  | .hbm, ⟨42, _⟩ => ⟨S8x4096x256, .f32⟩
  | .hbm, ⟨43, _⟩ => ⟨S32768x256, .f32⟩
  | .hbm, ⟨44, _⟩ => ⟨S8x4096x256, .f32⟩
  | .hbm, ⟨45, _⟩ => ⟨S8x4096x256, .f32⟩
  | .hbm, ⟨46, _⟩ => ⟨S32768x256, .f32⟩
  | .hbm, ⟨47, _⟩ => ⟨S8x4096x256, .f32⟩
  | .hbm, ⟨48, _⟩ => ⟨S32768x256, .f32⟩
  | .hbm, ⟨49, _⟩ => ⟨S8x4096x256, .f32⟩
  | .hbm, ⟨50, _⟩ => ⟨S32768x256, .f32⟩
  | .hbm, ⟨51, _⟩ => ⟨S8x4096x256, .f32⟩
  | .hbm, ⟨52, _⟩ => ⟨S8x4096x1024, .f32⟩
  | .hbm, ⟨53, _⟩ => ⟨S1024x1024, .f32⟩
  | .hbm, ⟨54, _⟩ => ⟨S8x4096x1024, .f32⟩
  | .hbm, ⟨55, _⟩ => ⟨S8x6x1024, .f32⟩
  | .hbm, ⟨56, _⟩ => ⟨S8x1x1024, .f32⟩
  | .hbm, ⟨57, _⟩ => ⟨S8x1x1024, .f32⟩
  | .hbm, ⟨58, _⟩ => ⟨S8x1x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S_, .f32⟩
  | .hbm, ⟨80, _⟩ => ⟨S8x1x1024, .f32⟩
  | .hbm, ⟨81, _⟩ => ⟨S8x1x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S32768x1024, .f32⟩
  | .hbm, ⟨87, _⟩ => ⟨S32768x1024, .f32⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_cst_6 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Mod.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Sparse.lean ====
abbrev S32768x384 : Shape := ⟨2, ![32768, 384]⟩
abbrev S1x128 : Shape := ⟨2, ![1, 128]⟩
abbrev S128x256 : Shape := ⟨2, ![128, 256]⟩
abbrev S8x4096x8 : Shape := ⟨3, ![8, 4096, 8]⟩
abbrev S8x4096x4 : Shape := ⟨3, ![8, 4096, 4]⟩
abbrev S_ : Shape := ⟨0, ![]⟩
abbrev S8x4096x48 : Shape := ⟨3, ![8, 4096, 48]⟩
abbrev S8x4096x64 : Shape := ⟨3, ![8, 4096, 64]⟩
abbrev S1x8x1x4096x1x64 : Shape := ⟨6, ![1, 8, 1, 4096, 1, 64]⟩
abbrev S1x8x1x4096x4x64 : Shape := ⟨6, ![1, 8, 1, 4096, 4, 64]⟩
abbrev S8x4096x256 : Shape := ⟨3, ![8, 4096, 256]⟩
abbrev S32768x256 : Shape := ⟨2, ![32768, 256]⟩
abbrev S8x4096x24 : Shape := ⟨3, ![8, 4096, 24]⟩
abbrev S8x4096x32 : Shape := ⟨3, ![8, 4096, 32]⟩
abbrev S1x8x1x4096x1x32 : Shape := ⟨6, ![1, 8, 1, 4096, 1, 32]⟩
abbrev S1x8x1x4096x8x32 : Shape := ⟨6, ![1, 8, 1, 4096, 8, 32]⟩
abbrev S4x64x32768 : Shape := ⟨3, ![4, 64, 32768]⟩
abbrev S8x32x32768 : Shape := ⟨3, ![8, 32, 32768]⟩
abbrev S8x32768 : Shape := ⟨2, ![8, 32768]⟩
abbrev S32768x64 : Shape := ⟨2, ![32768, 64]⟩
abbrev S32768x32 : Shape := ⟨2, ![32768, 32]⟩
abbrev S512x384 : Shape := ⟨2, ![512, 384]⟩
abbrev S512x256 : Shape := ⟨2, ![512, 256]⟩
abbrev S4x64x512 : Shape := ⟨3, ![4, 64, 512]⟩
abbrev S8x32x512 : Shape := ⟨3, ![8, 32, 512]⟩
abbrev S8x512 : Shape := ⟨2, ![8, 512]⟩
abbrev S512x64 : Shape := ⟨2, ![512, 64]⟩
abbrev S512x32 : Shape := ⟨2, ![512, 32]⟩
abbrev S512x128 : Shape := ⟨2, ![512, 128]⟩
abbrev S512 : Shape := ⟨1, ![512]⟩
abbrev S512x1 : Shape := ⟨2, ![512, 1]⟩
abbrev S1x256 : Shape := ⟨2, ![1, 256]⟩
abbrev S256x512 : Shape := ⟨2, ![256, 512]⟩
abbrev S128x512 : Shape := ⟨2, ![128, 512]⟩

abbrev nBuf : Space → Nat
  | .hbm => 46
  | .vmem => 25
  | .smem => 0
  | _ => 0

abbrev bufTy : (tb : Table) → Fin (tcTables nBuf tb) → BufTy
  | .hbm, ⟨0, _⟩ => ⟨S32768x384, .f32⟩
  | .hbm, ⟨1, _⟩ => ⟨S1x128, .f32⟩
  | .hbm, ⟨2, _⟩ => ⟨S128x256, .bf16⟩
  | .hbm, ⟨3, _⟩ => ⟨S128x256, .bf16⟩
  | .hbm, ⟨4, _⟩ => ⟨S8x4096x8, .f32⟩
  | .hbm, ⟨5, _⟩ => ⟨S8x4096x4, .f32⟩
  | .hbm, ⟨6, _⟩ => ⟨S8x4096x8, .f32⟩
  | .hbm, ⟨7, _⟩ => ⟨S8x4096x8, .f32⟩
  | .hbm, ⟨8, _⟩ => ⟨S_, .f32⟩
  | .hbm, ⟨9, _⟩ => ⟨S8x4096x48, .f32⟩
  | .hbm, ⟨10, _⟩ => ⟨S_, .f32⟩
  | .hbm, ⟨11, _⟩ => ⟨S8x4096x48, .f32⟩
  | .hbm, ⟨12, _⟩ => ⟨S8x4096x64, .f32⟩
  | .hbm, ⟨13, _⟩ => ⟨S1x8x1x4096x1x64, .f32⟩
  | .hbm, ⟨14, _⟩ => ⟨S1x8x1x4096x4x64, .f32⟩
  | .hbm, ⟨15, _⟩ => ⟨S8x4096x256, .f32⟩
  | .hbm, ⟨16, _⟩ => ⟨S32768x256, .f32⟩
  | .hbm, ⟨17, _⟩ => ⟨S8x4096x8, .f32⟩
  | .hbm, ⟨18, _⟩ => ⟨S8x4096x64, .f32⟩
  | .hbm, ⟨19, _⟩ => ⟨S1x8x1x4096x1x64, .f32⟩
  | .hbm, ⟨20, _⟩ => ⟨S1x8x1x4096x4x64, .f32⟩
  | .hbm, ⟨21, _⟩ => ⟨S8x4096x256, .f32⟩
  | .hbm, ⟨22, _⟩ => ⟨S32768x256, .f32⟩
  | .hbm, ⟨23, _⟩ => ⟨S8x4096x4, .f32⟩
  | .hbm, ⟨24, _⟩ => ⟨S8x4096x4, .f32⟩
  | .hbm, ⟨25, _⟩ => ⟨S_, .f32⟩
  | .hbm, ⟨26, _⟩ => ⟨S8x4096x24, .f32⟩
  | .hbm, ⟨27, _⟩ => ⟨S_, .f32⟩
  | .hbm, ⟨28, _⟩ => ⟨S8x4096x24, .f32⟩
  | .hbm, ⟨29, _⟩ => ⟨S8x4096x32, .f32⟩
  | .hbm, ⟨30, _⟩ => ⟨S1x8x1x4096x1x32, .f32⟩
  | .hbm, ⟨31, _⟩ => ⟨S1x8x1x4096x8x32, .f32⟩
  | .hbm, ⟨32, _⟩ => ⟨S8x4096x256, .f32⟩
  | .hbm, ⟨33, _⟩ => ⟨S32768x256, .f32⟩
  | .hbm, ⟨34, _⟩ => ⟨S8x4096x4, .f32⟩
  | .hbm, ⟨35, _⟩ => ⟨S8x4096x32, .f32⟩
  | .hbm, ⟨36, _⟩ => ⟨S1x8x1x4096x1x32, .f32⟩
  | .hbm, ⟨37, _⟩ => ⟨S1x8x1x4096x8x32, .f32⟩
  | .hbm, ⟨38, _⟩ => ⟨S8x4096x256, .f32⟩
  | .hbm, ⟨39, _⟩ => ⟨S32768x256, .f32⟩
  | .hbm, ⟨40, _⟩ => ⟨S4x64x32768, .bf16⟩
  | .hbm, ⟨41, _⟩ => ⟨S8x32x32768, .bf16⟩
  | .hbm, ⟨42, _⟩ => ⟨S8x32768, .f32⟩
  | .hbm, ⟨43, _⟩ => ⟨S32768x64, .bf16⟩
  | .hbm, ⟨44, _⟩ => ⟨S32768x64, .bf16⟩
  | .hbm, ⟨45, _⟩ => ⟨S32768x32, .bf16⟩
  | .local _ .vmem, ⟨0, _⟩ => ⟨S512x384, .f32⟩
  | .local _ .vmem, ⟨1, _⟩ => ⟨S512x384, .f32⟩
  | .local _ .vmem, ⟨2, _⟩ => ⟨S1x128, .f32⟩
  | .local _ .vmem, ⟨3, _⟩ => ⟨S128x256, .bf16⟩
  | .local _ .vmem, ⟨4, _⟩ => ⟨S128x256, .bf16⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S4x64x512, .bf16⟩
  | .local _ .vmem, ⟨14, _⟩ => ⟨S4x64x512, .bf16⟩
  | .local _ .vmem, ⟨15, _⟩ => ⟨S8x32x512, .bf16⟩
  | .local _ .vmem, ⟨16, _⟩ => ⟨S8x32x512, .bf16⟩
  | .local _ .vmem, ⟨17, _⟩ => ⟨S8x512, .f32⟩
  | .local _ .vmem, ⟨18, _⟩ => ⟨S8x512, .f32⟩
  | .local _ .vmem, ⟨19, _⟩ => ⟨S512x64, .bf16⟩
  | .local _ .vmem, ⟨20, _⟩ => ⟨S512x64, .bf16⟩
  | .local _ .vmem, ⟨21, _⟩ => ⟨S512x64, .bf16⟩
  | .local _ .vmem, ⟨22, _⟩ => ⟨S512x64, .bf16⟩
  | .local _ .vmem, ⟨23, _⟩ => ⟨S512x32, .bf16⟩
  | .local _ .vmem, ⟨24, _⟩ => ⟨S512x32, .bf16⟩
  | _, _ => ⟨S32768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30_0 : Ref sig .tc := ⟨.hbm, 40, rfl⟩
abbrev main_v30_1 : Ref sig .tc := ⟨.hbm, 41, rfl⟩
abbrev main_v30_2 : Ref sig .tc := ⟨.hbm, 42, rfl⟩
abbrev main_v30_3 : Ref sig .tc := ⟨.hbm, 43, rfl⟩
abbrev main_v30_4 : Ref sig .tc := ⟨.hbm, 44, rfl⟩
abbrev main_v30_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x32x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x32 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SparseRefIdeal.lean ====
abbrev S32768x384 : Shape := ⟨2, ![32768, 384]⟩
abbrev S1x128 : Shape := ⟨2, ![1, 128]⟩
abbrev S128x256 : Shape := ⟨2, ![128, 256]⟩
abbrev S8x4096x8 : Shape := ⟨3, ![8, 4096, 8]⟩
abbrev S8x4096x4 : Shape := ⟨3, ![8, 4096, 4]⟩
abbrev S8x4096x384 : Shape := ⟨3, ![8, 4096, 384]⟩
abbrev S8x4096x128 : Shape := ⟨3, ![8, 4096, 128]⟩
abbrev S_ : Shape := ⟨0, ![]⟩
abbrev S8x4096 : Shape := ⟨2, ![8, 4096]⟩
abbrev S8x4096x1 : Shape := ⟨3, ![8, 4096, 1]⟩
abbrev S1x1x128 : Shape := ⟨3, ![1, 1, 128]⟩
abbrev S8x4096x64 : Shape := ⟨3, ![8, 4096, 64]⟩
abbrev S8x4096x32 : Shape := ⟨3, ![8, 4096, 32]⟩
abbrev S8x4096x256 : Shape := ⟨3, ![8, 4096, 256]⟩
abbrev S8x4096x4x64 : Shape := ⟨4, ![8, 4096, 4, 64]⟩
abbrev S8x4096x1x8 : Shape := ⟨4, ![8, 4096, 1, 8]⟩
abbrev S8x4096x4x16 : Shape := ⟨4, ![8, 4096, 4, 16]⟩
abbrev S8x4096x4x8 : Shape := ⟨4, ![8, 4096, 4, 8]⟩
abbrev S8x4096x4x48 : Shape := ⟨4, ![8, 4096, 4, 48]⟩
abbrev S8x4096x8x32 : Shape := ⟨4, ![8, 4096, 8, 32]⟩
abbrev S8x4096x1x4 : Shape := ⟨4, ![8, 4096, 1, 4]⟩
abbrev S8x4096x8x8 : Shape := ⟨4, ![8, 4096, 8, 8]⟩
abbrev S8x4096x8x4 : Shape := ⟨4, ![8, 4096, 8, 4]⟩
abbrev S8x4096x8x24 : Shape := ⟨4, ![8, 4096, 8, 24]⟩
abbrev S8x4096x16 : Shape := ⟨3, ![8, 4096, 16]⟩
abbrev S8x4096x48 : Shape := ⟨3, ![8, 4096, 48]⟩
abbrev S8x4096x24 : Shape := ⟨3, ![8, 4096, 24]⟩
abbrev S4x64x8x4096 : Shape := ⟨4, ![4, 64, 8, 4096]⟩
abbrev S4x64x32768 : Shape := ⟨3, ![4, 64, 32768]⟩
abbrev S8x32x8x4096 : Shape := ⟨4, ![8, 32, 8, 4096]⟩
abbrev S8x32x32768 : Shape := ⟨3, ![8, 32, 32768]⟩
abbrev S32768x8 : Shape := ⟨2, ![32768, 8]⟩
abbrev S8x32768 : Shape := ⟨2, ![8, 32768]⟩
abbrev S32768x64 : Shape := ⟨2, ![32768, 64]⟩
abbrev S32768x32 : Shape := ⟨2, ![32768, 32]⟩

abbrev nBuf : Space → Nat
  | .hbm => 120
  | .vmem => 0
  | .smem => 0
  | _ => 0

abbrev bufTy : (tb : Table) → Fin (tcTables nBuf tb) → BufTy
  | .hbm, ⟨0, _⟩ => ⟨S32768x384, .f32⟩
  | .hbm, ⟨1, _⟩ => ⟨S1x128, .f32⟩
  | .hbm, ⟨2, _⟩ => ⟨S128x256, .bf16⟩
  | .hbm, ⟨3, _⟩ => ⟨S128x256, .bf16⟩
  | .hbm, ⟨4, _⟩ => ⟨S8x4096x8, .f32⟩
  | .hbm, ⟨5, _⟩ => ⟨S8x4096x4, .f32⟩
  | .hbm, ⟨6, _⟩ => ⟨S8x4096x384, .f32⟩
  | .hbm, ⟨7, _⟩ => ⟨S8x4096x128, .f32⟩
  | .hbm, ⟨8, _⟩ => ⟨S8x4096x128, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x128, .f32⟩
  | .hbm, ⟨20, _⟩ => ⟨S8x4096x128, .f32⟩
  | .hbm, ⟨21, _⟩ => ⟨S1x1x128, .f32⟩
  | .hbm, ⟨22, _⟩ => ⟨S8x4096x128, .f32⟩
  | .hbm, ⟨23, _⟩ => ⟨S8x4096x128, .f32⟩
  | .hbm, ⟨24, _⟩ => ⟨S8x4096x64, .f32⟩
  | .hbm, ⟨25, _⟩ => ⟨S8x4096x64, .f32⟩
  | .hbm, ⟨26, _⟩ => ⟨S8x4096x32, .f32⟩
  | .hbm, ⟨27, _⟩ => ⟨S8x4096x8, .f32⟩
  | .hbm, ⟨28, _⟩ => ⟨S128x256, .f32⟩
  | .hbm, ⟨29, _⟩ => ⟨S8x4096x256, .f32⟩
  | .hbm, ⟨30, _⟩ => ⟨S8x4096x4x64, .f32⟩
  | .hbm, ⟨31, _⟩ => ⟨S8x4096x1x8, .f32⟩
  | .hbm, ⟨32, _⟩ => ⟨S8x4096x1x8, .f32⟩
  | .hbm, ⟨33, _⟩ => ⟨S8x4096x1x8, .f32⟩
  | .hbm, ⟨34, _⟩ => ⟨S8x4096x4x16, .f32⟩
  | .hbm, ⟨35, _⟩ => ⟨S8x4096x4x8, .f32⟩
  | .hbm, ⟨36, _⟩ => ⟨S8x4096x4x8, .f32⟩
  | .hbm, ⟨37, _⟩ => ⟨S8x4096x4x8, .f32⟩
  | .hbm, ⟨38, _⟩ => ⟨S8x4096x4x8, .f32⟩
  | .hbm, ⟨39, _⟩ => ⟨S8x4096x4x8, .f32⟩
  | .hbm, ⟨40, _⟩ => ⟨S8x4096x4x8, .f32⟩
  | .hbm, ⟨41, _⟩ => ⟨S8x4096x4x8, .f32⟩
  | .hbm, ⟨42, _⟩ => ⟨S8x4096x4x8, .f32⟩
  | .hbm, ⟨43, _⟩ => ⟨S8x4096x4x8, .f32⟩
  | .hbm, ⟨44, _⟩ => ⟨S8x4096x4x8, .f32⟩
  | .hbm, ⟨45, _⟩ => ⟨S8x4096x4x8, .f32⟩
  | .hbm, ⟨46, _⟩ => ⟨S8x4096x4x8, .f32⟩
  | .hbm, ⟨47, _⟩ => ⟨S8x4096x4x16, .f32⟩
  | .hbm, ⟨48, _⟩ => ⟨S8x4096x4x48, .f32⟩
  | .hbm, ⟨49, _⟩ => ⟨S8x4096x4x64, .f32⟩
  | .hbm, ⟨50, _⟩ => ⟨S128x256, .f32⟩
  | .hbm, ⟨51, _⟩ => ⟨S8x4096x256, .f32⟩
  | .hbm, ⟨52, _⟩ => ⟨S8x4096x8x32, .f32⟩
  | .hbm, ⟨53, _⟩ => ⟨S8x4096x1x4, .f32⟩
  | .hbm, ⟨54, _⟩ => ⟨S8x4096x1x4, .f32⟩
  | .hbm, ⟨55, _⟩ => ⟨S8x4096x1x4, .f32⟩
  | .hbm, ⟨56, _⟩ => ⟨S8x4096x8x8, .f32⟩
  | .hbm, ⟨57, _⟩ => ⟨S8x4096x8x4, .f32⟩
  | .hbm, ⟨58, _⟩ => ⟨S8x4096x8x4, .f32⟩
  | .hbm, ⟨59, _⟩ => ⟨S8x4096x8x4, .f32⟩
  | .hbm, ⟨60, _⟩ => ⟨S8x4096x8x4, .f32⟩
  | .hbm, ⟨61, _⟩ => ⟨S8x4096x8x4, .f32⟩
  | .hbm, ⟨62, _⟩ => ⟨S8x4096x8x4, .f32⟩
  | .hbm, ⟨63, _⟩ => ⟨S8x4096x8x4, .f32⟩
  | .hbm, ⟨64, _⟩ => ⟨S8x4096x8x4, .f32⟩
  | .hbm, ⟨65, _⟩ => ⟨S8x4096x8x4, .f32⟩
  | .hbm, ⟨66, _⟩ => ⟨S8x4096x8x4, .f32⟩
  | .hbm, ⟨67, _⟩ => ⟨S8x4096x8x4, .f32⟩
  | .hbm, ⟨68, _⟩ => ⟨S8x4096x8x4, .f32⟩
  | .hbm, ⟨69, _⟩ => ⟨S8x4096x8x8, .f32⟩
  | .hbm, ⟨70, _⟩ => ⟨S8x4096x8x24, .f32⟩
  | .hbm, ⟨71, _⟩ => ⟨S8x4096x8x32, .f32⟩
  | .hbm, ⟨72, _⟩ => ⟨S8x4096x8, .f32⟩
  | .hbm, ⟨73, _⟩ => ⟨S8x4096x8, .f32⟩
  | .hbm, ⟨74, _⟩ => ⟨S8x4096x16, .f32⟩
  | .hbm, ⟨75, _⟩ => ⟨S8x4096x8, .f32⟩
  | .hbm, ⟨76, _⟩ => ⟨S8x4096x8, .f32⟩
  | .hbm, ⟨77, _⟩ => ⟨S8x4096x8, .f32⟩
  | .hbm, ⟨78, _⟩ => ⟨S8x4096x8, .f32⟩
  | .hbm, ⟨79, _⟩ => ⟨S8x4096x8, .f32⟩
  | .hbm, ⟨80, _⟩ => ⟨S8x4096x8, .f32⟩
  | .hbm, ⟨81, _⟩ => ⟨S8x4096x8, .f32⟩
  | .hbm, ⟨82, _⟩ => ⟨S8x4096x8, .f32⟩
  | .hbm, ⟨83, _⟩ => ⟨S8x4096x16, .f32⟩
  | .hbm, ⟨84, _⟩ => ⟨S8x4096x48, .f32⟩
  | .hbm, ⟨85, _⟩ => ⟨S8x4096x64, .f32⟩
  | .hbm, ⟨86, _⟩ => ⟨S8x4096x4, .f32⟩
  | .hbm, ⟨87, _⟩ => ⟨S8x4096x4, .f32⟩
  | .hbm, ⟨88, _⟩ => ⟨S8x4096x8, .f32⟩
  | .hbm, ⟨89, _⟩ => ⟨S8x4096x4, .f32⟩
  | .hbm, ⟨90, _⟩ => ⟨S8x4096x4, .f32⟩
  | .hbm, ⟨91, _⟩ => ⟨S8x4096x4, .f32⟩
  | .hbm, ⟨92, _⟩ => ⟨S8x4096x4, .f32⟩
  | .hbm, ⟨93, _⟩ => ⟨S8x4096x4, .f32⟩
  | .hbm, ⟨94, _⟩ => ⟨S8x4096x4, .f32⟩
  | .hbm, ⟨95, _⟩ => ⟨S8x4096x4, .f32⟩
  | .hbm, ⟨96, _⟩ => ⟨S8x4096x4, .f32⟩
  | .hbm, ⟨97, _⟩ => ⟨S8x4096x8, .f32⟩
  | .hbm, ⟨98, _⟩ => ⟨S8x4096x24, .f32⟩
  | .hbm, ⟨99, _⟩ => ⟨S8x4096x32, .f32⟩
  | .hbm, ⟨100, _⟩ => ⟨S_, .f32⟩
  | .hbm, ⟨101, _⟩ => ⟨S8x4096x8, .f32⟩
  | .hbm, ⟨102, _⟩ => ⟨S8x4096x8, .f32⟩
  | .hbm, ⟨103, _⟩ => ⟨S_, .f32⟩
  | .hbm, ⟨104, _⟩ => ⟨S8x4096x4x64, .f32⟩
  | .hbm, ⟨105, _⟩ => ⟨S8x4096x4x64, .f32⟩
  | .hbm, ⟨106, _⟩ => ⟨S4x64x8x4096, .f32⟩
  | .hbm, ⟨107, _⟩ => ⟨S4x64x32768, .f32⟩
  | .hbm, ⟨108, _⟩ => ⟨S4x64x32768, .bf16⟩
  | .hbm, ⟨109, _⟩ => ⟨S8x32x8x4096, .f32⟩
  | .hbm, ⟨110, _⟩ => ⟨S8x32x32768, .f32⟩
  | .hbm, ⟨111, _⟩ => ⟨S8x32x32768, .bf16⟩
  | .hbm, ⟨112, _⟩ => ⟨S32768x8, .f32⟩
  | .hbm, ⟨113, _⟩ => ⟨S8x32768, .f32⟩
  | .hbm, ⟨114, _⟩ => ⟨S32768x64, .f32⟩
  | .hbm, ⟨115, _⟩ => ⟨S32768x64, .bf16⟩
  | .hbm, ⟨116, _⟩ => ⟨S32768x64, .f32⟩
  | .hbm, ⟨117, _⟩ => ⟨S32768x64, .bf16⟩
  | .hbm, ⟨118, _⟩ => ⟨S32768x32, .f32⟩
  | .hbm, ⟨119, _⟩ => ⟨S32768x32, .bf16⟩
  | _, _ => ⟨S32768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_cst_2 : Ref sig .tc := ⟨.hbm, 100, rfl⟩
abbrev main_v91 : Ref sig .tc := ⟨.hbm, 101, rfl⟩
abbrev main_v92 : Ref sig .tc := ⟨.hbm, 102, rfl⟩
abbrev main_cst_3 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩

abbrev nD : Nat := 1
abbrev τ : Topo := Topo.v7x

variable {F : FTy → Type} [FloatOps F]
-- ==== Proof.Ffn.Ranges.lean ====
/- What the precondition says of the two tables: every expert's number is below 32, and between 1 and 288 blocks are used. -/
module

public import proofs.«01_k».proof.Proof.Gen.Pre_ranges
public import Idealize.ShloMosaic.Lib.WordArith.Masks
public import Idealize.ShloMosaic.Lib.ValueIdx

@[expose] public section

noncomputable section

namespace Cert.FfnRanges

open Cert.Pre_ranges
open Idealize.ShloMosaic

variable {F : FTy → Type} [FloatOps F]

/-- The tables' ranges, as natural numbers. -/
def InRange (T0 : S288.Idx → BitVec 32) (T1 : S1.Idx → BitVec 32) : Prop :=
  (∀ i, (T0 i).toNat < 32) ∧ ∀ i, 1 ≤ (T1 i).toNat ∧ (T1 i).toNat ≤ 288

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- The printed predicate, decoded. -/
theorem inRange_of_fn (T0 : S288.Idx → BitVec 32) (T1 : S1.Idx → BitVec 32) (x2 : FVec F S147456x1024 .f32)
    (x3 : FVec F S2x32x1024x2048 .f32) (x4 : FVec F S64x1x2048 .f32) (x5 : FVec F S2x32x1024x1024 .f32)
    (x6 : FVec F S64x1x1024 .f32) (h : fn (F := F) T0 T1 x2 x3 x4 x5 x6 = fun _ => 1#1) : InRange T0 T1 := by
  have one : ∀ j : S1.Idx, j = ValueIdx.ix1 0 := fun j => by
    funext a; fin_cases a; exact Subsingleton.elim (α := Fin 1) _ _
  have h' : ∀ i : S288.Idx, (T0 i).toNat < 32 ∧ 1 ≤ (T1 (ValueIdx.ix1 0)).toNat ∧ (T1 (ValueIdx.ix1 0)).toNat ≤ 288 := by
    intro i
    have hi := congrFun h i
    simp only [fn, andi, cmpi, broadcastInDim, constantI, IntOp.cmpi, andi_ofBool, ofBool_eq_one, Bool.and_eq_true] at hi
    obtain ⟨⟨⟨h0, h1⟩, h2⟩, h3⟩ := hi
    rw [one (fun a => _)] at h2 h3
    have l0 := (T0 i).isLt
    have l1 := (T1 (ValueIdx.ix1 0)).isLt
    simp only [BitVec.sle, BitVec.slt, decide_eq_true_eq, BitVec.toInt, BitVec.toNat_ofNat] at h0 h1 h2 h3
    omega
  refine ⟨fun i => (h' i).1, fun i => ?_⟩
  rw [one i]
  exact (h' (ValueIdx.ix1 0)).2

end Cert.FfnRanges

end
-- ==== Proof.Ffn.Run.lean ====
/- The body of the feed-forward kernel at one grid point: from the five input blocks and the two tables to the block it
   stores, in both of its cases. -/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Lib.VecWindow
public import Idealize.ShloMosaic.Lib.ValueIdx
public import Idealize.ShloMosaic.Lib.ValueLayout

@[expose] public section

set_option maxRecDepth 16384
set_option Elab.async false

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The experts table and the count of used blocks, as whole memrefs. -/
abbrev tblE : Memref sig .tc .smem S288 .i32 := Memref.whole main_arg0
abbrev tblN : Memref sig .tc .smem S1 .i32 := Memref.whole main_arg1

/-- The word the body reads from the second table. -/
abbrev used (T : S1.Idx → Elt F .i32) : Elt F .i32 :=
  View.readAt (Elt F) tblN.view (Rect.unit (s := S1) ![0] S1.size inb_S1_S1_0).toLoadRect T
    (Shape.Idx.first (numel1_S1.symm ▸ Nat.one_pos))

/-- The first 1024 columns of the up-projection's block, and its last 1024 columns. -/
def wLo (x : S1x1x1024x2048.Idx → Elt F .f32) : Vec F S1024x1024 .f32 :=
  fun y => x (ValueIdx.ix4 0 0 (y 0) ⟨(y 1).val, by have := (y 1).isLt; show _ < 2048; change _ < 1024 at this; omega⟩)
def wHi (x : S1x1x1024x2048.Idx → Elt F .f32) : Vec F S1024x1024 .f32 :=
  fun y => x (ValueIdx.ix4 0 0 (y 0) ⟨1024 + (y 1).val, by have := (y 1).isLt; show _ < 2048; change _ < 1024 at this; omega⟩)
/-- The same halves of its bias row. -/
def bLo (x : S1x1x2048.Idx → Elt F .f32) : Vec F S1x1x1024 .f32 :=
  fun y => x (ValueIdx.ix3 0 0 ⟨(y 2).val, by have := (y 2).isLt; show _ < 2048; change _ < 1024 at this; omega⟩)
def bHi (x : S1x1x2048.Idx → Elt F .f32) : Vec F S1x1x1024 .f32 :=
  fun y => x (ValueIdx.ix3 0 0 ⟨1024 + (y 2).val, by have := (y 2).isLt; show _ < 2048; change _ < 1024 at this; omega⟩)

/-- The block stored at a used grid point. -/
def blkUsed (x0 : S512x1024.Idx → Elt F .f32) (x1 : S1x1x1024x2048.Idx → Elt F .f32) (x2 : S1x1x2048.Idx → Elt F .f32)
    (x3 : S1x1x1024x1024.Idx → Elt F .f32) (x4 : S1x1x1024.Idx → Elt F .f32) : S512x1024.Idx → Elt F .bf16 :=
  k0_pay1 (k0_pay4 x0 (wLo x1) (bLo x2)) (k0_pay5 x0 (wHi x1) (bHi x2)) (k0_pay6 x0 (wLo x1) (bLo x2)) (k0_pay7 (F := F)) x3 x4

section loads

/-- The up-projection's block read without its two unit axes. -/
theorem read_squeezed (M : Memref sig .tc .vmem S1x1x1024x2048 .f32) (x : S1x1x1024x2048.Idx → Elt F .f32) (y : S1024x2048.Idx) :
    ((M.slice (Rect.unit (s := S1x1x1024x2048) ![0, 0, 0, 0] S1x1x1024x2048.size inb_S1x1x1024x2048_S1x1x1024x2048_0_0_0_0) (fun _ => rfl)).squeeze S1024x2048 squeezes_S1x1x1024x2048_S1024x2048).view.read (Elt F) (M.view.rep x) y
      = x (ValueIdx.ix4 0 0 (y 0) (y 1)) := by
  rw [Memref.read_squeeze_full M inb_S1x1x1024x2048_S1x1x1024x2048_0_0_0_0 squeezes_S1x1x1024x2048_S1024x2048, View.read_rep]
  refine congrArg x ?_
  exact (congrArg _ (ValueIdx.eq_ix2 y)).trans (ValueIdx.reshapeEquiv_ix2_11ab _ _ _)

theorem ld_wLo (M : Memref sig .tc .vmem S1x1x1024x2048 .f32) (x : S1x1x1024x2048.Idx → Elt F .f32) :
    View.readAt (Elt F) ((M.slice (Rect.unit (s := S1x1x1024x2048) ![0, 0, 0, 0] S1x1x1024x2048.size inb_S1x1x1024x2048_S1x1x1024x2048_0_0_0_0) (fun _ => rfl)).squeeze S1024x2048 squeezes_S1x1x1024x2048_S1024x2048).view
      (Rect.unit (s := S1024x2048) ![0, 0] S1024x1024.size inb_S1024x2048_S1024x1024_0_0).toLoadRect (M.view.rep x) = wLo x := by
  funext y
  rw [View.readAt_apply]
  refine (read_squeezed M x _).trans (congrArg x (funext fun a => Fin.ext ?_))
  fin_cases a
  · rfl
  · rfl
  · show 0 + 1 * (y 0).val = (y 0).val; omega
  · show 0 + 1 * (y 1).val = (y 1).val; omega

theorem ld_wHi (M : Memref sig .tc .vmem S1x1x1024x2048 .f32) (x : S1x1x1024x2048.Idx → Elt F .f32) :
    View.readAt (Elt F) ((M.slice (Rect.unit (s := S1x1x1024x2048) ![0, 0, 0, 0] S1x1x1024x2048.size inb_S1x1x1024x2048_S1x1x1024x2048_0_0_0_0) (fun _ => rfl)).squeeze S1024x2048 squeezes_S1x1x1024x2048_S1024x2048).view
      (Rect.unit (s := S1024x2048) ![0, 1024] S1024x1024.size inb_S1024x2048_S1024x1024_0_1024).toLoadRect (M.view.rep x) = wHi x := by
  funext y
  rw [View.readAt_apply]
  refine (read_squeezed M x _).trans (congrArg x (funext fun a => Fin.ext ?_))
  fin_cases a
  · rfl
  · rfl
  · show 0 + 1 * (y 0).val = (y 0).val; omega
  · show 1024 + 1 * (y 1).val = 1024 + (y 1).val; omega

theorem ld_bLo (M : Memref sig .tc .vmem S1x1x2048 .f32) (x : S1x1x2048.Idx → Elt F .f32) :
    View.readAt (Elt F) M.view (Rect.unit (s := S1x1x2048) ![0, 0, 0] S1x1x1024.size inb_S1x1x2048_S1x1x1024_0_0_0).toLoadRect (M.view.rep x) = bLo x := by
  funext y
  rw [View.readAt_rep]
  refine congrArg x (funext fun a => Fin.ext ?_)
  fin_cases a
  · have := (y 0).isLt; change _ < 1 at this; show 0 + 1 * (y 0).val = 0; omega
  · have := (y 1).isLt; change _ < 1 at this; show 0 + 1 * (y 1).val = 0; omega
  · show 0 + 1 * (y 2).val = (y 2).val; omega

theorem ld_bHi (M : Memref sig .tc .vmem S1x1x2048 .f32) (x : S1x1x2048.Idx → Elt F .f32) :
    View.readAt (Elt F) M.view (Rect.unit (s := S1x1x2048) ![0, 0, 1024] S1x1x1024.size inb_S1x1x2048_S1x1x1024_0_0_1024).toLoadRect (M.view.rep x) = bHi x := by
  funext y
  rw [View.readAt_rep]
  refine congrArg x (funext fun a => Fin.ext ?_)
  fin_cases a
  · have := (y 0).isLt; change _ < 1 at this; show 0 + 1 * (y 0).val = 0; omega
  · have := (y 1).isLt; change _ < 1 at this; show 0 + 1 * (y 1).val = 0; omega
  · show 1024 + 1 * (y 2).val = 1024 + (y 2).val; omega

/-- A store of a whole block reads back as what was stored. -/
theorem read_store (M : Memref sig .tc .vmem S512x1024 .bf16) (f : M.view.ty.Contents (Elt F)) (w : S512x1024.Idx → Elt F .bf16) :
    M.view.read (Elt F) (M.view.writes (Elt F) f [⟨Rect.unit (s := S512x1024) ![0, 0] S512x1024.size inb_S512x1024_S512x1024_0_0, w⟩]) = w := by
  funext y
  have h := View.read_writes_cons_emb (v := M.view) (f := f) (Val := Elt F)
    (Rect.unit (s := S512x1024) ![0, 0] S512x1024.size inb_S512x1024_S512x1024_0_0) w [] y
  refine Eq.trans (congrArg _ ?_) h
  refine funext fun a => Fin.ext ?_
  fin_cases a
  · show (y 0).val = 0 + 1 * (y 0).val; omega
  · show (y 1).val = 0 + 1 * (y 1).val; omega

end loads

set_option backward.proofsInPublic true in
set_option maxHeartbeats 8000000 in
/-- At a used grid point the body leaves the expert's feed-forward of the token block. -/
theorem run_used (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x1024.Idx → Elt F .f32) (x1 : S1x1x1024x2048.Idx → Elt F .f32) (x2 : S1x1x2048.Idx → Elt F .f32) (x3 : S1x1x1024x1024.Idx → Elt F .f32) (x4 : S1x1x1024.Idx → Elt F .f32)
    (h1 : k0_cond1 i (used T1) = 1#1) (h2 : ¬(k0_cond2 i (used T1) = 1#1)) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (arg7.view.loc (c : Thread nD τ) ↦[arg7.view.set]{fullShare} arg7.view.rep x4)
      ∗ (tblE.view.loc (c : Thread nD τ) ↦{fullShare.right} T0)
      ∗ (tblN.view.loc (c : Thread nD τ) ↦{fullShare.right} T1)
      ∗ (∃ d, owns (c : Thread nD τ) arg8 fullShare d)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tblE.view.loc (c : Thread nD τ) ↦{fullShare.right} T0)
          ∗ (tblN.view.loc (c : Thread nD τ) ↦{fullShare.right} T1)
          ∗ owns (c : Thread nD τ) arg8 fullShare (blkUsed x0 x1 x2 x3 x4)) -∗ K ⟨⟩))
      ⊢ wp frame (wpE (defs₀ (F := F)) Variants.none c none) Set.univ (cc0_moe_ffn i tblE (Memref.isWhole_whole _) tblN (Memref.isWhole_whole _) arg3 harg3 arg4 harg4 arg5 harg5 arg6 harg6 arg7 harg7 arg8 harg8) K := by
  unfold owns
  rw [cc0_moe_ffn_eq_skeleton]; unfold cc0_moe_ffn_skel
  iintro ⟨H0, H1, H2, H3, H4, HT0, HT1, ⟨%d5, %f5, -, HO5⟩, Hk⟩
  have hT0 : tblE.IsWhole := Memref.isWhole_whole _
  have hT1 : tblN.IsWhole := Memref.isWhole_whole _
  sl_exec! (disch := first | (guard_target = k0_cond1 _ _ = _; exact h1) | (guard_target = ¬(k0_cond2 _ _ = _); exact h2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexists _; isplitr; swap
  · iexact HO5
  · ipureintro
    refine (read_store _ _ _).trans ?_
    sl_unfold_run_names
    rw [View.readAt_rep_full, View.readAt_rep_full, View.readAt_rep_full, ld_wLo arg4, ld_wHi arg4, ld_bLo, ld_bHi]
    rfl

set_option backward.proofsInPublic true in
set_option maxHeartbeats 8000000 in
/-- At an unused grid point the body reads only the count and leaves zeros. -/
theorem run_unused (c : Dev nD) (i : grid0.Coords) (arg3 : Memref sig .tc .vmem S512x1024 .f32) (harg3 : arg3.IsWhole) (arg4 : Memref sig .tc .vmem S1x1x1024x2048 .f32) (harg4 : arg4.IsWhole) (arg5 : Memref sig .tc .vmem S1x1x2048 .f32) (harg5 : arg5.IsWhole) (arg6 : Memref sig .tc .vmem S1x1x1024x1024 .f32) (harg6 : arg6.IsWhole) (arg7 : Memref sig .tc .vmem S1x1x1024 .f32) (harg7 : arg7.IsWhole) (arg8 : Memref sig .tc .vmem S512x1024 .bf16) (harg8 : arg8.IsWhole)
    (T1 : S1.Idx → Elt F .i32)
    (h1 : ¬(k0_cond1 i (used T1) = 1#1)) (h2 : k0_cond2 i (used T1) = 1#1) (K : PUnit → sProp 𝕄) :
    iprop((tblN.view.loc (c : Thread nD τ) ↦{fullShare.right} T1)
      ∗ (∃ d, owns (c : Thread nD τ) arg8 fullShare d)
      ∗ (iprop((tblN.view.loc (c : Thread nD τ) ↦{fullShare.right} T1)
          ∗ owns (c : Thread nD τ) arg8 fullShare (k0_pay2 (F := F))) -∗ K ⟨⟩))
      ⊢ wp frame (wpE (defs₀ (F := F)) Variants.none c none) Set.univ (cc0_moe_ffn i tblE (Memref.isWhole_whole _) tblN (Memref.isWhole_whole _) arg3 harg3 arg4 harg4 arg5 harg5 arg6 harg6 arg7 harg7 arg8 harg8) K := by
  unfold owns
  rw [cc0_moe_ffn_eq_skeleton]; unfold cc0_moe_ffn_skel
  iintro ⟨HT1, ⟨%d5, %f5, -, HO5⟩, Hk⟩
  have hT1 : tblN.IsWhole := Memref.isWhole_whole _
  sl_exec! (disch := first | (guard_target = ¬(k0_cond1 _ _ = _); exact h1) | (guard_target = k0_cond2 _ _ = _; exact h2))
  sl_step
  iapply Hk
  isplitl [HT1]; · iexact HT1
  iexists _; isplitr; swap
  · iexact HO5
  · ipureintro
    exact read_store _ _ _

end Cert.Kernel2Ideal.Ffn

end
-- ==== Proof.Ffn.Frame.lean ====
/- The run of the feed-forward kernel at arbitrary tables: every block of the grid is written once, at a used point with the
   expert's feed-forward of its token block, elsewhere with zeros; the arguments end as they began. -/
module

public import proofs.«01_k».proof.Proof.Ffn.Run
public import Idealize.ShloMosaic.Lib.Pipeline.Quiescent
public import Idealize.ShloMosaic.Adequacy
public import Idealize.ShloMosaic.Init

@[expose] public section

set_option maxRecDepth 16384
set_option Elab.async false

noncomputable section

namespace Cert.Kernel2Ideal.Ffn

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the staging cells, embedded whole. -/
abbrev EP : Emb (UR sig nD τ) 𝕄 := emb₁

/-! ## The two conditions -/

/-- At every word exactly one of the body's two conditions holds. -/
theorem cond_split (i : grid0.Coords) (v : BitVec 32) : Iff (k0_cond2 i v = 1#1) (¬(k0_cond1 i v = 1#1)) := by
  show Iff (IntOp.cmpi .ne (BitVec.setWidth 32 (IntOp.cmpi .sge (BitVec.ofNat 32 (i 0).val) v)) 0#32 = 1#1)
    (¬(IntOp.cmpi .ne (BitVec.setWidth 32 (IntOp.cmpi .slt (BitVec.ofNat 32 (i 0).val) v)) 0#32 = 1#1))
  generalize BitVec.ofNat 32 (i 0).val = u
  have h : v.sle u = !(u.slt v) := by
    rw [BitVec.sle_eq_not_slt]
  simp only [IntOp.cmpi, h]
  cases u.slt v <;> decide

variable (a : (pcfg0 (F := F)).Adm)
variable (m : (ℓ : Loc nD τ sig) → Buf (Elt F) ℓ) (ρ : Dev nD → PrngReg)

/-- The pipeline at the tables `a`. -/
abbrev cfgA : Pipeline.Cfg sig Λ₀ := cfg0 (F := F) a
abbrev pcs : Fin 1 → Pipeline.Cfg sig Λ₀ := Pipeline.pin (pcfgs (F := F)) fun _ => a

/-- Point `t`'s coordinates and the windows' staging memrefs there. -/
abbrev crd (t : Fin (cfgA a).N) : (cfgA a).grid.Coords := (cfgA a).grid.coords t
abbrev st0 (t : Fin (cfgA a).N) : Memref sig .tc .vmem S512x1024 .f32 := spec0_0.stage ((cfgA a).slots t (0 : Fin 6))
abbrev st1 (t : Fin (cfgA a).N) : Memref sig .tc .vmem S1x1x1024x2048 .f32 := spec0_1.stage ((cfgA a).slots t (1 : Fin 6))
abbrev st2 (t : Fin (cfgA a).N) : Memref sig .tc .vmem S1x1x2048 .f32 := spec0_2.stage ((cfgA a).slots t (2 : Fin 6))
abbrev st3 (t : Fin (cfgA a).N) : Memref sig .tc .vmem S1x1x1024x1024 .f32 := spec0_3.stage ((cfgA a).slots t (3 : Fin 6))
abbrev st4 (t : Fin (cfgA a).N) : Memref sig .tc .vmem S1x1x1024 .f32 := spec0_4.stage ((cfgA a).slots t (4 : Fin 6))
abbrev st5 (t : Fin (cfgA a).N) : Memref sig .tc .vmem S512x1024 .bf16 := spec0_5.stage ((cfgA a).slots t (5 : Fin 6))
theorem wh0 (t : Fin (cfgA a).N) : (st0 a t).IsWhole := hstage0_0 (((cfgA a).slots t (0 : Fin 6)).cast nbuf0_0)
theorem wh1 (t : Fin (cfgA a).N) : (st1 a t).IsWhole := hstage0_1 (((cfgA a).slots t (1 : Fin 6)).cast nbuf0_1)
theorem wh2 (t : Fin (cfgA a).N) : (st2 a t).IsWhole := hstage0_2 (((cfgA a).slots t (2 : Fin 6)).cast nbuf0_2)
theorem wh3 (t : Fin (cfgA a).N) : (st3 a t).IsWhole := hstage0_3 (((cfgA a).slots t (3 : Fin 6)).cast nbuf0_3)
theorem wh4 (t : Fin (cfgA a).N) : (st4 a t).IsWhole := hstage0_4 (((cfgA a).slots t (4 : Fin 6)).cast nbuf0_4)
theorem wh5 (t : Fin (cfgA a).N) : (st5 a t).IsWhole := hstage0_5 (((cfgA a).slots t (5 : Fin 6)).cast nbuf0_5)

/-- Window `w`'s block at point `t`, read off its array as it is at the start. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What the body leaves in the output's block at point `t`. -/
def oblk (c : Dev nD) (t : Fin (cfgA a).N) : S512x1024.Idx → Elt F .bf16 :=
  if k0_cond1 (crd a t) (used (a.1 1)) = 1#1 then
    blkUsed (iblk a m ρ c (0 : Fin 6) t) (iblk a m ρ c (1 : Fin 6) t) (iblk a m ρ c (2 : Fin 6) t) (iblk a m ρ c (3 : Fin 6) t) (iblk a m ρ c (4 : Fin 6) t)
  else k0_pay2 (F := F)

/-- The output is stored at every point. -/
theorem live5 (t : Fin (cfgA a).N) : (cfgA a).idle (5 : Fin 6) ((cfgA a).grid.coords t) = false := by
  show (!(k0_cond1 (crd a t) (a.1.atD 1 ![0]) == 1#1) && !(k0_cond2 (crd a t) (a.1.atD 1 ![0]) == 1#1)) = false
  by_cases h : k0_cond1 (crd a t) (a.1.atD 1 ![0]) = 1#1
  · rw [h]; rfl
  · rw [(cond_split _ _).2 h]; simp

/-! ## The proof data -/

/-- Between points the body holds its halves of the tables. -/
def held (c : Dev nD) : sProp 𝕄 :=
  iprop((tblE.view.loc (c : Thread nD τ) ↦{fullShare.right} a.1 0) ∗ (tblN.view.loc (c : Thread nD τ) ↦{fullShare.right} a.1 1))

def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => oblk a m ρ c t
  Φ _ := held a c
  q _ := fullShare
  owed _ := 0

theorem after_0 (c : Dev nD) (t : Fin (cfgA a).N) : (dats a m ρ 0 c).after (0 : Fin 6) t = iblk a m ρ c (0 : Fin 6) t := rfl
theorem after_1 (c : Dev nD) (t : Fin (cfgA a).N) : (dats a m ρ 0 c).after (1 : Fin 6) t = iblk a m ρ c (1 : Fin 6) t := rfl
theorem after_2 (c : Dev nD) (t : Fin (cfgA a).N) : (dats a m ρ 0 c).after (2 : Fin 6) t = iblk a m ρ c (2 : Fin 6) t := rfl
theorem after_3 (c : Dev nD) (t : Fin (cfgA a).N) : (dats a m ρ 0 c).after (3 : Fin 6) t = iblk a m ρ c (3 : Fin 6) t := rfl
theorem after_4 (c : Dev nD) (t : Fin (cfgA a).N) : (dats a m ρ 0 c).after (4 : Fin 6) t = iblk a m ρ c (4 : Fin 6) t := rfl
theorem after_5 (c : Dev nD) (t : Fin (cfgA a).N) : (dats a m ρ 0 c).after (5 : Fin 6) t = oblk a m ρ c t := rfl

/-- An input window holds its block whether or not it was fetched at the point. -/
theorem before_0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after_4]; unfold Dat.blockOf iblk; rfl) t d).trans
    (by unfold Dat.fetched Dat.blockOf iblk; rfl)

/-! ## The body obligation -/

set_option maxHeartbeats 4000000 in
/-- From its staging buffers and the tables the body leaves the inputs as they were and the output at `oblk`. -/
theorem body_at (c : Dev nD) (t : Fin (cfgA a).N) :
    iprop(held a c ∗ (dats a m ρ 0 c).owesAt () t.castSucc
        ∗ (owns (c : Thread nD τ) (st0 a t) fullShare (iblk a m ρ c (0 : Fin 6) t))
        ∗ (owns (c : Thread nD τ) (st1 a t) fullShare (iblk a m ρ c (1 : Fin 6) t))
        ∗ (owns (c : Thread nD τ) (st2 a t) fullShare (iblk a m ρ c (2 : Fin 6) t))
        ∗ (owns (c : Thread nD τ) (st3 a t) fullShare (iblk a m ρ c (3 : Fin 6) t))
        ∗ (owns (c : Thread nD τ) (st4 a t) fullShare (iblk a m ρ c (4 : Fin 6) t))
        ∗ (∃ d, owns (c : Thread nD τ) (st5 a t) fullShare d))
      ⊢ wp frame (wpE (defs₀ (F := F)) Variants.none c none) Set.univ
          (cc0_moe_ffn (crd a t) tblE (Memref.isWhole_whole _) tblN (Memref.isWhole_whole _) (st0 a t) (wh0 a t) (st1 a t) (wh1 a t) (st2 a t) (wh2 a t) (st3 a t) (wh3 a t) (st4 a t) (wh4 a t) (st5 a t) (wh5 a t)) fun _ =>
          iprop(held a c ∗ (dats a m ρ 0 c).owesAt () t.castSucc
            ∗ (owns (c : Thread nD τ) (st0 a t) fullShare (iblk a m ρ c (0 : Fin 6) t))
            ∗ (owns (c : Thread nD τ) (st1 a t) fullShare (iblk a m ρ c (1 : Fin 6) t))
            ∗ (owns (c : Thread nD τ) (st2 a t) fullShare (iblk a m ρ c (2 : Fin 6) t))
            ∗ (owns (c : Thread nD τ) (st3 a t) fullShare (iblk a m ρ c (3 : Fin 6) t))
            ∗ (owns (c : Thread nD τ) (st4 a t) fullShare (iblk a m ρ c (4 : Fin 6) t))
            ∗ owns (c : Thread nD τ) (st5 a t) fullShare (oblk a m ρ c t)) := by
  unfold held oblk
  by_cases h : k0_cond1 (crd a t) (used (a.1 1)) = 1#1
  · have h2 : ¬(k0_cond2 (crd a t) (used (a.1 1)) = 1#1) := fun h2 => (cond_split _ _).1 h2 h
    simp only [if_pos h]
    iintro ⟨⟨HT0, HT1⟩, Ho, H0, H1, H2, H3, H4, ⟨%d5, H5⟩⟩
    iapply (run_used c (crd a t) (st0 a t) (wh0 a t) (st1 a t) (wh1 a t) (st2 a t) (wh2 a t) (st3 a t) (wh3 a t) (st4 a t) (wh4 a t) (st5 a t) (wh5 a t) (a.1 0) (a.1 1) (iblk a m ρ c (0 : Fin 6) t) (iblk a m ρ c (1 : Fin 6) t) (iblk a m ρ c (2 : Fin 6) t) (iblk a m ρ c (3 : Fin 6) t) (iblk a m ρ c (4 : Fin 6) t) h h2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, H5⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexact H5
  · have h2 : k0_cond2 (crd a t) (used (a.1 1)) = 1#1 := (cond_split _ _).2 h
    simp only [if_neg h]
    iintro ⟨⟨HT0, HT1⟩, Ho, H0, H1, H2, H3, H4, ⟨%d5, H5⟩⟩
    iapply (run_unused c (crd a t) (st0 a t) (wh0 a t) (st1 a t) (wh1 a t) (st2 a t) (wh2 a t) (st3 a t) (wh3 a t) (st4 a t) (wh4 a t) (st5 a t) (wh5 a t) (a.1 1) h h2 _)
    isplitl [HT1]; · iexact HT1
    isplitl [H5]; · iexists _; iexact H5
    iintro ⟨HT1, H5⟩
    isplitl [HT0 HT1]
    · isplitl [HT0]
      · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5

set_option maxHeartbeats 4000000 in
/-- The obligation of the pipeline rule, at every point. -/
theorem body_obligation (c : Dev nD) : BodyObligation (dats a m ρ 0 c) (defs₀ (F := F)) Variants.none () Set.univ := fun t => by
  rw [bigSep_W0, bigSep_W0]
  rewrite [live5 a t]
  simp only [before_0, before_1, before_2, before_3, before_4, after_0, after_1, after_2, after_3, after_4, after_5]
  rewrite [show (dats a m ρ 0 c).Φ t.succ = held a c from rfl, show (dats a m ρ 0 c).Φ t.castSucc = held a c from rfl,
      show (dats a m ρ 0 c).owesAt () t.succ = (dats a m ρ 0 c).owesAt () t.castSucc from rfl]
  refine BIBase.Entails.trans ?_ (body_at a m ρ c t)
  iintro ⟨HT, Ho, ⟨%d0, H0⟩, ⟨%d1, H1⟩, ⟨%d2, H2⟩, ⟨%d3, H3⟩, ⟨%d4, H4⟩, ⟨%d5, H5⟩⟩
  isplitl [HT]; · iexact HT
  isplitl [Ho]; · iexact Ho
  isplitl [H0]; · iexact H0
  isplitl [H1]; · iexact H1
  isplitl [H2]; · iexact H2
  isplitl [H3]; · iexact H3
  isplitl [H4]; · iexact H4
  iexists _; iexact H5

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The two tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem held_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = held a c from rfl]
  unfold held
  iintro ⟨-, ⟨HT0, HT1⟩, -⟩
  isplitl [HT0]
  · iexact HT0
  iexact HT1

theorem held_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = held a c from rfl]
  unfold held
  iintro ⟨-, -⟩
  isplitr; · iempintro
  iempintro

/-- Every array ends at what the pipeline computes from the data, every table as it was. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

/-- The tables in memory are `a`. -/
def Tables : Prop := ∀ (c : Dev nD) (j : Fin 2), m ((c : Thread nD τ).loc (pre0.ref j)) = a.1 j

set_option backward.isDefEq.respectTransparency.types false in
set_option maxHeartbeats 4000000 in
/-- Every fair run of @main from a memory whose tables are `a` ends, at the computed contents and with every counter at zero. -/
theorem run_main (hp : Tables a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := held_intro a m ρ)
    (hout := held_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments end unchanged and every counter at zero. -/
theorem frame (hp : Tables a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 0).trans (hp c 0).symm, ((h.1 c).2 1).trans (hp c 1).symm,
    ((h.1 c).1 (0 : Fin 6)).trans ((dats a m ρ 0 c).arrAt_in (0 : Fin 6) rfl _), ((h.1 c).1 (1 : Fin 6)).trans ((dats a m ρ 0 c).arrAt_in (1 : Fin 6) rfl _),
    ((h.1 c).1 (2 : Fin 6)).trans ((dats a m ρ 0 c).arrAt_in (2 : Fin 6) rfl _), ((h.1 c).1 (3 : Fin 6)).trans ((dats a m ρ 0 c).arrAt_in (3 : Fin 6) rfl _),
    ((h.1 c).1 (4 : Fin 6)).trans ((dats a m ρ 0 c).arrAt_in (4 : Fin 6) rfl _)⟩, h.2⟩) (run_main a m ρ hp)

end Cert.Kernel2Ideal.Ffn

end
-- ==== Proof.Ffn.Tables.lean ====
/- The grid of the feed-forward kernel at tables in range: which block each window stages at each point, and that every
   block lies inside its array. -/
module

public import proofs.«01_k».proof.Proof.Ffn.Frame
public import proofs.«01_k».proof.Proof.Ffn.Ranges

@[expose] public section

set_option maxRecDepth 16384

noncomputable section

namespace Cert.Kernel2Ideal.Ffn

open Cert.Kernel2Ideal Cert.Kernel2Ideal.Gen
open Idealize.ShloMosaic
open Idealize.ShloMosaic.TcCoe
open Cert.FfnRanges (InRange)

variable {F : FTy → Type} [FloatOps F]

/-- The expert of block `i` and the number of used blocks. -/
abbrev expert (pf : pre0.Contents (Elt F)) (i : grid0.Coords) : ℕ := (pf 0 (ValueIdx.ix1 (i 0)) : BitVec 32).toNat
abbrev count (pf : pre0.Contents (Elt F)) : ℕ := (pf 1 (ValueIdx.ix1 0) : BitVec 32).toNat

theorem coord_lt (i : grid0.Coords) : (i 0).val < 288 := (i 0).isLt

theorem at_count (pf : pre0.Contents (Elt F)) :
    pf.at 1 (Rect.unit (s := S1) ![0] S1.size inb_S1_S1_0) numel1_S1 = pf 1 (ValueIdx.ix1 0) := by
  refine congrArg (pf 1) ?_
  funext x; fin_cases x; exact Subsingleton.elim (α := Fin 1) _ _

theorem at_expert (pf : pre0.Contents (Elt F)) (i : grid0.Coords) :
    pf.at 0 (Rect.unit (s := S288) ![(Scalar.indexCast (BitVec.ofNat 32 (i 0).val)).toNat] S1.size (k0_off1_inb i)) numel1_S1
      = pf 0 (ValueIdx.ix1 (i 0)) := by
  refine congrArg (pf 0) ?_
  have h := coord_lt i
  funext x; fin_cases x
  refine Fin.ext ?_
  show (BitVec.ofNat 32 (i 0).val).toNat + 1 * 0 = (i 0).val
  rw [BitVec.toNat_ofNat]; omega

/-- The token block of a used point is its own, of an unused point the last used one. -/
theorem tr0_eq (pf : pre0.Contents (Elt F)) (h : 1 ≤ count pf ∧ count pf ≤ 288) (i : grid0.Coords) :
    cc0_transform_0 inb_S1_S1_0 numel1_S1 pf i = ![min (i 0).val (count pf - 1), 0] := by
  have hi := coord_lt i
  unfold cc0_transform_0
  rw [at_count]
  have e : ∀ w : BitVec 32, 1 ≤ w.toNat → w.toNat ≤ 288 → (IntOp.minsi (BitVec.ofNat 32 (i 0).val) (IntOp.subi w 1#32)).toNat = min (i 0).val (w.toNat - 1) := by
    intro w h1 h2
    have e1 : (w - 1#32).toNat = w.toNat - 1 := by
      rw [BitVec.toNat_sub]; simp only [BitVec.toNat_ofNat]; omega
    unfold IntOp.minsi IntOp.subi
    have hs : (BitVec.ofNat 32 (i 0).val).slt (w - 1#32) = decide ((i 0).val < w.toNat - 1) := by
      simp only [BitVec.slt, BitVec.toInt, e1, BitVec.toNat_ofNat, decide_eq_decide]
      omega
    rw [hs]
    by_cases hlt : (i 0).val < w.toNat - 1
    · simp only [hlt, decide_true, if_true, BitVec.toNat_ofNat]; omega
    · simp only [hlt, decide_false, Bool.false_eq_true, if_false, e1]; omega
  exact congrArg₂ (fun a b : ℕ => ![a, b]) (e _ h.1 h.2) rfl

theorem tr1_eq (pf : pre0.Contents (Elt F)) (i : grid0.Coords) :
    cc0_transform_1 k0_off1_inb numel1_S1 pf i = ![0, expert pf i, 0, 0] := by
  exact congrArg (fun w : BitVec 32 => ![0, w.toNat, 0, 0]) (at_expert pf i)

theorem tr3_eq (pf : pre0.Contents (Elt F)) (i : grid0.Coords) :
    cc0_transform_3 k0_off1_inb numel1_S1 pf i = ![0, expert pf i, 0, 0] := by
  exact congrArg (fun w : BitVec 32 => ![0, w.toNat, 0, 0]) (at_expert pf i)

theorem zero_addi (w : BitVec 32) : Scalar.addi 0#32 w = w := BitVec.zero_add w

theorem tr2_eq (pf : pre0.Contents (Elt F)) (i : grid0.Coords) :
    cc0_transform_2 k0_off1_inb numel1_S1 pf i = ![expert pf i, 0, 0] := by
  exact (congrArg (fun w : BitVec 32 => ![(Scalar.addi 0#32 w).toNat, 0, 0]) (at_expert pf i)).trans (congrArg (fun w : BitVec 32 => ![w.toNat, 0, 0]) (BitVec.zero_add _))

theorem tr4_eq (pf : pre0.Contents (Elt F)) (i : grid0.Coords) :
    cc0_transform_4 k0_off1_inb numel1_S1 pf i = ![expert pf i, 0, 0] := by
  exact (congrArg (fun w : BitVec 32 => ![(Scalar.addi 0#32 w).toNat, 0, 0]) (at_expert pf i)).trans (congrArg (fun w : BitVec 32 => ![w.toNat, 0, 0]) (BitVec.zero_add _))

/-- Tables in range are admissible. -/
theorem ok_of_inRange (pf : pre0.Contents (Elt F)) (h : InRange (pf 0) (pf 1)) : ok0 pf := by
  have hc : 1 ≤ count pf ∧ count pf ≤ 288 := h.2 _
  have he : ∀ i, expert pf i < 32 := fun i => h.1 _
  refine ⟨fun i => ⟨?_, .inl rfl⟩, fun i => ⟨?_, .inl rfl⟩, fun i => ⟨?_, .inl rfl⟩, fun i => ⟨?_, .inl rfl⟩, fun i => ⟨?_, .inl rfl⟩⟩
  · rw [tr0_eq pf hc i]
    have := coord_lt i
    intro x; fin_cases x
    · show (min (i 0).val (count pf - 1) + 1) * 512 ≤ 147456; omega
    · show (0 + 1) * 1024 ≤ 1024; omega
  · rw [tr1_eq pf i]
    have := he i
    intro x; fin_cases x
    · show (0 + 1) * 1 ≤ 2; omega
    · show (expert pf i + 1) * 1 ≤ 32; omega
    · show (0 + 1) * 1024 ≤ 1024; omega
    · show (0 + 1) * 2048 ≤ 2048; omega
  · rw [tr2_eq pf i]
    have := he i
    intro x; fin_cases x
    · show (expert pf i + 1) * 1 ≤ 64; omega
    · show (0 + 1) * 1 ≤ 1; omega
    · show (0 + 1) * 2048 ≤ 2048; omega
  · rw [tr3_eq pf i]
    have := he i
    intro x; fin_cases x
    · show (0 + 1) * 1 ≤ 2; omega
    · show (expert pf i + 1) * 1 ≤ 32; omega
    · show (0 + 1) * 1024 ≤ 1024; omega
    · show (0 + 1) * 1024 ≤ 1024; omega
  · rw [tr4_eq pf i]
    have := he i
    intro x; fin_cases x
    · show (expert pf i + 1) * 1 ≤ 64; omega
    · show (0 + 1) * 1 ≤ 1; omega
    · show (0 + 1) * 1024 ≤ 1024; omega

/-- The tables of a memory in range, as contents the pipeline runs at. -/
def tabs (m : (ℓ : Loc nD τ sig) → Buf (Elt F) ℓ) (h : InRange (m (((0 : Dev nD).tc : Thread nD τ).loc main_arg0)) (m (((0 : Dev nD).tc : Thread nD τ).loc main_arg1))) :
    (pcfg0 (F := F)).Adm :=
  ⟨fun j => m (((0 : Dev nD).tc : Thread nD τ).loc (pre0.ref j)), ok_of_inRange _ h⟩

theorem tables_tabs (m : (ℓ : Loc nD τ sig) → Buf (Elt F) ℓ) (h) : Tables (tabs m h) m := by
  intro c j
  obtain rfl : c = 0 := Subsingleton.elim (α := Fin 1) _ _
  rfl

end Cert.Kernel2Ideal.Ffn

end
-- ==== Proof.Ffn.Spec.lean ====
/- One row of an expert's feed-forward over the extended reals: two products with the up-projection's halves and their biases,
   the clamped gate, one product with the down-projection and its bias. -/
module

public import Idealize.ShloMosaic.PureOps.Ideal
public import Idealize.ShloMosaic.Lib.ValueIdx

@[expose] public section

noncomputable section

namespace Cert.FfnSpec

open Idealize.ShloMosaic

/-- The two limits of the clamp, the gate's slope and the one added to the linear half, as the programs' words. -/
abbrev lim : EReal := Ideal.ofBits .f32 0x40E00000#32
abbrev nlim : EReal := Ideal.ofBits .f32 0xC0E00000#32
abbrev slope : EReal := Ideal.ofBits .f32 0x3FD9DB23#32
abbrev one : EReal := Ideal.ofBits .f32 0x3F800000#32

/-- The clamped gate times the clamped linear half. -/
def act (g l : EReal) : EReal :=
  min g lim * Ideal.div one (one + Ideal.exp (-(slope * min g lim))) * (min lim (max nlim l) + one)

/-- Column `k` of the up-projection's first half, and of its second half. -/
abbrev lo (k : Fin 1024) : Fin 2048 := ⟨k.val, by omega⟩
abbrev hi (k : Fin 1024) : Fin 2048 := ⟨1024 + k.val, by omega⟩

/-- A row of the up-projection with its bias. -/
def up (x : Fin 1024 → EReal) (w : Fin 1024 → Fin 2048 → EReal) (b : Fin 2048 → EReal) (f : Fin 2048) : EReal :=
  (∑ d, x d * w d f) + b f

/-- The whole row. -/
def ffn (x : Fin 1024 → EReal) (w1 : Fin 1024 → Fin 2048 → EReal) (b1 : Fin 2048 → EReal) (w2 : Fin 1024 → Fin 1024 → EReal)
    (b2 : Fin 1024 → EReal) (j : Fin 1024) : EReal :=
  (∑ k, act (up x w1 b1 (lo k)) (up x w1 b1 (hi k)) * w2 k j) + b2 j

theorem ffn_congr {x x' : Fin 1024 → EReal} {w1 w1' : Fin 1024 → Fin 2048 → EReal} {b1 b1' : Fin 2048 → EReal} {w2 w2' : Fin 1024 → Fin 1024 → EReal}
    {b2 b2' : Fin 1024 → EReal} (h0 : x = x') (h1 : w1 = w1') (h2 : b1 = b1') (h3 : w2 = w2') (h4 : b2 = b2') (j : Fin 1024) :
    ffn x w1 b1 w2 b2 j = ffn x' w1' b1' w2' b2' j := by
  subst h0 h1 h2 h3 h4; rfl

/-- The expert of block `t`, read off the first table, and whether the block is used, read off the second. -/
def expertOf (T : (⟨1, ![288]⟩ : Shape).Idx → BitVec 32) (t : Fin 288) : Fin 32 := ⟨(T (ValueIdx.ix1 t)).toNat % 32, Nat.mod_lt _ (by decide)⟩
def usedAt (N : (⟨1, ![1]⟩ : Shape).Idx → BitVec 32) (t : Fin 288) : Prop := t.val < (N (ValueIdx.ix1 0)).toNat

instance (N : (⟨1, ![1]⟩ : Shape).Idx → BitVec 32) (t : Fin 288) : Decidable (usedAt N t) := inferInstanceAs (Decidable (_ < _))

/-- Entry (`r` of block `t`, `j`) of the layer's routed feed-forward: zero in an unused block, else the row's feed-forward by the
    block's expert. -/
def moe (T : (⟨1, ![288]⟩ : Shape).Idx → BitVec 32) (N : (⟨1, ![1]⟩ : Shape).Idx → BitVec 32)
    (xs : (⟨2, ![147456, 1024]⟩ : Shape).Idx → EReal) (w1 : (⟨4, ![2, 32, 1024, 2048]⟩ : Shape).Idx → EReal)
    (b1 : (⟨3, ![64, 1, 2048]⟩ : Shape).Idx → EReal) (w2 : (⟨4, ![2, 32, 1024, 1024]⟩ : Shape).Idx → EReal)
    (b2 : (⟨3, ![64, 1, 1024]⟩ : Shape).Idx → EReal) (t : Fin 288) (r : Fin 512) (j : Fin 1024) : EReal :=
  if usedAt N t then
    ffn (fun d => xs (ValueIdx.ix2 ⟨t.val * 512 + r.val, by omega⟩ d)) (fun d f => w1 (ValueIdx.ix4 0 (expertOf T t) d f))
      (fun f => b1 (ValueIdx.ix3 ⟨(expertOf T t).val, by omega⟩ 0 f)) (fun k j => w2 (ValueIdx.ix4 0 (expertOf T t) k j))
      (fun j => b2 (ValueIdx.ix3 ⟨(expertOf T t).val, by omega⟩ 0 j)) j
  else 0

end Cert.FfnSpec

end
-- ==== Proof.Ffn.Elem.lean ====
/- The block stored at a used grid point, read at an element over the extended reals: one entry of the row's feed-forward. -/
module

public import proofs.«01_k».proof.Proof.Ffn.Run
public import proofs.«01_k».proof.Proof.Ffn.Spec
public import Idealize.ShloMosaic.Lib.MatmulPlain
public import Idealize.ShloMosaic.Lib.Pipeline.Value
public import Idealize.ShloMosaic.Lib.IdealHost

@[expose] public section

set_option maxRecDepth 16384

noncomputable section

namespace Cert.Kernel2Ideal.Ffn

open Cert.Kernel2Ideal Cert.Kernel2Ideal.Gen
open Idealize.ShloMosaic
open Cert.FfnSpec

/-- The kernel's product of a block of rows with a square matrix, from a zero accumulator. -/
theorem prod_apply (l : FVec Ideal S512x1024 .bf16) (r : FVec Ideal S1024x1024 .bf16) (a : Fin 512) (b : Fin 1024) :
    matmul dot_S512x1024_S1024x1024_S512x1024_1_0_0_1_n_n none l r (constant S512x1024 .f32 0x00000000#32) (ValueIdx.ix2 a b)
      = ∑ k : Fin 1024, l (ValueIdx.ix2 a k) * r (ValueIdx.ix2 k b) := by
  refine (Ideal.matmul_plain_apply (M := 512) (K := 1024) (N := 1024) none l r _ a b).trans ?_
  show Ideal.ofBits .f32 0x00000000#32 + _ = _
  rw [Ideal.ofBits_zero_f32, zero_add]

/-- A bias row laid over the block's rows. -/
theorem bias_apply (x : Vec Ideal S1x1x1024 .f32) (a : Fin 512) (b : Fin 1024) :
    broadcastTo S512x1024 (shapeCast S1x1024 x shapeCasts_S1x1x1024_S1x1024) broadcasts_S1x1024_S512x1024 (ValueIdx.ix2 a b)
      = x (ValueIdx.ix3 0 0 b) :=
  (ValueIdx.broadcastTo_1b_ab_apply _ _ a b).trans (ValueIdx.shapeCast_1ab_ab_apply x _ 0 b)

/-- The down-projection's block without its two unit axes. -/
theorem w2_apply (x : Vec Ideal S1x1x1024x1024 .f32) (a b : Fin 1024) :
    shapeCast S1024x1024 x shapeCasts_S1x1x1024x1024_S1024x1024 (ValueIdx.ix2 a b) = x (ValueIdx.ix4 0 0 a b) :=
  shapeCast_apply x _ _ _ (by
    rw [Shape.rowMajor_val_four, Shape.rowMajor_val_two]
    show ((0 * 1 + 0) * 1024 + a.val) * 1024 + b.val = a.val * 1024 + b.val
    omega)

variable (x0 : S512x1024.Idx → Elt Ideal .f32) (x1 : S1x1x1024x2048.Idx → Elt Ideal .f32) (x2 : S1x1x2048.Idx → Elt Ideal .f32)
  (x3 : S1x1x1024x1024.Idx → Elt Ideal .f32) (x4 : S1x1x1024.Idx → Elt Ideal .f32) (a : Fin 512) (b : Fin 1024)

/-- Row `a` of the token block, and the blocks of the weights, by their coordinates. -/
abbrev rowX : Fin 1024 → EReal := fun d => x0 (ValueIdx.ix2 a d)
abbrev matW1 : Fin 1024 → Fin 2048 → EReal := fun d f => x1 (ValueIdx.ix4 0 0 d f)
abbrev vecB1 : Fin 2048 → EReal := fun f => x2 (ValueIdx.ix3 0 0 f)
abbrev matW2 : Fin 1024 → Fin 1024 → EReal := fun k j => x3 (ValueIdx.ix4 0 0 k j)
abbrev vecB2 : Fin 1024 → EReal := fun j => x4 (ValueIdx.ix3 0 0 j)

theorem pay4_apply : k0_pay4 x0 (wLo x1) (bLo x2) (ValueIdx.ix2 a b) = min (up (rowX x0 a) (matW1 x1) (vecB1 x2) (lo b)) lim := by
  show min (_ + _) _ = _
  rw [prod_apply, bias_apply]
  rfl

theorem pay5_apply : k0_pay5 x0 (wHi x1) (bHi x2) (ValueIdx.ix2 a b)
    = min lim (max nlim (up (rowX x0 a) (matW1 x1) (vecB1 x2) (hi b))) := by
  show min _ (max _ (_ + _)) = _
  rw [prod_apply, bias_apply]
  rfl

theorem pay6_apply : k0_pay6 x0 (wLo x1) (bLo x2) (ValueIdx.ix2 a b)
    = Ideal.exp (-(slope * min (up (rowX x0 a) (matW1 x1) (vecB1 x2) (lo b)) lim)) := by
  show Ideal.exp (Ideal.ofBits .f32 0x00000000#32 - slope * k0_pay4 x0 (wLo x1) (bLo x2) (ValueIdx.ix2 a b)) = _
  rw [pay4_apply, Ideal.ofBits_zero_f32, zero_sub]

/-- THE STORED BLOCK AT AN ELEMENT. -/
theorem blkUsed_apply : blkUsed x0 x1 x2 x3 x4 (ValueIdx.ix2 a b) = ffn (rowX x0 a) (matW1 x1) (vecB1 x2) (matW2 x3) (vecB2 x4) b := by
  show (_ + _ : EReal) = _
  rw [prod_apply, bias_apply]
  unfold ffn
  congr 1
  refine Finset.sum_congr rfl fun k _ => ?_
  refine congrArg₂ (· * ·) ?_ (w2_apply x3 k b)
  show k0_pay4 x0 (wLo x1) (bLo x2) (ValueIdx.ix2 a k)
    * Ideal.div one (one + k0_pay6 x0 (wLo x1) (bLo x2) (ValueIdx.ix2 a k)) * (k0_pay5 x0 (wHi x1) (bHi x2) (ValueIdx.ix2 a k) + one) = _
  rw [pay4_apply, pay5_apply, pay6_apply]
  rfl

end Cert.Kernel2Ideal.Ffn

end
-- ==== Proof.Ffn.Value.lean ====
/- The array the feed-forward kernel's run ends with, over the extended reals: at every row of every block the routed
   feed-forward of the row. -/
module

public import proofs.«01_k».proof.Proof.Ffn.Tables
public import proofs.«01_k».proof.Proof.Ffn.Elem

@[expose] public section

set_option maxRecDepth 16384

noncomputable section

namespace Cert.Kernel2Ideal.Ffn

open Cert.Kernel2Ideal Cert.Kernel2Ideal.Gen
open Idealize.ShloMosaic Idealize.SL.Sem
open Idealize.ShloMosaic.TcCoe
open Cert.FfnSpec Cert.FfnRanges
open Idealize.ShloMosaic.Pipeline (Dat Cfg Window)

theorem coords_val : ∀ t : Fin grid0.N, (grid0.coords t 0).val = t.val := by decide +kernel

variable (a : (pcfg0 (F := Ideal)).Adm)
variable (m : (ℓ : Loc nD τ sig) → Buf (Elt Ideal) ℓ) (ρ : Dev nD → PrngReg)

theorem t_lt (t : Fin (cfgA a).N) : t.val < 288 := lt_of_lt_of_eq t.isLt N_0
abbrev pt (t : Fin (cfgA a).N) : Fin 288 := ⟨t.val, t_lt a t⟩

/-! ## The blocks, by their coordinates -/

theorem idx5 (t : Fin (cfgA a).N) : ((cfgA a).win (5 : Fin 6)).index t = ![t.val, 0] := by
  have h := coords_val t
  have hl := t_lt a t
  show ![(BitVec.ofNat 32 (grid0.coords t 0).val).toNat, (0#32).toNat] = _
  rw [h, BitVec.toNat_ofNat, Nat.mod_eq_of_lt (by omega)]; rfl

theorem idx0 (h : InRange (a.1 0) (a.1 1)) (t : Fin (cfgA a).N) :
    ((cfgA a).win (0 : Fin 6)).index t = ![min t.val (count a.1 - 1), 0] :=
  (tr0_eq a.1 (h.2 _) (crd a t)).trans (by rw [show (crd a t 0).val = t.val from coords_val t])
theorem ex_eq (h : InRange (a.1 0) (a.1 1)) (t : Fin (cfgA a).N) : expert a.1 (crd a t) = (expertOf (a.1 0) (pt a t)).val := by
  have e : (crd a t 0 : Fin 288) = pt a t := Fin.ext (coords_val t)
  show (a.1 0 (ValueIdx.ix1 (crd a t 0)) : BitVec 32).toNat = (a.1 0 (ValueIdx.ix1 (pt a t)) : BitVec 32).toNat % 32
  rw [e]; exact (Nat.mod_eq_of_lt (h.1 _)).symm
theorem idx1 (h : InRange (a.1 0) (a.1 1)) (t : Fin (cfgA a).N) :
    ((cfgA a).win (1 : Fin 6)).index t = ![0, (expertOf (a.1 0) (pt a t)).val, 0, 0] :=
  (tr1_eq a.1 (crd a t)).trans (by rw [ex_eq a h])
theorem idx2 (h : InRange (a.1 0) (a.1 1)) (t : Fin (cfgA a).N) :
    ((cfgA a).win (2 : Fin 6)).index t = ![(expertOf (a.1 0) (pt a t)).val, 0, 0] :=
  (tr2_eq a.1 (crd a t)).trans (by rw [ex_eq a h])
theorem idx3 (h : InRange (a.1 0) (a.1 1)) (t : Fin (cfgA a).N) :
    ((cfgA a).win (3 : Fin 6)).index t = ![0, (expertOf (a.1 0) (pt a t)).val, 0, 0] :=
  (tr3_eq a.1 (crd a t)).trans (by rw [ex_eq a h])
theorem idx4 (h : InRange (a.1 0) (a.1 1)) (t : Fin (cfgA a).N) :
    ((cfgA a).win (4 : Fin 6)).index t = ![(expertOf (a.1 0) (pt a t)).val, 0, 0] :=
  (tr4_eq a.1 (crd a t)).trans (by rw [ex_eq a h])

abbrev xsOf (c : Dev nD) := m ((c : Thread nD τ).loc main_arg2)
abbrev w1Of (c : Dev nD) := m ((c : Thread nD τ).loc main_arg3)
abbrev b1Of (c : Dev nD) := m ((c : Thread nD τ).loc main_arg4)
abbrev w2Of (c : Dev nD) := m ((c : Thread nD τ).loc main_arg5)
abbrev b2Of (c : Dev nD) := m ((c : Thread nD τ).loc main_arg6)

theorem iblk0_apply (h : InRange (a.1 0) (a.1 1)) (c : Dev nD) (t : Fin (cfgA a).N) (hu : usedAt (a.1 1) (pt a t)) (r : Fin 512) (d : Fin 1024) :
    iblk a m ρ c (0 : Fin 6) t (ValueIdx.ix2 r d) = xsOf m c (ValueIdx.ix2 ⟨t.val * 512 + r.val, by have := t_lt a t; omega⟩ d) := by
  have e := idx0 a h t
  have e0 : ((cfgA a).win (0 : Fin 6)).index t (0 : Fin 2) = min t.val (count a.1 - 1) := congrFun e 0
  have e1 : ((cfgA a).win (0 : Fin 6)).index t (1 : Fin 2) = 0 := congrFun e 1
  have hu' : t.val < count a.1 := hu
  show m ((c : Thread nD τ).loc main_arg2) ((((cfgA a).win (0 : Fin 6)).blk t).view.emb (ValueIdx.ix2 r d)) = _
  refine congrArg (m ((c : Thread nD τ).loc main_arg2)) (funext fun x => Fin.ext ?_)
  fin_cases x
  · show ((cfgA a).win (0 : Fin 6)).index t (0 : Fin 2) * 512 + 1 * r.val = t.val * 512 + r.val
    rw [e0]; have : min t.val (count a.1 - 1) = t.val := by omega
    rw [this]; omega
  · show ((cfgA a).win (0 : Fin 6)).index t (1 : Fin 2) * 1024 + 1 * d.val = d.val
    rw [e1]; omega

theorem iblk1_apply (h : InRange (a.1 0) (a.1 1)) (c : Dev nD) (t : Fin (cfgA a).N) (d : Fin 1024) (f : Fin 2048) :
    iblk a m ρ c (1 : Fin 6) t (ValueIdx.ix4 0 0 d f) = w1Of m c (ValueIdx.ix4 0 (expertOf (a.1 0) (pt a t)) d f) := by
  have e := idx1 a h t
  have e0 : ((cfgA a).win (1 : Fin 6)).index t (0 : Fin 4) = 0 := congrFun e 0
  have e1 : ((cfgA a).win (1 : Fin 6)).index t (1 : Fin 4) = (expertOf (a.1 0) (pt a t)).val := congrFun e 1
  have e2 : ((cfgA a).win (1 : Fin 6)).index t (2 : Fin 4) = 0 := congrFun e 2
  have e3 : ((cfgA a).win (1 : Fin 6)).index t (3 : Fin 4) = 0 := congrFun e 3
  show m ((c : Thread nD τ).loc main_arg3) ((((cfgA a).win (1 : Fin 6)).blk t).view.emb (ValueIdx.ix4 0 0 d f)) = _
  refine congrArg (m ((c : Thread nD τ).loc main_arg3)) (funext fun x => Fin.ext ?_)
  fin_cases x
  · show ((cfgA a).win (1 : Fin 6)).index t (0 : Fin 4) * 1 + 1 * 0 = 0
    rw [e0]
  · show ((cfgA a).win (1 : Fin 6)).index t (1 : Fin 4) * 1 + 1 * 0 = (expertOf (a.1 0) (pt a t)).val
    rw [e1]; omega
  · show ((cfgA a).win (1 : Fin 6)).index t (2 : Fin 4) * 1024 + 1 * d.val = d.val
    rw [e2]; omega
  · show ((cfgA a).win (1 : Fin 6)).index t (3 : Fin 4) * 2048 + 1 * f.val = f.val
    rw [e3]; omega

theorem iblk2_apply (h : InRange (a.1 0) (a.1 1)) (c : Dev nD) (t : Fin (cfgA a).N) (f : Fin 2048) :
    iblk a m ρ c (2 : Fin 6) t (ValueIdx.ix3 0 0 f) = b1Of m c (ValueIdx.ix3 ⟨(expertOf (a.1 0) (pt a t)).val, by omega⟩ 0 f) := by
  have e := idx2 a h t
  have e0 : ((cfgA a).win (2 : Fin 6)).index t (0 : Fin 3) = (expertOf (a.1 0) (pt a t)).val := congrFun e 0
  have e1 : ((cfgA a).win (2 : Fin 6)).index t (1 : Fin 3) = 0 := congrFun e 1
  have e2 : ((cfgA a).win (2 : Fin 6)).index t (2 : Fin 3) = 0 := congrFun e 2
  show m ((c : Thread nD τ).loc main_arg4) ((((cfgA a).win (2 : Fin 6)).blk t).view.emb (ValueIdx.ix3 0 0 f)) = _
  refine congrArg (m ((c : Thread nD τ).loc main_arg4)) (funext fun x => Fin.ext ?_)
  fin_cases x
  · show ((cfgA a).win (2 : Fin 6)).index t (0 : Fin 3) * 1 + 1 * 0 = (expertOf (a.1 0) (pt a t)).val
    rw [e0]; omega
  · show ((cfgA a).win (2 : Fin 6)).index t (1 : Fin 3) * 1 + 1 * 0 = 0
    rw [e1]
  · show ((cfgA a).win (2 : Fin 6)).index t (2 : Fin 3) * 2048 + 1 * f.val = f.val
    rw [e2]; omega

theorem iblk3_apply (h : InRange (a.1 0) (a.1 1)) (c : Dev nD) (t : Fin (cfgA a).N) (d : Fin 1024) (f : Fin 1024) :
    iblk a m ρ c (3 : Fin 6) t (ValueIdx.ix4 0 0 d f) = w2Of m c (ValueIdx.ix4 0 (expertOf (a.1 0) (pt a t)) d f) := by
  have e := idx3 a h t
  have e0 : ((cfgA a).win (3 : Fin 6)).index t (0 : Fin 4) = 0 := congrFun e 0
  have e1 : ((cfgA a).win (3 : Fin 6)).index t (1 : Fin 4) = (expertOf (a.1 0) (pt a t)).val := congrFun e 1
  have e2 : ((cfgA a).win (3 : Fin 6)).index t (2 : Fin 4) = 0 := congrFun e 2
  have e3 : ((cfgA a).win (3 : Fin 6)).index t (3 : Fin 4) = 0 := congrFun e 3
  show m ((c : Thread nD τ).loc main_arg5) ((((cfgA a).win (3 : Fin 6)).blk t).view.emb (ValueIdx.ix4 0 0 d f)) = _
  refine congrArg (m ((c : Thread nD τ).loc main_arg5)) (funext fun x => Fin.ext ?_)
  fin_cases x
  · show ((cfgA a).win (3 : Fin 6)).index t (0 : Fin 4) * 1 + 1 * 0 = 0
    rw [e0]
  · show ((cfgA a).win (3 : Fin 6)).index t (1 : Fin 4) * 1 + 1 * 0 = (expertOf (a.1 0) (pt a t)).val
    rw [e1]; omega
  · show ((cfgA a).win (3 : Fin 6)).index t (2 : Fin 4) * 1024 + 1 * d.val = d.val
    rw [e2]; omega
  · show ((cfgA a).win (3 : Fin 6)).index t (3 : Fin 4) * 1024 + 1 * f.val = f.val
    rw [e3]; omega

theorem iblk4_apply (h : InRange (a.1 0) (a.1 1)) (c : Dev nD) (t : Fin (cfgA a).N) (f : Fin 1024) :
    iblk a m ρ c (4 : Fin 6) t (ValueIdx.ix3 0 0 f) = b2Of m c (ValueIdx.ix3 ⟨(expertOf (a.1 0) (pt a t)).val, by omega⟩ 0 f) := by
  have e := idx4 a h t
  have e0 : ((cfgA a).win (4 : Fin 6)).index t (0 : Fin 3) = (expertOf (a.1 0) (pt a t)).val := congrFun e 0
  have e1 : ((cfgA a).win (4 : Fin 6)).index t (1 : Fin 3) = 0 := congrFun e 1
  have e2 : ((cfgA a).win (4 : Fin 6)).index t (2 : Fin 3) = 0 := congrFun e 2
  show m ((c : Thread nD τ).loc main_arg6) ((((cfgA a).win (4 : Fin 6)).blk t).view.emb (ValueIdx.ix3 0 0 f)) = _
  refine congrArg (m ((c : Thread nD τ).loc main_arg6)) (funext fun x => Fin.ext ?_)
  fin_cases x
  · show ((cfgA a).win (4 : Fin 6)).index t (0 : Fin 3) * 1 + 1 * 0 = (expertOf (a.1 0) (pt a t)).val
    rw [e0]; omega
  · show ((cfgA a).win (4 : Fin 6)).index t (1 : Fin 3) * 1 + 1 * 0 = 0
    rw [e1]
  · show ((cfgA a).win (4 : Fin 6)).index t (2 : Fin 3) * 1024 + 1 * f.val = f.val
    rw [e2]; omega

/-! ## The output's block -/

/-- The body's first condition holds exactly at the used blocks. -/
theorem cond_iff (h : InRange (a.1 0) (a.1 1)) (t : Fin (cfgA a).N) :
    Iff (k0_cond1 (crd a t) (used (a.1 1)) = 1#1) (usedAt (a.1 1) (pt a t)) := by
  have hr : 1 ≤ (a.1 1 (ValueIdx.ix1 0) : BitVec 32).toNat ∧ (a.1 1 (ValueIdx.ix1 0) : BitVec 32).toNat ≤ 288 := h.2 _
  have hw : used (F := Ideal) (a.1 1) = a.1 1 (ValueIdx.ix1 0) := by
    refine congrArg (a.1 1) ?_
    funext x; fin_cases x; exact Subsingleton.elim (α := Fin 1) _ _
  rw [hw]
  unfold usedAt
  show Iff (IntOp.cmpi .ne (BitVec.setWidth 32 (IntOp.cmpi .slt (BitVec.ofNat 32 (crd a t 0).val) (a.1 1 (ValueIdx.ix1 0)))) 0#32 = 1#1)
    (t.val < (a.1 1 (ValueIdx.ix1 0) : BitVec 32).toNat)
  have hl := t_lt a t
  rw [show (crd a t 0).val = t.val from coords_val t]
  generalize (a.1 1 (ValueIdx.ix1 0) : BitVec 32) = w at hr ⊢
  have hs : (BitVec.ofNat 32 t.val).slt w = decide (t.val < w.toNat) := by
    simp only [BitVec.slt, BitVec.toInt, BitVec.toNat_ofNat, decide_eq_decide]
    omega
  simp only [IntOp.cmpi, hs]
  by_cases hc : t.val < w.toNat <;> simp [hc]

theorem oblk_apply (h : InRange (a.1 0) (a.1 1)) (c : Dev nD) (t : Fin (cfgA a).N) (r : Fin 512) (j : Fin 1024) :
    oblk a m ρ c t (ValueIdx.ix2 r j) = moe (a.1 0) (a.1 1) (xsOf m c) (w1Of m c) (b1Of m c) (w2Of m c) (b2Of m c) (pt a t) r j := by
  unfold oblk moe
  by_cases hu : usedAt (a.1 1) (pt a t)
  · rw [if_pos ((cond_iff a h t).2 hu), if_pos hu]
    refine (blkUsed_apply _ _ _ _ _ r j).trans ?_
    have e0 : rowX (iblk a m ρ c (0 : Fin 6) t) r = _ := funext fun d => iblk0_apply a m ρ h c t hu r d
    have e1 : matW1 (iblk a m ρ c (1 : Fin 6) t) = _ := funext fun d => funext fun f => iblk1_apply a m ρ h c t d f
    have e2 : vecB1 (iblk a m ρ c (2 : Fin 6) t) = _ := funext fun f => iblk2_apply a m ρ h c t f
    have e3 : matW2 (iblk a m ρ c (3 : Fin 6) t) = _ := funext fun d => funext fun f => iblk3_apply a m ρ h c t d f
    have e4 : vecB2 (iblk a m ρ c (4 : Fin 6) t) = _ := funext fun f => iblk4_apply a m ρ h c t f
    exact ffn_congr e0 e1 e2 e3 e4 j
  · rw [if_neg fun hc => hu ((cond_iff a h t).1 hc), if_neg hu]
    exact Ideal.ofBits_zero_bf16

/-- The array the run ends with. -/
def outArr (c : Dev nD) : Buf (Elt Ideal) ((c : Thread nD τ).loc main_v0) := fun (i : S147456x1024.Idx) =>
  moe (a.1 0) (a.1 1) (xsOf m c) (w1Of m c) (b1Of m c) (w2Of m c) (b2Of m c)
    ⟨(i 0).val / 512, by have h : (i 0).val < 147456 := (i 0).isLt; omega⟩ ⟨(i 0).val % 512, Nat.mod_lt _ (by decide)⟩ (i 1)

theorem flushed5 (h : InRange (a.1 0) (a.1 1)) (c : Dev nD) (t : Fin (cfgA a).N) :
    (dats a m ρ 0 c).flushed (5 : Fin 6) t = (((cfgA a).win (5 : Fin 6)).blk t).view.read (Elt Ideal) (outArr a m c) := by
  have e := idx5 a t
  have e0 : ((cfgA a).win (5 : Fin 6)).index t (0 : Fin 2) = t.val := congrFun e 0
  have e1 : ((cfgA a).win (5 : Fin 6)).index t (1 : Fin 2) = 0 := congrFun e 1
  have hl := t_lt a t
  funext y
  obtain ⟨r, j, rfl⟩ : ∃ (r : Fin 512) (j : Fin 1024), y = ValueIdx.ix2 r j := ⟨y 0, y 1, ValueIdx.eq_ix2 y⟩
  show oblk a m ρ c t (ValueIdx.ix2 r j) = outArr a m c ((((cfgA a).win (5 : Fin 6)).blk t).view.emb (ValueIdx.ix2 r j))
  have hy : (((cfgA a).win (5 : Fin 6)).blk t).view.emb (ValueIdx.ix2 r j) = (ValueIdx.ix2 (⟨t.val * 512 + r.val, by omega⟩ : Fin 147456) j : S147456x1024.Idx) := by
    funext x; refine Fin.ext ?_
    fin_cases x
    · show ((cfgA a).win (5 : Fin 6)).index t (0 : Fin 2) * 512 + 1 * r.val = t.val * 512 + r.val
      rw [e0]; omega
    · show ((cfgA a).win (5 : Fin 6)).index t (1 : Fin 2) * 1024 + 1 * j.val = j.val
      rw [e1]; omega
  rw [hy, oblk_apply a m ρ h]
  show _ = moe _ _ _ _ _ _ _ ⟨(t.val * 512 + r.val) / 512, _⟩ ⟨(t.val * 512 + r.val) % 512, _⟩ j
  congr 1
  · exact Fin.ext (show t.val = (t.val * 512 + r.val) / 512 by omega)
  · exact Fin.ext (show r.val = (t.val * 512 + r.val) % 512 by omega)

theorem flush5 (t : Fin (cfgA a).N) : ((cfgA a).win (5 : Fin 6)).flush t = true := by
  unfold Window.flush
  have ho : ((cfgA a).win (5 : Fin 6)).isOut = true := rfl
  rw [ho, Bool.true_and, Bool.or_eq_true, decide_eq_true_iff, decide_eq_true_iff]
  by_cases hN : t.val + 1 = (cfgA a).grid.N
  · exact .inl hN
  · refine .inr ⟨by have := t.isLt; have : t.val < (cfgA a).grid.N := t.isLt; omega, fun he => ?_⟩
    rw [idx5 a t] at he
    have := (congrFun (idx5 a ⟨t.val + 1, by have : t.val < (cfgA a).grid.N := t.isLt; show _ < (cfgA a).grid.N; omega⟩) (0 : Fin 2)).symm.trans (congrFun he (0 : Fin 2))
    exact absurd (show t.val + 1 = t.val from this) (by omega)

theorem mem_blk5 (t : Fin (cfgA a).N) (i : S147456x1024.Idx) :
    Iff (i ∈ (((cfgA a).win (5 : Fin 6)).blk t).view.set) (∀ x : Fin 2, ((cfgA a).win (5 : Fin 6)).index t x * S512x1024.size x ≤ (i x).val
      ∧ (i x).val < ((cfgA a).win (5 : Fin 6)).index t x * S512x1024.size x + S512x1024.size x) := by
  show Iff (i ∈ ((View.whole main_v0).slice (((cfgA a).win (5 : Fin 6)).rect t)).set) _
  rw [View.set_slice_whole, Rect.mem_set_unit]
  exact Iff.rfl

/-- THE ARRAY after the run. -/
theorem final5 (h : InRange (a.1 0) (a.1 1)) (c : Dev nD) : (dats a m ρ 0 c).arrAt (5 : Fin 6) (cfgA a).N = outArr a m c :=
  (dats a m ρ 0 c).arrAt_eq_of_cover (5 : Fin 6) _ (fun t _ => flushed5 a m ρ h c t) (fun (i : S147456x1024.Idx) => by
    have h0 : (i 0).val < 147456 := (i 0).isLt
    have h1 : (i 1).val < 1024 := (i 1).isLt
    let t : Fin (cfgA a).N := ⟨(i 0).val / 512, lt_of_lt_of_eq (by omega : (i 0).val / 512 < 288) N_0.symm⟩
    have e0 : ((cfgA a).win (5 : Fin 6)).index t (0 : Fin 2) = (i 0).val / 512 := congrFun (idx5 a t) 0
    have e1 : ((cfgA a).win (5 : Fin 6)).index t (1 : Fin 2) = 0 := congrFun (idx5 a t) 1
    refine ⟨t, flush5 a t, (mem_blk5 a t i).2 fun x => ?_⟩
    fin_cases x
    · show ((cfgA a).win (5 : Fin 6)).index t (0 : Fin 2) * 512 ≤ (i 0).val ∧ (i 0).val < ((cfgA a).win (5 : Fin 6)).index t (0 : Fin 2) * 512 + 512
      rw [e0]; omega
    · show ((cfgA a).win (5 : Fin 6)).index t (1 : Fin 2) * 1024 ≤ (i 1).val ∧ (i 1).val < ((cfgA a).win (5 : Fin 6)).index t (1 : Fin 2) * 1024 + 1024
      rw [e1]; omega)

end Cert.Kernel2Ideal.Ffn

end
-- ==== Proof.Ffn.Ref.lean ====
/- The reference's result, read at an element over the extended reals: the same routed feed-forward of the row. -/
module

public import proofs.«01_k».proof.Proof.Gen.Reference2Ideal.Run
public import proofs.«01_k».proof.Proof.Ffn.Spec
public import proofs.«01_k».proof.Proof.Ffn.Ranges
public import Idealize.ShloMosaic.Lib.Pipeline.Value
public import Idealize.ShloMosaic.Lib.ValueLayout
public import Idealize.ShloMosaic.Lib.StackMember
public import Idealize.ShloMosaic.Lib.IdealHost

@[expose] public section

set_option maxRecDepth 16384

noncomputable section

namespace Cert.Reference2Ideal.Ffn

open Cert.Reference2Ideal Cert.Reference2Ideal.Gen
open Idealize.ShloMosaic Idealize.SL.Sem
open Cert.FfnSpec Cert.FfnRanges

/-! ## The four gathers -/

section gathers
variable {α : Type} (idx : IVec S288x1 32) (t : Fin 288) (e : Fin 32) (he : (idx (ValueIdx.ix2 t 0)).toInt.toNat = e.val)
include he

theorem gather_w1 (x : S32x1024x2048.Idx → α) (d : Fin 1024) (f : Fin 2048) :
    Host.gather gather_S32x1024x2048_S288x1_S288x1024x2048_12_0_n_n_0_1_110242048 x idx (ValueIdx.ix3 t d f) = x (ValueIdx.ix3 e d f) := by
  unfold Host.gather
  refine congrArg x (funext fun a => Fin.ext ?_)
  have hsi : ∀ k, gather_S32x1024x2048_S288x1_S288x1024x2048_12_0_n_n_0_1_110242048.siIdx (ValueIdx.ix3 t d f) k = ValueIdx.ix2 t 0 := by
    intro k; funext b; refine Fin.ext ?_
    match b with
    | ⟨0, _⟩ => rfl
    | ⟨1, _⟩ => have h : k.val < 1 := k.isLt; show k.val = 0; omega
  match a with
  | ⟨0, _⟩ =>
    show min (idx (gather_S32x1024x2048_S288x1_S288x1024x2048_12_0_n_n_0_1_110242048.siIdx (ValueIdx.ix3 t d f) _)).toInt.toNat (32 - 1) + 0 + 0 = e.val
    rw [hsi, he]; omega
  | ⟨1, _⟩ => show 0 + 0 + d.val = d.val; omega
  | ⟨2, _⟩ => show 0 + 0 + f.val = f.val; omega

theorem gather_w2 (x : S32x1024x1024.Idx → α) (d : Fin 1024) (f : Fin 1024) :
    Host.gather gather_S32x1024x1024_S288x1_S288x1024x1024_12_0_n_n_0_1_110241024 x idx (ValueIdx.ix3 t d f) = x (ValueIdx.ix3 e d f) := by
  unfold Host.gather
  refine congrArg x (funext fun a => Fin.ext ?_)
  have hsi : ∀ k, gather_S32x1024x1024_S288x1_S288x1024x1024_12_0_n_n_0_1_110241024.siIdx (ValueIdx.ix3 t d f) k = ValueIdx.ix2 t 0 := by
    intro k; funext b; refine Fin.ext ?_
    match b with
    | ⟨0, _⟩ => rfl
    | ⟨1, _⟩ => have h : k.val < 1 := k.isLt; show k.val = 0; omega
  match a with
  | ⟨0, _⟩ =>
    show min (idx (gather_S32x1024x1024_S288x1_S288x1024x1024_12_0_n_n_0_1_110241024.siIdx (ValueIdx.ix3 t d f) _)).toInt.toNat (32 - 1) + 0 + 0 = e.val
    rw [hsi, he]; omega
  | ⟨1, _⟩ => show 0 + 0 + d.val = d.val; omega
  | ⟨2, _⟩ => show 0 + 0 + f.val = f.val; omega

theorem gather_b1 (x : S32x2048.Idx → α) (f : Fin 2048) :
    Host.gather gather_S32x2048_S288x1_S288x2048_1_0_n_n_0_1_12048 x idx (ValueIdx.ix2 t f) = x (ValueIdx.ix2 e f) := by
  unfold Host.gather
  refine congrArg x (funext fun a => Fin.ext ?_)
  have hsi : ∀ k, gather_S32x2048_S288x1_S288x2048_1_0_n_n_0_1_12048.siIdx (ValueIdx.ix2 t f) k = ValueIdx.ix2 t 0 := by
    intro k; funext b; refine Fin.ext ?_
    match b with
    | ⟨0, _⟩ => rfl
    | ⟨1, _⟩ => have h : k.val < 1 := k.isLt; show k.val = 0; omega
  match a with
  | ⟨0, _⟩ =>
    show min (idx (gather_S32x2048_S288x1_S288x2048_1_0_n_n_0_1_12048.siIdx (ValueIdx.ix2 t f) _)).toInt.toNat (32 - 1) + 0 + 0 = e.val
    rw [hsi, he]; omega
  | ⟨1, _⟩ => show 0 + 0 + f.val = f.val; omega

theorem gather_b2 (x : S32x1024.Idx → α) (f : Fin 1024) :
    Host.gather gather_S32x1024_S288x1_S288x1024_1_0_n_n_0_1_11024 x idx (ValueIdx.ix2 t f) = x (ValueIdx.ix2 e f) := by
  unfold Host.gather
  refine congrArg x (funext fun a => Fin.ext ?_)
  have hsi : ∀ k, gather_S32x1024_S288x1_S288x1024_1_0_n_n_0_1_11024.siIdx (ValueIdx.ix2 t f) k = ValueIdx.ix2 t 0 := by
    intro k; funext b; refine Fin.ext ?_
    match b with
    | ⟨0, _⟩ => rfl
    | ⟨1, _⟩ => have h : k.val < 1 := k.isLt; show k.val = 0; omega
  match a with
  | ⟨0, _⟩ =>
    show min (idx (gather_S32x1024_S288x1_S288x1024_1_0_n_n_0_1_11024.siIdx (ValueIdx.ix2 t f) _)).toInt.toNat (32 - 1) + 0 + 0 = e.val
    rw [hsi, he]; omega
  | ⟨1, _⟩ => show 0 + 0 + f.val = f.val; omega

end gathers

/-- The indices the gathers are at: an expert's number, with 32 added where it is negative. -/
def gidx (T : IVec S288 32) : IVec S288x1 32 :=
  broadcastInDim S288x1 ![0] bcast_S288_S288x1_0 (select (cmpi .slt T (broadcastInDim S288 ![] bcast_S_S288 (constantI S_ 32 0#32)))
    (addi T (broadcastInDim S288 ![] bcast_S_S288 (constantI S_ 32 32#32))) T)

/-- In range it is the expert. -/
theorem gidx_eq (T : IVec S288 32) (h : ∀ i, (T i).toNat < 32) (t : Fin 288) :
    (gidx T (ValueIdx.ix2 t 0)).toInt.toNat = (expertOf T t).val := by
  have e : gidx T (ValueIdx.ix2 t 0) = Scalar.select (IntOp.cmpi .slt (T (ValueIdx.ix1 t)) 0#32) (T (ValueIdx.ix1 t) + 32#32) (T (ValueIdx.ix1 t)) := by
    refine (broadcastInDim_apply _ _ _ (ValueIdx.ix2 t 0) (ValueIdx.ix1 t) fun a => ?_).trans rfl
    fin_cases a; rfl
  have ht := h (ValueIdx.ix1 t)
  rw [e]
  show _ = (T (ValueIdx.ix1 t)).toNat % 32
  generalize T (ValueIdx.ix1 t) = w at ht ⊢
  have hs : w.slt 0#32 = false := by
    simp only [BitVec.slt, BitVec.toInt, BitVec.toNat_ofNat, decide_eq_false_iff_not]
    omega
  have : IntOp.cmpi .slt w 0#32 = 0#1 := by simp only [IntOp.cmpi, hs]; rfl
  rw [this]
  show w.toInt.toNat = w.toNat % 32
  simp only [BitVec.toInt]; omega

/-! ## The host's steps at an element -/

variable (T : IVec S288 32) (N : IVec S1 32) (xs : FVec Ideal S147456x1024 .f32) (w1 : FVec Ideal S2x32x1024x2048 .f32)
  (b1 : FVec Ideal S64x1x2048 .f32) (w2 : FVec Ideal S2x32x1024x1024 .f32) (b2 : FVec Ideal S64x1x1024 .f32)

theorem xs_apply (t : Fin 288) (r : Fin 512) (d : Fin 1024) :
    shapeCast S288x512x1024 xs shapeCasts_S147456x1024_S288x512x1024 (ValueIdx.ix3 t r d)
      = xs (ValueIdx.ix2 ⟨t.val * 512 + r.val, by omega⟩ d) :=
  shapeCast_apply xs _ _ _ (by
    rw [Shape.rowMajor_val_two, Shape.rowMajor_val_three]
    show (t.val * 512 + r.val) * 1024 + d.val = (t.val * 512 + r.val) * 1024 + d.val
    rfl)

theorem w1_apply (e : Fin 32) (d : Fin 1024) (f : Fin 2048) :
    shapeCast S32x1024x2048 (extractStridedSlice S1x32x1024x2048 ![0, 0, 0, 0] w1 slices_S2x32x1024x2048_S1x32x1024x2048_0_0_0_0)
      shapeCasts_S1x32x1024x2048_S32x1024x2048 (ValueIdx.ix3 e d f) = w1 (ValueIdx.ix4 0 e d f) :=
  (ValueIdx.shapeCast_1abc_abc_apply _ _ e d f).trans (extractStridedSlice_apply _ w1 _ _ _ fun a => by
    fin_cases a
    · rfl
    · exact (Nat.zero_add _).symm
    · exact (Nat.zero_add _).symm
    · exact (Nat.zero_add _).symm)

theorem w2_apply (e : Fin 32) (d : Fin 1024) (f : Fin 1024) :
    shapeCast S32x1024x1024 (extractStridedSlice S1x32x1024x1024 ![0, 0, 0, 0] w2 slices_S2x32x1024x1024_S1x32x1024x1024_0_0_0_0)
      shapeCasts_S1x32x1024x1024_S32x1024x1024 (ValueIdx.ix3 e d f) = w2 (ValueIdx.ix4 0 e d f) :=
  (ValueIdx.shapeCast_1abc_abc_apply _ _ e d f).trans (extractStridedSlice_apply _ w2 _ _ _ fun a => by
    fin_cases a
    · rfl
    · exact (Nat.zero_add _).symm
    · exact (Nat.zero_add _).symm
    · exact (Nat.zero_add _).symm)

theorem b1_apply (e : Fin 32) (f : Fin 2048) :
    shapeCast S32x2048 (extractStridedSlice S1x32x2048 ![0, 0, 0] (shapeCast S2x32x2048 b1 shapeCasts_S64x1x2048_S2x32x2048) slices_S2x32x2048_S1x32x2048_0_0_0)
      shapeCasts_S1x32x2048_S32x2048 (ValueIdx.ix2 e f) = b1 (ValueIdx.ix3 ⟨e.val, by omega⟩ 0 f) := by
  refine (ValueIdx.shapeCast_1ab_ab_apply _ _ e f).trans ?_
  refine (extractStridedSlice_apply _ _ _ _ (ValueIdx.ix3 (0 : Fin 2) e f) fun a => ?_).trans ?_
  · fin_cases a
    · rfl
    · exact (Nat.zero_add _).symm
    · exact (Nat.zero_add _).symm
  · refine shapeCast_apply b1 _ _ _ ?_
    rw [Shape.rowMajor_val_three, Shape.rowMajor_val_three]
    show (e.val * 1 + 0) * 2048 + f.val = (0 * 32 + e.val) * 2048 + f.val
    omega

theorem b2_apply (e : Fin 32) (f : Fin 1024) :
    shapeCast S32x1024 (extractStridedSlice S1x32x1024 ![0, 0, 0] (shapeCast S2x32x1024 b2 shapeCasts_S64x1x1024_S2x32x1024) slices_S2x32x1024_S1x32x1024_0_0_0)
      shapeCasts_S1x32x1024_S32x1024 (ValueIdx.ix2 e f) = b2 (ValueIdx.ix3 ⟨e.val, by omega⟩ 0 f) := by
  refine (ValueIdx.shapeCast_1ab_ab_apply _ _ e f).trans ?_
  refine (extractStridedSlice_apply _ _ _ _ (ValueIdx.ix3 (0 : Fin 2) e f) fun a => ?_).trans ?_
  · fin_cases a
    · rfl
    · exact (Nat.zero_add _).symm
    · exact (Nat.zero_add _).symm
  · refine shapeCast_apply b2 _ _ _ ?_
    rw [Shape.rowMajor_val_three, Shape.rowMajor_val_three]
    show (e.val * 1 + 0) * 1024 + f.val = (0 * 32 + e.val) * 1024 + f.val
    omega

/-- A gathered bias row, laid over the rows of its block. -/
theorem lay1_apply (x : S288x2048.Idx → EReal) (t : Fin 288) (r : Fin 512) (f : Fin 2048) :
    broadcastInDim S288x512x2048 ![0, 1, 2] bcast_S288x1x2048_S288x512x2048_0_1_2 (broadcastInDim S288x1x2048 ![0, 2] bcast_S288x2048_S288x1x2048_0_2 x) (ValueIdx.ix3 t r f)
      = x (ValueIdx.ix2 t f) := by
  refine (broadcastInDim_apply _ _ _ _ (ValueIdx.ix3 t (0 : Fin 1) f) fun a => ?_).trans (broadcastInDim_apply _ _ _ _ (ValueIdx.ix2 t f) fun a => ?_)
  · fin_cases a <;> rfl
  · fin_cases a <;> rfl

theorem lay2_apply (x : S288x1024.Idx → EReal) (t : Fin 288) (r : Fin 512) (f : Fin 1024) :
    broadcastInDim S288x512x1024 ![0, 1, 2] bcast_S288x1x1024_S288x512x1024_0_1_2 (broadcastInDim S288x1x1024 ![0, 2] bcast_S288x1024_S288x1x1024_0_2 x) (ValueIdx.ix3 t r f)
      = x (ValueIdx.ix2 t f) := by
  refine (broadcastInDim_apply _ _ _ _ (ValueIdx.ix3 t (0 : Fin 1) f) fun a => ?_).trans (broadcastInDim_apply _ _ _ _ (ValueIdx.ix2 t f) fun a => ?_)
  · fin_cases a <;> rfl
  · fin_cases a <;> rfl

/-- The up-projection of every block by its expert. -/
def hid : FVec Ideal S288x512x2048 .f32 :=
  addf (Host.dotGeneral dot_S288x512x1024_S288x1024x2048_S288x512x2048_2_1_1_2_0_0 none (shapeCast S288x512x1024 xs shapeCasts_S147456x1024_S288x512x1024)
      (Host.gather gather_S32x1024x2048_S288x1_S288x1024x2048_12_0_n_n_0_1_110242048
        (shapeCast S32x1024x2048 (extractStridedSlice S1x32x1024x2048 ![0, 0, 0, 0] w1 slices_S2x32x1024x2048_S1x32x1024x2048_0_0_0_0) shapeCasts_S1x32x1024x2048_S32x1024x2048) (gidx T)))
    (broadcastInDim S288x512x2048 ![0, 1, 2] bcast_S288x1x2048_S288x512x2048_0_1_2 (broadcastInDim S288x1x2048 ![0, 2] bcast_S288x2048_S288x1x2048_0_2
      (Host.gather gather_S32x2048_S288x1_S288x2048_1_0_n_n_0_1_12048
        (shapeCast S32x2048 (extractStridedSlice S1x32x2048 ![0, 0, 0] (shapeCast S2x32x2048 b1 shapeCasts_S64x1x2048_S2x32x2048) slices_S2x32x2048_S1x32x2048_0_0_0) shapeCasts_S1x32x2048_S32x2048) (gidx T))))

/-- The clamped gate and linear half of every hidden row. -/
def acts (h : FVec Ideal S288x512x2048 .f32) : FVec Ideal S288x512x1024 .f32 :=
  mulf (mulf (minimumf (extractStridedSlice S288x512x1024 ![0, 0, 0] h slices_S288x512x2048_S288x512x1024_0_0_0) (broadcastInDim S288x512x1024 ![] bcast_S_S288x512x1024 (constant S_ .f32 0x40E00000#32)))
      (Host.divf (broadcastInDim S288x512x1024 ![] bcast_S_S288x512x1024 (constant S_ .f32 0x3F800000#32)) (addf (broadcastInDim S288x512x1024 ![] bcast_S_S288x512x1024 (constant S_ .f32 0x3F800000#32))
        (Host.exp (Host.negf (mulf (broadcastInDim S288x512x1024 ![] bcast_S_S288x512x1024 (constant S_ .f32 0x3FD9DB23#32))
          (minimumf (extractStridedSlice S288x512x1024 ![0, 0, 0] h slices_S288x512x2048_S288x512x1024_0_0_0) (broadcastInDim S288x512x1024 ![] bcast_S_S288x512x1024 (constant S_ .f32 0x40E00000#32)))))))))
    (addf (minimumf (maximumf (extractStridedSlice S288x512x1024 ![0, 0, 1024] h slices_S288x512x2048_S288x512x1024_0_0_1024) (broadcastInDim S288x512x1024 ![] bcast_S_S288x512x1024 (constant S_ .f32 0xC0E00000#32)))
        (broadcastInDim S288x512x1024 ![] bcast_S_S288x512x1024 (constant S_ .f32 0x40E00000#32)))
      (broadcastInDim S288x512x1024 ![] bcast_S_S288x512x1024 (constant S_ .f32 0x3F800000#32)))

/-- The down-projection of every block by its expert. -/
def downs (g : FVec Ideal S288x512x1024 .f32) : FVec Ideal S288x512x1024 .f32 :=
  addf (Host.dotGeneral dot_S288x512x1024_S288x1024x1024_S288x512x1024_2_1_1_2_0_0 none g
      (Host.gather gather_S32x1024x1024_S288x1_S288x1024x1024_12_0_n_n_0_1_110241024
        (shapeCast S32x1024x1024 (extractStridedSlice S1x32x1024x1024 ![0, 0, 0, 0] w2 slices_S2x32x1024x1024_S1x32x1024x1024_0_0_0_0) shapeCasts_S1x32x1024x1024_S32x1024x1024) (gidx T)))
    (broadcastInDim S288x512x1024 ![0, 1, 2] bcast_S288x1x1024_S288x512x1024_0_1_2 (broadcastInDim S288x1x1024 ![0, 2] bcast_S288x1024_S288x1x1024_0_2
      (Host.gather gather_S32x1024_S288x1_S288x1024_1_0_n_n_0_1_11024
        (shapeCast S32x1024 (extractStridedSlice S1x32x1024 ![0, 0, 0] (shapeCast S2x32x1024 b2 shapeCasts_S64x1x1024_S2x32x1024) slices_S2x32x1024_S1x32x1024_0_0_0) shapeCasts_S1x32x1024_S32x1024) (gidx T))))

theorem hid_apply (h : ∀ i, (T i).toNat < 32) (t : Fin 288) (r : Fin 512) (f : Fin 2048) :
    hid T xs w1 b1 (ValueIdx.ix3 t r f) = up (fun d => xs (ValueIdx.ix2 ⟨t.val * 512 + r.val, by omega⟩ d))
      (fun d f => w1 (ValueIdx.ix4 0 (expertOf T t) d f)) (fun f => b1 (ValueIdx.ix3 ⟨(expertOf T t).val, by omega⟩ 0 f)) f := by
  show (_ + _ : EReal) = _
  unfold up
  refine congrArg₂ (· + ·) ?_ ?_
  · refine (StackMember.dotGeneral_stack_apply _ none _ _ t r f).trans (Finset.sum_congr rfl fun d _ => ?_)
    rw [xs_apply, gather_w1 (gidx T) t (expertOf T t) (gidx_eq T h t), w1_apply]
  · rw [lay1_apply, gather_b1 (gidx T) t (expertOf T t) (gidx_eq T h t), b1_apply]

theorem acts_apply (h : FVec Ideal S288x512x2048 .f32) (t : Fin 288) (r : Fin 512) (k : Fin 1024) :
    acts h (ValueIdx.ix3 t r k) = act (h (ValueIdx.ix3 t r (lo k))) (h (ValueIdx.ix3 t r (hi k))) := by
  have e0 : extractStridedSlice S288x512x1024 ![0, 0, 0] h slices_S288x512x2048_S288x512x1024_0_0_0 (ValueIdx.ix3 t r k) = h (ValueIdx.ix3 t r (lo k)) :=
    extractStridedSlice_apply _ h _ _ _ fun a => by fin_cases a <;> exact (Nat.zero_add _).symm
  have e1 : extractStridedSlice S288x512x1024 ![0, 0, 1024] h slices_S288x512x2048_S288x512x1024_0_0_1024 (ValueIdx.ix3 t r k) = h (ValueIdx.ix3 t r (hi k)) :=
    extractStridedSlice_apply _ h _ _ _ fun a => by
      fin_cases a
      · exact (Nat.zero_add _).symm
      · exact (Nat.zero_add _).symm
      · rfl
  show min (extractStridedSlice S288x512x1024 ![0, 0, 0] h slices_S288x512x2048_S288x512x1024_0_0_0 (ValueIdx.ix3 t r k)) lim
      * Ideal.div one (one + Ideal.exp (-(slope * min (extractStridedSlice S288x512x1024 ![0, 0, 0] h slices_S288x512x2048_S288x512x1024_0_0_0 (ValueIdx.ix3 t r k)) lim)))
      * (min (max (extractStridedSlice S288x512x1024 ![0, 0, 1024] h slices_S288x512x2048_S288x512x1024_0_0_1024 (ValueIdx.ix3 t r k)) nlim) lim + one) = _
  rw [e0, e1]
  unfold act
  rw [min_comm (max _ nlim) lim, max_comm _ nlim]

theorem downs_apply (h : ∀ i, (T i).toNat < 32) (g : FVec Ideal S288x512x1024 .f32) (t : Fin 288) (r : Fin 512) (j : Fin 1024) :
    downs T w2 b2 g (ValueIdx.ix3 t r j) = (∑ k, g (ValueIdx.ix3 t r k) * w2 (ValueIdx.ix4 0 (expertOf T t) k j)) + b2 (ValueIdx.ix3 ⟨(expertOf T t).val, by omega⟩ 0 j) := by
  show (_ + _ : EReal) = _
  refine congrArg₂ (· + ·) ?_ ?_
  · refine (StackMember.dotGeneral_stack_apply _ none _ _ t r j).trans (Finset.sum_congr rfl fun d _ => ?_)
    rw [gather_w2 (gidx T) t (expertOf T t) (gidx_eq T h t), w2_apply]
  · rw [lay2_apply, gather_b2 (gidx T) t (expertOf T t) (gidx_eq T h t), b2_apply]

/-- Which blocks are used, over the array. -/
def usedMask : IVec S288x512x1024 1 :=
  broadcastInDim S288x512x1024 ![0, 1, 2] bcast_S288x1x1_S288x512x1024_0_1_2 (broadcastInDim S288x1x1 ![0] bcast_S288_S288x1x1_0
    (cmpi .slt (iotaInDim S288 32 0) (broadcastInDim S288 ![] bcast_S_S288 (shapeCast S_ N shapeCasts_S1_S_))))

theorem usedMask_apply (h : (N (ValueIdx.ix1 0)).toNat ≤ 288) (t : Fin 288) (r : Fin 512) (j : Fin 1024) :
    usedMask N (ValueIdx.ix3 t r j) = BitVec.ofBool (decide (usedAt N t)) := by
  have e : usedMask N (ValueIdx.ix3 t r j) = IntOp.cmpi .slt (BitVec.ofNat 32 t.val) (N (ValueIdx.ix1 0)) := by
    refine (broadcastInDim_apply _ _ _ _ (ValueIdx.ix3 t (0 : Fin 1) (0 : Fin 1)) fun a => ?_).trans
      ((broadcastInDim_apply _ _ _ _ (ValueIdx.ix1 t) fun a => ?_).trans ?_)
    · fin_cases a <;> rfl
    · fin_cases a; rfl
    · refine congrArg (IntOp.cmpi .slt (BitVec.ofNat 32 t.val)) (congrArg N ?_)
      funext x; fin_cases x; exact Subsingleton.elim (α := Fin 1) _ _
  have ht := t.isLt
  have key : ∀ w : BitVec 32, w.toNat ≤ 288 → IntOp.cmpi .slt (BitVec.ofNat 32 t.val) w = BitVec.ofBool (decide (t.val < w.toNat)) := by
    intro w h
    have hs : (BitVec.ofNat 32 t.val).slt w = decide (t.val < w.toNat) := by
      simp only [BitVec.slt, BitVec.toInt, BitVec.toNat_ofNat, decide_eq_decide]
      omega
    simp only [IntOp.cmpi, hs]
  exact e.trans (key _ h)

/-- The blocks, an unused one zero. -/
def masked : FVec Ideal S288x512x1024 .f32 :=
  select (usedMask N) (downs T w2 b2 (acts (hid T xs w1 b1)))
    (broadcastInDim S288x512x1024 ![] bcast_S_S288x512x1024 (id (constant S_ .f32 0x00000000#32)))

/-- The reference's result from its arguments. -/
def resOf : FVec Ideal S147456x1024 .bf16 :=
  truncf .bf16 (shapeCast S147456x1024 (masked T N xs w1 b1 w2 b2) shapeCasts_S288x512x1024_S147456x1024) bitsLt_bf16_f32

theorem res_eq (m : (ℓ : Loc nD τ sig) → Buf (Elt Ideal) ℓ) (c : Dev nD) : Value.res_main_v74 m c
    = resOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

/-- THE REFERENCE AT AN ELEMENT. -/
theorem resOf_apply (h : InRange T N) (t : Fin 288) (r : Fin 512) (j : Fin 1024) :
    resOf T N xs w1 b1 w2 b2 (ValueIdx.ix2 ⟨t.val * 512 + r.val, by omega⟩ j) = moe T N xs w1 b1 w2 b2 t r j := by
  have e : resOf T N xs w1 b1 w2 b2 (ValueIdx.ix2 ⟨t.val * 512 + r.val, by omega⟩ j)
      = Scalar.select (usedMask N (ValueIdx.ix3 t r j)) (downs T w2 b2 (acts (hid T xs w1 b1)) (ValueIdx.ix3 t r j)) (Ideal.ofBits .f32 0x00000000#32) := by
    refine Eq.trans (b := masked T N xs w1 b1 w2 b2 (ValueIdx.ix3 t r j)) ?_ rfl
    show shapeCast S147456x1024 (masked T N xs w1 b1 w2 b2) shapeCasts_S288x512x1024_S147456x1024 (ValueIdx.ix2 ⟨t.val * 512 + r.val, by omega⟩ j) = _
    refine shapeCast_apply (masked T N xs w1 b1 w2 b2) shapeCasts_S288x512x1024_S147456x1024 _ (ValueIdx.ix3 t r j) ?_
    rw [Shape.rowMajor_val_two, Shape.rowMajor_val_three]
    show (t.val * 512 + r.val) * 1024 + j.val = (t.val * 512 + r.val) * 1024 + j.val
    rfl
  rw [e, usedMask_apply N (h.2 _).2, downs_apply T w2 b2 h.1, Ideal.ofBits_zero_f32]
  unfold moe
  by_cases hu : usedAt N t
  · rw [if_pos hu, decide_eq_true hu]
    show (_ + _ : EReal) = _
    unfold ffn
    congr 1
    refine Finset.sum_congr rfl fun k _ => ?_
    rw [acts_apply, hid_apply T xs w1 b1 h.1, hid_apply T xs w1 b1 h.1]
  · rw [if_neg hu, decide_eq_false hu]; rfl

end Cert.Reference2Ideal.Ffn

end
-- ==== Proof.Ffn.Claims.lean ====
/- The claims about the feed-forward of the experts, from its run, its final array and the reference's result. -/
module

public import proofs.«01_k».proof.Defs
public import proofs.«01_k».proof.Proof.FfnBits.Tables
public import proofs.«01_k».proof.Proof.Ffn.Tables
public import proofs.«01_k».proof.Proof.Ffn.Value
public import proofs.«01_k».proof.Proof.Ffn.Ref
public import proofs.«01_k».proof.Proof.Gen.Pre_ranges
public import Idealize.ShloMosaic.Lib.Quiescent

@[expose] public section

noncomputable section

namespace Cert.FfnClaims

open Idealize.ShloMosaic Idealize.SL.Sem Cert.FfnSpec Cert.FfnRanges

theorem printed_frame : quiescent_Kernel2 := fun m g h =>
  Cert.Kernel2.Ffn.frame (Cert.Kernel2.Ffn.tabs m (inRange_of_fn _ _ _ _ _ _ _ (h 0))) m g (Cert.Kernel2.Ffn.tables_tabs m _)

theorem ideal_frame : quiescent_Kernel2Ideal := fun m g h =>
  Cert.Kernel2Ideal.Ffn.frame (Cert.Kernel2Ideal.Ffn.tabs m (inRange_of_fn _ _ _ _ _ _ _ (h 0))) m g (Cert.Kernel2Ideal.Ffn.tables_tabs m _)

theorem reference_frame : quiescent_Reference2Ideal := fun m g _ =>
  (θ_run _ _ _).mono (fun r h => ⟨fun c => (h c).2, sem_eq_zero_of_no_sems rfl r.2⟩) (Cert.Reference2Ideal.Value.run m g)

theorem reference_frame_ranges : quiescent_Reference2Ideal_pre_ranges := fun m g _ =>
  (θ_run _ _ _).mono (fun r h => ⟨fun c => (h c).2, sem_eq_zero_of_no_sems rfl r.2⟩) (Cert.Reference2Ideal.Value.run m g)

/-- The reference's result, at every row and column. -/
theorem resOf_eq (T : IVec Cert.Reference2Ideal.S288 32) (N : IVec Cert.Reference2Ideal.S1 32) (xs : FVec Ideal Cert.Reference2Ideal.S147456x1024 .f32)
    (w1 : FVec Ideal Cert.Reference2Ideal.S2x32x1024x2048 .f32) (b1 : FVec Ideal Cert.Reference2Ideal.S64x1x2048 .f32)
    (w2 : FVec Ideal Cert.Reference2Ideal.S2x32x1024x1024 .f32) (b2 : FVec Ideal Cert.Reference2Ideal.S64x1x1024 .f32) (h : InRange T N)
    (i : Cert.Reference2Ideal.S147456x1024.Idx) :
    Cert.Reference2Ideal.Ffn.resOf T N xs w1 b1 w2 b2 i
      = moe T N xs w1 b1 w2 b2 ⟨(i 0).val / 512, by have : (i 0).val < 147456 := (i 0).isLt; omega⟩ ⟨(i 0).val % 512, Nat.mod_lt _ (by norm_num)⟩ (i 1) := by
  refine Eq.trans (congrArg _ ?_) (Cert.Reference2Ideal.Ffn.resOf_apply T N xs w1 b1 w2 b2 h ⟨(i 0).val / 512, by have : (i 0).val < 147456 := (i 0).isLt; omega⟩ ⟨(i 0).val % 512, Nat.mod_lt _ (by norm_num)⟩ (i 1))
  funext x
  fin_cases x
  · exact Fin.ext (Nat.div_add_mod' _ _).symm
  · rfl

theorem value : algebraic_Kernel2Ideal_Reference2Ideal := fun m g m' g' h hag => by
  have hr := inRange_of_fn _ _ _ _ _ _ _ (h 0)
  refine ⟨fun c => Cert.Kernel2Ideal.Ffn.outArr (Cert.Kernel2Ideal.Ffn.tabs m hr) m c, ?_, ?_⟩
  · refine (θ_run _ _ _).mono (fun r q => fun c => ⟨?_, ?_⟩) (Cert.Kernel2Ideal.Ffn.run_main (Cert.Kernel2Ideal.Ffn.tabs m hr) m g (Cert.Kernel2Ideal.Ffn.tables_tabs m hr))
    · exact ((q.1 c).1 (5 : Fin 6)).trans (Cert.Kernel2Ideal.Ffn.final5 _ m g hr c)
    · exact ⟨((q.1 c).2 0).trans (Cert.Kernel2Ideal.Ffn.tables_tabs m hr c 0).symm, ((q.1 c).2 1).trans (Cert.Kernel2Ideal.Ffn.tables_tabs m hr c 1).symm,
        ((q.1 c).1 (0 : Fin 6)).trans ((Cert.Kernel2Ideal.Ffn.dats _ m g 0 c).arrAt_in (0 : Fin 6) rfl _), ((q.1 c).1 (1 : Fin 6)).trans ((Cert.Kernel2Ideal.Ffn.dats _ m g 0 c).arrAt_in (1 : Fin 6) rfl _),
        ((q.1 c).1 (2 : Fin 6)).trans ((Cert.Kernel2Ideal.Ffn.dats _ m g 0 c).arrAt_in (2 : Fin 6) rfl _), ((q.1 c).1 (3 : Fin 6)).trans ((Cert.Kernel2Ideal.Ffn.dats _ m g 0 c).arrAt_in (3 : Fin 6) rfl _),
        ((q.1 c).1 (4 : Fin 6)).trans ((Cert.Kernel2Ideal.Ffn.dats _ m g 0 c).arrAt_in (4 : Fin 6) rfl _)⟩
  · refine (θ_run _ _ _).mono (fun r q => fun c => ⟨(q c).1.trans ?_, (q c).2⟩) (Cert.Reference2Ideal.Value.run m' g')
    obtain rfl : c = 0 := Subsingleton.elim (α := Fin 1) _ _
    obtain ⟨e0, e1, e2, e3, e4, e5, e6⟩ := hag 0
    refine (Cert.Reference2Ideal.Ffn.res_eq m' 0).trans ?_
    rw [e0, e1, e2, e3, e4, e5, e6]
    exact funext fun i => resOf_eq _ _ _ _ _ _ _ hr i

end Cert.FfnClaims

end
-- ==== Proof.Proj.Spec.lean ====
/- The input projection in plain words: a row is divided by its root mean square, scaled by the gain, modulated by the
   batch's scale and shift, and multiplied with the projection's matrix. In the second layer the row is first put
   together from the residual stream and the four experts' outputs. -/
module

public import Idealize.ShloMosaic.PureOps.Ideal
public import Idealize.ShloMosaic.PureOps.Ideal.Laws
public import Idealize.ShloMosaic.Lib.ValueIdx

@[expose] public section

noncomputable section

namespace Cert.ProjSpec

open Idealize.ShloMosaic

/-- The row's width, the small number added to its mean square, and one: the words the programs write. -/
def width : EReal := Ideal.ofBits .f32 0x44800000#32
def eps : EReal := Ideal.ofBits .f32 0x3727C5AC#32
def one : EReal := Ideal.ofBits .f32 0x3F800000#32

/-- A normalized and modulated row at column `d`. -/
def nrow (x g sc sh : Fin 1024 → EReal) (d : Fin 1024) : EReal :=
  x d * Ideal.rsqrt (Ideal.div (∑ k : Fin 1024, x k * x k) width + eps) * g d * (one + sc d) + sh d

/-- Its product with one column of the matrix. -/
def proj (x g sc sh w : Fin 1024 → EReal) : EReal := ∑ d : Fin 1024, nrow x g sc sh d * w d

/-- The residual stream's entry with the gated sum of the experts' four entries added to it. -/
def comb (x g2 g4 g5 g6 g7 y0 y1 y2 y3 : EReal) : EReal := x + g2 * (g4 * y0 + g5 * y1 + g6 * y2 + g7 * y3)

/-- The batch entry whose modulation row `k` (of six) row `i` reads. -/
def modRow (i : Fin 32768) (k : Fin 6) : Fin 48 := ⟨i.val / 4096 * 6 + k.val, by omega⟩

/-- The projection of row `i` of `X`, at output column `j`. -/
def projAt (X : Fin 32768 → Fin 1024 → EReal) (g : (⟨2, ![1, 1024]⟩ : Shape).Idx → EReal) (md : (⟨3, ![48, 1, 1024]⟩ : Shape).Idx → EReal)
    (w : (⟨2, ![1024, 3072]⟩ : Shape).Idx → EReal) (i : Fin 32768) (j : Fin 3072) : EReal :=
  proj (X i) (fun d => g (ValueIdx.ix2 0 d)) (fun d => md (ValueIdx.ix3 (modRow i 1) 0 d)) (fun d => md (ValueIdx.ix3 (modRow i 0) 0 d))
    (fun d => w (ValueIdx.ix2 d j))

/-- Row `i` of the residual stream after the experts' outputs are added, at column `d`. -/
def combAt (x : (⟨2, ![32768, 1024]⟩ : Shape).Idx → EReal) (md : (⟨3, ![48, 1, 1024]⟩ : Shape).Idx → EReal)
    (r : (⟨2, ![32768, 128]⟩ : Shape).Idx → EReal) (y0 y1 y2 y3 : (⟨2, ![32768, 1024]⟩ : Shape).Idx → EReal) (i : Fin 32768) (d : Fin 1024) : EReal :=
  comb (x (ValueIdx.ix2 i d)) (md (ValueIdx.ix3 (modRow i 5) 0 d)) (r (ValueIdx.ix2 i 4)) (r (ValueIdx.ix2 i 5)) (r (ValueIdx.ix2 i 6))
    (r (ValueIdx.ix2 i 7)) (y0 (ValueIdx.ix2 i d)) (y1 (ValueIdx.ix2 i d)) (y2 (ValueIdx.ix2 i d)) (y3 (ValueIdx.ix2 i d))

end Cert.ProjSpec

end
-- ==== Proof.InProj.Elem.lean ====
/- The blocks stored at a grid point, read at an element over the extended reals: one entry of the row's projection. -/
module

public import proofs.«01_k».proof.Proof.Gen.InProjIdeal.Value
public import proofs.«01_k».proof.Proof.Proj.Spec
public import Idealize.ShloMosaic.Lib.MatmulPlain
public import Idealize.ShloMosaic.Lib.Pipeline.Value
public import Idealize.ShloMosaic.Lib.Pipeline.ValueKit
public import Idealize.ShloMosaic.Lib.IdealHost
public import Idealize.ShloMosaic.Lib.ValueLayoutCasts

@[expose] public section

set_option maxRecDepth 16384

noncomputable section

namespace Cert.InProjIdeal.Proj

open Cert.InProjIdeal Cert.InProjIdeal.Gen
open Idealize.ShloMosaic
open Cert.ProjSpec

/-- A column laid over the columns of a block. -/
theorem col_apply (x : FVec Ideal S512x1 .f32) (a : Fin 512) (d : Fin 1024) :
    broadcastTo S512x1024 x broadcasts_S512x1_S512x1024 (ValueIdx.ix2 a d) = x (ValueIdx.ix2 a 0) :=
  congrArg x (funext fun i => by fin_cases i <;> rfl)

/-- The sum along a row of a block. -/
theorem rowSum_apply (v : FVec Ideal S512x1024 .f32) (a : Fin 512) :
    shapeCast S512x1 (multiReduction .add [1] S512 v 0x00000000#32 reduces_S512x1024_S512 (.inl rfl) rfl) shapeCasts_S512_S512x1 (ValueIdx.ix2 a 0)
      = ∑ k : Fin 1024, v (ValueIdx.ix2 a k) := by
  refine (ValueIdx.shapeCast_a_a1_apply _ _ a 0).trans ?_
  refine (Ideal.multiReduction_add_single v _ _ _ _ _).trans ?_
  exact Finset.sum_congr rfl fun k _ => congrArg v (funext fun i => by fin_cases i <;> rfl)

/-- A modulation row laid over the block's rows. -/
theorem mod_apply (x : Vec Ideal S1x1024 .f32) (a : Fin 512) (d : Fin 1024) :
    broadcastTo S512x1024 x broadcasts_S1x1024_S512x1024 (ValueIdx.ix2 a d) = x (ValueIdx.ix2 0 d) :=
  ValueIdx.broadcastTo_1b_ab_apply _ _ a d

theorem flat_apply (x : Vec Ideal S1x1x1024 .f32) (d : Fin 1024) :
    shapeCast S1x1024 x shapeCasts_S1x1x1024_S1x1024 (ValueIdx.ix2 0 d) = x (ValueIdx.ix3 0 0 d) :=
  ValueIdx.shapeCast_1ab_ab_apply x _ 0 d

variable (x : Vec Ideal S512x1024 .f32) (g : Vec Ideal S1x1024 .f32) (sc sh : Vec Ideal S1x1x1024 .f32) (w : Vec Ideal S1024x3072 .bf16)

/-- The sum of the row's squares, as a column. -/
def sq : FVec Ideal S512x1 .f32 :=
  shapeCast S512x1 (multiReduction .add [1] S512 (mulf x x) 0x00000000#32 reduces_S512x1024_S512 (.inl rfl) rfl) shapeCasts_S512_S512x1

/-- One plus the scale row. -/
def onePlus : FVec Ideal S1x1024 .f32 :=
  addf (broadcast S1x1024 (Scalar.ofBits .f32 0x3F800000#32)) (shapeCast S1x1024 sc shapeCasts_S1x1x1024_S1x1024)

theorem sq_apply (a : Fin 512) : sq x (ValueIdx.ix2 a 0) = ∑ k : Fin 1024, x (ValueIdx.ix2 a k) * x (ValueIdx.ix2 a k) :=
  rowSum_apply (mulf x x) a

theorem onePlus_apply (d : Fin 1024) : onePlus sc (ValueIdx.ix2 0 d) = one + sc (ValueIdx.ix3 0 0 d) :=
  congrArg (one + ·) (flat_apply sc d)

/-- The row's reciprocal root mean square. -/
def rms : FVec Ideal S512x1 .f32 :=
  rsqrt (addf (divf (sq x) (broadcast S512x1 (Scalar.ofBits .f32 0x44800000#32))) (broadcast S512x1 (Scalar.ofBits .f32 0x3727C5AC#32)))

theorem rms_apply (a : Fin 512) :
    rms x (ValueIdx.ix2 a 0) = Ideal.rsqrt (Ideal.div (∑ k : Fin 1024, x (ValueIdx.ix2 a k) * x (ValueIdx.ix2 a k)) width + eps) := by
  show Ideal.rsqrt (Ideal.div (sq x (ValueIdx.ix2 a 0)) width + eps) = _
  rw [sq_apply]

theorem pay3_apply (a : Fin 512) (d : Fin 1024) : k0_pay3 x g sc sh (ValueIdx.ix2 a d)
    = nrow (fun d => x (ValueIdx.ix2 a d)) (fun d => g (ValueIdx.ix2 0 d)) (fun d => sc (ValueIdx.ix3 0 0 d)) (fun d => sh (ValueIdx.ix3 0 0 d)) d := by
  show x (ValueIdx.ix2 a d) * broadcastTo S512x1024 (rms x) broadcasts_S512x1_S512x1024 (ValueIdx.ix2 a d)
      * broadcastTo S512x1024 g broadcasts_S1x1024_S512x1024 (ValueIdx.ix2 a d)
      * broadcastTo S512x1024 (onePlus sc) broadcasts_S1x1024_S512x1024 (ValueIdx.ix2 a d)
      + broadcastTo S512x1024 (shapeCast S1x1024 sh shapeCasts_S1x1x1024_S1x1024) broadcasts_S1x1024_S512x1024 (ValueIdx.ix2 a d) = _
  rw [col_apply, rms_apply, mod_apply, mod_apply, mod_apply, flat_apply, onePlus_apply]
  rfl

/-- A product of the block's rows with a slice of the matrix, from a zero accumulator. -/
theorem prod_apply {n : Nat} {φ : FTy} (l : FVec Ideal S512x1024 .bf16) (r : FVec Ideal ⟨2, ![1024, n]⟩ φ) (a : Fin 512) (b : Fin n) :
    matmul (DotDims.plain 512 1024 n) none l r (constant ⟨2, ![512, n]⟩ .f32 0x00000000#32) (ValueIdx.ix2 a b)
      = ∑ k : Fin 1024, l (ValueIdx.ix2 a k) * r (ValueIdx.ix2 k b) := by
  refine (Ideal.matmul_plain_apply (M := 512) (K := 1024) (N := n) none l r _ a b).trans ?_
  show Ideal.ofBits .f32 0x00000000#32 + _ = _
  rw [Ideal.ofBits_zero_f32, zero_add]

/-- A column of the matrix, loaded at a column offset. -/
theorem ldw_apply {off : Nat} {size : Fin 2 → Nat} (inb) (d : Fin 1024) (b : Nat) (y : (Rect.unit (s := S1024x3072) ![0, off] size inb).shape.Idx)
    (h0 : (y 0).val = d.val) (h1 : (y 1).val = b) (hb : off + b < 3072) :
    View.ld w (Rect.unit (s := S1024x3072) ![0, off] size inb) y = w (ValueIdx.ix2 d ⟨off + b, hb⟩) :=
  View.ld_unit_apply_of w _ _ _ _ _ fun i => by
    fin_cases i
    · show d.val = 0 + (y 0).val; omega
    · show off + b = off + (y 1).val; omega

theorem ldx : View.ld x r0_0 = x := View.ld_unit_zero (funext fun i => by fin_cases i <;> rfl) _ x
theorem ldg : View.ld g r0_1 = g := View.ld_unit_zero (funext fun i => by fin_cases i <;> rfl) _ g
theorem lds : View.ld sc r0_2 = sc := View.ld_unit_zero (funext fun i => by fin_cases i <;> rfl) _ sc

/-- The projection of a block's row `a` at column `j` of the matrix. -/
abbrev rowProj (a : Fin 512) (j : Fin 3072) : EReal :=
  proj (fun d => x (ValueIdx.ix2 a d)) (fun d => g (ValueIdx.ix2 0 d)) (fun d => sc (ValueIdx.ix3 0 0 d)) (fun d => sh (ValueIdx.ix3 0 0 d)) (fun d => w (ValueIdx.ix2 d j))

theorem pay4_apply (a : Fin 512) (b : Fin 1024) :
    k0_pay4 x g sc sh (View.ld w r0_3) (ValueIdx.ix2 a b) = rowProj x g sc sh w a ⟨0 + b.val, by omega⟩ := by
  refine (prod_apply (n := 1024) (k0_pay3 x g sc sh) (View.ld w r0_3) a b).trans ?_
  exact Finset.sum_congr rfl fun d _ => congrArg₂ (· * ·) (pay3_apply x g sc sh a d) (ldw_apply w _ d b.val _ rfl rfl _)

theorem pay5_apply (a : Fin 512) (b : Fin 896) :
    k0_pay5 x g sc sh (View.ld w r0_4) (ValueIdx.ix2 a b) = rowProj x g sc sh w a ⟨1024 + b.val, by omega⟩ := by
  refine (prod_apply (n := 896) (k0_pay3 x g sc sh) (View.ld w r0_4) a b).trans ?_
  exact Finset.sum_congr rfl fun d _ => congrArg₂ (· * ·) (pay3_apply x g sc sh a d) (ldw_apply w _ d b.val _ rfl rfl _)

theorem pay1_apply (a : Fin 512) (b : Fin 384) :
    k0_pay1 (k0_pay3 x g sc sh) (View.ld w r0_6) (ValueIdx.ix2 a b) = rowProj x g sc sh w a ⟨1920 + b.val, by omega⟩ := by
  refine (prod_apply (n := 384) (k0_pay3 x g sc sh) (View.ld w r0_6) a b).trans ?_
  exact Finset.sum_congr rfl fun d _ => congrArg₂ (· * ·) (pay3_apply x g sc sh a d) (ldw_apply w _ d b.val _ rfl rfl _)

theorem pay2_apply (a : Fin 512) (b : Fin 768) :
    k0_pay2 (k0_pay3 x g sc sh) (View.ld w r0_8) (ValueIdx.ix2 a b) = rowProj x g sc sh w a ⟨2304 + b.val, by omega⟩ := by
  refine (prod_apply (n := 768) (φ := .bf16) (k0_pay3 x g sc sh) (View.ld w r0_8) a b).trans ?_
  exact Finset.sum_congr rfl fun d _ => congrArg₂ (· * ·) (pay3_apply x g sc sh a d) (ldw_apply w _ d b.val _ rfl rfl _)

theorem out5_apply (a : Fin 512) (b : Fin 1024) : out0_5 x g sc sh w (ValueIdx.ix2 a b) = rowProj x g sc sh w a ⟨0 + b.val, by omega⟩ := by
  refine (congrFun (View.canon_unit_zero (funext fun i => by fin_cases i <;> rfl) _ _) _).trans ?_
  rw [ldx, ldg, lds, lds]
  exact pay4_apply x g sc sh w a b

theorem out6_apply (a : Fin 512) (b : Fin 896) : out0_6 x g sc sh w (ValueIdx.ix2 a b) = rowProj x g sc sh w a ⟨1024 + b.val, by omega⟩ := by
  refine (congrFun (View.canon_unit_zero (funext fun i => by fin_cases i <;> rfl) _ _) _).trans ?_
  rw [ldx, ldg, lds, lds]
  exact pay5_apply x g sc sh w a b

theorem pay6_eq : k0_pay6 x g sc sh w = k0_pay3 x g sc sh := by
  unfold k0_pay6
  rw [ldx, ldg, lds, lds]

theorem out7_apply (a : Fin 512) (b : Fin 384) : out0_7 x g sc sh w (ValueIdx.ix2 a b) = rowProj x g sc sh w a ⟨1920 + b.val, by omega⟩ := by
  refine (congrFun (View.canon_unit_zero (funext fun i => by fin_cases i <;> rfl) _ _) _).trans ?_
  rw [pay6_eq]
  exact pay1_apply x g sc sh w a b

theorem out8_apply (a : Fin 512) (b : Fin 768) : out0_8 x g sc sh w (ValueIdx.ix2 a b) = rowProj x g sc sh w a ⟨2304 + b.val, by omega⟩ := by
  refine (congrFun (View.canon_unit_zero (funext fun i => by fin_cases i <;> rfl) _ _) _).trans ?_
  rw [pay6_eq]
  exact pay2_apply x g sc sh w a b

end Cert.InProjIdeal.Proj

end
-- ==== Proof.Proj.Rows.lean ====
/- The rows of the arrays by blocks of 512: a block's element in the array, and the block an element is in. -/
module

public import proofs.«01_k».proof.Proof.Proj.Spec

@[expose] public section

namespace Cert.ProjSpec

open Idealize.ShloMosaic

/-- The array row that row `a` of block `t` is. -/
def rowOf (t : Fin 64) (a : Fin 512) : Fin 32768 := ⟨t.val * 512 + a.val, by omega⟩

theorem row_div (t : Fin 64) (a : Fin 512) : (rowOf t a).val / 4096 = t.val / 8 := by
  show (t.val * 512 + a.val) / 4096 = _; omega

/-- An array index whose coordinates are those of element `(a, b)` of block `(t, 0)`. -/
theorem emb_row {n : Nat} (t : Fin 64) (a : Fin 512) (b : Fin n) (p : Fin 2 → Nat) (hp : p = ![t.val, 0]) (y : (⟨2, ![32768, n]⟩ : Shape).Idx)
    (h0 : (y 0).val = p 0 * 512 + 1 * a.val) (h1 : (y 1).val = p 1 * n + 1 * b.val) : y = ValueIdx.ix2 (rowOf t a) b := by
  subst hp
  funext i; refine Fin.ext ?_
  fin_cases i
  · refine h0.trans ?_
    show t.val * 512 + 1 * a.val = t.val * 512 + a.val
    omega
  · refine h1.trans ?_
    show 0 * n + 1 * b.val = b.val
    omega

/-- The modulation row of block `t`'s batch entry: row `k` of six. -/
theorem emb_md (t : Fin 64) (a : Fin 512) (k : Fin 6) (d : Fin 1024) (p : Fin 3 → Nat) (hp : p = ![t.val / 8 * 6 + k.val, 0, 0]) (y : (⟨3, ![48, 1, 1024]⟩ : Shape).Idx)
    (h0 : (y 0).val = p 0 * 1 + 1 * 0) (h2 : (y 2).val = p 2 * 1024 + 1 * d.val) : y = ValueIdx.ix3 (modRow (rowOf t a) k) 0 d := by
  subst hp
  have hr := row_div t a
  have h1 : (y 1).val < 1 := (y 1).isLt
  funext i; refine Fin.ext ?_
  fin_cases i
  · refine h0.trans ?_
    show (t.val / 8 * 6 + k.val) * 1 + 1 * 0 = (rowOf t a).val / 4096 * 6 + k.val
    omega
  · show (y 1).val = 0
    omega
  · refine h2.trans ?_
    show 0 * 1024 + 1 * d.val = d.val
    omega

/-- An array that is one block. -/
theorem emb_one {n k : Nat} (a : Fin n) (b : Fin k) (p : Fin 2 → Nat) (hp : p = ![0, 0]) (y : (⟨2, ![n, k]⟩ : Shape).Idx)
    (h0 : (y 0).val = p 0 * n + 1 * a.val) (h1 : (y 1).val = p 1 * k + 1 * b.val) : y = ValueIdx.ix2 a b := by
  subst hp
  funext i; refine Fin.ext ?_
  fin_cases i
  · refine h0.trans ?_
    show 0 * n + 1 * a.val = a.val
    omega
  · refine h1.trans ?_
    show 0 * k + 1 * b.val = b.val
    omega

/-- Element `i` of the array is in block `(i 0 / 512, 0)`. -/
theorem mem_row {n : Nat} (i : (⟨2, ![32768, n]⟩ : Shape).Idx) (p : Fin 2 → Nat) (hp : p = ![(i 0).val / 512, 0]) (x : Fin 2) :
    p x * (![512, n] : Fin 2 → Nat) x ≤ (i x).val ∧ (i x).val < p x * (![512, n] : Fin 2 → Nat) x + (![512, n] : Fin 2 → Nat) x := by
  subst hp
  have h1 : (i 1).val < n := (i 1).isLt
  fin_cases x
  · show (i 0).val / 512 * 512 ≤ (i 0).val ∧ (i 0).val < (i 0).val / 512 * 512 + 512
    omega
  · show 0 * n ≤ (i 1).val ∧ (i 1).val < 0 * n + n
    omega

/-- The block a row is in. -/
theorem row_lt {n : Nat} (i : (⟨2, ![32768, n]⟩ : Shape).Idx) : (i 0).val / 512 < 64 := by
  have h0 : (i 0).val < 32768 := (i 0).isLt
  omega

end Cert.ProjSpec

end
-- ==== Proof.InProj.Value.lean ====
/- The arrays after the projection's run: every entry is the projection of its row. -/
module

public import proofs.«01_k».proof.Proof.InProj.Elem
public import proofs.«01_k».proof.Proof.Proj.Rows

@[expose] public section

set_option maxRecDepth 16384

noncomputable section

namespace Cert.InProjIdeal.Proj

open Cert.InProjIdeal Cert.InProjIdeal.Gen
open Idealize.ShloMosaic Idealize.ShloMosaic.TcCoe
open Cert.ProjSpec

/-! ## Which block a grid point reads and writes -/

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val / 8 * 6 + 1, 0, 0] := by decide +kernel
theorem idx3 : ∀ t : Fin grid0.N, win0_3.index t = ![t.val / 8 * 6, 0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel

variable (m : (ℓ : Loc nD τ sig) → Buf (Elt Ideal) ℓ) (c : Dev nD)

abbrev xOf : S32768x1024.Idx → EReal := m ((c.tc : Thread nD τ).loc main_arg0)
abbrev gOf : S1x1024.Idx → EReal := m ((c.tc : Thread nD τ).loc main_arg1)
abbrev mdOf : S48x1x1024.Idx → EReal := m ((c.tc : Thread nD τ).loc main_arg2)
abbrev wOf : S1024x3072.Idx → EReal := m ((c.tc : Thread nD τ).loc main_arg3)

/-- A grid point, of which there are 64. -/
abbrev pt (t : Fin grid0.N) : Fin 64 := t.cast N_0

theorem blk0 (t : Fin grid0.N) (a : Fin 512) (d : Fin 1024) : iblk m c 0 t (ValueIdx.ix2 a d) = xOf m c (ValueIdx.ix2 (rowOf (pt t) a) d) :=
  congrArg (xOf m c) (emb_row (pt t) a d _ (idx0 t) ((win0_0.blk t).view.emb (ValueIdx.ix2 a d)) rfl rfl)

theorem blk1 (t : Fin grid0.N) (d : Fin 1024) : iblk m c 1 t (ValueIdx.ix2 0 d) = gOf m c (ValueIdx.ix2 0 d) :=
  congrArg (gOf m c) (emb_one 0 d _ (idx1 t) ((win0_1.blk t).view.emb (ValueIdx.ix2 0 d)) rfl rfl)

theorem blk2 (t : Fin grid0.N) (a : Fin 512) (d : Fin 1024) : iblk m c 2 t (ValueIdx.ix3 0 0 d) = mdOf m c (ValueIdx.ix3 (modRow (rowOf (pt t) a) 1) 0 d) :=
  congrArg (mdOf m c) (emb_md (pt t) a 1 d _ (idx2 t) ((win0_2.blk t).view.emb (ValueIdx.ix3 0 0 d)) rfl rfl)

theorem blk3 (t : Fin grid0.N) (a : Fin 512) (d : Fin 1024) : iblk m c 3 t (ValueIdx.ix3 0 0 d) = mdOf m c (ValueIdx.ix3 (modRow (rowOf (pt t) a) 0) 0 d) :=
  congrArg (mdOf m c) (emb_md (pt t) a 0 d _ (idx3 t) ((win0_3.blk t).view.emb (ValueIdx.ix3 0 0 d)) rfl rfl)

theorem blk4 (t : Fin grid0.N) (d : Fin 1024) (j : Fin 3072) : iblk m c 4 t (ValueIdx.ix2 d j) = wOf m c (ValueIdx.ix2 d j) :=
  congrArg (wOf m c) (emb_one d j _ (idx4 t) ((win0_4.blk t).view.emb (ValueIdx.ix2 d j)) rfl rfl)

/-- Row `a` of block `t`, projected, is the array's row projected. -/
theorem rowProj_blk (t : Fin grid0.N) (a : Fin 512) (j : Fin 3072) :
    rowProj (iblk m c 0 t) (iblk m c 1 t) (iblk m c 2 t) (iblk m c 3 t) (iblk m c 4 t) a j
      = projAt (fun i d => xOf m c (ValueIdx.ix2 i d)) (gOf m c) (mdOf m c) (wOf m c) (rowOf (pt t) a) j := by
  have h0 : (fun d => iblk m c 0 t (ValueIdx.ix2 a d)) = fun d => xOf m c (ValueIdx.ix2 (rowOf (pt t) a) d) := funext fun d => blk0 m c t a d
  have h1 : (fun d => iblk m c 1 t (ValueIdx.ix2 0 d)) = fun d => gOf m c (ValueIdx.ix2 0 d) := funext fun d => blk1 m c t d
  have h2 : (fun d => iblk m c 2 t (ValueIdx.ix3 0 0 d)) = fun d => mdOf m c (ValueIdx.ix3 (modRow (rowOf (pt t) a) 1) 0 d) := funext fun d => blk2 m c t a d
  have h3 : (fun d => iblk m c 3 t (ValueIdx.ix3 0 0 d)) = fun d => mdOf m c (ValueIdx.ix3 (modRow (rowOf (pt t) a) 0) 0 d) := funext fun d => blk3 m c t a d
  have h4 : (fun d => iblk m c 4 t (ValueIdx.ix2 d j)) = fun d => wOf m c (ValueIdx.ix2 d j) := funext fun d => blk4 m c t d j
  show proj _ _ _ _ _ = proj _ _ _ _ _
  rw [h0, h1, h2, h3, h4]

/-- The columns from `off` of the projection of every row. -/
def cols (off n : Nat) (hn : off + n ≤ 3072) : (⟨2, ![32768, n]⟩ : Shape).Idx → EReal := fun i =>
  projAt (fun i d => xOf m c (ValueIdx.ix2 i d)) (gOf m c) (mdOf m c) (wOf m c) (i 0) ⟨off + (i 1).val, by have h : (i 1).val < n := (i 1).isLt; omega⟩

/-! ## The four results, each a range of the projection's columns -/

theorem flushed5 (t : Fin cfg0.N) : (dats m 0 c).flushed 5 t = ((cfg0.win 5).blk t).view.read (Elt Ideal) (cols m c 0 1024 (by decide)) := by
  refine (Value.flushed5 m c t).trans (funext fun y => ?_)
  obtain ⟨a, b, rfl⟩ : ∃ (a : Fin 512) (b : Fin 1024), y = ValueIdx.ix2 a b := ⟨y 0, y 1, ValueIdx.eq_ix2 y⟩
  refine (out5_apply _ _ _ _ _ a b).trans ((rowProj_blk m c t a _).trans ?_)
  exact (congrArg (cols m c 0 1024 (by decide)) (emb_row (pt t) a b _ (idx5 t) ((win0_5.blk t).view.emb (ValueIdx.ix2 a b)) rfl rfl)).symm

theorem mem_blk5 (t : Fin cfg0.N) (i : S32768x1024.Idx) : Iff (i ∈ ((cfg0.win 5).blk t).view.set)
    (∀ x : Fin 2, win0_5.index t x * (![512, 1024] : Fin 2 → Nat) x ≤ (i x).val ∧ (i x).val < win0_5.index t x * (![512, 1024] : Fin 2 → Nat) x + (![512, 1024] : Fin 2 → Nat) x) := by
  show Iff (i ∈ ((View.whole main_v0_0).slice (win0_5.rect t)).set) _
  rw [View.set_slice_whole, Rect.mem_set_unit]
  exact Iff.rfl

theorem final5 : (dats m 0 c).arrAt 5 cfg0.N = cols m c 0 1024 (by decide) :=
  (dats m 0 c).arrAt_eq_of_cover 5 _ (fun t _ => flushed5 m c t) (fun (i : S32768x1024.Idx) =>
    ⟨⟨(i 0).val / 512, lt_of_lt_of_eq (row_lt i) N_0.symm⟩, flush0_5 _, (mem_blk5 _ i).2 (mem_row i _ (idx5 _))⟩)

theorem flushed6 (t : Fin cfg0.N) : (dats m 0 c).flushed 6 t = ((cfg0.win 6).blk t).view.read (Elt Ideal) (cols m c 1024 896 (by decide)) := by
  refine (Value.flushed6 m c t).trans (funext fun y => ?_)
  obtain ⟨a, b, rfl⟩ : ∃ (a : Fin 512) (b : Fin 896), y = ValueIdx.ix2 a b := ⟨y 0, y 1, ValueIdx.eq_ix2 y⟩
  refine (out6_apply _ _ _ _ _ a b).trans ((rowProj_blk m c t a _).trans ?_)
  exact (congrArg (cols m c 1024 896 (by decide)) (emb_row (pt t) a b _ (idx6 t) ((win0_6.blk t).view.emb (ValueIdx.ix2 a b)) rfl rfl)).symm

theorem mem_blk6 (t : Fin cfg0.N) (i : S32768x896.Idx) : Iff (i ∈ ((cfg0.win 6).blk t).view.set)
    (∀ x : Fin 2, win0_6.index t x * (![512, 896] : Fin 2 → Nat) x ≤ (i x).val ∧ (i x).val < win0_6.index t x * (![512, 896] : Fin 2 → Nat) x + (![512, 896] : Fin 2 → Nat) x) := by
  show Iff (i ∈ ((View.whole main_v0_1).slice (win0_6.rect t)).set) _
  rw [View.set_slice_whole, Rect.mem_set_unit]
  exact Iff.rfl

theorem final6 : (dats m 0 c).arrAt 6 cfg0.N = cols m c 1024 896 (by decide) :=
  (dats m 0 c).arrAt_eq_of_cover 6 _ (fun t _ => flushed6 m c t) (fun (i : S32768x896.Idx) =>
    ⟨⟨(i 0).val / 512, lt_of_lt_of_eq (row_lt i) N_0.symm⟩, flush0_6 _, (mem_blk6 _ i).2 (mem_row i _ (idx6 _))⟩)

theorem flushed7 (t : Fin cfg0.N) : (dats m 0 c).flushed 7 t = ((cfg0.win 7).blk t).view.read (Elt Ideal) (cols m c 1920 384 (by decide)) := by
  refine (Value.flushed7 m c t).trans (funext fun y => ?_)
  obtain ⟨a, b, rfl⟩ : ∃ (a : Fin 512) (b : Fin 384), y = ValueIdx.ix2 a b := ⟨y 0, y 1, ValueIdx.eq_ix2 y⟩
  refine (out7_apply _ _ _ _ _ a b).trans ((rowProj_blk m c t a _).trans ?_)
  exact (congrArg (cols m c 1920 384 (by decide)) (emb_row (pt t) a b _ (idx7 t) ((win0_7.blk t).view.emb (ValueIdx.ix2 a b)) rfl rfl)).symm

theorem mem_blk7 (t : Fin cfg0.N) (i : S32768x384.Idx) : Iff (i ∈ ((cfg0.win 7).blk t).view.set)
    (∀ x : Fin 2, win0_7.index t x * (![512, 384] : Fin 2 → Nat) x ≤ (i x).val ∧ (i x).val < win0_7.index t x * (![512, 384] : Fin 2 → Nat) x + (![512, 384] : Fin 2 → Nat) x) := by
  show Iff (i ∈ ((View.whole main_v0_2).slice (win0_7.rect t)).set) _
  rw [View.set_slice_whole, Rect.mem_set_unit]
  exact Iff.rfl

theorem final7 : (dats m 0 c).arrAt 7 cfg0.N = cols m c 1920 384 (by decide) :=
  (dats m 0 c).arrAt_eq_of_cover 7 _ (fun t _ => flushed7 m c t) (fun (i : S32768x384.Idx) =>
    ⟨⟨(i 0).val / 512, lt_of_lt_of_eq (row_lt i) N_0.symm⟩, flush0_7 _, (mem_blk7 _ i).2 (mem_row i _ (idx7 _))⟩)

theorem flushed8 (t : Fin cfg0.N) : (dats m 0 c).flushed 8 t = ((cfg0.win 8).blk t).view.read (Elt Ideal) (cols m c 2304 768 (by decide)) := by
  refine (Value.flushed8 m c t).trans (funext fun y => ?_)
  obtain ⟨a, b, rfl⟩ : ∃ (a : Fin 512) (b : Fin 768), y = ValueIdx.ix2 a b := ⟨y 0, y 1, ValueIdx.eq_ix2 y⟩
  refine (out8_apply _ _ _ _ _ a b).trans ((rowProj_blk m c t a _).trans ?_)
  exact (congrArg (cols m c 2304 768 (by decide)) (emb_row (pt t) a b _ (idx8 t) ((win0_8.blk t).view.emb (ValueIdx.ix2 a b)) rfl rfl)).symm

theorem mem_blk8 (t : Fin cfg0.N) (i : S32768x768.Idx) : Iff (i ∈ ((cfg0.win 8).blk t).view.set)
    (∀ x : Fin 2, win0_8.index t x * (![512, 768] : Fin 2 → Nat) x ≤ (i x).val ∧ (i x).val < win0_8.index t x * (![512, 768] : Fin 2 → Nat) x + (![512, 768] : Fin 2 → Nat) x) := by
  show Iff (i ∈ ((View.whole main_v0_3).slice (win0_8.rect t)).set) _
  rw [View.set_slice_whole, Rect.mem_set_unit]
  exact Iff.rfl

theorem final8 : (dats m 0 c).arrAt 8 cfg0.N = cols m c 2304 768 (by decide) :=
  (dats m 0 c).arrAt_eq_of_cover 8 _ (fun t _ => flushed8 m c t) (fun (i : S32768x768.Idx) =>
    ⟨⟨(i 0).val / 512, lt_of_lt_of_eq (row_lt i) N_0.symm⟩, flush0_8 _, (mem_blk8 _ i).2 (mem_row i _ (idx8 _))⟩)

end Cert.InProjIdeal.Proj

end
-- ==== Proof.InProj.Ref.lean ====
/- The reference's input projection, read at an element. -/
module

public import proofs.«01_k».proof.Proof.Gen.InProjRefIdeal.Run
public import proofs.«01_k».proof.Proof.Proj.Spec
public import Idealize.ShloMosaic.Lib.StackMember
public import Idealize.ShloMosaic.Lib.Pipeline.Value
public import Idealize.ShloMosaic.Lib.IdealHost

@[expose] public section

set_option maxRecDepth 16384

noncomputable section

namespace Cert.InProjRefIdeal.Proj

open Cert.InProjRefIdeal Cert.InProjRefIdeal.Gen
open Idealize.ShloMosaic
open Cert.ProjSpec

/-- A stack of matrices times one matrix, at an index: the sum over the contracted coordinate. -/
theorem dot_apply (A : FVec Ideal S8x4096x1024 .f32) (B : FVec Ideal S1024x3072 .f32) (b : Fin 8) (s : Fin 4096) (f : Fin 3072) :
    Host.dotGeneral dot_S8x4096x1024_S1024x3072_S8x4096x3072_2_0_01_1_n_n none A B (ValueIdx.ix3 b s f)
      = ∑ c : Fin 1024, A (ValueIdx.ix3 b s c) * B (ValueIdx.ix2 c f) := by
  show FloatOps.dotGeneral _ _ _ A B (ValueIdx.ix3 b s f) = _
  rw [Ideal.dotGeneral_apply, ← Equiv.sum_comp (ValueIdx.contrEquiv1 dot_S8x4096x1024_S1024x3072_S8x4096x3072_2_0_01_1_n_n 1024 rfl rfl).symm]
  refine Finset.sum_congr rfl fun c _ => ?_
  have hc := ValueIdx.contrEquiv1_symm_val dot_S8x4096x1024_S1024x3072_S8x4096x3072_2_0_01_1_n_n 1024 rfl rfl c
  have hl : dot_S8x4096x1024_S1024x3072_S8x4096x3072_2_0_01_1_n_n.lhsIdx (ValueIdx.ix3 b s f) ((ValueIdx.contrEquiv1 _ 1024 rfl rfl).symm c) = ValueIdx.ix3 b s c := by
    funext a; apply Fin.ext
    match a with
    | ⟨0, _⟩ => simp [DotDims.lhsIdx, dot_S8x4096x1024_S1024x3072_S8x4096x3072_2_0_01_1_n_n]; rfl
    | ⟨1, _⟩ => simp [DotDims.lhsIdx, dot_S8x4096x1024_S1024x3072_S8x4096x3072_2_0_01_1_n_n]; rfl
    | ⟨2, _⟩ => simp [DotDims.lhsIdx, dot_S8x4096x1024_S1024x3072_S8x4096x3072_2_0_01_1_n_n]; exact hc
  have hr : dot_S8x4096x1024_S1024x3072_S8x4096x3072_2_0_01_1_n_n.rhsIdx (ValueIdx.ix3 b s f) ((ValueIdx.contrEquiv1 _ 1024 rfl rfl).symm c) = ValueIdx.ix2 c f := by
    funext a; apply Fin.ext
    match a with
    | ⟨0, _⟩ => simp [DotDims.rhsIdx, dot_S8x4096x1024_S1024x3072_S8x4096x3072_2_0_01_1_n_n]; exact hc
    | ⟨1, _⟩ => simp [DotDims.rhsIdx, dot_S8x4096x1024_S1024x3072_S8x4096x3072_2_0_01_1_n_n]; rfl
  rw [hl, hr]

variable (X : FVec Ideal S8x4096x1024 .f32) (g : FVec Ideal S1x1024 .f32) (md : FVec Ideal S48x1x1024 .f32) (w : FVec Ideal S1024x3072 .bf16)

/-- The reciprocal root mean square of every row. -/
def rms : FVec Ideal S8x4096x1 .f32 :=
  Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x3727C5AC#32)))

theorem sum_apply (v : FVec Ideal S8x4096x1024 .f32) (b : Fin 8) (s : Fin 4096) :
    Host.reduceAdd v (constant S_ .f32 0x00000000#32) reducesTo_S8x4096x1024_S8x4096_d2 h_S_ (ValueIdx.ix2 b s) = ∑ k : Fin 1024, v (ValueIdx.ix3 b s k) := by
  refine (ValueIdx.hostReduceAdd_apply _ _ _ _ _).trans ?_
  have hred : S8x4096x1024.Reduces [2] S8x4096 := by decide
  refine (Ideal.hostReduceAdd_single _ hred _ _ _).trans ?_
  show Ideal.ofBits .f32 0x00000000#32 + _ = _
  rw [Ideal.ofBits_zero_f32, zero_add]
  exact Finset.sum_congr rfl fun k _ => congrArg v (funext fun i => by fin_cases i <;> rfl)

theorem rms_apply (b : Fin 8) (s : Fin 4096) :
    rms X (ValueIdx.ix3 b s 0) = Ideal.rsqrt (Ideal.div (∑ k : Fin 1024, X (ValueIdx.ix3 b s k) * X (ValueIdx.ix3 b s k)) width + eps) := by
  show Ideal.rsqrt (Ideal.div (broadcastInDim S8x4096x1 ![0, 1] bcast_S8x4096_S8x4096x1_0_1 (Host.reduceAdd (mulf X X) (constant S_ .f32 0x00000000#32) reducesTo_S8x4096x1024_S8x4096_d2 h_S_) (ValueIdx.ix3 b s 0))
    (broadcastInDim S8x4096x1 ![] bcast_S_S8x4096x1 (constant (F := Ideal) S_ .f32 0x44800000#32) (ValueIdx.ix3 b s 0)) + broadcastInDim S8x4096x1 ![] bcast_S_S8x4096x1 (constant (F := Ideal) S_ .f32 0x3727C5AC#32) (ValueIdx.ix3 b s 0)) = _
  have e1 := broadcastInDim_apply ![0, 1] bcast_S8x4096_S8x4096x1_0_1 (Host.reduceAdd (mulf X X) (constant S_ .f32 0x00000000#32) reducesTo_S8x4096x1024_S8x4096_d2 h_S_) (ValueIdx.ix3 b s 0) (ValueIdx.ix2 b s) (fun a => by fin_cases a <;> rfl)
  rw [e1, sum_apply]
  rfl

/-- A modulation row, by batch entry. -/
theorem mod_apply (k : Fin 6) (h : S8x6x1024.Slices ![0, k.val, 0] S8x1x1024) (b : Fin 8) (d : Fin 1024) (i : Fin 32768) (hi : i.val / 4096 = b.val) :
    extractStridedSlice S8x1x1024 ![0, k.val, 0] (shapeCast S8x6x1024 md shapeCasts_S48x1x1024_S8x6x1024) h (ValueIdx.ix3 b 0 d) = md (ValueIdx.ix3 (modRow i k) 0 d) := by
  refine (extractStridedSlice_apply _ _ _ _ (ValueIdx.ix3 b k d) (fun a => by
    fin_cases a
    · exact (Nat.zero_add _).symm
    · rfl
    · exact (Nat.zero_add _).symm)).trans ?_
  refine shapeCast_apply md _ _ _ ?_
  rw [Shape.rowMajor_val_three, Shape.rowMajor_val_three]
  show (((modRow i k).val * 1 + 0) * 1024 + d.val) = (b.val * 6 + k.val) * 1024 + d.val
  show (((i.val / 4096 * 6 + k.val) * 1 + 0) * 1024 + d.val) = _
  rw [hi]; omega

/-- Every row normalized and modulated. -/
def norm : FVec Ideal S8x4096x1024 .f32 :=
  addf (mulf (mulf (mulf X (broadcastInDim S8x4096x1024 ![0, 1, 2] bcast_S8x4096x1_S8x4096x1024_0_1_2 (rms X))) (broadcastInDim S8x4096x1024 ![0, 1, 2] bcast_S1x1x1024_S8x4096x1024_0_1_2 (broadcastInDim S1x1x1024 ![1, 2] bcast_S1x1024_S1x1x1024_1_2 g)))
    (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 1, 0] (shapeCast _ md shapeCasts_S48x1x1024_S8x6x1024) slices_S8x6x1024_S8x1x1024_0_1_0))))
    (broadcastInDim S8x4096x1024 ![0, 1, 2] bcast_S8x1x1024_S8x4096x1024_0_1_2 (extractStridedSlice S8x1x1024 ![0, 0, 0] (shapeCast _ md shapeCasts_S48x1x1024_S8x6x1024) slices_S8x6x1024_S8x1x1024_0_0_0))

/-- A batch entry's row laid over the sequence. -/
theorem seq_apply (v : FVec Ideal S8x1x1024 .f32) (b : Fin 8) (s : Fin 4096) (d : Fin 1024) :
    broadcastInDim S8x4096x1024 ![0, 1, 2] bcast_S8x1x1024_S8x4096x1024_0_1_2 v (ValueIdx.ix3 b s d) = v (ValueIdx.ix3 b 0 d) :=
  broadcastInDim_apply _ _ _ _ _ (fun a => by fin_cases a <;> rfl)

theorem norm_apply (i : Fin 32768) (b : Fin 8) (s : Fin 4096) (d : Fin 1024) (hi : i.val / 4096 = b.val) :
    norm X g md (ValueIdx.ix3 b s d) = nrow (fun d => X (ValueIdx.ix3 b s d)) (fun d => g (ValueIdx.ix2 0 d))
      (fun d => md (ValueIdx.ix3 (modRow i 1) 0 d)) (fun d => md (ValueIdx.ix3 (modRow i 0) 0 d)) d := by
  show X (ValueIdx.ix3 b s d) * broadcastInDim S8x4096x1024 ![0, 1, 2] bcast_S8x4096x1_S8x4096x1024_0_1_2 (rms X) (ValueIdx.ix3 b s d)
      * broadcastInDim S8x4096x1024 ![0, 1, 2] bcast_S1x1x1024_S8x4096x1024_0_1_2 (broadcastInDim S1x1x1024 ![1, 2] bcast_S1x1024_S1x1x1024_1_2 g) (ValueIdx.ix3 b s d)
      * broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 1, 0] (shapeCast _ md shapeCasts_S48x1x1024_S8x6x1024) slices_S8x6x1024_S8x1x1024_0_1_0)) (ValueIdx.ix3 b s d)
      + broadcastInDim S8x4096x1024 ![0, 1, 2] bcast_S8x1x1024_S8x4096x1024_0_1_2 (extractStridedSlice S8x1x1024 ![0, 0, 0] (shapeCast _ md shapeCasts_S48x1x1024_S8x6x1024) slices_S8x6x1024_S8x1x1024_0_0_0) (ValueIdx.ix3 b s d) = _
  have e1 := broadcastInDim_apply ![0, 1, 2] bcast_S8x4096x1_S8x4096x1024_0_1_2 (rms X) (ValueIdx.ix3 b s d) (ValueIdx.ix3 b s 0) (fun a => by fin_cases a <;> rfl)
  have e2 := broadcastInDim_apply ![0, 1, 2] bcast_S1x1x1024_S8x4096x1024_0_1_2 (broadcastInDim S1x1x1024 ![1, 2] bcast_S1x1024_S1x1x1024_1_2 g) (ValueIdx.ix3 b s d) (ValueIdx.ix3 0 0 d) (fun a => by fin_cases a <;> rfl)
  have e3 := broadcastInDim_apply ![1, 2] bcast_S1x1024_S1x1x1024_1_2 g (ValueIdx.ix3 0 0 d) (ValueIdx.ix2 0 d) (fun a => by fin_cases a <;> rfl)
  have e4 := mod_apply md 0 slices_S8x6x1024_S8x1x1024_0_0_0 b d i hi
  have e5 := mod_apply md 1 slices_S8x6x1024_S8x1x1024_0_1_0 b d i hi
  rw [e1, e2, e3, seq_apply, seq_apply, rms_apply]
  refine congrArg₂ (· + ·) (congrArg₂ (· * ·) rfl (congrArg₂ (· + ·) rfl e5)) e4

/-- All projections, one row of 3072 per row of `X`. -/
def projs : FVec Ideal S32768x3072 .f32 :=
  shapeCast S32768x3072 (Host.dotGeneral dot_S8x4096x1024_S1024x3072_S8x4096x3072_2_0_01_1_n_n none (norm X g md) (extf .f32 w bitsLt_bf16_f32)) shapeCasts_S8x4096x3072_S32768x3072

theorem projs_apply (i : Fin 32768) (j : Fin 3072) :
    projs X g md w (ValueIdx.ix2 i j)
      = projAt (fun i d => X (ValueIdx.ix3 ⟨i.val / 4096, by omega⟩ ⟨i.val % 4096, Nat.mod_lt _ (by decide)⟩ d)) g md w i j := by
  refine (shapeCast_apply _ _ _ (ValueIdx.ix3 (⟨i.val / 4096, by omega⟩ : Fin 8) (⟨i.val % 4096, Nat.mod_lt _ (by decide)⟩ : Fin 4096) j) ?_).trans ?_
  · rw [Shape.rowMajor_val_three, Shape.rowMajor_val_two]
    show (i.val / 4096 * 4096 + i.val % 4096) * 3072 + j.val = i.val * 3072 + j.val
    rw [Nat.div_add_mod' i.val 4096]
  · refine (dot_apply _ _ _ _ _).trans ?_
    exact Finset.sum_congr rfl fun d _ => congrArg₂ (· * ·) (norm_apply X g md i _ _ d rfl) rfl

/-- A range of the projection's columns. -/
theorem cols_apply {n off : Nat} (h : S32768x3072.Slices ![0, off] ⟨2, ![32768, n]⟩) (i : Fin 32768) (j : Fin n) (hj : off + j.val < 3072) :
    extractStridedSlice ⟨2, ![32768, n]⟩ ![0, off] (projs X g md w) h (ValueIdx.ix2 i j)
      = projAt (fun i d => X (ValueIdx.ix3 ⟨i.val / 4096, by omega⟩ ⟨i.val % 4096, Nat.mod_lt _ (by decide)⟩ d)) g md w i ⟨off + j.val, hj⟩ := by
  refine (extractStridedSlice_apply _ _ _ _ (ValueIdx.ix2 i ⟨off + j.val, hj⟩) (fun a => by
    fin_cases a
    · exact (Nat.zero_add _).symm
    · rfl)).trans ?_
  exact projs_apply X g md w i _

/-- The flat rows as a stack of sequences, back at a flat row. -/
theorem rows_apply (x : FVec Ideal S32768x1024 .f32) (i : Fin 32768) (d : Fin 1024) :
    shapeCast S8x4096x1024 x shapeCasts_S32768x1024_S8x4096x1024 (ValueIdx.ix3 ⟨i.val / 4096, by omega⟩ ⟨i.val % 4096, Nat.mod_lt _ (by decide)⟩ d) = x (ValueIdx.ix2 i d) :=
  shapeCast_apply _ _ _ _ (by
    rw [Shape.rowMajor_val_three, Shape.rowMajor_val_two]
    show i.val * 1024 + d.val = (i.val / 4096 * 4096 + i.val % 4096) * 1024 + d.val
    rw [Nat.div_add_mod' i.val 4096])

end Cert.InProjRefIdeal.Proj

end
-- ==== Proof.InProj.Claims.lean ====
/- The claims about the input projection. -/
module

public import proofs.«01_k».proof.Defs
public import proofs.«01_k».proof.Proof.Gen.InProj.Frame
public import proofs.«01_k».proof.Proof.InProj.Value
public import proofs.«01_k».proof.Proof.InProj.Ref
public import Idealize.ShloMosaic.Lib.Quiescent

@[expose] public section

noncomputable section

namespace Cert.InProjClaims

open Idealize.ShloMosaic Idealize.SL.Sem Cert.ProjSpec

theorem printed_frame : quiescent_InProj := fun m g _ => Cert.InProj.Gen.frame m g

theorem ideal_frame : quiescent_InProjIdeal := fun m g _ => Cert.InProjIdeal.Gen.frame m g

theorem reference_frame : quiescent_InProjRefIdeal := fun m g _ =>
  (θ_run _ _ _).mono (fun r h => ⟨fun c => (h c).2.2.2.2, sem_eq_zero_of_no_sems rfl r.2⟩) (Cert.InProjRefIdeal.Value.run m g)

/-- The reference's columns from `off`, as an array. -/
theorem ref_cols {n off : Nat} (x : FVec Ideal Cert.InProjRefIdeal.S32768x1024 .f32) (g : FVec Ideal Cert.InProjRefIdeal.S1x1024 .f32)
    (md : FVec Ideal Cert.InProjRefIdeal.S48x1x1024 .f32) (w : FVec Ideal Cert.InProjRefIdeal.S1024x3072 .bf16)
    (h : Cert.InProjRefIdeal.S32768x3072.Slices ![0, off] ⟨2, ![32768, n]⟩) (hn : off + n ≤ 3072) :
    extractStridedSlice ⟨2, ![32768, n]⟩ ![0, off] (Cert.InProjRefIdeal.Proj.projs (shapeCast _ x Cert.InProjRefIdeal.Facts₀.shapeCasts_S32768x1024_S8x4096x1024) g md w) h
      = fun i : (⟨2, ![32768, n]⟩ : Shape).Idx => projAt (fun i d => x (ValueIdx.ix2 i d)) g md w (i 0) ⟨off + (i 1).val, by have h : (i 1).val < n := (i 1).isLt; omega⟩ := by
  funext i
  obtain ⟨a, b, rfl⟩ : ∃ (a : Fin 32768) (b : Fin n), i = ValueIdx.ix2 a b := ⟨i 0, i 1, ValueIdx.eq_ix2 i⟩
  refine (Cert.InProjRefIdeal.Proj.cols_apply _ g md w h a b (by omega)).trans ?_
  refine congrArg (fun X => projAt X g md w a _) (funext fun i => funext fun d => ?_)
  exact Cert.InProjRefIdeal.Proj.rows_apply x i d

/-- The columns from `off` of the projection of every row of the reference's arguments. -/
def refCols (m : (ℓ : Loc Cert.InProjRefIdeal.nD Cert.InProjRefIdeal.τ Cert.InProjRefIdeal.sig) → Buf (Elt Ideal) ℓ) (c : Dev Cert.InProjRefIdeal.nD)
    (off n : Nat) (hn : off + n ≤ 3072) : (⟨2, ![32768, n]⟩ : Shape).Idx → EReal := fun i =>
  projAt (fun i d => (m ((c.tc : Thread Cert.InProjRefIdeal.nD Cert.InProjRefIdeal.τ).loc Cert.InProjRefIdeal.main_arg0) : Cert.InProjRefIdeal.S32768x1024.Idx → EReal) (ValueIdx.ix2 i d))
    (m ((c.tc : Thread Cert.InProjRefIdeal.nD Cert.InProjRefIdeal.τ).loc Cert.InProjRefIdeal.main_arg1))
    (m ((c.tc : Thread Cert.InProjRefIdeal.nD Cert.InProjRefIdeal.τ).loc Cert.InProjRefIdeal.main_arg2))
    (m ((c.tc : Thread Cert.InProjRefIdeal.nD Cert.InProjRefIdeal.τ).loc Cert.InProjRefIdeal.main_arg3)) (i 0) ⟨off + (i 1).val, by have h : (i 1).val < n := (i 1).isLt; omega⟩

theorem value : algebraic_InProjIdeal_InProjRefIdeal := fun m g m' g' _ hag => by
  have hc : ∀ (off n : Nat) (hn : off + n ≤ 3072), refCols m' 0 off n hn = Cert.InProjIdeal.Proj.cols m 0 off n hn := fun off n hn => by
    obtain ⟨e0, e1, e2, e3⟩ := hag 0
    unfold refCols Cert.InProjIdeal.Proj.cols
    rw [e0, e1, e2, e3]
  refine ⟨fun c => Cert.InProjIdeal.Proj.cols m c 0 1024 (by decide), fun c => Cert.InProjIdeal.Proj.cols m c 1024 896 (by decide),
    fun c => Cert.InProjIdeal.Proj.cols m c 1920 384 (by decide), fun c => Cert.InProjIdeal.Proj.cols m c 2304 768 (by decide), ?_, ?_⟩
  · refine (θ_run _ _ _).mono (fun r q => fun c => ?_) (Cert.InProjIdeal.Value.run_blocks m g)
    exact ⟨(q c).1.trans (Cert.InProjIdeal.Proj.final5 m c), (q c).2.1.trans (Cert.InProjIdeal.Proj.final6 m c), (q c).2.2.1.trans (Cert.InProjIdeal.Proj.final7 m c),
      (q c).2.2.2.1.trans (Cert.InProjIdeal.Proj.final8 m c), (q c).2.2.2.2⟩
  · refine (θ_run _ _ _).mono (fun r q => fun c => ?_) (Cert.InProjRefIdeal.Value.run m' g')
    obtain rfl : c = 0 := Subsingleton.elim (α := Fin 1) _ _
    exact ⟨(q 0).1.trans ((ref_cols (n := 1024) (off := 0) _ _ _ _ _ (by decide)).trans (hc 0 1024 (by decide))),
      (q 0).2.1.trans ((ref_cols (n := 896) (off := 1024) _ _ _ _ _ (by decide)).trans (hc 1024 896 (by decide))),
      (q 0).2.2.1.trans ((ref_cols (n := 384) (off := 1920) _ _ _ _ _ (by decide)).trans (hc 1920 384 (by decide))),
      (q 0).2.2.2.1.trans ((ref_cols (n := 768) (off := 2304) _ _ _ _ Cert.InProjRefIdeal.Facts₀.slices_S32768x3072_S32768x768_0_2304 (by decide)).trans (hc 2304 768 (by decide))), (q 0).2.2.2.2⟩

end Cert.InProjClaims

end
-- ==== Proof.NextProj.Elem.lean ====
/- The second layer's blocks stored at a grid point, read at an element: the residual stream with the experts' outputs added,
   and the projection of that row. -/
module

public import proofs.«01_k».proof.Proof.Gen.NextProjIdeal.Value
public import proofs.«01_k».proof.Proof.InProj.Elem

@[expose] public section

set_option maxRecDepth 16384

noncomputable section

namespace Cert.NextProjIdeal.Proj

open Cert.NextProjIdeal Cert.NextProjIdeal.Gen
open Idealize.ShloMosaic
open Cert.ProjSpec
open Cert.InProjIdeal.Proj (rowProj)

variable (x : Vec Ideal S512x1024 .f32) (g2 : Vec Ideal S1x1x1024 .f32) (r : Vec Ideal S512x128 .f32) (y0 y1 y2 y3 : Vec Ideal S512x1024 .bf16)
  (g : Vec Ideal S1x1024 .f32) (sc sh : Vec Ideal S1x1x1024 .f32) (w : Vec Ideal S1024x3072 .bf16)

/-- One expert's gate, a column of the routing array, laid over the block's columns. -/
theorem gate_apply (k : Fin 128) (h : S512x128.Slices ![0, k.val] S512x1) (a : Fin 512) (d : Fin 1024) :
    broadcastTo S512x1024 (extractStridedSlice S512x1 ![0, k.val] r h) broadcasts_S512x1_S512x1024 (ValueIdx.ix2 a d) = r (ValueIdx.ix2 a k) :=
  (Cert.InProjIdeal.Proj.col_apply _ a d).trans (extractStridedSlice_apply _ _ _ _ (ValueIdx.ix2 a k) (fun i => by
    fin_cases i
    · exact (Nat.zero_add _).symm
    · rfl))

/-- The residual stream's block with the experts' outputs added. -/
abbrev stream : FVec Ideal S512x1024 .f32 := k0_pay1 r y0 y1 y2 y3 x g2

theorem stream_apply (a : Fin 512) (d : Fin 1024) : stream x g2 r y0 y1 y2 y3 (ValueIdx.ix2 a d)
    = comb (x (ValueIdx.ix2 a d)) (g2 (ValueIdx.ix3 0 0 d)) (r (ValueIdx.ix2 a 4)) (r (ValueIdx.ix2 a 5)) (r (ValueIdx.ix2 a 6)) (r (ValueIdx.ix2 a 7))
      (y0 (ValueIdx.ix2 a d)) (y1 (ValueIdx.ix2 a d)) (y2 (ValueIdx.ix2 a d)) (y3 (ValueIdx.ix2 a d)) := by
  have e2 := (Cert.InProjIdeal.Proj.mod_apply (shapeCast S1x1024 g2 shapeCasts_S1x1x1024_S1x1024) a d).trans (Cert.InProjIdeal.Proj.flat_apply g2 d)
  have e4 := gate_apply r 4 slices_S512x128_o0_4_S512x1 a d
  have e5 := gate_apply r 5 slices_S512x128_o0_5_S512x1 a d
  have e6 := gate_apply r 6 slices_S512x128_o0_6_S512x1 a d
  have e7 := gate_apply r 7 slices_S512x128_o0_7_S512x1 a d
  unfold comb
  rw [← e2, ← e4, ← e5, ← e6, ← e7]
  rfl

/-- The normalized block is the first layer's, of the combined stream. -/
theorem pay3_eq (v : FVec Ideal S512x1024 .f32) (q : FVec Ideal S512x1 .f32)
    (hq : q = divf (Cert.InProjIdeal.Proj.sq v) (broadcast S512x1 (Scalar.ofBits .f32 0x44800000#32))) : k0_pay3 v g q sc sh = Cert.InProjIdeal.Gen.k0_pay3 v g sc sh := by
  subst hq; rfl

theorem pay2_eq : k0_pay2 r y0 y1 y2 y3 x g2 = divf (Cert.InProjIdeal.Proj.sq (stream x g2 r y0 y1 y2 y3)) (broadcast S512x1 (Scalar.ofBits .f32 0x44800000#32)) := rfl

theorem pay8_eq : k0_pay8 x g2 r y0 y1 y2 y3 g sc sh w = stream x g2 r y0 y1 y2 y3 := by
  have hr : View.ld r r0_0 = r := View.ld_unit_zero (funext fun i => by fin_cases i <;> rfl) _ r
  have hy : ∀ y : Vec Ideal S512x1024 .bf16, View.ld y r0_1 = y := fun y => View.ld_unit_zero (funext fun i => by fin_cases i <;> rfl) _ y
  unfold k0_pay8
  rw [hr, hy, hy, hy, hy]
  exact congrArg₂ (k0_pay1 r y0 y1 y2 y3) (Cert.InProjIdeal.Proj.ldx x) (Cert.InProjIdeal.Proj.lds g2)

theorem pay9_eq : k0_pay9 x g2 r y0 y1 y2 y3 g sc sh w = k0_pay2 r y0 y1 y2 y3 x g2 := by
  have hr : View.ld r r0_0 = r := View.ld_unit_zero (funext fun i => by fin_cases i <;> rfl) _ r
  have hy : ∀ y : Vec Ideal S512x1024 .bf16, View.ld y r0_1 = y := fun y => View.ld_unit_zero (funext fun i => by fin_cases i <;> rfl) _ y
  unfold k0_pay9
  rw [hr, hy, hy, hy, hy]
  exact congrArg₂ (k0_pay2 r y0 y1 y2 y3) (Cert.InProjIdeal.Proj.ldx x) (Cert.InProjIdeal.Proj.lds g2)

/-- The normalized block as the stores read it. -/
theorem norm_eq : k0_pay3 (k0_pay8 x g2 r y0 y1 y2 y3 g sc sh w) (View.ld g r0_3) (k0_pay9 x g2 r y0 y1 y2 y3 g sc sh w) (View.ld sc r0_2) (View.ld sh r0_2)
    = Cert.InProjIdeal.Gen.k0_pay3 (stream x g2 r y0 y1 y2 y3) g sc sh := by
  have hg : View.ld g r0_3 = g := Cert.InProjIdeal.Proj.ldg g
  have hs : ∀ s : Vec Ideal S1x1x1024 .f32, View.ld s r0_2 = s := Cert.InProjIdeal.Proj.lds
  rw [pay8_eq, pay9_eq, hg, hs, hs]
  exact pay3_eq g sc sh _ _ (pay2_eq x g2 r y0 y1 y2 y3)

theorem out11_apply (a : Fin 512) (d : Fin 1024) : out0_11 x g2 r y0 y1 y2 y3 g sc sh w (ValueIdx.ix2 a d) = stream x g2 r y0 y1 y2 y3 (ValueIdx.ix2 a d) :=
  (congrFun (View.canon_unit_zero (funext fun i => by fin_cases i <;> rfl) _ _) _).trans (congrFun (pay8_eq x g2 r y0 y1 y2 y3 g sc sh w) _)

theorem out12_apply (a : Fin 512) (b : Fin 1024) : out0_12 x g2 r y0 y1 y2 y3 g sc sh w (ValueIdx.ix2 a b)
    = rowProj (stream x g2 r y0 y1 y2 y3) g sc sh w a ⟨0 + b.val, by omega⟩ := by
  refine (congrFun (View.canon_unit_zero (funext fun i => by fin_cases i <;> rfl) _ _) _).trans ?_
  unfold k0_pay4
  rw [norm_eq]
  exact Cert.InProjIdeal.Proj.pay4_apply (stream x g2 r y0 y1 y2 y3) g sc sh w a b

theorem out13_apply (a : Fin 512) (b : Fin 896) : out0_13 x g2 r y0 y1 y2 y3 g sc sh w (ValueIdx.ix2 a b)
    = rowProj (stream x g2 r y0 y1 y2 y3) g sc sh w a ⟨1024 + b.val, by omega⟩ := by
  refine (congrFun (View.canon_unit_zero (funext fun i => by fin_cases i <;> rfl) _ _) _).trans ?_
  unfold k0_pay5
  rw [norm_eq]
  exact Cert.InProjIdeal.Proj.pay5_apply (stream x g2 r y0 y1 y2 y3) g sc sh w a b

theorem out14_apply (a : Fin 512) (b : Fin 384) : out0_14 x g2 r y0 y1 y2 y3 g sc sh w (ValueIdx.ix2 a b)
    = rowProj (stream x g2 r y0 y1 y2 y3) g sc sh w a ⟨1920 + b.val, by omega⟩ := by
  refine (congrFun (View.canon_unit_zero (funext fun i => by fin_cases i <;> rfl) _ _) _).trans ?_
  unfold k0_pay6
  rw [norm_eq]
  exact Cert.InProjIdeal.Proj.pay1_apply (stream x g2 r y0 y1 y2 y3) g sc sh w a b

theorem out15_apply (a : Fin 512) (b : Fin 768) : out0_15 x g2 r y0 y1 y2 y3 g sc sh w (ValueIdx.ix2 a b)
    = rowProj (stream x g2 r y0 y1 y2 y3) g sc sh w a ⟨2304 + b.val, by omega⟩ := by
  refine (congrFun (View.canon_unit_zero (funext fun i => by fin_cases i <;> rfl) _ _) _).trans ?_
  unfold k0_pay7
  rw [norm_eq]
  exact Cert.InProjIdeal.Proj.pay2_apply (stream x g2 r y0 y1 y2 y3) g sc sh w a b

end Cert.NextProjIdeal.Proj

end
-- ==== Proof.NextProj.Value.lean ====
/- The arrays after the second layer's run: the residual stream with the experts' outputs added, and its projection. -/
module

public import proofs.«01_k».proof.Proof.NextProj.Elem
public import proofs.«01_k».proof.Proof.Proj.Rows

@[expose] public section

set_option maxRecDepth 16384

noncomputable section

namespace Cert.NextProjIdeal.Proj

open Cert.NextProjIdeal Cert.NextProjIdeal.Gen
open Idealize.ShloMosaic Idealize.ShloMosaic.TcCoe
open Cert.ProjSpec
open Cert.InProjIdeal.Proj (rowProj)

/-! ## Which block a grid point reads and writes -/

theorem idx0 : ∀ t : Fin grid0.N, win0_0.index t = ![t.val, 0] := by decide +kernel
theorem idx1 : ∀ t : Fin grid0.N, win0_1.index t = ![t.val / 8 * 6 + 5, 0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel
theorem idx8 : ∀ t : Fin grid0.N, win0_8.index t = ![t.val / 8 * 6 + 1, 0, 0] := by decide +kernel
theorem idx9 : ∀ t : Fin grid0.N, win0_9.index t = ![t.val / 8 * 6, 0, 0] := by decide +kernel
theorem idx10 : ∀ t : Fin grid0.N, win0_10.index t = ![0, 0] := by decide +kernel
theorem idx11 : ∀ t : Fin grid0.N, win0_11.index t = ![t.val, 0] := by decide +kernel
theorem idx12 : ∀ t : Fin grid0.N, win0_12.index t = ![t.val, 0] := by decide +kernel
theorem idx13 : ∀ t : Fin grid0.N, win0_13.index t = ![t.val, 0] := by decide +kernel
theorem idx14 : ∀ t : Fin grid0.N, win0_14.index t = ![t.val, 0] := by decide +kernel
theorem idx15 : ∀ t : Fin grid0.N, win0_15.index t = ![t.val, 0] := by decide +kernel

variable (m : (ℓ : Loc nD τ sig) → Buf (Elt Ideal) ℓ) (c : Dev nD)

abbrev xOf : S32768x1024.Idx → EReal := m ((c.tc : Thread nD τ).loc main_arg0)
abbrev mpOf : S48x1x1024.Idx → EReal := m ((c.tc : Thread nD τ).loc main_arg1)
abbrev rOf : S32768x128.Idx → EReal := m ((c.tc : Thread nD τ).loc main_arg2)
abbrev y0Of : S32768x1024.Idx → EReal := m ((c.tc : Thread nD τ).loc main_arg3)
abbrev y1Of : S32768x1024.Idx → EReal := m ((c.tc : Thread nD τ).loc main_arg4)
abbrev y2Of : S32768x1024.Idx → EReal := m ((c.tc : Thread nD τ).loc main_arg5)
abbrev y3Of : S32768x1024.Idx → EReal := m ((c.tc : Thread nD τ).loc main_arg6)
abbrev gOf : S1x1024.Idx → EReal := m ((c.tc : Thread nD τ).loc main_arg7)
abbrev mdOf : S48x1x1024.Idx → EReal := m ((c.tc : Thread nD τ).loc main_arg8)
abbrev wOf : S1024x3072.Idx → EReal := m ((c.tc : Thread nD τ).loc main_arg9)

/-- A grid point, of which there are 64. -/
abbrev pt (t : Fin grid0.N) : Fin 64 := t.cast N_0

/-- Every row of the residual stream with the experts' outputs added. -/
abbrev streamOf : Fin 32768 → Fin 1024 → EReal := combAt (xOf m c) (mpOf m c) (rOf m c) (y0Of m c) (y1Of m c) (y2Of m c) (y3Of m c)

variable (t : Fin grid0.N) (a : Fin 512)

theorem blk0 (d : Fin 1024) : iblk m c 0 t (ValueIdx.ix2 a d) = xOf m c (ValueIdx.ix2 (rowOf (pt t) a) d) :=
  congrArg (xOf m c) (emb_row (pt t) a d _ (idx0 t) ((win0_0.blk t).view.emb (ValueIdx.ix2 a d)) rfl rfl)

theorem blk1 (d : Fin 1024) : iblk m c 1 t (ValueIdx.ix3 0 0 d) = mpOf m c (ValueIdx.ix3 (modRow (rowOf (pt t) a) 5) 0 d) :=
  congrArg (mpOf m c) (emb_md (pt t) a 5 d _ (idx1 t) ((win0_1.blk t).view.emb (ValueIdx.ix3 0 0 d)) rfl rfl)

theorem blk2 (k : Fin 128) : iblk m c 2 t (ValueIdx.ix2 a k) = rOf m c (ValueIdx.ix2 (rowOf (pt t) a) k) :=
  congrArg (rOf m c) (emb_row (pt t) a k _ (idx2 t) ((win0_2.blk t).view.emb (ValueIdx.ix2 a k)) rfl rfl)

theorem blk3 (d : Fin 1024) : iblk m c 3 t (ValueIdx.ix2 a d) = y0Of m c (ValueIdx.ix2 (rowOf (pt t) a) d) :=
  congrArg (y0Of m c) (emb_row (pt t) a d _ (idx3 t) ((win0_3.blk t).view.emb (ValueIdx.ix2 a d)) rfl rfl)

theorem blk4 (d : Fin 1024) : iblk m c 4 t (ValueIdx.ix2 a d) = y1Of m c (ValueIdx.ix2 (rowOf (pt t) a) d) :=
  congrArg (y1Of m c) (emb_row (pt t) a d _ (idx4 t) ((win0_4.blk t).view.emb (ValueIdx.ix2 a d)) rfl rfl)

theorem blk5 (d : Fin 1024) : iblk m c 5 t (ValueIdx.ix2 a d) = y2Of m c (ValueIdx.ix2 (rowOf (pt t) a) d) :=
  congrArg (y2Of m c) (emb_row (pt t) a d _ (idx5 t) ((win0_5.blk t).view.emb (ValueIdx.ix2 a d)) rfl rfl)

theorem blk6 (d : Fin 1024) : iblk m c 6 t (ValueIdx.ix2 a d) = y3Of m c (ValueIdx.ix2 (rowOf (pt t) a) d) :=
  congrArg (y3Of m c) (emb_row (pt t) a d _ (idx6 t) ((win0_6.blk t).view.emb (ValueIdx.ix2 a d)) rfl rfl)

theorem blk7 (d : Fin 1024) : iblk m c 7 t (ValueIdx.ix2 0 d) = gOf m c (ValueIdx.ix2 0 d) :=
  congrArg (gOf m c) (emb_one 0 d _ (idx7 t) ((win0_7.blk t).view.emb (ValueIdx.ix2 0 d)) rfl rfl)

theorem blk8 (d : Fin 1024) : iblk m c 8 t (ValueIdx.ix3 0 0 d) = mdOf m c (ValueIdx.ix3 (modRow (rowOf (pt t) a) 1) 0 d) :=
  congrArg (mdOf m c) (emb_md (pt t) a 1 d _ (idx8 t) ((win0_8.blk t).view.emb (ValueIdx.ix3 0 0 d)) rfl rfl)

theorem blk9 (d : Fin 1024) : iblk m c 9 t (ValueIdx.ix3 0 0 d) = mdOf m c (ValueIdx.ix3 (modRow (rowOf (pt t) a) 0) 0 d) :=
  congrArg (mdOf m c) (emb_md (pt t) a 0 d _ (idx9 t) ((win0_9.blk t).view.emb (ValueIdx.ix3 0 0 d)) rfl rfl)

theorem blk10 (d : Fin 1024) (j : Fin 3072) : iblk m c 10 t (ValueIdx.ix2 d j) = wOf m c (ValueIdx.ix2 d j) :=
  congrArg (wOf m c) (emb_one d j _ (idx10 t) ((win0_10.blk t).view.emb (ValueIdx.ix2 d j)) rfl rfl)

/-- Row `a` of block `t` of the combined stream is the array's row. -/
theorem stream_blk (d : Fin 1024) :
    stream (iblk m c 0 t) (iblk m c 1 t) (iblk m c 2 t) (iblk m c 3 t) (iblk m c 4 t) (iblk m c 5 t) (iblk m c 6 t) (ValueIdx.ix2 a d)
      = streamOf m c (rowOf (pt t) a) d := by
  refine (stream_apply _ _ _ _ _ _ _ a d).trans ?_
  rw [blk0, blk1 m c t a, blk2, blk2, blk2, blk2, blk3, blk4, blk5, blk6]
  rfl

/-- And so is its projection. -/
theorem rowProj_blk (j : Fin 3072) :
    rowProj (stream (iblk m c 0 t) (iblk m c 1 t) (iblk m c 2 t) (iblk m c 3 t) (iblk m c 4 t) (iblk m c 5 t) (iblk m c 6 t))
        (iblk m c 7 t) (iblk m c 8 t) (iblk m c 9 t) (iblk m c 10 t) a j
      = projAt (streamOf m c) (gOf m c) (mdOf m c) (wOf m c) (rowOf (pt t) a) j := by
  have h0 : (fun d => stream (iblk m c 0 t) (iblk m c 1 t) (iblk m c 2 t) (iblk m c 3 t) (iblk m c 4 t) (iblk m c 5 t) (iblk m c 6 t) (ValueIdx.ix2 a d))
    = streamOf m c (rowOf (pt t) a) := funext fun d => stream_blk m c t a d
  have h1 : (fun d => iblk m c 7 t (ValueIdx.ix2 0 d)) = fun d => gOf m c (ValueIdx.ix2 0 d) := funext fun d => blk7 m c t d
  have h2 : (fun d => iblk m c 8 t (ValueIdx.ix3 0 0 d)) = fun d => mdOf m c (ValueIdx.ix3 (modRow (rowOf (pt t) a) 1) 0 d) := funext fun d => blk8 m c t a d
  have h3 : (fun d => iblk m c 9 t (ValueIdx.ix3 0 0 d)) = fun d => mdOf m c (ValueIdx.ix3 (modRow (rowOf (pt t) a) 0) 0 d) := funext fun d => blk9 m c t a d
  have h4 : (fun d => iblk m c 10 t (ValueIdx.ix2 d j)) = fun d => wOf m c (ValueIdx.ix2 d j) := funext fun d => blk10 m c t d j
  show proj _ _ _ _ _ = proj _ _ _ _ _
  rw [h0, h1, h2, h3, h4]

/-- The combined stream, as an array. -/
def rows : (⟨2, ![32768, 1024]⟩ : Shape).Idx → EReal := fun i => streamOf m c (i 0) (i 1)

/-- The columns from `off` of the projection of every row. -/
def cols (off n : Nat) (hn : off + n ≤ 3072) : (⟨2, ![32768, n]⟩ : Shape).Idx → EReal := fun i =>
  projAt (streamOf m c) (gOf m c) (mdOf m c) (wOf m c) (i 0) ⟨off + (i 1).val, by have h : (i 1).val < n := (i 1).isLt; omega⟩

/-! ## The five results -/

theorem flushed11 : (dats m 0 c).flushed 11 t = ((cfg0.win 11).blk t).view.read (Elt Ideal) (rows m c) := by
  refine (Value.flushed11 m c t).trans (funext fun y => ?_)
  obtain ⟨a, b, rfl⟩ : ∃ (a : Fin 512) (b : Fin 1024), y = ValueIdx.ix2 a b := ⟨y 0, y 1, ValueIdx.eq_ix2 y⟩
  refine (out11_apply _ _ _ _ _ _ _ _ _ _ _ a b).trans ((stream_blk m c t a b).trans ?_)
  exact (congrArg (rows m c) (emb_row (pt t) a b _ (idx11 t) ((win0_11.blk t).view.emb (ValueIdx.ix2 a b)) rfl rfl)).symm

theorem mem_blk11 (i : S32768x1024.Idx) : Iff (i ∈ ((cfg0.win 11).blk t).view.set)
    (∀ x : Fin 2, win0_11.index t x * (![512, 1024] : Fin 2 → Nat) x ≤ (i x).val ∧ (i x).val < win0_11.index t x * (![512, 1024] : Fin 2 → Nat) x + (![512, 1024] : Fin 2 → Nat) x) := by
  show Iff (i ∈ ((View.whole main_v0_0).slice (win0_11.rect t)).set) _
  rw [View.set_slice_whole, Rect.mem_set_unit]
  exact Iff.rfl

theorem final11 : (dats m 0 c).arrAt 11 cfg0.N = rows m c :=
  (dats m 0 c).arrAt_eq_of_cover 11 _ (fun t _ => flushed11 m c t) (fun (i : S32768x1024.Idx) =>
    ⟨⟨(i 0).val / 512, lt_of_lt_of_eq (row_lt i) N_0.symm⟩, flush0_11 _, (mem_blk11 _ i).2 (mem_row i _ (idx11 _))⟩)

theorem flushed12 : (dats m 0 c).flushed 12 t = ((cfg0.win 12).blk t).view.read (Elt Ideal) (cols m c 0 1024 (by decide)) := by
  refine (Value.flushed12 m c t).trans (funext fun y => ?_)
  obtain ⟨a, b, rfl⟩ : ∃ (a : Fin 512) (b : Fin 1024), y = ValueIdx.ix2 a b := ⟨y 0, y 1, ValueIdx.eq_ix2 y⟩
  refine (out12_apply _ _ _ _ _ _ _ _ _ _ _ a b).trans ((rowProj_blk m c t a _).trans ?_)
  exact (congrArg (cols m c 0 1024 (by decide)) (emb_row (pt t) a b _ (idx12 t) ((win0_12.blk t).view.emb (ValueIdx.ix2 a b)) rfl rfl)).symm

theorem mem_blk12 (i : S32768x1024.Idx) : Iff (i ∈ ((cfg0.win 12).blk t).view.set)
    (∀ x : Fin 2, win0_12.index t x * (![512, 1024] : Fin 2 → Nat) x ≤ (i x).val ∧ (i x).val < win0_12.index t x * (![512, 1024] : Fin 2 → Nat) x + (![512, 1024] : Fin 2 → Nat) x) := by
  show Iff (i ∈ ((View.whole main_v0_1).slice (win0_12.rect t)).set) _
  rw [View.set_slice_whole, Rect.mem_set_unit]
  exact Iff.rfl

theorem final12 : (dats m 0 c).arrAt 12 cfg0.N = cols m c 0 1024 (by decide) :=
  (dats m 0 c).arrAt_eq_of_cover 12 _ (fun t _ => flushed12 m c t) (fun (i : S32768x1024.Idx) =>
    ⟨⟨(i 0).val / 512, lt_of_lt_of_eq (row_lt i) N_0.symm⟩, flush0_12 _, (mem_blk12 _ i).2 (mem_row i _ (idx12 _))⟩)

theorem flushed13 : (dats m 0 c).flushed 13 t = ((cfg0.win 13).blk t).view.read (Elt Ideal) (cols m c 1024 896 (by decide)) := by
  refine (Value.flushed13 m c t).trans (funext fun y => ?_)
  obtain ⟨a, b, rfl⟩ : ∃ (a : Fin 512) (b : Fin 896), y = ValueIdx.ix2 a b := ⟨y 0, y 1, ValueIdx.eq_ix2 y⟩
  refine (out13_apply _ _ _ _ _ _ _ _ _ _ _ a b).trans ((rowProj_blk m c t a _).trans ?_)
  exact (congrArg (cols m c 1024 896 (by decide)) (emb_row (pt t) a b _ (idx13 t) ((win0_13.blk t).view.emb (ValueIdx.ix2 a b)) rfl rfl)).symm

theorem mem_blk13 (i : S32768x896.Idx) : Iff (i ∈ ((cfg0.win 13).blk t).view.set)
    (∀ x : Fin 2, win0_13.index t x * (![512, 896] : Fin 2 → Nat) x ≤ (i x).val ∧ (i x).val < win0_13.index t x * (![512, 896] : Fin 2 → Nat) x + (![512, 896] : Fin 2 → Nat) x) := by
  show Iff (i ∈ ((View.whole main_v0_2).slice (win0_13.rect t)).set) _
  rw [View.set_slice_whole, Rect.mem_set_unit]
  exact Iff.rfl

theorem final13 : (dats m 0 c).arrAt 13 cfg0.N = cols m c 1024 896 (by decide) :=
  (dats m 0 c).arrAt_eq_of_cover 13 _ (fun t _ => flushed13 m c t) (fun (i : S32768x896.Idx) =>
    ⟨⟨(i 0).val / 512, lt_of_lt_of_eq (row_lt i) N_0.symm⟩, flush0_13 _, (mem_blk13 _ i).2 (mem_row i _ (idx13 _))⟩)

theorem flushed14 : (dats m 0 c).flushed 14 t = ((cfg0.win 14).blk t).view.read (Elt Ideal) (cols m c 1920 384 (by decide)) := by
  refine (Value.flushed14 m c t).trans (funext fun y => ?_)
  obtain ⟨a, b, rfl⟩ : ∃ (a : Fin 512) (b : Fin 384), y = ValueIdx.ix2 a b := ⟨y 0, y 1, ValueIdx.eq_ix2 y⟩
  refine (out14_apply _ _ _ _ _ _ _ _ _ _ _ a b).trans ((rowProj_blk m c t a _).trans ?_)
  exact (congrArg (cols m c 1920 384 (by decide)) (emb_row (pt t) a b _ (idx14 t) ((win0_14.blk t).view.emb (ValueIdx.ix2 a b)) rfl rfl)).symm

theorem mem_blk14 (i : S32768x384.Idx) : Iff (i ∈ ((cfg0.win 14).blk t).view.set)
    (∀ x : Fin 2, win0_14.index t x * (![512, 384] : Fin 2 → Nat) x ≤ (i x).val ∧ (i x).val < win0_14.index t x * (![512, 384] : Fin 2 → Nat) x + (![512, 384] : Fin 2 → Nat) x) := by
  show Iff (i ∈ ((View.whole main_v0_3).slice (win0_14.rect t)).set) _
  rw [View.set_slice_whole, Rect.mem_set_unit]
  exact Iff.rfl

theorem final14 : (dats m 0 c).arrAt 14 cfg0.N = cols m c 1920 384 (by decide) :=
  (dats m 0 c).arrAt_eq_of_cover 14 _ (fun t _ => flushed14 m c t) (fun (i : S32768x384.Idx) =>
    ⟨⟨(i 0).val / 512, lt_of_lt_of_eq (row_lt i) N_0.symm⟩, flush0_14 _, (mem_blk14 _ i).2 (mem_row i _ (idx14 _))⟩)

theorem flushed15 : (dats m 0 c).flushed 15 t = ((cfg0.win 15).blk t).view.read (Elt Ideal) (cols m c 2304 768 (by decide)) := by
  refine (Value.flushed15 m c t).trans (funext fun y => ?_)
  obtain ⟨a, b, rfl⟩ : ∃ (a : Fin 512) (b : Fin 768), y = ValueIdx.ix2 a b := ⟨y 0, y 1, ValueIdx.eq_ix2 y⟩
  refine (out15_apply _ _ _ _ _ _ _ _ _ _ _ a b).trans ((rowProj_blk m c t a _).trans ?_)
  exact (congrArg (cols m c 2304 768 (by decide)) (emb_row (pt t) a b _ (idx15 t) ((win0_15.blk t).view.emb (ValueIdx.ix2 a b)) rfl rfl)).symm

theorem mem_blk15 (i : S32768x768.Idx) : Iff (i ∈ ((cfg0.win 15).blk t).view.set)
    (∀ x : Fin 2, win0_15.index t x * (![512, 768] : Fin 2 → Nat) x ≤ (i x).val ∧ (i x).val < win0_15.index t x * (![512, 768] : Fin 2 → Nat) x + (![512, 768] : Fin 2 → Nat) x) := by
  show Iff (i ∈ ((View.whole main_v0_4).slice (win0_15.rect t)).set) _
  rw [View.set_slice_whole, Rect.mem_set_unit]
  exact Iff.rfl

theorem final15 : (dats m 0 c).arrAt 15 cfg0.N = cols m c 2304 768 (by decide) :=
  (dats m 0 c).arrAt_eq_of_cover 15 _ (fun t _ => flushed15 m c t) (fun (i : S32768x768.Idx) =>
    ⟨⟨(i 0).val / 512, lt_of_lt_of_eq (row_lt i) N_0.symm⟩, flush0_15 _, (mem_blk15 _ i).2 (mem_row i _ (idx15 _))⟩)

end Cert.NextProjIdeal.Proj

end
-- ==== Proof.NextProj.Ref.lean ====
/- The reference's second layer, read at an element. -/
module

public import proofs.«01_k».proof.Proof.Gen.NextProjRefIdeal.Run
public import proofs.«01_k».proof.Proof.InProj.Ref

@[expose] public section

set_option maxRecDepth 16384

noncomputable section

namespace Cert.NextProjRefIdeal.Proj

open Cert.NextProjRefIdeal Cert.NextProjRefIdeal.Gen
open Idealize.ShloMosaic
open Cert.ProjSpec

variable (x : FVec Ideal S32768x1024 .f32) (mp : FVec Ideal S48x1x1024 .f32) (r : FVec Ideal S32768x128 .f32) (y0 y1 y2 y3 : FVec Ideal S32768x1024 .bf16)

/-- The four gates of every row. -/
def gates : FVec Ideal S8x4096x4 .f32 :=
  extractStridedSlice S8x4096x4 ![0, 0, 4] (shapeCast S8x4096x128 r shapeCasts_S32768x128_S8x4096x128) slices_S8x4096x128_S8x4096x4_0_0_4

/-- One of them, laid over the columns. -/
def gate (k : Nat) (h : S8x4096x4.Slices ![0, 0, k] S8x4096x1) : FVec Ideal S8x4096x1024 .f32 :=
  broadcastInDim S8x4096x1024 ![0, 1, 2] bcast_S8x4096x1_S8x4096x1024_0_1_2 (extractStridedSlice S8x4096x1 ![0, 0, k] (gates r) h)

/-- One expert's outputs by batch entry and position. -/
def expert (y : FVec Ideal S32768x1024 .bf16) : FVec Ideal S8x4096x1024 .f32 :=
  shapeCast S8x4096x1024 (extf .f32 y bitsLt_bf16_f32) shapeCasts_S32768x1024_S8x4096x1024

/-- The residual stream with the gated sum of the experts' outputs added. -/
def stream : FVec Ideal S8x4096x1024 .f32 :=
  addf (shapeCast S8x4096x1024 x shapeCasts_S32768x1024_S8x4096x1024)
    (mulf (broadcastInDim S8x4096x1024 ![0, 1, 2] bcast_S8x1x1024_S8x4096x1024_0_1_2
        (extractStridedSlice S8x1x1024 ![0, 5, 0] (shapeCast S8x6x1024 mp shapeCasts_S48x1x1024_S8x6x1024) slices_S8x6x1024_S8x1x1024_0_5_0))
      (addf (addf (addf (mulf (gate r 0 slices_S8x4096x4_S8x4096x1_0_0_0) (expert y0)) (mulf (gate r 1 slices_S8x4096x4_S8x4096x1_0_0_1) (expert y1)))
        (mulf (gate r 2 slices_S8x4096x4_S8x4096x1_0_0_2) (expert y2))) (mulf (gate r 3 slices_S8x4096x4_S8x4096x1_0_0_3) (expert y3))))

/-- Row `i`'s batch entry and position. -/
abbrev bt (i : Fin 32768) : Fin 8 := ⟨i.val / 4096, by omega⟩
abbrev ps (i : Fin 32768) : Fin 4096 := ⟨i.val % 4096, Nat.mod_lt _ (by decide)⟩

theorem gate_apply (k : Fin 4) (h : S8x4096x4.Slices ![0, 0, k.val] S8x4096x1) (i : Fin 32768) (d : Fin 1024) :
    gate r k.val h (ValueIdx.ix3 (bt i) (ps i) d) = r (ValueIdx.ix2 i ⟨4 + k.val, by omega⟩) := by
  refine (broadcastInDim_apply _ _ _ _ (ValueIdx.ix3 (bt i) (ps i) 0) (fun a => by fin_cases a <;> rfl)).trans ?_
  refine (extractStridedSlice_apply _ _ _ _ (ValueIdx.ix3 (bt i) (ps i) k) (fun a => by
    fin_cases a
    · exact (Nat.zero_add _).symm
    · exact (Nat.zero_add _).symm
    · rfl)).trans ?_
  refine (extractStridedSlice_apply _ _ _ _ (ValueIdx.ix3 (bt i) (ps i) (⟨4 + k.val, by omega⟩ : Fin 128)) (fun a => by
    fin_cases a
    · exact (Nat.zero_add _).symm
    · exact (Nat.zero_add _).symm
    · rfl)).trans ?_
  refine shapeCast_apply r _ _ _ ?_
  rw [Shape.rowMajor_val_three, Shape.rowMajor_val_two]
  show i.val * 128 + (4 + k.val) = (i.val / 4096 * 4096 + i.val % 4096) * 128 + (4 + k.val)
  rw [Nat.div_add_mod' i.val 4096]

theorem stream_apply (i : Fin 32768) (d : Fin 1024) : stream x mp r y0 y1 y2 y3 (ValueIdx.ix3 (bt i) (ps i) d) = combAt x mp r y0 y1 y2 y3 i d := by
  have ex := Cert.InProjRefIdeal.Proj.rows_apply x i d
  have e0 : expert y0 (ValueIdx.ix3 (bt i) (ps i) d) = y0 (ValueIdx.ix2 i d) := Cert.InProjRefIdeal.Proj.rows_apply y0 i d
  have e1 : expert y1 (ValueIdx.ix3 (bt i) (ps i) d) = y1 (ValueIdx.ix2 i d) := Cert.InProjRefIdeal.Proj.rows_apply y1 i d
  have e2 : expert y2 (ValueIdx.ix3 (bt i) (ps i) d) = y2 (ValueIdx.ix2 i d) := Cert.InProjRefIdeal.Proj.rows_apply y2 i d
  have e3 : expert y3 (ValueIdx.ix3 (bt i) (ps i) d) = y3 (ValueIdx.ix2 i d) := Cert.InProjRefIdeal.Proj.rows_apply y3 i d
  have g0 : gate r 0 slices_S8x4096x4_S8x4096x1_0_0_0 (ValueIdx.ix3 (bt i) (ps i) d) = r (ValueIdx.ix2 i 4) := gate_apply r 0 _ i d
  have g1 : gate r 1 slices_S8x4096x4_S8x4096x1_0_0_1 (ValueIdx.ix3 (bt i) (ps i) d) = r (ValueIdx.ix2 i 5) := gate_apply r 1 _ i d
  have g2 : gate r 2 slices_S8x4096x4_S8x4096x1_0_0_2 (ValueIdx.ix3 (bt i) (ps i) d) = r (ValueIdx.ix2 i 6) := gate_apply r 2 _ i d
  have g3 : gate r 3 slices_S8x4096x4_S8x4096x1_0_0_3 (ValueIdx.ix3 (bt i) (ps i) d) = r (ValueIdx.ix2 i 7) := gate_apply r 3 _ i d
  have em := (Cert.InProjRefIdeal.Proj.seq_apply _ (bt i) (ps i) d).trans (Cert.InProjRefIdeal.Proj.mod_apply mp 5 slices_S8x6x1024_S8x1x1024_0_5_0 (bt i) d i rfl)
  unfold combAt comb
  rw [← ex, ← e0, ← e1, ← e2, ← e3, ← g0, ← g1, ← g2, ← g3, ← em]
  rfl

end Cert.NextProjRefIdeal.Proj

end
-- ==== Proof.NextProj.Claims.lean ====
/- The claims about the second layer's combination and projection. -/
module

public import proofs.«01_k».proof.Defs
public import proofs.«01_k».proof.Proof.Gen.NextProj.Frame
public import proofs.«01_k».proof.Proof.NextProj.Value
public import proofs.«01_k».proof.Proof.NextProj.Ref
public import Idealize.ShloMosaic.Lib.Quiescent

@[expose] public section

noncomputable section

namespace Cert.NextProjRefIdeal.Proj

open Cert.NextProjRefIdeal Cert.NextProjRefIdeal.Gen
open Idealize.ShloMosaic Idealize.ShloMosaic.TcCoe Idealize.SL.Sem Cert.ProjSpec

variable (m : (ℓ : Loc nD τ sig) → Buf (Elt Ideal) ℓ) (c : Dev nD)

abbrev xOf : FVec Ideal S32768x1024 .f32 := m ((c.tc : Thread nD τ).loc main_arg0)
abbrev mpOf : FVec Ideal S48x1x1024 .f32 := m ((c.tc : Thread nD τ).loc main_arg1)
abbrev rOf : FVec Ideal S32768x128 .f32 := m ((c.tc : Thread nD τ).loc main_arg2)
abbrev y0Of : FVec Ideal S32768x1024 .bf16 := m ((c.tc : Thread nD τ).loc main_arg3)
abbrev y1Of : FVec Ideal S32768x1024 .bf16 := m ((c.tc : Thread nD τ).loc main_arg4)
abbrev y2Of : FVec Ideal S32768x1024 .bf16 := m ((c.tc : Thread nD τ).loc main_arg5)
abbrev y3Of : FVec Ideal S32768x1024 .bf16 := m ((c.tc : Thread nD τ).loc main_arg6)
abbrev gOf : FVec Ideal S1x1024 .f32 := m ((c.tc : Thread nD τ).loc main_arg7)
abbrev mdOf : FVec Ideal S48x1x1024 .f32 := m ((c.tc : Thread nD τ).loc main_arg8)
abbrev wOf : FVec Ideal S1024x3072 .bf16 := m ((c.tc : Thread nD τ).loc main_arg9)

/-- The reference's combined stream, by batch entry and position. -/
abbrev streamOf : FVec Ideal S8x4096x1024 .f32 := stream (xOf m c) (mpOf m c) (rOf m c) (y0Of m c) (y1Of m c) (y2Of m c) (y3Of m c)

/-- The combined stream and the columns from `off` of its projection, of the reference's arguments. -/
def rows : (⟨2, ![32768, 1024]⟩ : Shape).Idx → EReal := fun i =>
  combAt (xOf m c) (mpOf m c) (rOf m c) (y0Of m c) (y1Of m c) (y2Of m c) (y3Of m c) (i 0) (i 1)

def cols (off n : Nat) (hn : off + n ≤ 3072) : (⟨2, ![32768, n]⟩ : Shape).Idx → EReal := fun i =>
  projAt (combAt (xOf m c) (mpOf m c) (rOf m c) (y0Of m c) (y1Of m c) (y2Of m c) (y3Of m c)) (gOf m c) (mdOf m c) (wOf m c) (i 0)
    ⟨off + (i 1).val, by have h : (i 1).val < n := (i 1).isLt; omega⟩

theorem res_rows : shapeCast S32768x1024 (streamOf m c) shapeCasts_S8x4096x1024_S32768x1024 = rows m c := by
  funext i
  obtain ⟨a, b, rfl⟩ : ∃ (a : Fin 32768) (b : Fin 1024), i = ValueIdx.ix2 a b := ⟨i 0, i 1, ValueIdx.eq_ix2 i⟩
  refine (shapeCast_apply _ _ _ (ValueIdx.ix3 (bt a) (ps a) b) ?_).trans (stream_apply _ _ _ _ _ _ _ a b)
  rw [Shape.rowMajor_val_three, Shape.rowMajor_val_two]
  show (a.val / 4096 * 4096 + a.val % 4096) * 1024 + b.val = a.val * 1024 + b.val
  rw [Nat.div_add_mod' a.val 4096]

theorem res_cols {n off : Nat} (h : S32768x3072.Slices ![0, off] ⟨2, ![32768, n]⟩) (hn : off + n ≤ 3072) :
    extractStridedSlice ⟨2, ![32768, n]⟩ ![0, off] (Cert.InProjRefIdeal.Proj.projs (streamOf m c) (gOf m c) (mdOf m c) (wOf m c)) h = cols m c off n hn := by
  funext i
  obtain ⟨a, b, rfl⟩ : ∃ (a : Fin 32768) (b : Fin n), i = ValueIdx.ix2 a b := ⟨i 0, i 1, ValueIdx.eq_ix2 i⟩
  refine (Cert.InProjRefIdeal.Proj.cols_apply _ _ _ _ h a b (by omega)).trans ?_
  exact congrArg (fun X => projAt X (gOf m c) (mdOf m c) (wOf m c) a _) (funext fun i => funext fun d => stream_apply _ _ _ _ _ _ _ i d)

end Cert.NextProjRefIdeal.Proj

namespace Cert.NextProjClaims

open Idealize.ShloMosaic Idealize.SL.Sem Cert.ProjSpec

theorem printed_frame : quiescent_NextProj := fun m g _ => Cert.NextProj.Gen.frame m g

theorem ideal_frame : quiescent_NextProjIdeal := fun m g _ => Cert.NextProjIdeal.Gen.frame m g

theorem reference_frame : quiescent_NextProjRefIdeal := fun m g _ =>
  (θ_run _ _ _).mono (fun r h => ⟨fun c => (h c).2.2.2.2.2, sem_eq_zero_of_no_sems rfl r.2⟩) (Cert.NextProjRefIdeal.Value.run m g)

theorem value : algebraic_NextProjIdeal_NextProjRefIdeal := fun m g m' g' _ hag => by
  have hr : Cert.NextProjRefIdeal.Proj.rows m' 0 = Cert.NextProjIdeal.Proj.rows m 0 := by
    obtain ⟨e0, e1, e2, e3, e4, e5, e6, -⟩ := hag 0
    unfold Cert.NextProjRefIdeal.Proj.rows Cert.NextProjIdeal.Proj.rows
    dsimp only [Cert.NextProjRefIdeal.Proj.xOf, Cert.NextProjRefIdeal.Proj.mpOf, Cert.NextProjRefIdeal.Proj.rOf, Cert.NextProjRefIdeal.Proj.y0Of,
      Cert.NextProjRefIdeal.Proj.y1Of, Cert.NextProjRefIdeal.Proj.y2Of, Cert.NextProjRefIdeal.Proj.y3Of]
    rw [e0, e1, e2, e3, e4, e5, e6]
  have hc : ∀ (off n : Nat) (hn : off + n ≤ 3072), Cert.NextProjRefIdeal.Proj.cols m' 0 off n hn = Cert.NextProjIdeal.Proj.cols m 0 off n hn := fun off n hn => by
    obtain ⟨e0, e1, e2, e3, e4, e5, e6, e7, e8, e9⟩ := hag 0
    unfold Cert.NextProjRefIdeal.Proj.cols Cert.NextProjIdeal.Proj.cols
    dsimp only [Cert.NextProjRefIdeal.Proj.xOf, Cert.NextProjRefIdeal.Proj.mpOf, Cert.NextProjRefIdeal.Proj.rOf, Cert.NextProjRefIdeal.Proj.y0Of,
      Cert.NextProjRefIdeal.Proj.y1Of, Cert.NextProjRefIdeal.Proj.y2Of, Cert.NextProjRefIdeal.Proj.y3Of, Cert.NextProjRefIdeal.Proj.gOf,
      Cert.NextProjRefIdeal.Proj.mdOf, Cert.NextProjRefIdeal.Proj.wOf]
    rw [e0, e1, e2, e3, e4, e5, e6, e7, e8, e9]
  refine ⟨fun c => Cert.NextProjIdeal.Proj.rows m c, fun c => Cert.NextProjIdeal.Proj.cols m c 0 1024 (by decide), fun c => Cert.NextProjIdeal.Proj.cols m c 1024 896 (by decide),
    fun c => Cert.NextProjIdeal.Proj.cols m c 1920 384 (by decide), fun c => Cert.NextProjIdeal.Proj.cols m c 2304 768 (by decide), ?_, ?_⟩
  · refine (θ_run _ _ _).mono (fun r q => fun c => ?_) (Cert.NextProjIdeal.Value.run_blocks m g)
    exact ⟨(q c).1.trans (Cert.NextProjIdeal.Proj.final11 m c), (q c).2.1.trans (Cert.NextProjIdeal.Proj.final12 m c),
      (q c).2.2.1.trans (Cert.NextProjIdeal.Proj.final13 m c), (q c).2.2.2.1.trans (Cert.NextProjIdeal.Proj.final14 m c),
      (q c).2.2.2.2.1.trans (Cert.NextProjIdeal.Proj.final15 m c), (q c).2.2.2.2.2⟩
  · refine (θ_run _ _ _).mono (fun r q => fun c => ?_) (Cert.NextProjRefIdeal.Value.run m' g')
    obtain rfl : c = 0 := Subsingleton.elim (α := Fin 1) _ _
    exact ⟨(q 0).1.trans ((Cert.NextProjRefIdeal.Proj.res_rows m' 0).trans hr),
      (q 0).2.1.trans ((Cert.NextProjRefIdeal.Proj.res_cols m' 0 (n := 1024) (off := 0) Cert.NextProjRefIdeal.Facts₀.slices_S32768x3072_S32768x1024_0_0 (by decide)).trans (hc 0 1024 (by decide))),
      (q 0).2.2.1.trans ((Cert.NextProjRefIdeal.Proj.res_cols m' 0 (n := 896) (off := 1024) Cert.NextProjRefIdeal.Facts₀.slices_S32768x3072_S32768x896_0_1024 (by decide)).trans (hc 1024 896 (by decide))),
      (q 0).2.2.2.1.trans ((Cert.NextProjRefIdeal.Proj.res_cols m' 0 (n := 384) (off := 1920) Cert.NextProjRefIdeal.Facts₀.slices_S32768x3072_S32768x384_0_1920 (by decide)).trans (hc 1920 384 (by decide))),
      (q 0).2.2.2.2.1.trans ((Cert.NextProjRefIdeal.Proj.res_cols m' 0 (n := 768) (off := 2304) Cert.NextProjRefIdeal.Facts₀.slices_S32768x3072_S32768x768_0_2304 (by decide)).trans (hc 2304 768 (by decide))),
      (q 0).2.2.2.2.2⟩

end Cert.NextProjClaims

end
-- ==== Proof.FinalNorm.Spec.lean ====
/- The trunk's last step in plain words: the residual stream's row, divided by its root mean square and scaled by the gain. -/
module

public import proofs.«01_k».proof.Proof.Proj.Spec

@[expose] public section

noncomputable section

namespace Cert.ProjSpec

open Idealize.ShloMosaic

/-- A normalized row at column `d`. -/
def unit (x g : Fin 1024 → EReal) (d : Fin 1024) : EReal :=
  x d * Ideal.rsqrt (Ideal.div (∑ k : Fin 1024, x k * x k) width + eps) * g d

/-- Every row of the stream, normalized. -/
def unitRows (X : Fin 32768 → Fin 1024 → EReal) (g : (⟨2, ![1, 1024]⟩ : Shape).Idx → EReal) : (⟨2, ![32768, 1024]⟩ : Shape).Idx → EReal :=
  fun i => unit (X (i 0)) (fun d => g (ValueIdx.ix2 0 d)) (i 1)

end Cert.ProjSpec

end
-- ==== Proof.FinalNorm.Value.lean ====
/- The array after the last call's run: every row of the residual stream, with the experts' outputs added, normalized. -/
module

public import proofs.«01_k».proof.Proof.Gen.FinalNormIdeal.Value
public import proofs.«01_k».proof.Proof.NextProj.Elem
public import proofs.«01_k».proof.Proof.FinalNorm.Spec
public import proofs.«01_k».proof.Proof.Proj.Rows

@[expose] public section

set_option maxRecDepth 16384

noncomputable section

namespace Cert.FinalNormIdeal.Norm

open Cert.FinalNormIdeal Cert.FinalNormIdeal.Gen
open Idealize.ShloMosaic Idealize.ShloMosaic.TcCoe
open Cert.ProjSpec
open Cert.NextProjIdeal.Proj (stream stream_apply)

/-! ## The block stored at a grid point -/

section
variable (x : Vec Ideal S512x1024 .f32) (g2 : Vec Ideal S1x1x1024 .f32) (r : Vec Ideal S512x128 .f32) (y0 y1 y2 y3 : Vec Ideal S512x1024 .bf16)
  (g : Vec Ideal S1x1024 .f32)

theorem norm_apply (v : FVec Ideal S512x1024 .f32) (a : Fin 512) (d : Fin 1024) :
    k0_pay1 v g (Cert.InProjIdeal.Proj.rms v) (ValueIdx.ix2 a d) = unit (fun d => v (ValueIdx.ix2 a d)) (fun d => g (ValueIdx.ix2 0 d)) d := by
  show v (ValueIdx.ix2 a d) * broadcastTo S512x1024 (Cert.InProjIdeal.Proj.rms v) broadcasts_S512x1_S512x1024 (ValueIdx.ix2 a d)
      * broadcastTo S512x1024 g broadcasts_S1x1024_S512x1024 (ValueIdx.ix2 a d) = _
  have e1 := (Cert.InProjIdeal.Proj.col_apply (Cert.InProjIdeal.Proj.rms v) a d).trans (Cert.InProjIdeal.Proj.rms_apply v a)
  have e2 := Cert.InProjIdeal.Proj.mod_apply g a d
  exact congrArg₂ (· * ·) (congrArg (v (ValueIdx.ix2 a d) * ·) e1) e2

theorem out8_apply (a : Fin 512) (d : Fin 1024) : out0_8 x g2 r y0 y1 y2 y3 g (ValueIdx.ix2 a d)
    = unit (fun d => stream x g2 r y0 y1 y2 y3 (ValueIdx.ix2 a d)) (fun d => g (ValueIdx.ix2 0 d)) d := by
  refine (congrFun (View.canon_unit_zero (funext fun i => by fin_cases i <;> rfl) _ _) _).trans ?_
  have hr : View.ld r r0_0 = r := View.ld_unit_zero (funext fun i => by fin_cases i <;> rfl) _ r
  have hy : ∀ y : Vec Ideal S512x1024 .bf16, View.ld y r0_1 = y := fun y => View.ld_unit_zero (funext fun i => by fin_cases i <;> rfl) _ y
  have hx : View.ld x r0_1 = x := View.ld_unit_zero (funext fun i => by fin_cases i <;> rfl) _ x
  have hs : View.ld g2 r0_2 = g2 := View.ld_unit_zero (funext fun i => by fin_cases i <;> rfl) _ g2
  have hg : View.ld g r0_3 = g := View.ld_unit_zero (funext fun i => by fin_cases i <;> rfl) _ g
  rw [hr, hy, hy, hy, hy, hx, hs, hg]
  exact norm_apply g (stream x g2 r y0 y1 y2 y3) a d
end

/-! ## Which block a grid point reads and writes -/

theorem idx0 : ∀ t : Fin grid0.N, win0_0.index t = ![t.val, 0] := by decide +kernel
theorem idx1 : ∀ t : Fin grid0.N, win0_1.index t = ![t.val / 8 * 6 + 5, 0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![0, 0] := by decide +kernel
theorem idx8 : ∀ t : Fin grid0.N, win0_8.index t = ![t.val, 0] := by decide +kernel

variable (m : (ℓ : Loc nD τ sig) → Buf (Elt Ideal) ℓ) (c : Dev nD)

abbrev xOf : S32768x1024.Idx → EReal := m ((c.tc : Thread nD τ).loc main_arg0)
abbrev mpOf : S48x1x1024.Idx → EReal := m ((c.tc : Thread nD τ).loc main_arg1)
abbrev rOf : S32768x128.Idx → EReal := m ((c.tc : Thread nD τ).loc main_arg2)
abbrev y0Of : S32768x1024.Idx → EReal := m ((c.tc : Thread nD τ).loc main_arg3)
abbrev y1Of : S32768x1024.Idx → EReal := m ((c.tc : Thread nD τ).loc main_arg4)
abbrev y2Of : S32768x1024.Idx → EReal := m ((c.tc : Thread nD τ).loc main_arg5)
abbrev y3Of : S32768x1024.Idx → EReal := m ((c.tc : Thread nD τ).loc main_arg6)
abbrev gOf : S1x1024.Idx → EReal := m ((c.tc : Thread nD τ).loc main_arg7)

/-- A grid point, of which there are 64. -/
abbrev pt (t : Fin grid0.N) : Fin 64 := t.cast N_0

/-- Every row of the residual stream with the experts' outputs added. -/
abbrev streamOf : Fin 32768 → Fin 1024 → EReal := combAt (xOf m c) (mpOf m c) (rOf m c) (y0Of m c) (y1Of m c) (y2Of m c) (y3Of m c)

variable (t : Fin grid0.N) (a : Fin 512)

theorem blk0 (d : Fin 1024) : iblk m c 0 t (ValueIdx.ix2 a d) = xOf m c (ValueIdx.ix2 (rowOf (pt t) a) d) :=
  congrArg (xOf m c) (emb_row (pt t) a d _ (idx0 t) ((win0_0.blk t).view.emb (ValueIdx.ix2 a d)) rfl rfl)

theorem blk1 (d : Fin 1024) : iblk m c 1 t (ValueIdx.ix3 0 0 d) = mpOf m c (ValueIdx.ix3 (modRow (rowOf (pt t) a) 5) 0 d) :=
  congrArg (mpOf m c) (emb_md (pt t) a 5 d _ (idx1 t) ((win0_1.blk t).view.emb (ValueIdx.ix3 0 0 d)) rfl rfl)

theorem blk2 (k : Fin 128) : iblk m c 2 t (ValueIdx.ix2 a k) = rOf m c (ValueIdx.ix2 (rowOf (pt t) a) k) :=
  congrArg (rOf m c) (emb_row (pt t) a k _ (idx2 t) ((win0_2.blk t).view.emb (ValueIdx.ix2 a k)) rfl rfl)

theorem blk3 (d : Fin 1024) : iblk m c 3 t (ValueIdx.ix2 a d) = y0Of m c (ValueIdx.ix2 (rowOf (pt t) a) d) :=
  congrArg (y0Of m c) (emb_row (pt t) a d _ (idx3 t) ((win0_3.blk t).view.emb (ValueIdx.ix2 a d)) rfl rfl)

theorem blk4 (d : Fin 1024) : iblk m c 4 t (ValueIdx.ix2 a d) = y1Of m c (ValueIdx.ix2 (rowOf (pt t) a) d) :=
  congrArg (y1Of m c) (emb_row (pt t) a d _ (idx4 t) ((win0_4.blk t).view.emb (ValueIdx.ix2 a d)) rfl rfl)

theorem blk5 (d : Fin 1024) : iblk m c 5 t (ValueIdx.ix2 a d) = y2Of m c (ValueIdx.ix2 (rowOf (pt t) a) d) :=
  congrArg (y2Of m c) (emb_row (pt t) a d _ (idx5 t) ((win0_5.blk t).view.emb (ValueIdx.ix2 a d)) rfl rfl)

theorem blk6 (d : Fin 1024) : iblk m c 6 t (ValueIdx.ix2 a d) = y3Of m c (ValueIdx.ix2 (rowOf (pt t) a) d) :=
  congrArg (y3Of m c) (emb_row (pt t) a d _ (idx6 t) ((win0_6.blk t).view.emb (ValueIdx.ix2 a d)) rfl rfl)

theorem blk7 (d : Fin 1024) : iblk m c 7 t (ValueIdx.ix2 0 d) = gOf m c (ValueIdx.ix2 0 d) :=
  congrArg (gOf m c) (emb_one 0 d _ (idx7 t) ((win0_7.blk t).view.emb (ValueIdx.ix2 0 d)) rfl rfl)

/-- Row `a` of block `t` of the combined stream is the array's row. -/
theorem stream_blk (d : Fin 1024) :
    stream (iblk m c 0 t) (iblk m c 1 t) (iblk m c 2 t) (iblk m c 3 t) (iblk m c 4 t) (iblk m c 5 t) (iblk m c 6 t) (ValueIdx.ix2 a d)
      = streamOf m c (rowOf (pt t) a) d := by
  refine (stream_apply _ _ _ _ _ _ _ a d).trans ?_
  rw [blk0, blk1 m c t a, blk2, blk2, blk2, blk2, blk3, blk4, blk5, blk6]
  rfl

/-- The normalized stream, as an array. -/
def rows : (⟨2, ![32768, 1024]⟩ : Shape).Idx → EReal := unitRows (streamOf m c) (gOf m c)

/-! ## The result -/

theorem flushed8 : (dats m 0 c).flushed 8 t = ((cfg0.win 8).blk t).view.read (Elt Ideal) (rows m c) := by
  refine (Value.flushed8 m c t).trans (funext fun y => ?_)
  obtain ⟨a, b, rfl⟩ : ∃ (a : Fin 512) (b : Fin 1024), y = ValueIdx.ix2 a b := ⟨y 0, y 1, ValueIdx.eq_ix2 y⟩
  have h0 : (fun d => stream (iblk m c 0 t) (iblk m c 1 t) (iblk m c 2 t) (iblk m c 3 t) (iblk m c 4 t) (iblk m c 5 t) (iblk m c 6 t) (ValueIdx.ix2 a d))
    = streamOf m c (rowOf (pt t) a) := funext fun d => stream_blk m c t a d
  have h1 : (fun d => iblk m c 7 t (ValueIdx.ix2 0 d)) = fun d => gOf m c (ValueIdx.ix2 0 d) := funext fun d => blk7 m c t d
  refine (out8_apply _ _ _ _ _ _ _ _ a b).trans ((congrArg₂ (fun u v => unit u v b) h0 h1).trans ?_)
  exact (congrArg (rows m c) (emb_row (pt t) a b _ (idx8 t) ((win0_8.blk t).view.emb (ValueIdx.ix2 a b)) rfl rfl)).symm

theorem mem_blk8 (i : S32768x1024.Idx) : Iff (i ∈ ((cfg0.win 8).blk t).view.set)
    (∀ x : Fin 2, win0_8.index t x * (![512, 1024] : Fin 2 → Nat) x ≤ (i x).val ∧ (i x).val < win0_8.index t x * (![512, 1024] : Fin 2 → Nat) x + (![512, 1024] : Fin 2 → Nat) x) := by
  show Iff (i ∈ ((View.whole main_v0).slice (win0_8.rect t)).set) _
  rw [View.set_slice_whole, Rect.mem_set_unit]
  exact Iff.rfl

theorem final8 : (dats m 0 c).arrAt 8 cfg0.N = rows m c :=
  (dats m 0 c).arrAt_eq_of_cover 8 _ (fun t _ => flushed8 m c t) (fun (i : S32768x1024.Idx) =>
    ⟨⟨(i 0).val / 512, lt_of_lt_of_eq (row_lt i) N_0.symm⟩, flush0_8 _, (mem_blk8 _ i).2 (mem_row i _ (idx8 _))⟩)

end Cert.FinalNormIdeal.Norm

end
-- ==== Proof.FinalNorm.Claims.lean ====
/- The claims about the trunk's last call. -/
module

public import proofs.«01_k».proof.Defs
public import proofs.«01_k».proof.Proof.Gen.FinalNorm.Frame
public import proofs.«01_k».proof.Proof.Gen.FinalNormRefIdeal.Run
public import proofs.«01_k».proof.Proof.FinalNorm.Value
public import proofs.«01_k».proof.Proof.NextProj.Ref
public import Idealize.ShloMosaic.Lib.Quiescent

@[expose] public section

set_option maxRecDepth 16384

noncomputable section

namespace Cert.FinalNormRefIdeal.Norm

open Cert.FinalNormRefIdeal Cert.FinalNormRefIdeal.Gen
open Idealize.ShloMosaic Idealize.ShloMosaic.TcCoe Idealize.SL.Sem Cert.ProjSpec
open Cert.NextProjRefIdeal.Proj (stream stream_apply bt ps)

/-- Every row of a stack of sequences, normalized. -/
def normed (X : FVec Ideal S8x4096x1024 .f32) (g : FVec Ideal S1x1024 .f32) : FVec Ideal S8x4096x1024 .f32 :=
  mulf (mulf X (broadcastInDim S8x4096x1024 ![0, 1, 2] bcast_S8x4096x1_S8x4096x1024_0_1_2 (Cert.InProjRefIdeal.Proj.rms X)))
    (broadcastInDim S8x4096x1024 ![0, 1, 2] bcast_S1x1x1024_S8x4096x1024_0_1_2 (broadcastInDim S1x1x1024 ![1, 2] bcast_S1x1024_S1x1x1024_1_2 g))

theorem normed_apply (X : FVec Ideal S8x4096x1024 .f32) (g : FVec Ideal S1x1024 .f32) (b : Fin 8) (s : Fin 4096) (d : Fin 1024) :
    normed X g (ValueIdx.ix3 b s d) = unit (fun d => X (ValueIdx.ix3 b s d)) (fun d => g (ValueIdx.ix2 0 d)) d := by
  have e1 := (broadcastInDim_apply ![0, 1, 2] bcast_S8x4096x1_S8x4096x1024_0_1_2 (Cert.InProjRefIdeal.Proj.rms X) (ValueIdx.ix3 b s d) (ValueIdx.ix3 b s 0)
    (fun a => by fin_cases a <;> rfl)).trans (Cert.InProjRefIdeal.Proj.rms_apply X b s)
  have e2 := broadcastInDim_apply ![0, 1, 2] bcast_S1x1x1024_S8x4096x1024_0_1_2 (broadcastInDim S1x1x1024 ![1, 2] bcast_S1x1024_S1x1x1024_1_2 g) (ValueIdx.ix3 b s d) (ValueIdx.ix3 0 0 d) (fun a => by fin_cases a <;> rfl)
  have e3 := broadcastInDim_apply ![1, 2] bcast_S1x1024_S1x1x1024_1_2 g (ValueIdx.ix3 0 0 d) (ValueIdx.ix2 0 d) (fun a => by fin_cases a <;> rfl)
  exact congrArg₂ (· * ·) (congrArg (X (ValueIdx.ix3 b s d) * ·) e1) (e2.trans e3)

variable (m : (ℓ : Loc nD τ sig) → Buf (Elt Ideal) ℓ) (c : Dev nD)

abbrev xOf : FVec Ideal S32768x1024 .f32 := m ((c.tc : Thread nD τ).loc main_arg0)
abbrev mpOf : FVec Ideal S48x1x1024 .f32 := m ((c.tc : Thread nD τ).loc main_arg1)
abbrev rOf : FVec Ideal S32768x128 .f32 := m ((c.tc : Thread nD τ).loc main_arg2)
abbrev y0Of : FVec Ideal S32768x1024 .bf16 := m ((c.tc : Thread nD τ).loc main_arg3)
abbrev y1Of : FVec Ideal S32768x1024 .bf16 := m ((c.tc : Thread nD τ).loc main_arg4)
abbrev y2Of : FVec Ideal S32768x1024 .bf16 := m ((c.tc : Thread nD τ).loc main_arg5)
abbrev y3Of : FVec Ideal S32768x1024 .bf16 := m ((c.tc : Thread nD τ).loc main_arg6)
abbrev gOf : FVec Ideal S1x1024 .f32 := m ((c.tc : Thread nD τ).loc main_arg7)

/-- The reference's combined stream, by batch entry and position. -/
abbrev streamOf : FVec Ideal S8x4096x1024 .f32 := stream (xOf m c) (mpOf m c) (rOf m c) (y0Of m c) (y1Of m c) (y2Of m c) (y3Of m c)

/-- The normalized stream of the reference's arguments. -/
def rows : (⟨2, ![32768, 1024]⟩ : Shape).Idx → EReal :=
  unitRows (combAt (xOf m c) (mpOf m c) (rOf m c) (y0Of m c) (y1Of m c) (y2Of m c) (y3Of m c)) (gOf m c)

theorem res_rows : shapeCast S32768x1024 (normed (streamOf m c) (gOf m c)) shapeCasts_S8x4096x1024_S32768x1024 = rows m c := by
  funext i
  obtain ⟨a, b, rfl⟩ : ∃ (a : Fin 32768) (b : Fin 1024), i = ValueIdx.ix2 a b := ⟨i 0, i 1, ValueIdx.eq_ix2 i⟩
  refine (shapeCast_apply _ _ _ (ValueIdx.ix3 (bt a) (ps a) b) ?_).trans ((normed_apply _ _ _ _ _).trans ?_)
  · rw [Shape.rowMajor_val_three, Shape.rowMajor_val_two]
    show (a.val / 4096 * 4096 + a.val % 4096) * 1024 + b.val = a.val * 1024 + b.val
    rw [Nat.div_add_mod' a.val 4096]
  · exact congrArg (fun X => unit X _ b) (funext fun d => stream_apply _ _ _ _ _ _ _ a d)

end Cert.FinalNormRefIdeal.Norm

namespace Cert.FinalNormClaims

open Idealize.ShloMosaic Idealize.SL.Sem Cert.ProjSpec

theorem printed_frame : quiescent_FinalNorm := fun m g _ => Cert.FinalNorm.Gen.frame m g

theorem ideal_frame : quiescent_FinalNormIdeal := fun m g _ => Cert.FinalNormIdeal.Gen.frame m g

theorem reference_frame : quiescent_FinalNormRefIdeal := fun m g _ =>
  (θ_run _ _ _).mono (fun r h => ⟨fun c => (h c).2, sem_eq_zero_of_no_sems rfl r.2⟩) (Cert.FinalNormRefIdeal.Value.run m g)

theorem value : algebraic_FinalNormIdeal_FinalNormRefIdeal := fun m g m' g' _ hag => by
  have hr : Cert.FinalNormRefIdeal.Norm.rows m' 0 = Cert.FinalNormIdeal.Norm.rows m 0 := by
    obtain ⟨e0, e1, e2, e3, e4, e5, e6, e7⟩ := hag 0
    unfold Cert.FinalNormRefIdeal.Norm.rows Cert.FinalNormIdeal.Norm.rows
    dsimp only [Cert.FinalNormRefIdeal.Norm.xOf, Cert.FinalNormRefIdeal.Norm.mpOf, Cert.FinalNormRefIdeal.Norm.rOf, Cert.FinalNormRefIdeal.Norm.y0Of,
      Cert.FinalNormRefIdeal.Norm.y1Of, Cert.FinalNormRefIdeal.Norm.y2Of, Cert.FinalNormRefIdeal.Norm.y3Of, Cert.FinalNormRefIdeal.Norm.gOf]
    rw [e0, e1, e2, e3, e4, e5, e6, e7]
  refine ⟨fun c => Cert.FinalNormIdeal.Norm.rows m c, ?_, ?_⟩
  · refine (θ_run _ _ _).mono (fun r q => fun c => ?_) (Cert.FinalNormIdeal.Value.run_blocks m g)
    exact ⟨(q c).1.trans (Cert.FinalNormIdeal.Norm.final8 m c), (q c).2⟩
  · refine (θ_run _ _ _).mono (fun r q => fun c => ?_) (Cert.FinalNormRefIdeal.Value.run m' g')
    obtain rfl : c = 0 := Subsingleton.elim (α := Fin 1) _ _
    exact ⟨(q 0).1.trans ((Cert.FinalNormRefIdeal.Norm.res_rows m' 0).trans hr), (q 0).2⟩

end Cert.FinalNormClaims

end
-- ==== Proof.OutProj.Spec.lean ====
/- The output projection in plain words: one of the four mixers' rows is normalized per head of 64 columns, the four rows
   are multiplied with their slices of the matrix and summed, the sum is gated onto the residual stream, and the new row of
   the stream is normalized and modulated. -/
module

public import proofs.«01_k».proof.Proof.Proj.Spec
public import Idealize.ShloMosaic.Lib.IdealHost

@[expose] public section

noncomputable section

namespace Cert.OutSpec

open Idealize.ShloMosaic Cert.ProjSpec

/-- A head's width and the small number added to its variance: the words the programs write. -/
def headDim : EReal := Ideal.ofBits .f32 0x42800000#32
def lnEps : EReal := Ideal.ofBits .f32 0x3A27C5AC#32

/-- Column `e` of the head that column `j` is in. -/
def hcol (j : Fin 256) (e : Fin 64) : Fin 256 := ⟨j.val / 64 * 64 + e.val, by omega⟩

/-- The mean of a row over the head that column `j` is in. -/
def headMean (x : Fin 256 → EReal) (j : Fin 256) : EReal := Ideal.div (∑ e : Fin 64, x (hcol j e)) headDim

/-- The row less its heads' means. -/
def centred (x : Fin 256 → EReal) (j : Fin 256) : EReal := x j - headMean x j

/-- The row with every head normalized, scaled, shifted by the bonus, and gated. -/
def headNorm (x ln b g : Fin 256 → EReal) (j : Fin 256) : EReal :=
  (centred x j * Ideal.rsqrt (headMean (fun k => centred x k * centred x k) j + lnEps) * ln j + b j) * g j

/-- Row `k` of the matrix's slice number `q`. -/
def slice (q : Fin 4) (k : Fin 256) : Fin 1024 := ⟨q.val * 256 + k.val, by omega⟩

/-- The four rows times their slices of one column of the matrix. -/
def mix (r0 r1 r2 r3 : Fin 256 → EReal) (w : Fin 1024 → EReal) : EReal :=
  ∑ k, r0 k * w (slice 0 k) + ∑ k, r1 k * w (slice 1 k) + ∑ k, r2 k * w (slice 2 k) + ∑ k, r3 k * w (slice 3 k)

/-- A row of a matrix with 256 columns. -/
abbrev row (x : (⟨2, ![32768, 256]⟩ : Shape).Idx → EReal) (i : Fin 32768) (k : Fin 256) : EReal := x (ValueIdx.ix2 i k)

/-- Row `i` of the new residual stream, at column `d`. -/
def streamAt (yr yd ys yw bonus gate : (⟨2, ![32768, 256]⟩ : Shape).Idx → EReal) (ln : (⟨2, ![1, 256]⟩ : Shape).Idx → EReal)
    (x : (⟨2, ![32768, 1024]⟩ : Shape).Idx → EReal) (md : (⟨3, ![48, 1, 1024]⟩ : Shape).Idx → EReal)
    (w : (⟨2, ![1024, 1024]⟩ : Shape).Idx → EReal) (i : Fin 32768) (d : Fin 1024) : EReal :=
  x (ValueIdx.ix2 i d) + md (ValueIdx.ix3 (modRow i 2) 0 d)
    * mix (row yr i) (headNorm (row yw i) (fun j => ln (ValueIdx.ix2 0 j)) (row bonus i) (row gate i)) (row yd i) (row ys i) (fun k => w (ValueIdx.ix2 k d))

/-- The new row normalized and modulated, for the experts. -/
def hiddenAt (X : Fin 32768 → Fin 1024 → EReal) (md : (⟨3, ![48, 1, 1024]⟩ : Shape).Idx → EReal) (g : (⟨2, ![1, 1024]⟩ : Shape).Idx → EReal)
    (i : Fin 32768) (d : Fin 1024) : EReal :=
  nrow (X i) (fun d => g (ValueIdx.ix2 0 d)) (fun d => md (ValueIdx.ix3 (modRow i 4) 0 d)) (fun d => md (ValueIdx.ix3 (modRow i 3) 0 d)) d

/-! ## Finite rows -/

/-- A number that is neither infinity. -/
def Real' (x : EReal) : Prop := ∃ r : ℝ, x = r

theorem Real'.sub {x y : EReal} : Real' x → Real' y → Real' (x - y) := by
  rintro ⟨a, rfl⟩ ⟨b, rfl⟩; exact ⟨a - b, (EReal.coe_sub a b).symm⟩

theorem Real'.mul {x y : EReal} : Real' x → Real' y → Real' (x * y) := by
  rintro ⟨a, rfl⟩ ⟨b, rfl⟩; exact ⟨a * b, (EReal.coe_mul a b).symm⟩

theorem Real'.sum {ι : Type} (s : Finset ι) (f : ι → EReal) (h : ∀ i, Real' (f i)) : Real' (∑ i ∈ s, f i) := by
  classical
  induction s using Finset.induction_on with
  | empty => exact ⟨0, by simp⟩
  | insert a s ha ih =>
    obtain ⟨p, hp⟩ := h a
    obtain ⟨q, hq⟩ := ih
    exact ⟨p + q, by rw [Finset.sum_insert ha, hp, hq, EReal.coe_add]⟩

theorem Real'.sub_self {x : EReal} : Real' x → x - x = 0 := by
  rintro ⟨a, rfl⟩; rw [← EReal.coe_sub, _root_.sub_self, EReal.coe_zero]

/-! ## One sixty-fourth -/

theorem headDim_eq : headDim = ((64 : ℝ) : EReal) := by
  simp [headDim, Ideal.ofBits, Ideal.ieee, -EReal.coe_mul]; norm_num

theorem recip_eq : Ideal.ofBits .f32 0x3C800000#32 = (((64 : ℝ)⁻¹ : ℝ) : EReal) := by
  simp [Ideal.ofBits, Ideal.ieee, -EReal.coe_mul]; norm_num

/-- The product with the reciprocal of the head's width is the quotient by the width. -/
theorem mul_recip (x : EReal) : x * Ideal.ofBits .f32 0x3C800000#32 = Ideal.div x headDim := by
  have h0 : headDim ≠ 0 := by rw [headDim_eq]; exact_mod_cast (by norm_num : (64 : ℝ) ≠ 0)
  unfold Ideal.div
  rw [if_neg h0, recip_eq, headDim_eq, EReal.coe_inv]

theorem Real'.headMean {x : Fin 256 → EReal} (h : ∀ k, Real' (x k)) (j : Fin 256) : Real' (headMean x j) := by
  unfold OutSpec.headMean
  rw [← mul_recip]
  exact (Real'.sum _ _ fun e => h _).mul ⟨_, recip_eq⟩

theorem Real'.centred {x : Fin 256 → EReal} (h : ∀ k, Real' (x k)) (j : Fin 256) : Real' (centred x j) :=
  (h j).sub (Real'.headMean h j)

/-! ## The sum over a head, written as a product with a matrix of zeros and ones -/

/-- One where two columns are in one head. -/
def same (k j : Fin 256) : EReal := if k.val / 64 = j.val / 64 then 1 else 0

theorem sum_same (x : Fin 256 → EReal) (j : Fin 256) : ∑ k, x k * same k j = ∑ e : Fin 64, x (hcol j e) := by
  have hj : j.val / 64 < 4 := by omega
  rw [← (finProdFinEquiv (m := 4) (n := 64)).sum_comp, Fintype.sum_prod_type, Finset.sum_eq_single (⟨j.val / 64, hj⟩ : Fin 4)]
  · refine Finset.sum_congr rfl fun e _ => ?_
    have e1 : finProdFinEquiv ((⟨j.val / 64, hj⟩ : Fin 4), e) = hcol j e := Fin.ext (by
      show e.val + 64 * (j.val / 64) = j.val / 64 * 64 + e.val
      omega)
    have e2 : (hcol j e).val / 64 = j.val / 64 := by
      show (j.val / 64 * 64 + e.val) / 64 = _
      omega
    rw [e1]
    unfold same
    rw [if_pos e2, mul_one]
  · intro h _ hn
    refine Finset.sum_eq_zero fun e _ => ?_
    have e2 : ¬ (finProdFinEquiv (h, e) : Fin 256).val / 64 = j.val / 64 := by
      show ¬ (e.val + 64 * h.val) / 64 = _
      intro q
      exact hn (Fin.ext (by show h.val = j.val / 64; omega))
    unfold same
    rw [if_neg e2, mul_zero]
  · intro q; exact absurd (Finset.mem_univ _) q

/-- The same product of what is left of a finite row when it is taken from itself vanishes. -/
theorem split_same (x : Fin 256 → EReal) (h : ∀ k, Real' (x k)) (j : Fin 256) :
    ∑ k, x k * same k j + ∑ k, (x k - x k) * same k j = ∑ e : Fin 64, x (hcol j e) := by
  rw [sum_same, Finset.sum_eq_zero (f := fun k => (x k - x k) * same k j) (fun k _ => by rw [(h k).sub_self, zero_mul]), add_zero]

/-! ## One row of 1024 columns in four parts -/

theorem sum_slices (f : Fin 1024 → EReal) :
    ∑ k, f k = ∑ k, f (slice 0 k) + ∑ k, f (slice 1 k) + ∑ k, f (slice 2 k) + ∑ k, f (slice 3 k) := by
  rw [← (finProdFinEquiv (m := 4) (n := 256)).sum_comp, Fintype.sum_prod_type, Fin.sum_univ_four]
  have e (q : Fin 4) : ∑ k : Fin 256, f (finProdFinEquiv (q, k)) = ∑ k, f (slice q k) :=
    Finset.sum_congr rfl fun k _ => congrArg f (Fin.ext (by
      show k.val + 256 * q.val = q.val * 256 + k.val
      omega))
  rw [e 0, e 1, e 2, e 3]

end Cert.OutSpec

end
-- ==== Proof.OutProj.Heads.lean ====
/- The matrix of zeros and ones that the program builds before the call: one where two columns are in one head. -/
module

public import proofs.«01_k».proof.Proof.Gen.OutProjIdeal.Frame
public import proofs.«01_k».proof.Proof.OutProj.Spec
public import Idealize.ShloMosaic.Lib.StableHlo.Run
public import Idealize.ShloMosaic.Lib.Pipeline.Value

@[expose] public section

set_option maxRecDepth 16384

noncomputable section

namespace Cert.OutProjIdeal.Out

open Cert.OutProjIdeal Cert.OutProjIdeal.Gen
open Idealize.ShloMosaic Idealize.ShloMosaic.TcCoe
open Cert.OutSpec

/-- Division by 64 rounded towards minus infinity, as the program writes it. -/
def floorDiv {s : Shape} (h : S_.BroadcastsInDim s ![]) (x : IVec s 32) : IVec s 32 :=
  select (andi (cmpi .ne (signi x) (broadcastInDim s ![] h (signi (constantI S_ 32 64#32))))
      (cmpi .ne (Host.remsi x (broadcastInDim s ![] h (constantI S_ 32 64#32))) (broadcastInDim s ![] h (constantI S_ 32 0#32))))
    (subi (Host.divsi x (broadcastInDim s ![] h (constantI S_ 32 64#32))) (broadcastInDim s ![] h (constantI S_ 32 1#32)))
    (Host.divsi x (broadcastInDim s ![] h (constantI S_ 32 64#32)))

/-- The head of every row and of every column. -/
def headRow : IVec S256x1 32 := floorDiv bcast_S_S256x1 (broadcastInDim S256x1 ![0] bcast_S256_S256x1_0 (iotaInDim S256 32 0))
def headCol : IVec S1x256 32 := floorDiv bcast_S_S1x256 (broadcastInDim S1x256 ![1] bcast_S256_S1x256_1 (iotaInDim S256 32 0))

/-- The matrix. -/
def heads : FVec Ideal S256x256 .bf16 :=
  uitofp .bf16 (cmpi .eq (broadcastInDim S256x256 ![0, 1] bcast_S256x1_S256x256_0_1 headRow) (broadcastInDim S256x256 ![0, 1] bcast_S1x256_S256x256_0_1 headCol))

set_option maxHeartbeats 4000000 in
theorem V_heads (m : (ℓ : Loc nD τ sig) → Buf (Elt Ideal) ℓ) (c : Dev nD) : V m c main_v9 = heads := by
  unfold V
  simp only [List.flatten_cons, List.flatten_nil, List.append_nil, List.cons_append, List.nil_append]
  after_results_simp
  rfl

/-- The quotient at one word. -/
def word (x : BitVec 32) : BitVec 32 :=
  Scalar.select (IntOp.andi (IntOp.cmpi .ne (if x = 0 then 0 else if x.msb then -1 else 1) (if (64#32) = 0 then 0 else if (64#32).msb then -1 else (1 : BitVec 32)))
      (IntOp.cmpi .ne (IntOp.remsi .host x 64#32) 0#32))
    (IntOp.subi (IntOp.divsi .host x 64#32) 1#32) (IntOp.divsi .host x 64#32)

theorem word_eq : ∀ a : Fin 256, word (BitVec.ofNat 32 a.val) = BitVec.ofNat 32 (a.val / 64) := by decide +kernel

theorem headRow_apply (a : Fin 256) : headRow (ValueIdx.ix2 a 0) = BitVec.ofNat 32 (a.val / 64) := word_eq a

theorem headCol_apply (b : Fin 256) : headCol (ValueIdx.ix2 0 b) = BitVec.ofNat 32 (b.val / 64) := word_eq b

theorem word_cmp : ∀ p q : Fin 4, IntOp.cmpi .eq (BitVec.ofNat 32 p.val) (BitVec.ofNat 32 q.val) = if p.val = q.val then 1#1 else 0#1 := by decide +kernel

theorem heads_apply (a b : Fin 256) : heads (ValueIdx.ix2 a b) = same a b := by
  have e1 : broadcastInDim S256x256 ![0, 1] bcast_S256x1_S256x256_0_1 headRow (ValueIdx.ix2 a b) = headRow (ValueIdx.ix2 a 0) :=
    congrArg headRow (funext fun i => by fin_cases i <;> rfl)
  have e2 : broadcastInDim S256x256 ![0, 1] bcast_S1x256_S256x256_0_1 headCol (ValueIdx.ix2 a b) = headCol (ValueIdx.ix2 0 b) :=
    congrArg headCol (funext fun i => by fin_cases i <;> rfl)
  show FloatOps.uitofp (F := Ideal) .bf16 (IntOp.cmpi .eq
    (broadcastInDim S256x256 ![0, 1] bcast_S256x1_S256x256_0_1 headRow (ValueIdx.ix2 a b))
    (broadcastInDim S256x256 ![0, 1] bcast_S1x256_S256x256_0_1 headCol (ValueIdx.ix2 a b))) = _
  rw [e1, e2, headRow_apply, headCol_apply]
  refine (congrArg (FloatOps.uitofp (F := Ideal) .bf16) (word_cmp ⟨a.val / 64, by omega⟩ ⟨b.val / 64, by omega⟩)).trans ?_
  unfold same
  by_cases h : a.val / 64 = b.val / 64
  · rw [if_pos h, if_pos h]
    show (((1#1).toNat : ℝ) : EReal) = 1
    simp
  · rw [if_neg h, if_neg h]
    show (((0#1).toNat : ℝ) : EReal) = 0
    simp

end Cert.OutProjIdeal.Out

end
-- ==== Proof.OutProj.Elem.lean ====
/- The two blocks stored at a grid point, read at an element over the extended reals. -/
module

public import proofs.«01_k».proof.Proof.OutProj.Heads
public import proofs.«01_k».proof.Proof.InProj.Elem

@[expose] public section

set_option maxRecDepth 16384

noncomputable section

namespace Cert.OutProjIdeal.Out

open Cert.OutProjIdeal Cert.OutProjIdeal.Gen
open Idealize.ShloMosaic
open Cert.ProjSpec Cert.OutSpec

/-- A product of rows of 256 columns with a matrix, from a zero accumulator. -/
theorem prod_apply {n : Nat} (l : FVec Ideal S512x256 .bf16) (r : FVec Ideal ⟨2, ![256, n]⟩ .bf16) (a : Fin 512) (b : Fin n) :
    matmul (DotDims.plain 512 256 n) none l r (constant ⟨2, ![512, n]⟩ .f32 0x00000000#32) (ValueIdx.ix2 a b)
      = ∑ k : Fin 256, l (ValueIdx.ix2 a k) * r (ValueIdx.ix2 k b) := by
  refine (Ideal.matmul_plain_apply (M := 512) (K := 256) (N := n) none l r _ a b).trans ?_
  show Ideal.ofBits .f32 0x00000000#32 + _ = _
  rw [Ideal.ofBits_zero_f32, zero_add]

/-- The sum over every head, from a row split into its 16 leading bits and the rest. -/
def headSum (h : FVec Ideal S256x256 .bf16) (v : FVec Ideal S512x256 .f32) : FVec Ideal S512x256 .f32 :=
  addf (matmul dot_S512x256_S256x256_S512x256_1_0_0_1_n_n none (truncf .bf16 v bitsLt_bf16_f32) (shapeCast S256x256 h shapeCasts_S256x256_S256x256) (constant S512x256 .f32 0x00000000#32))
    (matmul dot_S512x256_S256x256_S512x256_1_0_0_1_n_n none (truncf .bf16 (subf v (extf .f32 (truncf .bf16 v bitsLt_bf16_f32) bitsLt_bf16_f32)) bitsLt_bf16_f32)
      (shapeCast S256x256 h shapeCasts_S256x256_S256x256) (constant S512x256 .f32 0x00000000#32))

/-- The head's mean, laid over its columns. -/
def mean (h : FVec Ideal S256x256 .bf16) (v : FVec Ideal S512x256 .f32) : FVec Ideal S512x256 .f32 :=
  mulf (headSum h v) (broadcast S512x256 (Scalar.ofBits .f32 0x3C800000#32))

/-- The row less its heads' means. -/
def cen (h : FVec Ideal S256x256 .bf16) (v : FVec Ideal S512x256 .f32) : FVec Ideal S512x256 .f32 := subf v (mean h v)

theorem square (h : FVec Ideal S256x256 .bf16) : shapeCast S256x256 h shapeCasts_S256x256_S256x256 = h :=
  funext fun i => shapeCast_apply h _ i i rfl

theorem headSum_apply (h : FVec Ideal S256x256 .bf16) (hh : ∀ a b, h (ValueIdx.ix2 a b) = same a b) (v : FVec Ideal S512x256 .f32) (a : Fin 512)
    (hv : ∀ k, Real' (v (ValueIdx.ix2 a k))) (j : Fin 256) :
    headSum h v (ValueIdx.ix2 a j) = ∑ e : Fin 64, v (ValueIdx.ix2 a (hcol j e)) := by
  refine Eq.trans ?_ (split_same (fun k => v (ValueIdx.ix2 a k)) hv j)
  unfold headSum
  rw [square]
  refine congrArg₂ (· + ·) ((prod_apply (n := 256) _ _ a j).trans ?_) ((prod_apply (n := 256) _ _ a j).trans ?_)
  · exact Finset.sum_congr rfl fun k _ => congrArg (v (ValueIdx.ix2 a k) * ·) (hh k j)
  · exact Finset.sum_congr rfl fun k _ => congrArg ((v (ValueIdx.ix2 a k) - v (ValueIdx.ix2 a k)) * ·) (hh k j)

theorem mean_apply (h : FVec Ideal S256x256 .bf16) (hh : ∀ a b, h (ValueIdx.ix2 a b) = same a b) (v : FVec Ideal S512x256 .f32) (a : Fin 512)
    (hv : ∀ k, Real' (v (ValueIdx.ix2 a k))) (j : Fin 256) :
    mean h v (ValueIdx.ix2 a j) = headMean (fun k => v (ValueIdx.ix2 a k)) j := by
  show headSum h v (ValueIdx.ix2 a j) * Ideal.ofBits .f32 0x3C800000#32 = _
  rw [headSum_apply h hh v a hv j, mul_recip]
  rfl

theorem cen_apply (h : FVec Ideal S256x256 .bf16) (hh : ∀ a b, h (ValueIdx.ix2 a b) = same a b) (v : FVec Ideal S512x256 .f32) (a : Fin 512)
    (hv : ∀ k, Real' (v (ValueIdx.ix2 a k))) (j : Fin 256) :
    cen h v (ValueIdx.ix2 a j) = centred (fun k => v (ValueIdx.ix2 a k)) j :=
  congrArg (v (ValueIdx.ix2 a j) - ·) (mean_apply h hh v a hv j)

/-- The block of normalized heads. -/
theorem pay2_apply (y : Vec Ideal S512x256 .bf16) (h : Vec Ideal S256x256 .bf16) (ln : Vec Ideal S1x256 .f32) (bo ga : Vec Ideal S512x256 .bf16)
    (hh : ∀ a b, h (ValueIdx.ix2 a b) = same a b) (a : Fin 512) (hy : ∀ k, Real' (y (ValueIdx.ix2 a k))) (j : Fin 256) :
    k0_pay2 y h ln bo ga (ValueIdx.ix2 a j)
      = headNorm (fun k => y (ValueIdx.ix2 a k)) (fun k => ln (ValueIdx.ix2 0 k)) (fun k => bo (ValueIdx.ix2 a k)) (fun k => ga (ValueIdx.ix2 a k)) j := by
  show (cen h y (ValueIdx.ix2 a j) * Ideal.rsqrt (mean h (mulf (cen h y) (cen h y)) (ValueIdx.ix2 a j) + lnEps)
      * broadcastTo S512x256 ln broadcasts_S1x256_S512x256 (ValueIdx.ix2 a j) + bo (ValueIdx.ix2 a j)) * ga (ValueIdx.ix2 a j) = _
  have hc : ∀ k, cen h y (ValueIdx.ix2 a k) = centred (fun k => y (ValueIdx.ix2 a k)) k := fun k => cen_apply h hh y a hy k
  have hm : mean h (mulf (cen h y) (cen h y)) (ValueIdx.ix2 a j)
      = headMean (fun k => centred (fun k => y (ValueIdx.ix2 a k)) k * centred (fun k => y (ValueIdx.ix2 a k)) k) j := by
    have hs : ∀ k, mulf (cen h y) (cen h y) (ValueIdx.ix2 a k) = centred (fun k => y (ValueIdx.ix2 a k)) k * centred (fun k => y (ValueIdx.ix2 a k)) k :=
      fun k => congrArg₂ (· * ·) (hc k) (hc k)
    refine (mean_apply h hh _ a (fun k => ?_) j).trans (congrArg (fun f => headMean f j) (funext hs))
    rw [hs]
    exact (Real'.centred hy k).mul (Real'.centred hy k)
  have hl : broadcastTo S512x256 ln broadcasts_S1x256_S512x256 (ValueIdx.ix2 a j) = ln (ValueIdx.ix2 0 j) := ValueIdx.broadcastTo_1b_ab_apply _ _ a j
  rw [hc, hm, hl]
  rfl

/-- A row of one of the matrix's four slices. -/
theorem ldw_apply (w : Vec Ideal S1024x1024 .bf16) {off : Nat} (inb) (q : Fin 4) (hq : off = q.val * 256) (k : Fin 256) (d : Fin 1024) :
    View.ld w (Rect.unit (s := S1024x1024) ![off, 0] S256x1024.size inb) (ValueIdx.ix2 k d) = w (ValueIdx.ix2 (slice q k) d) :=
  View.ld_unit_apply_of w _ _ _ _ _ fun i => by
    fin_cases i
    · show q.val * 256 + k.val = off + k.val; omega
    · show d.val = 0 + d.val; omega

theorem ldr (x : Vec Ideal S512x256 .bf16) : View.ld x r0_0 = x := View.ld_unit_zero (funext fun i => by fin_cases i <;> rfl) _ x
theorem ldh (x : Vec Ideal S256x256 .bf16) : View.ld x r0_1 = x := View.ld_unit_zero (funext fun i => by fin_cases i <;> rfl) _ x
theorem ldl (x : Vec Ideal S1x256 .f32) : View.ld x r0_2 = x := View.ld_unit_zero (funext fun i => by fin_cases i <;> rfl) _ x
theorem ldx (x : Vec Ideal S512x1024 .f32) : View.ld x r0_7 = x := View.ld_unit_zero (funext fun i => by fin_cases i <;> rfl) _ x
theorem lds (x : Vec Ideal S1x1x1024 .f32) : View.ld x r0_8 = x := View.ld_unit_zero (funext fun i => by fin_cases i <;> rfl) _ x
theorem ldg (x : Vec Ideal S1x1024 .f32) : View.ld x r0_9 = x := View.ld_unit_zero (funext fun i => by fin_cases i <;> rfl) _ x

variable (x0 x1 x2 x3 x4 x5 : Vec Ideal S512x256 .bf16) (x6 : Vec Ideal S1x256 .f32) (x7 : Vec Ideal S256x256 .bf16) (x8 : Vec Ideal S512x1024 .f32)
  (x9 x10 x11 : Vec Ideal S1x1x1024 .f32) (x12 : Vec Ideal S1x1024 .f32) (x13 : Vec Ideal S1024x1024 .bf16) (x14 : Vec Ideal S2x1024x128 .bf16) (x15 : Vec Ideal S1x128 .f32)

/-- The block of the new residual stream. -/
abbrev strm : FVec Ideal S512x1024 .f32 :=
  k0_pay3 (k0_pay2 x3 x7 x6 x4 x5) x0 (View.ld x13 r0_3) (View.ld x13 r0_4) x1 (View.ld x13 r0_5) x2 (View.ld x13 r0_6) x8 x9

theorem strm_apply (hh : ∀ a b, x7 (ValueIdx.ix2 a b) = same a b) (a : Fin 512) (hy : ∀ k, Real' (x3 (ValueIdx.ix2 a k))) (d : Fin 1024) :
    strm x0 x1 x2 x3 x4 x5 x6 x7 x8 x9 x13 (ValueIdx.ix2 a d)
      = x8 (ValueIdx.ix2 a d) + x9 (ValueIdx.ix3 0 0 d) * mix (fun k => x0 (ValueIdx.ix2 a k))
          (headNorm (fun k => x3 (ValueIdx.ix2 a k)) (fun k => x6 (ValueIdx.ix2 0 k)) (fun k => x4 (ValueIdx.ix2 a k)) (fun k => x5 (ValueIdx.ix2 a k)))
          (fun k => x1 (ValueIdx.ix2 a k)) (fun k => x2 (ValueIdx.ix2 a k)) (fun k => x13 (ValueIdx.ix2 k d)) := by
  have hg : broadcastTo S512x1024 (shapeCast S1x1024 x9 shapeCasts_S1x1x1024_S1x1024) broadcasts_S1x1024_S512x1024 (ValueIdx.ix2 a d) = x9 (ValueIdx.ix3 0 0 d) :=
    (ValueIdx.broadcastTo_1b_ab_apply _ _ a d).trans (ValueIdx.shapeCast_1ab_ab_apply x9 _ 0 d)
  have hp (l : FVec Ideal S512x256 .bf16) (r : FVec Ideal S256x1024 .bf16) (f : Fin 256 → EReal) (w : Fin 256 → EReal) (hl : ∀ k, l (ValueIdx.ix2 a k) = f k)
      (hr : ∀ k, r (ValueIdx.ix2 k d) = w k) :
      matmul dot_S512x256_S256x1024_S512x1024_1_0_0_1_n_n none l r (constant S512x1024 .f32 0x00000000#32) (ValueIdx.ix2 a d) = ∑ k, f k * w k :=
    (prod_apply (n := 1024) l r a d).trans (Finset.sum_congr rfl fun k _ => congrArg₂ (· * ·) (hl k) (hr k))
  refine congrArg (x8 (ValueIdx.ix2 a d) + ·) (congrArg₂ (· * ·) hg ?_)
  refine congrArg₂ (· + ·) (congrArg₂ (· + ·) (congrArg₂ (· + ·) ?_ ?_) ?_) ?_
  · exact hp _ _ _ _ (fun k => rfl) (fun k => ldw_apply x13 _ 0 rfl k d)
  · exact hp _ _ _ _ (fun k => pay2_apply x3 x7 x6 x4 x5 hh a hy k) (fun k => ldw_apply x13 _ 1 rfl k d)
  · exact hp _ _ _ _ (fun k => rfl) (fun k => ldw_apply x13 _ 2 rfl k d)
  · exact hp _ _ _ _ (fun k => rfl) (fun k => ldw_apply x13 _ 3 rfl k d)

/-- The block of the new stream's rows, normalized and modulated. -/
theorem pay6_apply (p : FVec Ideal S512x256 .bf16) (a : Fin 512) (d : Fin 1024)
    (w0 w1 w2 w3 : Vec Ideal S256x1024 .bf16) :
    k0_pay6 (k0_pay4 p x0 w0 w1 x1 w2 x2 w3 x8 x9) (k0_pay5 x12) x10 x11 (ValueIdx.ix2 a d)
      = nrow (fun d => k0_pay3 p x0 w0 w1 x1 w2 x2 w3 x8 x9 (ValueIdx.ix2 a d)) (fun d => x12 (ValueIdx.ix2 0 d)) (fun d => x10 (ValueIdx.ix3 0 0 d)) (fun d => x11 (ValueIdx.ix3 0 0 d)) d :=
  Cert.InProjIdeal.Proj.pay3_apply (k0_pay3 p x0 w0 w1 x1 w2 x2 w3 x8 x9) x12 x10 x11 a d

theorem out16_eq : out0_16 x0 x1 x2 x3 x4 x5 x6 x7 x8 x9 x10 x11 x12 x13 x14 x15 = strm x0 x1 x2 x3 x4 x5 x6 x7 x8 x9 x13 := by
  unfold out0_16 k0_pay29
  rw [ldr, ldr, ldr, ldr, ldr, ldr, ldh, ldl, ldx, lds]
  exact View.canon_unit_zero (funext fun i => by fin_cases i <;> rfl) _ _

theorem out17_eq : out0_17 x0 x1 x2 x3 x4 x5 x6 x7 x8 x9 x10 x11 x12 x13 x14 x15
    = k0_pay6 (k0_pay4 (k0_pay2 x3 x7 x6 x4 x5) x0 (View.ld x13 r0_3) (View.ld x13 r0_4) x1 (View.ld x13 r0_5) x2 (View.ld x13 r0_6) x8 x9) (k0_pay5 x12) x10 x11 := by
  unfold out0_17 k0_pay30 k0_pay31 k0_pay29
  rw [ldr, ldr, ldr, ldr, ldr, ldr, ldh, ldl, ldx, lds, lds, lds, ldg]
  exact View.canon_unit_zero (funext fun i => by fin_cases i <;> rfl) _ _

end Cert.OutProjIdeal.Out

end
-- ==== Proof.OutProj.Value.lean ====
/- The two arrays after the output projection's run: every row of the new residual stream, and the row normalized and
   modulated. -/
module

public import proofs.«01_k».proof.Proof.OutProj.Elem
public import proofs.«01_k».proof.Proof.Proj.Rows

@[expose] public section

set_option maxRecDepth 16384

noncomputable section

namespace Cert.OutProjIdeal.Out

open Cert.OutProjIdeal Cert.OutProjIdeal.Gen
open Idealize.ShloMosaic Idealize.ShloMosaic.TcCoe Idealize.SL.Sem
open Cert.ProjSpec Cert.OutSpec

/-! ## Which block a grid point reads and writes -/

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val, 0] := by decide +kernel
theorem idx9 : ∀ t : Fin grid0.N, win0_9.index t = ![t.val / 8 * 6 + 2, 0, 0] := by decide +kernel
theorem idx10 : ∀ t : Fin grid0.N, win0_10.index t = ![t.val / 8 * 6 + 4, 0, 0] := by decide +kernel
theorem idx11 : ∀ t : Fin grid0.N, win0_11.index t = ![t.val / 8 * 6 + 3, 0, 0] := by decide +kernel
theorem idx12 : ∀ t : Fin grid0.N, win0_12.index t = ![0, 0] := by decide +kernel
theorem idx13 : ∀ t : Fin grid0.N, win0_13.index t = ![0, 0] := by decide +kernel
theorem idx16 : ∀ t : Fin grid0.N, win0_16.index t = ![t.val, 0] := by decide +kernel
theorem idx17 : ∀ t : Fin grid0.N, win0_17.index t = ![t.val, 0] := by decide +kernel

variable (m : (ℓ : Loc nD τ sig) → Buf (Elt Ideal) ℓ) (c : Dev nD)

abbrev yrOf : S32768x256.Idx → EReal := m ((c.tc : Thread nD τ).loc main_arg0)
abbrev ydOf : S32768x256.Idx → EReal := m ((c.tc : Thread nD τ).loc main_arg1)
abbrev ysOf : S32768x256.Idx → EReal := m ((c.tc : Thread nD τ).loc main_arg2)
abbrev ywOf : S32768x256.Idx → EReal := m ((c.tc : Thread nD τ).loc main_arg3)
abbrev boOf : S32768x256.Idx → EReal := m ((c.tc : Thread nD τ).loc main_arg4)
abbrev gaOf : S32768x256.Idx → EReal := m ((c.tc : Thread nD τ).loc main_arg5)
abbrev lnOf : S1x256.Idx → EReal := m ((c.tc : Thread nD τ).loc main_arg6)
abbrev xOf : S32768x1024.Idx → EReal := m ((c.tc : Thread nD τ).loc main_arg7)
abbrev mdOf : S48x1x1024.Idx → EReal := m ((c.tc : Thread nD τ).loc main_arg8)
abbrev gOf : S1x1024.Idx → EReal := m ((c.tc : Thread nD τ).loc main_arg9)
abbrev wOf : S1024x1024.Idx → EReal := m ((c.tc : Thread nD τ).loc main_arg10)

/-- A grid point, of which there are 64. -/
abbrev pt (t : Fin grid0.N) : Fin 64 := t.cast N_0

theorem blk0 (t : Fin grid0.N) (a : Fin 512) (j : Fin 256) : iblk m c 0 t (ValueIdx.ix2 a j) = yrOf m c (ValueIdx.ix2 (rowOf (pt t) a) j) :=
  (congrFun (V_main_arg0 m c) _).trans (congrArg (yrOf m c) (emb_row (pt t) a j _ (idx0 t) ((win0_0.blk t).view.emb (ValueIdx.ix2 a j)) rfl rfl))

theorem blk1 (t : Fin grid0.N) (a : Fin 512) (j : Fin 256) : iblk m c 1 t (ValueIdx.ix2 a j) = ydOf m c (ValueIdx.ix2 (rowOf (pt t) a) j) :=
  (congrFun (V_main_arg1 m c) _).trans (congrArg (ydOf m c) (emb_row (pt t) a j _ (idx1 t) ((win0_1.blk t).view.emb (ValueIdx.ix2 a j)) rfl rfl))

theorem blk2 (t : Fin grid0.N) (a : Fin 512) (j : Fin 256) : iblk m c 2 t (ValueIdx.ix2 a j) = ysOf m c (ValueIdx.ix2 (rowOf (pt t) a) j) :=
  (congrFun (V_main_arg2 m c) _).trans (congrArg (ysOf m c) (emb_row (pt t) a j _ (idx2 t) ((win0_2.blk t).view.emb (ValueIdx.ix2 a j)) rfl rfl))

theorem blk3 (t : Fin grid0.N) (a : Fin 512) (j : Fin 256) : iblk m c 3 t (ValueIdx.ix2 a j) = ywOf m c (ValueIdx.ix2 (rowOf (pt t) a) j) :=
  (congrFun (V_main_arg3 m c) _).trans (congrArg (ywOf m c) (emb_row (pt t) a j _ (idx3 t) ((win0_3.blk t).view.emb (ValueIdx.ix2 a j)) rfl rfl))

theorem blk4 (t : Fin grid0.N) (a : Fin 512) (j : Fin 256) : iblk m c 4 t (ValueIdx.ix2 a j) = boOf m c (ValueIdx.ix2 (rowOf (pt t) a) j) :=
  (congrFun (V_main_arg4 m c) _).trans (congrArg (boOf m c) (emb_row (pt t) a j _ (idx4 t) ((win0_4.blk t).view.emb (ValueIdx.ix2 a j)) rfl rfl))

theorem blk5 (t : Fin grid0.N) (a : Fin 512) (j : Fin 256) : iblk m c 5 t (ValueIdx.ix2 a j) = gaOf m c (ValueIdx.ix2 (rowOf (pt t) a) j) :=
  (congrFun (V_main_arg5 m c) _).trans (congrArg (gaOf m c) (emb_row (pt t) a j _ (idx5 t) ((win0_5.blk t).view.emb (ValueIdx.ix2 a j)) rfl rfl))

theorem blk6 (t : Fin grid0.N) (j : Fin 256) : iblk m c 6 t (ValueIdx.ix2 0 j) = lnOf m c (ValueIdx.ix2 0 j) :=
  (congrFun (V_main_arg6 m c) _).trans (congrArg (lnOf m c) (emb_one 0 j _ (idx6 t) ((win0_6.blk t).view.emb (ValueIdx.ix2 0 j)) rfl rfl))

theorem blk7 (t : Fin grid0.N) (a b : Fin 256) : iblk m c 7 t (ValueIdx.ix2 a b) = same a b :=
  (congrFun (V_heads m c) _).trans ((congrArg heads (emb_one a b _ (idx7 t) ((win0_7.blk t).view.emb (ValueIdx.ix2 a b)) rfl rfl)).trans (heads_apply a b))

theorem blk8 (t : Fin grid0.N) (a : Fin 512) (d : Fin 1024) : iblk m c 8 t (ValueIdx.ix2 a d) = xOf m c (ValueIdx.ix2 (rowOf (pt t) a) d) :=
  (congrFun (V_main_arg7 m c) _).trans (congrArg (xOf m c) (emb_row (pt t) a d _ (idx8 t) ((win0_8.blk t).view.emb (ValueIdx.ix2 a d)) rfl rfl))

theorem blk9 (t : Fin grid0.N) (a : Fin 512) (d : Fin 1024) : iblk m c 9 t (ValueIdx.ix3 0 0 d) = mdOf m c (ValueIdx.ix3 (modRow (rowOf (pt t) a) 2) 0 d) :=
  (congrFun (V_main_arg8 m c) _).trans (congrArg (mdOf m c) (emb_md (pt t) a 2 d _ (idx9 t) ((win0_9.blk t).view.emb (ValueIdx.ix3 0 0 d)) rfl rfl))

theorem blk10 (t : Fin grid0.N) (a : Fin 512) (d : Fin 1024) : iblk m c 10 t (ValueIdx.ix3 0 0 d) = mdOf m c (ValueIdx.ix3 (modRow (rowOf (pt t) a) 4) 0 d) :=
  (congrFun (V_main_arg8 m c) _).trans (congrArg (mdOf m c) (emb_md (pt t) a 4 d _ (idx10 t) ((win0_10.blk t).view.emb (ValueIdx.ix3 0 0 d)) rfl rfl))

theorem blk11 (t : Fin grid0.N) (a : Fin 512) (d : Fin 1024) : iblk m c 11 t (ValueIdx.ix3 0 0 d) = mdOf m c (ValueIdx.ix3 (modRow (rowOf (pt t) a) 3) 0 d) :=
  (congrFun (V_main_arg8 m c) _).trans (congrArg (mdOf m c) (emb_md (pt t) a 3 d _ (idx11 t) ((win0_11.blk t).view.emb (ValueIdx.ix3 0 0 d)) rfl rfl))

theorem blk12 (t : Fin grid0.N) (d : Fin 1024) : iblk m c 12 t (ValueIdx.ix2 0 d) = gOf m c (ValueIdx.ix2 0 d) :=
  (congrFun (V_main_arg9 m c) _).trans (congrArg (gOf m c) (emb_one 0 d _ (idx12 t) ((win0_12.blk t).view.emb (ValueIdx.ix2 0 d)) rfl rfl))

theorem blk13 (t : Fin grid0.N) (k d : Fin 1024) : iblk m c 13 t (ValueIdx.ix2 k d) = wOf m c (ValueIdx.ix2 k d) :=
  (congrFun (V_main_arg10 m c) _).trans (congrArg (wOf m c) (emb_one k d _ (idx13 t) ((win0_13.blk t).view.emb (ValueIdx.ix2 k d)) rfl rfl))

/-- Every entry of the normalized mixer's input is finite. -/
def Finite : Prop := ∀ i, Real' (ywOf m c i)

/-- Every row of the new stream. -/
abbrev streamOf : Fin 32768 → Fin 1024 → EReal :=
  streamAt (yrOf m c) (ydOf m c) (ysOf m c) (ywOf m c) (boOf m c) (gaOf m c) (lnOf m c) (xOf m c) (mdOf m c) (wOf m c)

/-- The block of the new stream at a grid point. -/
abbrev block (t : Fin grid0.N) : FVec Ideal S512x1024 .f32 :=
  strm (iblk m c 0 t) (iblk m c 1 t) (iblk m c 2 t) (iblk m c 3 t) (iblk m c 4 t) (iblk m c 5 t) (iblk m c 6 t) (iblk m c 7 t) (iblk m c 8 t) (iblk m c 9 t) (iblk m c 13 t)

theorem block_apply (hf : Finite m c) (t : Fin grid0.N) (a : Fin 512) (d : Fin 1024) :
    block m c t (ValueIdx.ix2 a d) = streamOf m c (rowOf (pt t) a) d := by
  refine (strm_apply _ _ _ _ _ _ _ _ _ _ _ (fun p q => blk7 m c t p q) a (fun k => ?_) d).trans ?_
  · rw [blk3]; exact hf _
  · have h0 : (fun k => iblk m c 0 t (ValueIdx.ix2 a k)) = row (yrOf m c) (rowOf (pt t) a) := funext fun k => blk0 m c t a k
    have h1 : (fun k => iblk m c 1 t (ValueIdx.ix2 a k)) = row (ydOf m c) (rowOf (pt t) a) := funext fun k => blk1 m c t a k
    have h2 : (fun k => iblk m c 2 t (ValueIdx.ix2 a k)) = row (ysOf m c) (rowOf (pt t) a) := funext fun k => blk2 m c t a k
    have h3 : (fun k => iblk m c 3 t (ValueIdx.ix2 a k)) = row (ywOf m c) (rowOf (pt t) a) := funext fun k => blk3 m c t a k
    have h4 : (fun k => iblk m c 4 t (ValueIdx.ix2 a k)) = row (boOf m c) (rowOf (pt t) a) := funext fun k => blk4 m c t a k
    have h5 : (fun k => iblk m c 5 t (ValueIdx.ix2 a k)) = row (gaOf m c) (rowOf (pt t) a) := funext fun k => blk5 m c t a k
    have h6 : (fun k => iblk m c 6 t (ValueIdx.ix2 0 k)) = fun k => lnOf m c (ValueIdx.ix2 0 k) := funext fun k => blk6 m c t k
    have h13 : (fun k => iblk m c 13 t (ValueIdx.ix2 k d)) = fun k => wOf m c (ValueIdx.ix2 k d) := funext fun k => blk13 m c t k d
    rw [h0, h1, h2, h3, h4, h5, h6, h13, blk8, blk9 m c t a]
    rfl

/-- The two results' arrays. -/
def strms : S32768x1024.Idx → EReal := fun i => streamOf m c (i 0) (i 1)
def hiddens : S32768x1024.Idx → EReal := fun i => hiddenAt (streamOf m c) (mdOf m c) (gOf m c) (i 0) (i 1)

theorem flushed16 (hf : Finite m c) (t : Fin cfg0.N) : (dats m 0 c).flushed 16 t = ((cfg0.win 16).blk t).view.read (Elt Ideal) (strms m c) := by
  show (cfg0.win 16).cut (grid0.coords t) ((dats m 0 c).after 16 t) = _
  rw [after0_16, out16_eq]
  funext y
  obtain ⟨a, b, rfl⟩ : ∃ (a : Fin 512) (b : Fin 1024), y = ValueIdx.ix2 a b := ⟨y 0, y 1, ValueIdx.eq_ix2 y⟩
  refine (block_apply m c hf t a b).trans ?_
  exact (congrArg (strms m c) (emb_row (pt t) a b _ (idx16 t) ((win0_16.blk t).view.emb (ValueIdx.ix2 a b)) rfl rfl)).symm

theorem flushed17 (hf : Finite m c) (t : Fin cfg0.N) : (dats m 0 c).flushed 17 t = ((cfg0.win 17).blk t).view.read (Elt Ideal) (hiddens m c) := by
  show (cfg0.win 17).cut (grid0.coords t) ((dats m 0 c).after 17 t) = _
  rw [after0_17, out17_eq]
  funext y
  obtain ⟨a, b, rfl⟩ : ∃ (a : Fin 512) (b : Fin 1024), y = ValueIdx.ix2 a b := ⟨y 0, y 1, ValueIdx.eq_ix2 y⟩
  refine (pay6_apply _ _ _ _ _ _ _ _ _ a b _ _ _ _).trans ?_
  have hs : (fun d => block m c t (ValueIdx.ix2 a d)) = streamOf m c (rowOf (pt t) a) := funext fun d => block_apply m c hf t a d
  have hg : (fun d => iblk m c 12 t (ValueIdx.ix2 0 d)) = fun d => gOf m c (ValueIdx.ix2 0 d) := funext fun d => blk12 m c t d
  have h4 : (fun d => iblk m c 10 t (ValueIdx.ix3 0 0 d)) = fun d => mdOf m c (ValueIdx.ix3 (modRow (rowOf (pt t) a) 4) 0 d) := funext fun d => blk10 m c t a d
  have h3 : (fun d => iblk m c 11 t (ValueIdx.ix3 0 0 d)) = fun d => mdOf m c (ValueIdx.ix3 (modRow (rowOf (pt t) a) 3) 0 d) := funext fun d => blk11 m c t a d
  have he := (congrArg (hiddens m c) (emb_row (pt t) a b _ (idx17 t) ((win0_17.blk t).view.emb (ValueIdx.ix2 a b)) rfl rfl)).symm
  refine Eq.trans ?_ he
  show nrow (fun d => block m c t (ValueIdx.ix2 a d)) (fun d => iblk m c 12 t (ValueIdx.ix2 0 d)) (fun d => iblk m c 10 t (ValueIdx.ix3 0 0 d))
    (fun d => iblk m c 11 t (ValueIdx.ix3 0 0 d)) b = _
  rw [hs, hg, h4, h3]
  rfl

theorem mem_blk16 (t : Fin cfg0.N) (i : S32768x1024.Idx) : Iff (i ∈ ((cfg0.win 16).blk t).view.set)
    (∀ x : Fin 2, win0_16.index t x * (![512, 1024] : Fin 2 → Nat) x ≤ (i x).val ∧ (i x).val < win0_16.index t x * (![512, 1024] : Fin 2 → Nat) x + (![512, 1024] : Fin 2 → Nat) x) := by
  show Iff (i ∈ ((View.whole main_v19_0).slice (win0_16.rect t)).set) _
  rw [View.set_slice_whole, Rect.mem_set_unit]
  exact Iff.rfl

theorem final16 (hf : Finite m c) : (dats m 0 c).arrAt 16 cfg0.N = strms m c :=
  (dats m 0 c).arrAt_eq_of_cover 16 _ (fun t _ => flushed16 m c hf t) (fun (i : S32768x1024.Idx) =>
    ⟨⟨(i 0).val / 512, lt_of_lt_of_eq (row_lt i) N_0.symm⟩, flush0_16 _, (mem_blk16 _ i).2 (mem_row i _ (idx16 _))⟩)

theorem mem_blk17 (t : Fin cfg0.N) (i : S32768x1024.Idx) : Iff (i ∈ ((cfg0.win 17).blk t).view.set)
    (∀ x : Fin 2, win0_17.index t x * (![512, 1024] : Fin 2 → Nat) x ≤ (i x).val ∧ (i x).val < win0_17.index t x * (![512, 1024] : Fin 2 → Nat) x + (![512, 1024] : Fin 2 → Nat) x) := by
  show Iff (i ∈ ((View.whole main_v19_1).slice (win0_17.rect t)).set) _
  rw [View.set_slice_whole, Rect.mem_set_unit]
  exact Iff.rfl

theorem final17 (hf : Finite m c) : (dats m 0 c).arrAt 17 cfg0.N = hiddens m c :=
  (dats m 0 c).arrAt_eq_of_cover 17 _ (fun t _ => flushed17 m c hf t) (fun (i : S32768x1024.Idx) =>
    ⟨⟨(i 0).val / 512, lt_of_lt_of_eq (row_lt i) N_0.symm⟩, flush0_17 _, (mem_blk17 _ i).2 (mem_row i _ (idx17 _))⟩)

end Cert.OutProjIdeal.Out

end
-- ==== Proof.OutProj.Ref.lean ====
/- The reference's output projection, read at an element. -/
module

public import proofs.«01_k».proof.Proof.Gen.OutProjRefIdeal.Run
public import proofs.«01_k».proof.Proof.OutProj.Spec
public import proofs.«01_k».proof.Proof.NextProj.Ref

@[expose] public section

set_option maxRecDepth 16384

noncomputable section

namespace Cert.OutProjRefIdeal.Out

open Cert.OutProjRefIdeal Cert.OutProjRefIdeal.Gen
open Idealize.ShloMosaic
open Cert.ProjSpec Cert.OutSpec
open Cert.NextProjRefIdeal.Proj (bt ps)

/-! ## Columns of a head -/

/-- Column `j`'s head and its place in the head. -/
abbrev hd (j : Fin 256) : Fin 4 := ⟨j.val / 64, by omega⟩
abbrev pl (j : Fin 256) : Fin 64 := ⟨j.val % 64, Nat.mod_lt _ (by decide)⟩

theorem hcol_pl (j : Fin 256) : hcol j (pl j) = j := Fin.ext (by
  show j.val / 64 * 64 + j.val % 64 = j.val
  omega)

theorem hcol_hcol (j : Fin 256) (e f : Fin 64) : hcol (hcol j e) f = hcol j f := Fin.ext (by
  show (j.val / 64 * 64 + e.val) / 64 * 64 + f.val = j.val / 64 * 64 + f.val
  omega)

theorem headMean_hcol (x : Fin 256 → EReal) (j : Fin 256) (e : Fin 64) : headMean x (hcol j e) = headMean x j := by
  unfold headMean
  exact congrArg (fun s => Ideal.div s headDim) (Finset.sum_congr rfl fun f _ => congrArg x (hcol_hcol j e f))

/-! ## The normalized heads -/

variable (y : FVec Ideal S32768x256 .bf16) (ln : FVec Ideal S1x256 .f32)

/-- A mixer's rows, by batch entry, position, and head. -/
def heads : FVec Ideal S8x4096x4x64 .f32 := shapeCast S8x4096x4x64 (extf .f32 y bitsLt_bf16_f32) shapeCasts_S32768x256_S8x4096x4x64

/-- The mean of every head. -/
def hmean (v : FVec Ideal S8x4096x4x64 .f32) : FVec Ideal S8x4096x4x1 .f32 :=
  Host.divf (broadcastInDim S8x4096x4x1 ![0, 1, 2] bcast_S8x4096x4_S8x4096x4x1_0_1_2 (Host.reduceAdd v (constant S_ .f32 0x00000000#32) reducesTo_S8x4096x4x64_S8x4096x4_d3 h_S_)) (broadcastInDim S8x4096x4x1 ![] bcast_S_S8x4096x4x1 (constant S_ .f32 0x42800000#32))

/-- The heads less their means. -/
def hcen (v : FVec Ideal S8x4096x4x64 .f32) : FVec Ideal S8x4096x4x64 .f32 :=
  subf v (broadcastInDim S8x4096x4x64 ![0, 1, 2, 3] bcast_S8x4096x4x1_S8x4096x4x64_0_1_2_3 (hmean v))

/-- The reciprocal root of every head's variance. -/
def hinv (v : FVec Ideal S8x4096x4x64 .f32) : FVec Ideal S8x4096x4x1 .f32 :=
  Host.rsqrt (addf (hmean (mulf (hcen v) (hcen v))) (broadcastInDim S8x4096x4x1 ![] bcast_S_S8x4096x4x1 (constant S_ .f32 0x3A27C5AC#32)))

/-- The heads with mean zero and variance one. -/
def hunit (v : FVec Ideal S8x4096x4x64 .f32) : FVec Ideal S8x4096x4x64 .f32 :=
  mulf (hcen v) (broadcastInDim S8x4096x4x64 ![0, 1, 2, 3] bcast_S8x4096x4x1_S8x4096x4x64_0_1_2_3 (hinv v))

theorem heads_apply (i : Fin 32768) (j : Fin 256) (e : Fin 64) : heads y (ValueIdx.ix4 (bt i) (ps i) (hd j) e) = row y i (hcol j e) := by
  refine shapeCast_apply (extf .f32 y bitsLt_bf16_f32) _ _ (ValueIdx.ix2 i (hcol j e)) ?_
  rw [Shape.rowMajor_val_four, Shape.rowMajor_val_two]
  show i.val * 256 + (j.val / 64 * 64 + e.val) = ((i.val / 4096 * 4096 + i.val % 4096) * 4 + j.val / 64) * 64 + e.val
  rw [Nat.div_add_mod' i.val 4096]; omega

theorem lay_apply (v : FVec Ideal S8x4096x4x1 .f32) (b : Fin 8) (s : Fin 4096) (h : Fin 4) (e : Fin 64) :
    broadcastInDim S8x4096x4x64 ![0, 1, 2, 3] bcast_S8x4096x4x1_S8x4096x4x64_0_1_2_3 v (ValueIdx.ix4 b s h e) = v (ValueIdx.ix4 b s h 0) :=
  broadcastInDim_apply _ _ _ _ _ (fun a => by fin_cases a <;> rfl)

theorem hmean_apply (v : FVec Ideal S8x4096x4x64 .f32) (b : Fin 8) (s : Fin 4096) (h : Fin 4) :
    hmean v (ValueIdx.ix4 b s h 0) = Ideal.div (∑ e : Fin 64, v (ValueIdx.ix4 b s h e)) headDim := by
  have e1 := broadcastInDim_apply ![0, 1, 2] bcast_S8x4096x4_S8x4096x4x1_0_1_2 (Host.reduceAdd v (constant S_ .f32 0x00000000#32) reducesTo_S8x4096x4x64_S8x4096x4_d3 h_S_)
    (ValueIdx.ix4 b s h 0) (ValueIdx.ix3 b s h) (fun a => by fin_cases a <;> rfl)
  have e2 : Host.reduceAdd v (constant S_ .f32 0x00000000#32) reducesTo_S8x4096x4x64_S8x4096x4_d3 h_S_ (ValueIdx.ix3 b s h) = ∑ e : Fin 64, v (ValueIdx.ix4 b s h e) := by
    refine (ValueIdx.hostReduceAdd_apply _ _ _ _ _).trans ?_
    have hred : S8x4096x4x64.Reduces [3] S8x4096x4 := by decide
    refine (Ideal.hostReduceAdd_single _ hred _ _ _).trans ?_
    show Ideal.ofBits .f32 0x00000000#32 + _ = _
    rw [Ideal.ofBits_zero_f32, zero_add]
    exact Finset.sum_congr rfl fun k _ => congrArg v (funext fun i => by fin_cases i <;> rfl)
  exact congrArg (fun t => Ideal.div t headDim) (e1.trans e2)

theorem hcen_apply (i : Fin 32768) (j : Fin 256) (e : Fin 64) :
    hcen (heads y) (ValueIdx.ix4 (bt i) (ps i) (hd j) e) = centred (row y i) (hcol j e) := by
  refine congrArg₂ (· - ·) (heads_apply y i j e) (((lay_apply _ _ _ _ _).trans (hmean_apply _ _ _ _)).trans ?_)
  rw [headMean_hcol]
  exact congrArg (fun t => Ideal.div t headDim) (Finset.sum_congr rfl fun f _ => heads_apply y i j f)

theorem hinv_apply (i : Fin 32768) (j : Fin 256) :
    hinv (heads y) (ValueIdx.ix4 (bt i) (ps i) (hd j) 0) = Ideal.rsqrt (headMean (fun k => centred (row y i) k * centred (row y i) k) j + lnEps) := by
  refine congrArg (fun t => Ideal.rsqrt (t + lnEps)) ((hmean_apply _ _ _ _).trans ?_)
  exact congrArg (fun t => Ideal.div t headDim) (Finset.sum_congr rfl fun e _ => congrArg₂ (· * ·) (hcen_apply y i j e) (hcen_apply y i j e))

/-- Rows of 256 columns by batch entry and position. -/
def rows (x : FVec Ideal S32768x256 .bf16) : FVec Ideal S8x4096x256 .f32 := shapeCast S8x4096x256 (extf .f32 x bitsLt_bf16_f32) shapeCasts_S32768x256_S8x4096x256

theorem rows_apply (x : FVec Ideal S32768x256 .bf16) (i : Fin 32768) (j : Fin 256) : rows x (ValueIdx.ix3 (bt i) (ps i) j) = row x i j := by
  refine shapeCast_apply (extf .f32 x bitsLt_bf16_f32) _ _ (ValueIdx.ix2 i j) ?_
  rw [Shape.rowMajor_val_three, Shape.rowMajor_val_two]
  show i.val * 256 + j.val = (i.val / 4096 * 4096 + i.val % 4096) * 256 + j.val
  rw [Nat.div_add_mod' i.val 4096]

variable (bo ga : FVec Ideal S32768x256 .bf16)

/-- The normalized mixer: scaled, shifted by its bonus, and gated. -/
def normed : FVec Ideal S8x4096x256 .f32 :=
  mulf (addf (mulf (shapeCast S8x4096x256 (hunit (heads y)) shapeCasts_S8x4096x4x64_S8x4096x256)
    (broadcastInDim S8x4096x256 ![0, 1, 2] bcast_S1x1x256_S8x4096x256_0_1_2 (broadcastInDim S1x1x256 ![1, 2] bcast_S1x256_S1x1x256_1_2 ln))) (rows bo)) (rows ga)

theorem normed_apply (i : Fin 32768) (j : Fin 256) :
    normed y ln bo ga (ValueIdx.ix3 (bt i) (ps i) j) = headNorm (row y i) (fun j => ln (ValueIdx.ix2 0 j)) (row bo i) (row ga i) j := by
  have e1 : shapeCast S8x4096x256 (hunit (heads y)) shapeCasts_S8x4096x4x64_S8x4096x256 (ValueIdx.ix3 (bt i) (ps i) j)
      = hunit (heads y) (ValueIdx.ix4 (bt i) (ps i) (hd j) (pl j)) := shapeCast_apply _ _ _ _ (by
    rw [Shape.rowMajor_val_four, Shape.rowMajor_val_three]
    show ((i.val / 4096 * 4096 + i.val % 4096) * 4 + j.val / 64) * 64 + j.val % 64 = (i.val / 4096 * 4096 + i.val % 4096) * 256 + j.val
    omega)
  have e2 : hunit (heads y) (ValueIdx.ix4 (bt i) (ps i) (hd j) (pl j))
      = centred (row y i) j * Ideal.rsqrt (headMean (fun k => centred (row y i) k * centred (row y i) k) j + lnEps) := by
    refine congrArg₂ (· * ·) ((hcen_apply y i j (pl j)).trans (congrArg _ (hcol_pl j))) ((lay_apply _ _ _ _ _).trans (hinv_apply y i j))
  have e3 := broadcastInDim_apply ![0, 1, 2] bcast_S1x1x256_S8x4096x256_0_1_2 (broadcastInDim S1x1x256 ![1, 2] bcast_S1x256_S1x1x256_1_2 ln) (ValueIdx.ix3 (bt i) (ps i) j) (ValueIdx.ix3 0 0 j) (fun a => by fin_cases a <;> rfl)
  have e4 := broadcastInDim_apply ![1, 2] bcast_S1x256_S1x1x256_1_2 ln (ValueIdx.ix3 0 0 j) (ValueIdx.ix2 0 j) (fun a => by fin_cases a <;> rfl)
  exact congrArg₂ (· * ·) (congrArg₂ (· + ·) (congrArg₂ (· * ·) (e1.trans e2) (e3.trans e4)) (rows_apply bo i j)) (rows_apply ga i j)

/-! ## The product with the matrix -/

theorem dot_apply (A : FVec Ideal S8x4096x1024 .f32) (B : FVec Ideal S1024x1024 .f32) (b : Fin 8) (s : Fin 4096) (f : Fin 1024) :
    Host.dotGeneral dot_S8x4096x1024_S1024x1024_S8x4096x1024_2_0_01_1_n_n none A B (ValueIdx.ix3 b s f)
      = ∑ c : Fin 1024, A (ValueIdx.ix3 b s c) * B (ValueIdx.ix2 c f) := by
  show FloatOps.dotGeneral _ _ _ A B (ValueIdx.ix3 b s f) = _
  rw [Ideal.dotGeneral_apply, ← Equiv.sum_comp (ValueIdx.contrEquiv1 dot_S8x4096x1024_S1024x1024_S8x4096x1024_2_0_01_1_n_n 1024 rfl rfl).symm]
  refine Finset.sum_congr rfl fun c _ => ?_
  have hc := ValueIdx.contrEquiv1_symm_val dot_S8x4096x1024_S1024x1024_S8x4096x1024_2_0_01_1_n_n 1024 rfl rfl c
  have hl : dot_S8x4096x1024_S1024x1024_S8x4096x1024_2_0_01_1_n_n.lhsIdx (ValueIdx.ix3 b s f) ((ValueIdx.contrEquiv1 _ 1024 rfl rfl).symm c) = ValueIdx.ix3 b s c := by
    funext a; apply Fin.ext
    match a with
    | ⟨0, _⟩ => simp [DotDims.lhsIdx, dot_S8x4096x1024_S1024x1024_S8x4096x1024_2_0_01_1_n_n]; rfl
    | ⟨1, _⟩ => simp [DotDims.lhsIdx, dot_S8x4096x1024_S1024x1024_S8x4096x1024_2_0_01_1_n_n]; rfl
    | ⟨2, _⟩ => simp [DotDims.lhsIdx, dot_S8x4096x1024_S1024x1024_S8x4096x1024_2_0_01_1_n_n]; exact hc
  have hr : dot_S8x4096x1024_S1024x1024_S8x4096x1024_2_0_01_1_n_n.rhsIdx (ValueIdx.ix3 b s f) ((ValueIdx.contrEquiv1 _ 1024 rfl rfl).symm c) = ValueIdx.ix2 c f := by
    funext a; apply Fin.ext
    match a with
    | ⟨0, _⟩ => simp [DotDims.rhsIdx, dot_S8x4096x1024_S1024x1024_S8x4096x1024_2_0_01_1_n_n]; exact hc
    | ⟨1, _⟩ => simp [DotDims.rhsIdx, dot_S8x4096x1024_S1024x1024_S8x4096x1024_2_0_01_1_n_n]; rfl
  rw [hl, hr]

/-- The four mixers side by side. -/
def cat (p0 p1 p2 p3 : FVec Ideal S8x4096x256 .f32) : FVec Ideal S8x4096x1024 .f32 :=
  concatenate S8x4096x1024 2 [⟨S8x4096x256, p0⟩, ⟨S8x4096x256, p1⟩, ⟨S8x4096x256, p2⟩, ⟨S8x4096x256, p3⟩]
    concatenates_S8x4096x256_S8x4096x256_S8x4096x256_S8x4096x256_S8x4096x1024_d2

theorem cat_apply (p0 p1 p2 p3 : FVec Ideal S8x4096x256 .f32) (b : Fin 8) (s : Fin 4096) (q : Fin 4) (k : Fin 256) :
    cat p0 p1 p2 p3 (ValueIdx.ix3 b s (slice q k)) = (![p0, p1, p2, p3] : Fin 4 → FVec Ideal S8x4096x256 .f32) q (ValueIdx.ix3 b s k) := by
  have hi : ∀ a : Fin S8x4096x256.rank, a.cast (rfl : S8x4096x256.rank = S8x4096x1024.rank) ≠ 2 →
      ((ValueIdx.ix3 b s k : S8x4096x256.Idx) a).val = ((ValueIdx.ix3 b s (slice q k) : S8x4096x1024.Idx) (a.cast rfl)).val := fun a ha => by
    fin_cases a
    · rfl
    · rfl
    · exact absurd rfl ha
  fin_cases q
  · exact concatenate_apply_piece (t := S8x4096x1024) 2 _ _ _ 0 (by show 0 < 4; decide) S8x4096x256 p0 rfl rfl 0 rfl (ValueIdx.ix3 b s k) hi rfl
  · exact concatenate_apply_piece (t := S8x4096x1024) 2 _ _ _ 1 (by show 1 < 4; decide) S8x4096x256 p1 rfl rfl 256 rfl (ValueIdx.ix3 b s k) hi rfl
  · exact concatenate_apply_piece (t := S8x4096x1024) 2 _ _ _ 2 (by show 2 < 4; decide) S8x4096x256 p2 rfl rfl 512 rfl (ValueIdx.ix3 b s k) hi rfl
  · exact concatenate_apply_piece (t := S8x4096x1024) 2 _ _ _ 3 (by show 3 < 4; decide) S8x4096x256 p3 rfl rfl 768 rfl (ValueIdx.ix3 b s k) hi rfl

variable (yr yd ys : FVec Ideal S32768x256 .bf16) (x : FVec Ideal S32768x1024 .f32) (md : FVec Ideal S48x1x1024 .f32) (w : FVec Ideal S1024x1024 .bf16)

/-- The new residual stream. -/
def stream : FVec Ideal S8x4096x1024 .f32 :=
  addf (shapeCast S8x4096x1024 x shapeCasts_S32768x1024_S8x4096x1024)
    (mulf (broadcastInDim S8x4096x1024 ![0, 1, 2] bcast_S8x1x1024_S8x4096x1024_0_1_2
        (extractStridedSlice S8x1x1024 ![0, 2, 0] (shapeCast S8x6x1024 md shapeCasts_S48x1x1024_S8x6x1024) slices_S8x6x1024_S8x1x1024_0_2_0))
      (Host.dotGeneral dot_S8x4096x1024_S1024x1024_S8x4096x1024_2_0_01_1_n_n none (cat (rows yr) (normed y ln bo ga) (rows yd) (rows ys)) (extf .f32 w bitsLt_bf16_f32)))

theorem stream_apply (i : Fin 32768) (d : Fin 1024) :
    stream y ln bo ga yr yd ys x md w (ValueIdx.ix3 (bt i) (ps i) d) = streamAt yr yd ys y bo ga ln x md w i d := by
  have em := (Cert.InProjRefIdeal.Proj.seq_apply _ (bt i) (ps i) d).trans (Cert.InProjRefIdeal.Proj.mod_apply md 2 slices_S8x6x1024_S8x1x1024_0_2_0 (bt i) d i rfl)
  refine congrArg₂ (· + ·) (Cert.InProjRefIdeal.Proj.rows_apply x i d) (congrArg₂ (· * ·) em ?_)
  refine (dot_apply _ _ _ _ _).trans ((sum_slices _).trans ?_)
  refine congrArg₂ (· + ·) (congrArg₂ (· + ·) (congrArg₂ (· + ·) ?_ ?_) ?_) ?_
  · exact Finset.sum_congr rfl fun k _ => congrArg (· * w (ValueIdx.ix2 (slice 0 k) d)) ((cat_apply _ _ _ _ _ _ 0 k).trans (rows_apply yr i k))
  · exact Finset.sum_congr rfl fun k _ => congrArg (· * w (ValueIdx.ix2 (slice 1 k) d)) ((cat_apply _ _ _ _ _ _ 1 k).trans (normed_apply y ln bo ga i k))
  · exact Finset.sum_congr rfl fun k _ => congrArg (· * w (ValueIdx.ix2 (slice 2 k) d)) ((cat_apply _ _ _ _ _ _ 2 k).trans (rows_apply yd i k))
  · exact Finset.sum_congr rfl fun k _ => congrArg (· * w (ValueIdx.ix2 (slice 3 k) d)) ((cat_apply _ _ _ _ _ _ 3 k).trans (rows_apply ys i k))

/-! ## The new stream, normalized and modulated -/

variable (X : FVec Ideal S8x4096x1024 .f32) (g : FVec Ideal S1x1024 .f32)

/-- Every row normalized and modulated. -/
def hidden : FVec Ideal S8x4096x1024 .f32 :=
  addf (mulf (mulf (mulf X (broadcastInDim S8x4096x1024 ![0, 1, 2] bcast_S8x4096x1_S8x4096x1024_0_1_2 (Cert.InProjRefIdeal.Proj.rms X))) (broadcastInDim S8x4096x1024 ![0, 1, 2] bcast_S1x1x1024_S8x4096x1024_0_1_2 (broadcastInDim S1x1x1024 ![1, 2] bcast_S1x1024_S1x1x1024_1_2 g)))
    (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 4, 0] (shapeCast S8x6x1024 md shapeCasts_S48x1x1024_S8x6x1024) slices_S8x6x1024_S8x1x1024_0_4_0))))
    (broadcastInDim S8x4096x1024 ![0, 1, 2] bcast_S8x1x1024_S8x4096x1024_0_1_2 (extractStridedSlice S8x1x1024 ![0, 3, 0] (shapeCast S8x6x1024 md shapeCasts_S48x1x1024_S8x6x1024) slices_S8x6x1024_S8x1x1024_0_3_0))

theorem hidden_apply (i : Fin 32768) (d : Fin 1024) :
    hidden md X g (ValueIdx.ix3 (bt i) (ps i) d) = nrow (fun d => X (ValueIdx.ix3 (bt i) (ps i) d)) (fun d => g (ValueIdx.ix2 0 d))
      (fun d => md (ValueIdx.ix3 (modRow i 4) 0 d)) (fun d => md (ValueIdx.ix3 (modRow i 3) 0 d)) d := by
  have e1 := (broadcastInDim_apply ![0, 1, 2] bcast_S8x4096x1_S8x4096x1024_0_1_2 (Cert.InProjRefIdeal.Proj.rms X) (ValueIdx.ix3 (bt i) (ps i) d) (ValueIdx.ix3 (bt i) (ps i) 0)
    (fun a => by fin_cases a <;> rfl)).trans (Cert.InProjRefIdeal.Proj.rms_apply X (bt i) (ps i))
  have e2 := broadcastInDim_apply ![0, 1, 2] bcast_S1x1x1024_S8x4096x1024_0_1_2 (broadcastInDim S1x1x1024 ![1, 2] bcast_S1x1024_S1x1x1024_1_2 g) (ValueIdx.ix3 (bt i) (ps i) d) (ValueIdx.ix3 0 0 d) (fun a => by fin_cases a <;> rfl)
  have e3 := broadcastInDim_apply ![1, 2] bcast_S1x1024_S1x1x1024_1_2 g (ValueIdx.ix3 0 0 d) (ValueIdx.ix2 0 d) (fun a => by fin_cases a <;> rfl)
  have e4 := (Cert.InProjRefIdeal.Proj.seq_apply (addf (broadcastInDim S8x1x1024 ![] bcast_S_S8x1x1024 (constant S_ .f32 0x3F800000#32)) (extractStridedSlice S8x1x1024 ![0, 4, 0] (shapeCast S8x6x1024 md shapeCasts_S48x1x1024_S8x6x1024) slices_S8x6x1024_S8x1x1024_0_4_0)) (bt i) (ps i) d).trans (congrArg (one + ·) (Cert.InProjRefIdeal.Proj.mod_apply md 4 slices_S8x6x1024_S8x1x1024_0_4_0 (bt i) d i rfl))
  have e5 := (Cert.InProjRefIdeal.Proj.seq_apply _ (bt i) (ps i) d).trans (Cert.InProjRefIdeal.Proj.mod_apply md 3 slices_S8x6x1024_S8x1x1024_0_3_0 (bt i) d i rfl)
  exact congrArg₂ (· + ·) (congrArg₂ (· * ·) (congrArg₂ (· * ·) (congrArg (X (ValueIdx.ix3 (bt i) (ps i) d) * ·) e1) (e2.trans e3)) e4) e5

/-- A stack of sequences, flattened to rows, at a row. -/
theorem flat_apply (v : FVec Ideal S8x4096x1024 .f32) (i : Fin 32768) (d : Fin 1024) :
    shapeCast S32768x1024 v shapeCasts_S8x4096x1024_S32768x1024 (ValueIdx.ix2 i d) = v (ValueIdx.ix3 (bt i) (ps i) d) :=
  shapeCast_apply _ _ _ _ (by
    rw [Shape.rowMajor_val_three, Shape.rowMajor_val_two]
    show (i.val / 4096 * 4096 + i.val % 4096) * 1024 + d.val = i.val * 1024 + d.val
    rw [Nat.div_add_mod' i.val 4096])

end Cert.OutProjRefIdeal.Out

end
-- ==== Proof.OutProj.Claims.lean ====
/- The claims about the output projection. -/
module

public import proofs.«01_k».proof.Defs
public import proofs.«01_k».proof.Proof.Gen.Pre_finite
public import proofs.«01_k».proof.Proof.Gen.OutProj.Frame
public import proofs.«01_k».proof.Proof.OutProj.Value
public import proofs.«01_k».proof.Proof.OutProj.Ref
public import Idealize.ShloMosaic.Lib.Claim
public import Idealize.ShloMosaic.Lib.Quiescent
public import Idealize.ShloMosaic.Lib.Pointwise.Select

@[expose] public section

set_option maxRecDepth 16384

noncomputable section

/-! ## What the precondition says: every entry of the normalized mixer's input is finite -/

namespace Cert.OutFinite

open Cert.Pre_finite
open Idealize.ShloMosaic Cert.OutSpec

theorem top_eq : Ideal.ofBits .f32 0x7F800000#32 = ⊤ := by
  simp [Ideal.ofBits, Ideal.ieee]

theorem real_of_abs_lt {x : EReal} (h : max x (-x) < ⊤) : Real' x := by
  refine ⟨x.toReal, (EReal.coe_toReal ?_ ?_).symm⟩
  · rintro rfl; simp at h
  · rintro rfl; simp at h

theorem finite_of_fn (x0 x1 x2 x3 x4 x5 : FVec Ideal S32768x256 .bf16) (x6 : FVec Ideal S1x256 .f32) (x7 : FVec Ideal S32768x1024 .f32)
    (x8 : FVec Ideal S48x1x1024 .f32) (x9 : FVec Ideal S1x1024 .f32) (x10 : FVec Ideal S1024x1024 .bf16) (x11 : FVec Ideal S1024x32 .f32)
    (x12 : FVec Ideal S1x32 .f32) (h : fn (F := Ideal) x0 x1 x2 x3 x4 x5 x6 x7 x8 x9 x10 x11 x12 = fun _ => 1#1) (i : S32768x256.Idx) : Real' (x3 i) := by
  refine real_of_abs_lt ?_
  have hi : Ideal.cmp .olt (max (x3 i) (-(x3 i))) (Ideal.ofBits .f32 0x7F800000#32) = 1#1 := congrFun h i
  rw [top_eq] at hi
  exact (Ideal.cmp_olt_eq_one _ _).1 hi

end Cert.OutFinite

namespace Cert.OutProjRefIdeal.Out

open Cert.OutProjRefIdeal Cert.OutProjRefIdeal.Gen
open Idealize.ShloMosaic Idealize.ShloMosaic.TcCoe Idealize.SL.Sem Cert.ProjSpec Cert.OutSpec

variable (m : (ℓ : Loc nD τ sig) → Buf (Elt Ideal) ℓ) (c : Dev nD)

abbrev yrOf : FVec Ideal S32768x256 .bf16 := m ((c.tc : Thread nD τ).loc main_arg0)
abbrev ydOf : FVec Ideal S32768x256 .bf16 := m ((c.tc : Thread nD τ).loc main_arg1)
abbrev ysOf : FVec Ideal S32768x256 .bf16 := m ((c.tc : Thread nD τ).loc main_arg2)
abbrev ywOf : FVec Ideal S32768x256 .bf16 := m ((c.tc : Thread nD τ).loc main_arg3)
abbrev boOf : FVec Ideal S32768x256 .bf16 := m ((c.tc : Thread nD τ).loc main_arg4)
abbrev gaOf : FVec Ideal S32768x256 .bf16 := m ((c.tc : Thread nD τ).loc main_arg5)
abbrev lnOf : FVec Ideal S1x256 .f32 := m ((c.tc : Thread nD τ).loc main_arg6)
abbrev xOf : FVec Ideal S32768x1024 .f32 := m ((c.tc : Thread nD τ).loc main_arg7)
abbrev mdOf : FVec Ideal S48x1x1024 .f32 := m ((c.tc : Thread nD τ).loc main_arg8)
abbrev gOf : FVec Ideal S1x1024 .f32 := m ((c.tc : Thread nD τ).loc main_arg9)
abbrev wOf : FVec Ideal S1024x1024 .bf16 := m ((c.tc : Thread nD τ).loc main_arg10)

/-- Every row of the reference's new stream. -/
abbrev streamOf : Fin 32768 → Fin 1024 → EReal :=
  streamAt (yrOf m c) (ydOf m c) (ysOf m c) (ywOf m c) (boOf m c) (gaOf m c) (lnOf m c) (xOf m c) (mdOf m c) (wOf m c)

/-- The reference's two results. -/
def strms : (⟨2, ![32768, 1024]⟩ : Shape).Idx → EReal := fun i => streamOf m c (i 0) (i 1)
def hiddens : (⟨2, ![32768, 1024]⟩ : Shape).Idx → EReal := fun i => hiddenAt (streamOf m c) (mdOf m c) (gOf m c) (i 0) (i 1)

/-- The reference's new stream, by batch entry and position. -/
abbrev stackOf : FVec Ideal S8x4096x1024 .f32 :=
  stream (ywOf m c) (lnOf m c) (boOf m c) (gaOf m c) (yrOf m c) (ydOf m c) (ysOf m c) (xOf m c) (mdOf m c) (wOf m c)

theorem stack_apply (a : Fin 32768) (d : Fin 1024) : stackOf m c (ValueIdx.ix3 (Cert.NextProjRefIdeal.Proj.bt a) (Cert.NextProjRefIdeal.Proj.ps a) d) = streamOf m c a d :=
  stream_apply _ _ _ _ _ _ _ _ _ _ a d

theorem res_strms : Value.res_main_v64 m c = strms m c := by
  funext i
  obtain ⟨a, b, rfl⟩ : ∃ (a : Fin 32768) (b : Fin 1024), i = ValueIdx.ix2 a b := ⟨i 0, i 1, ValueIdx.eq_ix2 i⟩
  show shapeCast S32768x1024 (stackOf m c) shapeCasts_S8x4096x1024_S32768x1024 (ValueIdx.ix2 a b) = _
  exact (flat_apply _ a b).trans (stack_apply m c a b)

theorem res_hiddens : Value.res_main_v65 m c = hiddens m c := by
  funext i
  obtain ⟨a, b, rfl⟩ : ∃ (a : Fin 32768) (b : Fin 1024), i = ValueIdx.ix2 a b := ⟨i 0, i 1, ValueIdx.eq_ix2 i⟩
  show shapeCast S32768x1024 (hidden (mdOf m c) (stackOf m c) (gOf m c)) shapeCasts_S8x4096x1024_S32768x1024 (ValueIdx.ix2 a b) = _
  refine (flat_apply _ a b).trans ((hidden_apply _ _ _ a b).trans ?_)
  exact congrArg (fun X => nrow X _ _ _ b) (funext fun d => stack_apply m c a d)

end Cert.OutProjRefIdeal.Out

namespace Cert.OutProjClaims

open Idealize.ShloMosaic Idealize.SL.Sem Cert.ProjSpec Cert.OutSpec

theorem printed_frame : quiescent_OutProj := fun m g _ => Cert.OutProj.Gen.frame m g

theorem ideal_frame : quiescent_OutProjIdeal := fun m g _ => Cert.OutProjIdeal.Gen.frame m g

theorem ideal_frame_finite : quiescent_OutProjIdeal_pre_finite := fun m g _ => Cert.OutProjIdeal.Gen.frame m g

theorem reference_frame : quiescent_OutProjRefIdeal := fun m g _ =>
  (θ_run _ _ _).mono (fun r h => ⟨fun c => (h c).2.2, sem_eq_zero_of_no_sems rfl r.2⟩) (Cert.OutProjRefIdeal.Value.run m g)

theorem reference_frame_finite : quiescent_OutProjRefIdeal_pre_finite := fun m g _ => reference_frame m g trivial

theorem value : algebraic_OutProjIdeal_OutProjRefIdeal_pre_finite := fun m g m' g' hpre hag => by
  have hf : ∀ c, Cert.OutProjIdeal.Out.Finite m c := fun c i => Cert.OutFinite.finite_of_fn _ _ _ _ _ _ _ _ _ _ _ _ _ (hpre c) i
  obtain ⟨e0, e1, e2, e3, e4, e5, e6, e7, e8, e9, e10, -⟩ := hag 0
  have h1 : Cert.OutProjRefIdeal.Out.streamOf m' 0 = Cert.OutProjIdeal.Out.streamOf m 0 := by
    dsimp only [Cert.OutProjRefIdeal.Out.streamOf, Cert.OutProjRefIdeal.Out.yrOf, Cert.OutProjRefIdeal.Out.ydOf, Cert.OutProjRefIdeal.Out.ysOf, Cert.OutProjRefIdeal.Out.ywOf, Cert.OutProjRefIdeal.Out.boOf, Cert.OutProjRefIdeal.Out.gaOf, Cert.OutProjRefIdeal.Out.lnOf, Cert.OutProjRefIdeal.Out.xOf, Cert.OutProjRefIdeal.Out.mdOf, Cert.OutProjRefIdeal.Out.gOf, Cert.OutProjRefIdeal.Out.wOf]
    rw [e0, e1, e2, e3, e4, e5, e6, e7, e8, e10]
  have h2 : hiddenAt (Cert.OutProjRefIdeal.Out.streamOf m' 0) (Cert.OutProjRefIdeal.Out.mdOf m' 0) (Cert.OutProjRefIdeal.Out.gOf m' 0)
      = hiddenAt (Cert.OutProjIdeal.Out.streamOf m 0) (Cert.OutProjIdeal.Out.mdOf m 0) (Cert.OutProjIdeal.Out.gOf m 0) := by
    rw [h1]
    dsimp only [Cert.OutProjRefIdeal.Out.mdOf, Cert.OutProjRefIdeal.Out.gOf]
    rw [e8, e9]
  have hs : Cert.OutProjRefIdeal.Out.strms m' 0 = Cert.OutProjIdeal.Out.strms m 0 :=
    funext fun i => congrFun (congrFun h1 (i 0)) (i 1)
  have hh : Cert.OutProjRefIdeal.Out.hiddens m' 0 = Cert.OutProjIdeal.Out.hiddens m 0 :=
    funext fun i => congrFun (congrFun h2 (i 0)) (i 1)
  refine ⟨fun c => Cert.OutProjIdeal.Out.strms m c, fun c => Cert.OutProjIdeal.Out.hiddens m c, ?_, ?_⟩
  · refine (θ_run _ _ _).mono (fun r q => fun c => ?_) (θ_run_and (Cert.OutProjIdeal.Gen.run_main m g) (Cert.OutProjIdeal.Gen.unchanged m g))
    exact ⟨((q.1 c).1 16).trans (Cert.OutProjIdeal.Out.final16 m c (hf c)), ((q.1 c).1 17).trans (Cert.OutProjIdeal.Out.final17 m c (hf c)), q.2 c⟩
  · refine (θ_run _ _ _).mono (fun r q => fun c => ?_) (Cert.OutProjRefIdeal.Value.run m' g')
    obtain rfl : c = 0 := Subsingleton.elim (α := Fin 1) _ _
    exact ⟨(q 0).1.trans ((Cert.OutProjRefIdeal.Out.res_strms m' 0).trans hs), (q 0).2.1.trans ((Cert.OutProjRefIdeal.Out.res_hiddens m' 0).trans hh), (q 0).2.2⟩

end Cert.OutProjClaims

end
-- ==== Proof.Mod.Value.lean ====
/- The modulation: the conditioning vector passes through x times its logistic and is multiplied with every layer's
   weights; the bias is added. The array after the kernel's run, entry by entry. -/
module

public import proofs.«01_k».proof.Proof.Gen.ModIdeal.Value
public import proofs.«01_k».proof.Proof.Proj.Spec
public import Idealize.ShloMosaic.Lib.MatmulPlain
public import Idealize.ShloMosaic.Lib.Pipeline.Value
public import Idealize.ShloMosaic.Lib.Pipeline.ValueKit
public import Idealize.ShloMosaic.Lib.IdealHost
public import Idealize.ShloMosaic.Lib.ValueLayoutCasts

@[expose] public section

set_option maxRecDepth 16384

noncomputable section

namespace Cert.ModSpec

open Idealize.ShloMosaic Cert.ProjSpec

/-- `x` times its logistic. -/
def silu (x : EReal) : EReal := x * Ideal.div one (one + Ideal.exp (-x))

/-- The modulation of layer `l` and batch entry `b` at column `j`. -/
def modAt (x : (⟨2, ![8, 1024]⟩ : Shape).Idx → EReal) (w : (⟨3, ![2, 1024, 6144]⟩ : Shape).Idx → EReal) (g : (⟨2, ![2, 6144]⟩ : Shape).Idx → EReal)
    (l : Fin 2) (b : Fin 8) (j : Fin 6144) : EReal :=
  (∑ d : Fin 1024, silu (x (ValueIdx.ix2 b d)) * w (ValueIdx.ix3 l d j)) + g (ValueIdx.ix2 l j)

end Cert.ModSpec

namespace Cert.ModIdeal.Out

open Cert.ModIdeal Cert.ModIdeal.Gen
open Idealize.ShloMosaic Idealize.ShloMosaic.TcCoe
open Cert.ProjSpec Cert.ModSpec

/-! ## One block -/

variable (x : Vec Ideal S8x1024 .f32) (w : Vec Ideal S1x1024x1024 .f32) (g : Vec Ideal S1x1x1024 .f32)

/-- The conditioning rows after the logistic. -/
def cond : FVec Ideal S8x1024 .f32 :=
  mulf x (divf (broadcast S8x1024 (Scalar.ofBits .f32 0x3F800000#32)) (addf (broadcast S8x1024 (Scalar.ofBits .f32 0x3F800000#32)) (exp (subf (broadcast S8x1024 (Scalar.ofBits .f32 0x00000000#32)) x))))

theorem cond_apply (i : S8x1024.Idx) : cond x i = silu (x i) := by
  show x i * Ideal.div one (one + Ideal.exp (Ideal.ofBits .f32 0x00000000#32 - x i)) = _
  rw [Ideal.ofBits_zero_f32, zero_sub]
  rfl

theorem pay_apply (b : Fin 8) (j : Fin 1024) :
    k0_pay1 x w g (ValueIdx.ix3 0 b j) = (∑ d : Fin 1024, silu (x (ValueIdx.ix2 b d)) * w (ValueIdx.ix3 0 d j)) + g (ValueIdx.ix3 0 0 j) := by
  show shapeCast S1x8x1024 (addf (matmul (DotDims.plain 8 1024 1024) (some .fp32) (cond x) (shapeCast S1024x1024 w shapeCasts_S1x1024x1024_S1024x1024) (constant S8x1024 .f32 0x00000000#32))
    (broadcastTo S8x1024 (shapeCast S1x1024 g shapeCasts_S1x1x1024_S1x1024) broadcasts_S1x1024_S8x1024)) shapeCasts_S8x1024_S1x8x1024 (ValueIdx.ix3 0 b j) = _
  refine (ValueIdx.shapeCast_ab_1ab_apply _ _ 0 b j).trans ?_
  refine congrArg₂ (· + ·) ?_ ?_
  · refine (Ideal.matmul_plain_apply (M := 8) (K := 1024) (N := 1024) _ _ _ _ b j).trans ?_
    show Ideal.ofBits .f32 0x00000000#32 + _ = _
    rw [Ideal.ofBits_zero_f32, zero_add]
    exact Finset.sum_congr rfl fun d _ => congrArg₂ (· * ·) (cond_apply x _) (ValueIdx.shapeCast_1ab_ab_apply w _ d j)
  · exact (ValueIdx.broadcastTo_1b_ab_apply _ _ b j).trans (ValueIdx.shapeCast_1ab_ab_apply g _ 0 j)

theorem out_apply (b : Fin 8) (j : Fin 1024) :
    out0_3 x w g (ValueIdx.ix3 0 b j) = (∑ d : Fin 1024, silu (x (ValueIdx.ix2 b d)) * w (ValueIdx.ix3 0 d j)) + g (ValueIdx.ix3 0 0 j) := by
  refine (congrFun (View.canon_unit_zero (funext fun i => by fin_cases i <;> rfl) _ _) _).trans ?_
  have h0 : View.ld x r0_0 = x := View.ld_unit_zero (funext fun i => by fin_cases i <;> rfl) _ x
  have h1 : View.ld w r0_1 = w := View.ld_unit_zero (funext fun i => by fin_cases i <;> rfl) _ w
  have h2 : View.ld g r0_2 = g := View.ld_unit_zero (funext fun i => by fin_cases i <;> rfl) _ g
  rw [h0, h1, h2]
  exact pay_apply x w g b j

/-! ## Which block a grid point reads and writes -/

theorem idx0 : ∀ t : Fin grid0.N, win0_0.index t = ![0, 0] := by decide +kernel
theorem idx1 : ∀ t : Fin grid0.N, win0_1.index t = ![t.val / 6, 0, t.val % 6] := by decide +kernel
theorem idx2 : ∀ t : Fin grid0.N, win0_2.index t = ![t.val / 6, 0, t.val % 6] := by decide +kernel
theorem idx3 : ∀ t : Fin grid0.N, win0_3.index t = ![t.val / 6, 0, t.val % 6] := by decide +kernel

/-- A grid point, of which there are 12; its layer, and the array column of its block's column. -/
abbrev pt (t : Fin grid0.N) : Fin 12 := t.cast N_0
def lay (t : Fin 12) : Fin 2 := ⟨t.val / 6, by omega⟩
def col (t : Fin 12) (j : Fin 1024) : Fin 6144 := ⟨t.val % 6 * 1024 + j.val, by omega⟩

/-- An array index whose coordinates are those of element `(0, a, j)` of block `(t / 6, 0, t % 6)`. -/
theorem emb {n : Nat} (t : Fin 12) (a : Fin n) (j : Fin 1024) (p : Fin 3 → Nat) (hp : p = ![t.val / 6, 0, t.val % 6]) (y : (⟨3, ![2, n, 6144]⟩ : Shape).Idx)
    (h0 : (y 0).val = p 0 * 1 + 1 * 0) (h1 : (y 1).val = p 1 * n + 1 * a.val) (h2 : (y 2).val = p 2 * 1024 + 1 * j.val) : y = ValueIdx.ix3 (lay t) a (col t j) := by
  subst hp
  funext i; refine Fin.ext ?_
  fin_cases i
  · refine h0.trans ?_
    show t.val / 6 * 1 + 1 * 0 = t.val / 6
    omega
  · refine h1.trans ?_
    show 0 * n + 1 * a.val = a.val
    omega
  · refine h2.trans ?_
    show t.val % 6 * 1024 + 1 * j.val = t.val % 6 * 1024 + j.val
    omega

theorem emb_x (b : Fin 8) (d : Fin 1024) (p : Fin 2 → Nat) (hp : p = ![0, 0]) (y : S8x1024.Idx)
    (h0 : (y 0).val = p 0 * 8 + 1 * b.val) (h1 : (y 1).val = p 1 * 1024 + 1 * d.val) : y = ValueIdx.ix2 b d := by
  subst hp
  funext i; refine Fin.ext ?_
  fin_cases i
  · refine h0.trans ?_
    show 0 * 8 + 1 * b.val = b.val
    omega
  · refine h1.trans ?_
    show 0 * 1024 + 1 * d.val = d.val
    omega

variable (m : (ℓ : Loc nD τ sig) → Buf (Elt Ideal) ℓ) (c : Dev nD)

abbrev xOf : S8x1024.Idx → EReal := m ((c.tc : Thread nD τ).loc main_arg0)
abbrev wOf : S2x1024x6144.Idx → EReal := m ((c.tc : Thread nD τ).loc main_arg1)
abbrev bOf : S2x6144.Idx → EReal := m ((c.tc : Thread nD τ).loc main_arg2)

/-- The bias as the call is given it. -/
abbrev bias : S2x1x6144.Idx → EReal := shapeCast S2x1x6144 (bOf m c) shapeCasts_S2x6144_S2x1x6144

theorem V_bias : V m c main_v0 = bias m c := by
  unfold V
  after_results_simp
  rfl

theorem bias_apply (l : Fin 2) (j : Fin 6144) : bias m c (ValueIdx.ix3 l 0 j) = bOf m c (ValueIdx.ix2 l j) :=
  shapeCast_apply _ _ _ _ (by
    rw [Shape.rowMajor_val_three, Shape.rowMajor_val_two]
    show l.val * 6144 + j.val = (l.val * 1 + 0) * 6144 + j.val
    omega)

theorem blk0 (t : Fin grid0.N) (b : Fin 8) (d : Fin 1024) : iblk m c 0 t (ValueIdx.ix2 b d) = xOf m c (ValueIdx.ix2 b d) :=
  (congrFun (V_main_arg0 m c) _).trans (congrArg (xOf m c) (emb_x b d _ (idx0 t) ((win0_0.blk t).view.emb (ValueIdx.ix2 b d)) rfl rfl))

theorem blk1 (t : Fin grid0.N) (d j : Fin 1024) : iblk m c 1 t (ValueIdx.ix3 0 d j) = wOf m c (ValueIdx.ix3 (lay (pt t)) d (col (pt t) j)) :=
  (congrFun (V_main_arg1 m c) _).trans (congrArg (wOf m c) (emb (pt t) d j _ (idx1 t) ((win0_1.blk t).view.emb (ValueIdx.ix3 0 d j)) rfl rfl rfl))

theorem blk2 (t : Fin grid0.N) (j : Fin 1024) : iblk m c 2 t (ValueIdx.ix3 0 0 j) = bOf m c (ValueIdx.ix2 (lay (pt t)) (col (pt t) j)) :=
  (congrFun (V_bias m c) _).trans ((congrArg (bias m c) (emb (pt t) 0 j _ (idx2 t) ((win0_2.blk t).view.emb (ValueIdx.ix3 0 0 j)) rfl rfl rfl)).trans (bias_apply m c _ _))

/-- The result. -/
def mods : S2x8x6144.Idx → EReal := fun i => modAt (xOf m c) (wOf m c) (bOf m c) (i 0) (i 1) (i 2)

theorem flushed3 (t : Fin cfg0.N) : (dats m 0 c).flushed 3 t = ((cfg0.win 3).blk t).view.read (Elt Ideal) (mods m c) := by
  refine (Value.flushed3 m c t).trans (funext fun y => ?_)
  obtain ⟨z, b, j, rfl⟩ : ∃ (z : Fin 1) (b : Fin 8) (j : Fin 1024), y = ValueIdx.ix3 z b j := ⟨y 0, y 1, y 2, ValueIdx.eq_ix3 y⟩
  obtain rfl : z = 0 := Subsingleton.elim _ _
  refine (out_apply _ _ _ b j).trans ?_
  refine Eq.trans ?_ (congrArg (mods m c) (emb (pt t) b j _ (idx3 t) ((win0_3.blk t).view.emb (ValueIdx.ix3 0 b j)) rfl rfl rfl)).symm
  exact congrArg₂ (· + ·) (Finset.sum_congr rfl fun d _ => congrArg₂ (· * ·) (congrArg silu (blk0 m c t b d)) (blk1 m c t d j)) (blk2 m c t j)

theorem mem_blk3 (t : Fin cfg0.N) (i : S2x8x6144.Idx) : Iff (i ∈ ((cfg0.win 3).blk t).view.set)
    (∀ x : Fin 3, win0_3.index t x * (![1, 8, 1024] : Fin 3 → Nat) x ≤ (i x).val ∧ (i x).val < win0_3.index t x * (![1, 8, 1024] : Fin 3 → Nat) x + (![1, 8, 1024] : Fin 3 → Nat) x) := by
  show Iff (i ∈ ((View.whole main_v1).slice (win0_3.rect t)).set) _
  rw [View.set_slice_whole, Rect.mem_set_unit]
  exact Iff.rfl

theorem mem_of (i : S2x8x6144.Idx) (p : Fin 3 → Nat) (hp : p = ![((i 0).val * 6 + (i 2).val / 1024) / 6, 0, ((i 0).val * 6 + (i 2).val / 1024) % 6]) (x : Fin 3) :
    p x * (![1, 8, 1024] : Fin 3 → Nat) x ≤ (i x).val ∧ (i x).val < p x * (![1, 8, 1024] : Fin 3 → Nat) x + (![1, 8, 1024] : Fin 3 → Nat) x := by
  subst hp
  have h1 : (i 1).val < 8 := (i 1).isLt
  have h2 : (i 2).val < 6144 := (i 2).isLt
  fin_cases x
  · show ((i 0).val * 6 + (i 2).val / 1024) / 6 * 1 ≤ (i 0).val ∧ (i 0).val < ((i 0).val * 6 + (i 2).val / 1024) / 6 * 1 + 1
    omega
  · show 0 * 8 ≤ (i 1).val ∧ (i 1).val < 0 * 8 + 8
    omega
  · show ((i 0).val * 6 + (i 2).val / 1024) % 6 * 1024 ≤ (i 2).val ∧ (i 2).val < ((i 0).val * 6 + (i 2).val / 1024) % 6 * 1024 + 1024
    omega

theorem point_lt (i : S2x8x6144.Idx) : (i 0).val * 6 + (i 2).val / 1024 < 12 := by
  have h0 : (i 0).val < 2 := (i 0).isLt
  have h2 : (i 2).val < 6144 := (i 2).isLt
  omega

theorem final3 : (dats m 0 c).arrAt 3 cfg0.N = mods m c :=
  (dats m 0 c).arrAt_eq_of_cover 3 _ (fun t _ => flushed3 m c t) (fun (i : S2x8x6144.Idx) =>
    ⟨⟨(i 0).val * 6 + (i 2).val / 1024, lt_of_lt_of_eq (point_lt i) N_0.symm⟩, flush0_3 _, (mem_blk3 _ i).2 (mem_of i _ (idx3 _))⟩)

end Cert.ModIdeal.Out

end
-- ==== Proof.Mod.Claims.lean ====
/- The reference's modulation, read at an entry, and the claims about the modulation. -/
module

public import proofs.«01_k».proof.Defs
public import proofs.«01_k».proof.Proof.Gen.Mod.Frame
public import proofs.«01_k».proof.Proof.Gen.ModRefIdeal.Run
public import proofs.«01_k».proof.Proof.Mod.Value
public import Idealize.ShloMosaic.Lib.StackMember
public import Idealize.ShloMosaic.Lib.Quiescent

@[expose] public section

set_option maxRecDepth 16384

noncomputable section

namespace Cert.ModRefIdeal.Out

open Cert.ModRefIdeal Cert.ModRefIdeal.Gen
open Idealize.ShloMosaic
open Cert.ProjSpec Cert.ModSpec

/-- The layers' weights times the rows, at an index: the sum over the contracted coordinate. -/
theorem dot_apply (A : FVec Ideal S2x1024x6144 .f32) (B : FVec Ideal S8x1024 .f32) (l : Fin 2) (j : Fin 6144) (b : Fin 8) :
    Host.dotGeneral dot_S2x1024x6144_S8x1024_S2x6144x8_1_1_02_0_n_n none A B (ValueIdx.ix3 l j b) = ∑ d : Fin 1024, A (ValueIdx.ix3 l d j) * B (ValueIdx.ix2 b d) := by
  show FloatOps.dotGeneral _ _ _ A B (ValueIdx.ix3 l j b) = _
  rw [Ideal.dotGeneral_apply, ← Equiv.sum_comp (ValueIdx.contrEquiv1 dot_S2x1024x6144_S8x1024_S2x6144x8_1_1_02_0_n_n 1024 rfl rfl).symm]
  refine Finset.sum_congr rfl fun d _ => ?_
  have hd := ValueIdx.contrEquiv1_symm_val dot_S2x1024x6144_S8x1024_S2x6144x8_1_1_02_0_n_n 1024 rfl rfl d
  have hl : dot_S2x1024x6144_S8x1024_S2x6144x8_1_1_02_0_n_n.lhsIdx (ValueIdx.ix3 l j b) ((ValueIdx.contrEquiv1 _ 1024 rfl rfl).symm d) = ValueIdx.ix3 l d j := by
    funext a; apply Fin.ext
    match a with
    | ⟨0, _⟩ => simp [DotDims.lhsIdx, dot_S2x1024x6144_S8x1024_S2x6144x8_1_1_02_0_n_n]; rfl
    | ⟨1, _⟩ => simp [DotDims.lhsIdx, dot_S2x1024x6144_S8x1024_S2x6144x8_1_1_02_0_n_n]; exact hd
    | ⟨2, _⟩ => simp [DotDims.lhsIdx, dot_S2x1024x6144_S8x1024_S2x6144x8_1_1_02_0_n_n]; rfl
  have hr : dot_S2x1024x6144_S8x1024_S2x6144x8_1_1_02_0_n_n.rhsIdx (ValueIdx.ix3 l j b) ((ValueIdx.contrEquiv1 _ 1024 rfl rfl).symm d) = ValueIdx.ix2 b d := by
    funext a; apply Fin.ext
    match a with
    | ⟨0, _⟩ => simp [DotDims.rhsIdx, dot_S2x1024x6144_S8x1024_S2x6144x8_1_1_02_0_n_n]; rfl
    | ⟨1, _⟩ => simp [DotDims.rhsIdx, dot_S2x1024x6144_S8x1024_S2x6144x8_1_1_02_0_n_n]; exact hd
  rw [hl, hr]

variable (x : FVec Ideal S8x1024 .f32) (w : FVec Ideal S2x1024x6144 .f32) (g : FVec Ideal S2x6144 .f32)

/-- The conditioning rows after the logistic. -/
def cond : FVec Ideal S8x1024 .f32 :=
  mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))

theorem cond_apply (i : S8x1024.Idx) : cond x i = silu (x i) := rfl

/-- The reference's result. -/
def res : FVec Ideal S2x8x6144 .f32 :=
  addf (transpose S2x8x6144 [0, 2, 1] (Host.dotGeneral dot_S2x1024x6144_S8x1024_S2x6144x8_1_1_02_0_n_n none w (cond x)) transposes_S2x6144x8_S2x8x6144_0_2_1)
    (broadcastInDim S2x8x6144 ![0, 1, 2] bcast_S2x1x6144_S2x8x6144_0_1_2 (broadcastInDim S2x1x6144 ![0, 2] bcast_S2x6144_S2x1x6144_0_2 g))

theorem swap_apply (z : FVec Ideal S2x6144x8 .f32) (l : Fin 2) (b : Fin 8) (j : Fin 6144) :
    transpose S2x8x6144 [0, 2, 1] z transposes_S2x6144x8_S2x8x6144_0_2_1 (ValueIdx.ix3 l b j) = z (ValueIdx.ix3 l j b) :=
  congrArg z (funext fun i => by fin_cases i <;> rfl)

theorem res_apply (l : Fin 2) (b : Fin 8) (j : Fin 6144) : res x w g (ValueIdx.ix3 l b j) = modAt x w g l b j := by
  have h1 : transpose S2x8x6144 [0, 2, 1] (Host.dotGeneral dot_S2x1024x6144_S8x1024_S2x6144x8_1_1_02_0_n_n none w (cond x)) transposes_S2x6144x8_S2x8x6144_0_2_1 (ValueIdx.ix3 l b j)
      = ∑ d : Fin 1024, silu (x (ValueIdx.ix2 b d)) * w (ValueIdx.ix3 l d j) := by
    refine (swap_apply _ l b j).trans ((dot_apply w (cond x) l j b).trans (Finset.sum_congr rfl fun d _ => ?_))
    rw [cond_apply, mul_comm]
  have h2 := broadcastInDim_apply ![0, 1, 2] bcast_S2x1x6144_S2x8x6144_0_1_2 (broadcastInDim S2x1x6144 ![0, 2] bcast_S2x6144_S2x1x6144_0_2 g) (ValueIdx.ix3 l b j) (ValueIdx.ix3 l 0 j) (fun a => by fin_cases a <;> rfl)
  have h3 := broadcastInDim_apply ![0, 2] bcast_S2x6144_S2x1x6144_0_2 g (ValueIdx.ix3 l 0 j) (ValueIdx.ix2 l j) (fun a => by fin_cases a <;> rfl)
  exact congrArg₂ (· + ·) h1 (h2.trans h3)

end Cert.ModRefIdeal.Out

namespace Cert.ModClaims

open Idealize.ShloMosaic Idealize.SL.Sem Cert.ModSpec

theorem printed_frame : quiescent_Mod := fun m g _ => Cert.Mod.Gen.frame m g

theorem ideal_frame : quiescent_ModIdeal := fun m g _ => Cert.ModIdeal.Gen.frame m g

theorem reference_frame : quiescent_ModRefIdeal := fun m g _ =>
  (θ_run _ _ _).mono (fun r h => ⟨fun c => (h c).2, sem_eq_zero_of_no_sems rfl r.2⟩) (Cert.ModRefIdeal.Value.run m g)

/-- The reference's result is the kernel's, when their arguments are the same arrays. -/
theorem res_eq (x : FVec Ideal Cert.ModRefIdeal.S8x1024 .f32) (w : FVec Ideal Cert.ModRefIdeal.S2x1024x6144 .f32) (g : FVec Ideal Cert.ModRefIdeal.S2x6144 .f32) :
    Cert.ModRefIdeal.Out.res x w g = fun i : (⟨3, ![2, 8, 6144]⟩ : Shape).Idx => modAt x w g (i 0) (i 1) (i 2) := by
  funext i
  obtain ⟨l, b, j, rfl⟩ : ∃ (l : Fin 2) (b : Fin 8) (j : Fin 6144), i = ValueIdx.ix3 l b j := ⟨i 0, i 1, i 2, ValueIdx.eq_ix3 i⟩
  exact Cert.ModRefIdeal.Out.res_apply x w g l b j

theorem value : algebraic_ModIdeal_ModRefIdeal := fun m g m' g' _ hag => by
  refine ⟨fun c => Cert.ModIdeal.Out.mods m c, ?_, ?_⟩
  · refine (θ_run _ _ _).mono (fun r q => fun c => ?_) (Cert.ModIdeal.Value.run_blocks m g)
    exact ⟨(q c).1.trans (Cert.ModIdeal.Out.final3 m c), (q c).2⟩
  · refine (θ_run _ _ _).mono (fun r q => fun c => ?_) (Cert.ModRefIdeal.Value.run m' g')
    refine ⟨(q c).1.trans ((res_eq _ _ _).trans ?_), (q c).2⟩
    obtain ⟨e0, e1, e2⟩ := hag c
    unfold Cert.ModIdeal.Out.mods
    rw [e0, e1, e2]

end Cert.ModClaims

end
-- ==== Proof.Sparse.Spec.lean ====
/- The preparation of the sparse mixer in terms of rows: the query's latent normalized and projected, and the rotary turn
   of the first columns of every group. -/
module

public import proofs.«01_k».proof.Proof.Proj.Spec
public import Idealize.ShloMosaic.Lib.KernelVsHost

@[expose] public section

noncomputable section

namespace Cert.SparseSpec

open Idealize.ShloMosaic Cert.ProjSpec

/-- Row `r` of an array of rows, the columns past its end zero. -/
def at2 {n k : ℕ} (x : (⟨2, ![n, k]⟩ : Shape).Idx → EReal) (r : Fin n) (c : ℕ) : EReal :=
  if h : c < k then x (ValueIdx.ix2 r ⟨c, h⟩) else 0

theorem at2_lt {n k : ℕ} (x : (⟨2, ![n, k]⟩ : Shape).Idx → EReal) (r : Fin n) (c : ℕ) (h : c < k) : at2 x r c = x (ValueIdx.ix2 r ⟨c, h⟩) := dif_pos h

theorem at2_ge {n k : ℕ} (x : (⟨2, ![n, k]⟩ : Shape).Idx → EReal) (r : Fin n) (c : ℕ) (h : ¬c < k) : at2 x r c = 0 := dif_neg h

theorem at2_val {n k : ℕ} (x : (⟨2, ![n, k]⟩ : Shape).Idx → EReal) (r : Fin n) (c : Fin k) : at2 x r c.val = x (ValueIdx.ix2 r c) := dif_pos c.isLt

/-- The turn at column `c` of a row `y` cut into groups of `G` columns: column `g < h` of a group is paired with column
    `g + h` and the pair is turned by the angle whose cosine and sine are `C g` and `S g`; the other columns stay. -/
def turn (G h : ℕ) (y C S : ℕ → EReal) (c : ℕ) : EReal :=
  if c % G < h then y c * C (c % G) + y (c + h) * -(S (c % G))
  else if c % G < 2 * h then y c * C (c % G - h) + y (c - h) * S (c % G - h)
  else y c

/-- The table of cosines and the table of signed sines at column `c`. -/
def cosEnt (G h : ℕ) (C : ℕ → EReal) (c : ℕ) : EReal :=
  if c % G < h then C (c % G) else if c % G < 2 * h then C (c % G - h) else 1
def sinEnt (G h : ℕ) (S : ℕ → EReal) (c : ℕ) : EReal :=
  if c % G < h then -(S (c % G)) else if c % G < 2 * h then S (c % G - h) else 0

theorem turn_eq (G h : ℕ) (y C S : ℕ → EReal) (c : ℕ) :
    y c * cosEnt G h C c + (if c % G < h then y (c + h) else y (c - h)) * sinEnt G h S c = turn G h y C S c := by
  unfold cosEnt sinEnt turn
  by_cases h1 : c % G < h
  · rw [if_pos h1, if_pos h1, if_pos h1, if_pos h1]
  · rw [if_neg h1, if_neg h1, if_neg h1, if_neg h1]
    by_cases h2 : c % G < 2 * h
    · rw [if_pos h2, if_pos h2, if_pos h2]
    · rw [if_neg h2, if_neg h2, if_neg h2, mul_one, mul_zero, add_zero]

/-- The turn written with a difference, by the column's place in its group. -/
theorem turn_first (G h : ℕ) (y C S : ℕ → EReal) (c g : ℕ) (hg : c % G = g) (h1 : g < h) : turn G h y C S c = y c * C g - y (c + h) * S g := by
  unfold turn
  rw [hg, if_pos h1, sub_eq_add_neg, mul_neg]

theorem turn_second (G h : ℕ) (y C S : ℕ → EReal) (c g : ℕ) (hg : c % G = h + g) (h1 : g < h) : turn G h y C S c = y (c - h) * S g + y c * C g := by
  unfold turn
  rw [hg, if_neg (by omega), if_pos (by omega), Nat.add_sub_cancel_left, add_comm]

theorem turn_rest (G h : ℕ) (y C S : ℕ → EReal) (c : ℕ) (h1 : 2 * h ≤ c % G) : turn G h y C S c = y c := by
  unfold turn
  rw [if_neg (by omega), if_neg (by omega)]

/-- Two rows that agree on the column's group have the same turn there. -/
theorem turn_congr (G h : ℕ) (y y' C S : ℕ → EReal) (c c' : ℕ) (hc : c % G = c' % G) (h0 : y c = y' c')
    (h1 : c % G < h → y (c + h) = y' (c' + h)) (h2 : h ≤ c % G → c % G < 2 * h → y (c - h) = y' (c' - h)) : turn G h y C S c = turn G h y' C S c' := by
  unfold turn
  rw [← hc, h0]
  by_cases a : c % G < h
  · rw [if_pos a, if_pos a, h1 a]
  · rw [if_neg a, if_neg a]
    by_cases b : c % G < 2 * h
    · rw [if_pos b, if_pos b, h2 (by omega) b]
    · rw [if_neg b, if_neg b]

/-- The kernel's way of writing the turn: a block times the table of cosines plus the block's partner columns times the
    table of signed sines, the partners found by rotating the whole block. -/
theorem block_turn {W : ℕ} (G h : ℕ) (x ct st : FVec Ideal ⟨2, ![512, W]⟩ .f32) (mask : IVec ⟨2, ![512, W]⟩ 1) (s1 s2 : BitVec 32)
    (hh : 0 < h) (hW : h < W) (h1 : s1.toNat = W - h) (h2 : s2.toNat = h) (hr : (⟨2, ![512, W]⟩ : Shape).Rotates 1 none) (r : Fin 512) (c : Fin W)
    (hm : mask (ValueIdx.ix2 r c) = if c.val % G < h then 1#1 else 0#1) (hup : c.val % G < h → c.val + h < W) (C S : ℕ → EReal)
    (hc : ct (ValueIdx.ix2 r c) = cosEnt G h C c.val) (hs : st (ValueIdx.ix2 r c) = sinEnt G h S c.val) :
    addf (mulf x ct) (mulf (select mask (dynamicRotate 1 s1 none x hr) (dynamicRotate 1 s2 none x hr)) st) (ValueIdx.ix2 r c)
      = turn G h (at2 x r) C S c.val := by
  show x (ValueIdx.ix2 r c) * ct (ValueIdx.ix2 r c)
    + Scalar.select (mask (ValueIdx.ix2 r c)) (dynamicRotate 1 s1 none x hr (ValueIdx.ix2 r c)) (dynamicRotate 1 s2 none x hr (ValueIdx.ix2 r c)) * st (ValueIdx.ix2 r c) = _
  rw [← turn_eq, hc, hs, hm, at2_val]
  refine congrArg₂ (· + ·) rfl (congrArg₂ (· * ·) ?_ rfl)
  have hcW := c.isLt
  by_cases hg : c.val % G < h
  · rw [if_pos hg, if_pos hg, at2_lt _ _ _ (hup hg)]
    refine dynamicRotate_apply 1 s1 x hr _ _ (fun b => ?_)
    fin_cases b
    · rfl
    · show c.val + h = (c.val + W - s1.toNat % W) % W
      have := hup hg
      rw [h1, Nat.mod_eq_of_lt (by omega : W - h < W), Nat.mod_eq_of_lt (by omega)]; omega
  · have hle : h ≤ c.val := le_trans (by omega) (Nat.mod_le c.val G)
    rw [if_neg hg, if_neg hg, at2_lt _ _ _ (by omega)]
    refine dynamicRotate_apply 1 s2 x hr _ _ (fun b => ?_)
    fin_cases b
    · rfl
    · show c.val - h = (c.val + W - s2.toNat % W) % W
      rw [h2, Nat.mod_eq_of_lt hW, show c.val + W - h = (c.val - h) + W by omega, Nat.add_mod_right, Nat.mod_eq_of_lt (by omega)]

/-- The latent's width: the word the programs write. -/
def lora : EReal := Ideal.ofBits .f32 0x43000000#32

/-- The normalized latent of a row at column `d`. -/
def latent (f g : ℕ → EReal) (d : Fin 128) : EReal :=
  f d.val * Ideal.rsqrt (Ideal.div (∑ k : Fin 128, f k.val * f k.val) lora + eps) * g d.val

/-- Its product with column `c` of a matrix. -/
def lift (f g : ℕ → EReal) (w : (⟨2, ![128, 256]⟩ : Shape).Idx → EReal) (c : ℕ) : EReal := ∑ d : Fin 128, latent f g d * at2 w d c

/-- The batch entry and the position of a row. -/
abbrev bt (i : Fin 32768) : Fin 8 := ⟨i.val / 4096, by omega⟩
abbrev ps (i : Fin 32768) : Fin 4096 := ⟨i.val % 4096, Nat.mod_lt _ (by decide)⟩

/-- The cosine and the sine of the angle of index `k` at row `i`. -/
def cosAt {h : ℕ} (A : FVec Ideal ⟨3, ![8, 4096, h]⟩ .f32) (i : Fin 32768) (k : ℕ) : EReal :=
  if hk : k < h then Host.cos A (ValueIdx.ix3 (bt i) (ps i) ⟨k, hk⟩) else 0
def sinAt {h : ℕ} (A : FVec Ideal ⟨3, ![8, 4096, h]⟩ .f32) (i : Fin 32768) (k : ℕ) : EReal :=
  if hk : k < h then Host.sin A (ValueIdx.ix3 (bt i) (ps i) ⟨k, hk⟩) else 0

theorem cosAt_lt {h : ℕ} (A : FVec Ideal ⟨3, ![8, 4096, h]⟩ .f32) (i : Fin 32768) (k : ℕ) (hk : k < h) :
    cosAt A i k = Host.cos A (ValueIdx.ix3 (bt i) (ps i) ⟨k, hk⟩) := dif_pos hk
theorem sinAt_lt {h : ℕ} (A : FVec Ideal ⟨3, ![8, 4096, h]⟩ .f32) (i : Fin 32768) (k : ℕ) (hk : k < h) :
    sinAt A i k = Host.sin A (ValueIdx.ix3 (bt i) (ps i) ⟨k, hk⟩) := dif_pos hk

/-- The six results at a row: the queries of the attention and of the indexer (column `c` of 256), the key, and the
    indexer's key (column `c` of the row). -/
def qAt (X : (⟨2, ![32768, 384]⟩ : Shape).Idx → EReal) (g : (⟨2, ![1, 128]⟩ : Shape).Idx → EReal) (w : (⟨2, ![128, 256]⟩ : Shape).Idx → EReal)
    (A : FVec Ideal ⟨3, ![8, 4096, 8]⟩ .f32) (i : Fin 32768) (c : ℕ) : EReal := turn 64 8 (lift (at2 X i) (at2 g 0) w) (cosAt A i) (sinAt A i) c
def qiAt (X : (⟨2, ![32768, 384]⟩ : Shape).Idx → EReal) (g : (⟨2, ![1, 128]⟩ : Shape).Idx → EReal) (w : (⟨2, ![128, 256]⟩ : Shape).Idx → EReal)
    (A : FVec Ideal ⟨3, ![8, 4096, 4]⟩ .f32) (i : Fin 32768) (c : ℕ) : EReal := turn 32 4 (lift (at2 X i) (at2 g 0) w) (cosAt A i) (sinAt A i) c
def kAt (X : (⟨2, ![32768, 384]⟩ : Shape).Idx → EReal) (A : FVec Ideal ⟨3, ![8, 4096, 8]⟩ .f32) (i : Fin 32768) (c : ℕ) : EReal :=
  turn 64 8 (fun c => at2 X i (128 + c)) (cosAt A i) (sinAt A i) c
def kiAt (X : (⟨2, ![32768, 384]⟩ : Shape).Idx → EReal) (A : FVec Ideal ⟨3, ![8, 4096, 4]⟩ .f32) (i : Fin 32768) (c : ℕ) : EReal :=
  turn 32 4 (fun c => at2 X i (256 + c)) (cosAt A i) (sinAt A i) c

end Cert.SparseSpec

end
-- ==== Proof.Sparse.Tables.lean ====
/- The tables of cosines and signed sines the host lays out, read at an element. -/
module

public import proofs.«01_k».proof.Proof.Gen.SparseIdeal.Frame
public import proofs.«01_k».proof.Proof.Sparse.Spec
public import Idealize.ShloMosaic.Lib.Pipeline.Value
public import Idealize.ShloMosaic.Lib.Pipeline.ValueKit
public import Idealize.ShloMosaic.Lib.IdealHost
public import Idealize.ShloMosaic.Lib.ValueIdxRank6

@[expose] public section

set_option maxRecDepth 16384

noncomputable section

namespace Cert.SparseIdeal.Prep

open Cert.SparseIdeal Cert.SparseIdeal.Gen
open Idealize.ShloMosaic Idealize.ShloMosaic.TcCoe Idealize.SL.Sem
open Cert.ProjSpec Cert.SparseSpec

/-- Three arrays side by side along the last axis, two of width `h` and one of width `rest`. -/
theorem beside_apply {G h rest : ℕ} (p1 p2 : (⟨3, ![8, 4096, h]⟩ : Shape).Idx → EReal) (p3 : (⟨3, ![8, 4096, rest]⟩ : Shape).Idx → EReal)
    (hcat : Shape.Concatenates [⟨3, ![8, 4096, h]⟩, ⟨3, ![8, 4096, h]⟩, ⟨3, ![8, 4096, rest]⟩] ⟨3, ![8, 4096, G]⟩ 2) (hG : G = h + h + rest)
    (b : Fin 8) (s : Fin 4096) (c : Fin G) :
    concatenate ⟨3, ![8, 4096, G]⟩ 2 [⟨⟨3, ![8, 4096, h]⟩, p1⟩, ⟨⟨3, ![8, 4096, h]⟩, p2⟩, ⟨⟨3, ![8, 4096, rest]⟩, p3⟩] hcat (ValueIdx.ix3 b s c)
      = if h1 : c.val < h then p1 (ValueIdx.ix3 b s ⟨c.val, h1⟩)
        else if h2 : c.val < 2 * h then p2 (ValueIdx.ix3 b s ⟨c.val - h, by omega⟩)
        else p3 (ValueIdx.ix3 b s ⟨c.val - 2 * h, by have := c.isLt; omega⟩) := by
  by_cases h1 : c.val < h
  · rw [dif_pos h1]
    refine concatenate_apply_piece 2 [⟨⟨3, ![8, 4096, h]⟩, p1⟩, ⟨⟨3, ![8, 4096, h]⟩, p2⟩, ⟨⟨3, ![8, 4096, rest]⟩, p3⟩] hcat _ 0 (by show 0 < 3; decide) _ p1 rfl rfl 0 rfl _ (fun x hx => ?_) ?_
    · fin_cases x
      · rfl
      · rfl
      · exact absurd rfl hx
    · exact Nat.zero_add _
  · rw [dif_neg h1]
    by_cases h2 : c.val < 2 * h
    · rw [dif_pos h2]
      refine concatenate_apply_piece 2 [⟨⟨3, ![8, 4096, h]⟩, p1⟩, ⟨⟨3, ![8, 4096, h]⟩, p2⟩, ⟨⟨3, ![8, 4096, rest]⟩, p3⟩] hcat _ 1 (by show 1 < 3; decide) _ p2 rfl rfl h rfl _ (fun x hx => ?_) ?_
      · fin_cases x
        · rfl
        · rfl
        · exact absurd rfl hx
      · show h + (c.val - h) = c.val
        omega
    · rw [dif_neg h2]
      refine concatenate_apply_piece 2 [⟨⟨3, ![8, 4096, h]⟩, p1⟩, ⟨⟨3, ![8, 4096, h]⟩, p2⟩, ⟨⟨3, ![8, 4096, rest]⟩, p3⟩] hcat _ 2 (by show 2 < 3; decide) _ p3 rfl rfl (2 * h) (by show h + (h + 0) = 2 * h; omega) _ (fun x hx => ?_) ?_
      · fin_cases x
        · rfl
        · rfl
        · exact absurd rfl hx
      · show 2 * h + (c.val - 2 * h) = c.val
        omega

/-- A group's table repeated over a row's four groups, one row per position. -/
def wide64 (x : FVec Ideal S8x4096x64 .f32) : FVec Ideal S32768x256 .f32 :=
  shapeCast S32768x256 (shapeCast S8x4096x256 (broadcastInDim S1x8x1x4096x4x64 ![0, 1, 2, 3, 4, 5] bcast_S1x8x1x4096x1x64_S1x8x1x4096x4x64_0_1_2_3_4_5
    (shapeCast S1x8x1x4096x1x64 x shapeCasts_S8x4096x64_S1x8x1x4096x1x64)) shapeCasts_S1x8x1x4096x4x64_S8x4096x256) shapeCasts_S8x4096x256_S32768x256

theorem wide64_apply (x : FVec Ideal S8x4096x64 .f32) (i : Fin 32768) (c : Fin 256) :
    wide64 x (ValueIdx.ix2 i c) = x (ValueIdx.ix3 (bt i) (ps i) ⟨c.val % 64, Nat.mod_lt _ (by decide)⟩) := by
  refine (shapeCast_apply _ _ _ (ValueIdx.ix3 (bt i) (ps i) c) ?_).trans ?_
  · rw [Shape.rowMajor_val_three, Shape.rowMajor_val_two]
    show (i.val / 4096 * 4096 + i.val % 4096) * 256 + c.val = i.val * 256 + c.val
    rw [Nat.div_add_mod' i.val 4096]
  refine (shapeCast_apply _ _ _ (ValueIdx.ix6 (0 : Fin 1) (bt i) (0 : Fin 1) (ps i) (⟨c.val / 64, by omega⟩ : Fin 4) (⟨c.val % 64, Nat.mod_lt _ (by decide)⟩ : Fin 64)) ?_).trans ?_
  · rw [Shape.rowMajor_val_six, Shape.rowMajor_val_three]
    show ((((0 * 8 + (bt i).val) * 1 + 0) * 4096 + (ps i).val) * 4 + c.val / 64) * 64 + c.val % 64 = ((bt i).val * 4096 + (ps i).val) * 256 + c.val
    omega
  refine (broadcastInDim_apply _ _ _ _ (ValueIdx.ix6 (0 : Fin 1) (bt i) (0 : Fin 1) (ps i) (0 : Fin 1) (⟨c.val % 64, Nat.mod_lt _ (by decide)⟩ : Fin 64)) (fun a => by fin_cases a <;> rfl)).trans ?_
  refine shapeCast_apply _ _ _ _ ?_
  rw [Shape.rowMajor_val_six, Shape.rowMajor_val_three]
  show ((bt i).val * 4096 + (ps i).val) * 64 + c.val % 64 = ((((0 * 8 + (bt i).val) * 1 + 0) * 4096 + (ps i).val) * 1 + 0) * 64 + c.val % 64
  omega

/-- The same over a row's eight groups of 32. -/
def wide32 (x : FVec Ideal S8x4096x32 .f32) : FVec Ideal S32768x256 .f32 :=
  shapeCast S32768x256 (shapeCast S8x4096x256 (broadcastInDim S1x8x1x4096x8x32 ![0, 1, 2, 3, 4, 5] bcast_S1x8x1x4096x1x32_S1x8x1x4096x8x32_0_1_2_3_4_5
    (shapeCast S1x8x1x4096x1x32 x shapeCasts_S8x4096x32_S1x8x1x4096x1x32)) shapeCasts_S1x8x1x4096x8x32_S8x4096x256) shapeCasts_S8x4096x256_S32768x256

theorem wide32_apply (x : FVec Ideal S8x4096x32 .f32) (i : Fin 32768) (c : Fin 256) :
    wide32 x (ValueIdx.ix2 i c) = x (ValueIdx.ix3 (bt i) (ps i) ⟨c.val % 32, Nat.mod_lt _ (by decide)⟩) := by
  refine (shapeCast_apply _ _ _ (ValueIdx.ix3 (bt i) (ps i) c) ?_).trans ?_
  · rw [Shape.rowMajor_val_three, Shape.rowMajor_val_two]
    show (i.val / 4096 * 4096 + i.val % 4096) * 256 + c.val = i.val * 256 + c.val
    rw [Nat.div_add_mod' i.val 4096]
  refine (shapeCast_apply _ _ _ (ValueIdx.ix6 (0 : Fin 1) (bt i) (0 : Fin 1) (ps i) (⟨c.val / 32, by omega⟩ : Fin 8) (⟨c.val % 32, Nat.mod_lt _ (by decide)⟩ : Fin 32)) ?_).trans ?_
  · rw [Shape.rowMajor_val_six, Shape.rowMajor_val_three]
    show ((((0 * 8 + (bt i).val) * 1 + 0) * 4096 + (ps i).val) * 8 + c.val / 32) * 32 + c.val % 32 = ((bt i).val * 4096 + (ps i).val) * 256 + c.val
    omega
  refine (broadcastInDim_apply _ _ _ _ (ValueIdx.ix6 (0 : Fin 1) (bt i) (0 : Fin 1) (ps i) (0 : Fin 1) (⟨c.val % 32, Nat.mod_lt _ (by decide)⟩ : Fin 32)) (fun a => by fin_cases a <;> rfl)).trans ?_
  refine shapeCast_apply _ _ _ _ ?_
  rw [Shape.rowMajor_val_six, Shape.rowMajor_val_three]
  show ((bt i).val * 4096 + (ps i).val) * 32 + c.val % 32 = ((((0 * 8 + (bt i).val) * 1 + 0) * 4096 + (ps i).val) * 1 + 0) * 32 + c.val % 32
  omega

variable (A : FVec Ideal S8x4096x8 .f32) (B : FVec Ideal S8x4096x4 .f32)

/-- The four tables. -/
def cosQ : FVec Ideal S32768x256 .f32 :=
  wide64 (concatenate S8x4096x64 2 [⟨S8x4096x8, Host.cos A⟩, ⟨S8x4096x8, Host.cos A⟩, ⟨S8x4096x48, broadcastInDim S8x4096x48 ![] bcast_S_S8x4096x48 (constant S_ .f32 0x3F800000#32)⟩] concatenates_S8x4096x8_S8x4096x8_S8x4096x48_S8x4096x64_d2)
def sinQ : FVec Ideal S32768x256 .f32 :=
  wide64 (concatenate S8x4096x64 2 [⟨S8x4096x8, Host.negf (Host.sin A)⟩, ⟨S8x4096x8, Host.sin A⟩, ⟨S8x4096x48, broadcastInDim S8x4096x48 ![] bcast_S_S8x4096x48 (constant S_ .f32 0x00000000#32)⟩] concatenates_S8x4096x8_S8x4096x8_S8x4096x48_S8x4096x64_d2)
def cosI : FVec Ideal S32768x256 .f32 :=
  wide32 (concatenate S8x4096x32 2 [⟨S8x4096x4, Host.cos B⟩, ⟨S8x4096x4, Host.cos B⟩, ⟨S8x4096x24, broadcastInDim S8x4096x24 ![] bcast_S_S8x4096x24 (constant S_ .f32 0x3F800000#32)⟩] concatenates_S8x4096x4_S8x4096x4_S8x4096x24_S8x4096x32_d2)
def sinI : FVec Ideal S32768x256 .f32 :=
  wide32 (concatenate S8x4096x32 2 [⟨S8x4096x4, Host.negf (Host.sin B)⟩, ⟨S8x4096x4, Host.sin B⟩, ⟨S8x4096x24, broadcastInDim S8x4096x24 ![] bcast_S_S8x4096x24 (constant S_ .f32 0x00000000#32)⟩] concatenates_S8x4096x4_S8x4096x4_S8x4096x24_S8x4096x32_d2)

theorem cosQ_apply (i : Fin 32768) (c : Fin 256) : cosQ A (ValueIdx.ix2 i c) = cosEnt 64 8 (cosAt A i) c.val := by
  refine (wide64_apply _ i c).trans ((beside_apply (h := 8) (rest := 48) _ _ _ _ rfl _ _ _).trans ?_)
  unfold cosEnt
  dsimp only
  by_cases h1 : c.val % 64 < 8
  · rw [dif_pos h1, if_pos h1]; exact (cosAt_lt _ _ _ h1).symm
  · rw [dif_neg h1, if_neg h1]
    by_cases h2 : c.val % 64 < 2 * 8
    · rw [dif_pos h2, if_pos h2]; exact (cosAt_lt _ _ _ (by omega)).symm
    · rw [dif_neg h2, if_neg h2]; exact Ideal.ofBits_one_f32

theorem sinQ_apply (i : Fin 32768) (c : Fin 256) : sinQ A (ValueIdx.ix2 i c) = sinEnt 64 8 (sinAt A i) c.val := by
  refine (wide64_apply _ i c).trans ((beside_apply (h := 8) (rest := 48) _ _ _ _ rfl _ _ _).trans ?_)
  unfold sinEnt
  dsimp only
  by_cases h1 : c.val % 64 < 8
  · rw [dif_pos h1, if_pos h1]; exact (congrArg (fun e : EReal => -e) (sinAt_lt _ _ _ h1)).symm
  · rw [dif_neg h1, if_neg h1]
    by_cases h2 : c.val % 64 < 2 * 8
    · rw [dif_pos h2, if_pos h2]; exact (sinAt_lt _ _ _ (by omega)).symm
    · rw [dif_neg h2, if_neg h2]; exact Ideal.ofBits_zero_f32

theorem cosI_apply (i : Fin 32768) (c : Fin 256) : cosI B (ValueIdx.ix2 i c) = cosEnt 32 4 (cosAt B i) c.val := by
  refine (wide32_apply _ i c).trans ((beside_apply (h := 4) (rest := 24) _ _ _ _ rfl _ _ _).trans ?_)
  unfold cosEnt
  dsimp only
  by_cases h1 : c.val % 32 < 4
  · rw [dif_pos h1, if_pos h1]; exact (cosAt_lt _ _ _ h1).symm
  · rw [dif_neg h1, if_neg h1]
    by_cases h2 : c.val % 32 < 2 * 4
    · rw [dif_pos h2, if_pos h2]; exact (cosAt_lt _ _ _ (by omega)).symm
    · rw [dif_neg h2, if_neg h2]; exact Ideal.ofBits_one_f32

theorem sinI_apply (i : Fin 32768) (c : Fin 256) : sinI B (ValueIdx.ix2 i c) = sinEnt 32 4 (sinAt B i) c.val := by
  refine (wide32_apply _ i c).trans ((beside_apply (h := 4) (rest := 24) _ _ _ _ rfl _ _ _).trans ?_)
  unfold sinEnt
  dsimp only
  by_cases h1 : c.val % 32 < 4
  · rw [dif_pos h1, if_pos h1]; exact (congrArg (fun e : EReal => -e) (sinAt_lt _ _ _ h1)).symm
  · rw [dif_neg h1, if_neg h1]
    by_cases h2 : c.val % 32 < 2 * 4
    · rw [dif_pos h2, if_pos h2]; exact (sinAt_lt _ _ _ (by omega)).symm
    · rw [dif_neg h2, if_neg h2]; exact Ideal.ofBits_zero_f32

variable (m : (ℓ : Loc nD τ sig) → Buf (Elt Ideal) ℓ) (c : Dev nD)

set_option maxHeartbeats 4000000 in
theorem V_cosQ : V m c main_v8 = cosQ (m ((c.tc : Thread nD τ).loc main_arg4)) := by
  unfold V; after_results_simp; rfl

set_option maxHeartbeats 4000000 in
theorem V_sinQ : V m c main_v14 = sinQ (m ((c.tc : Thread nD τ).loc main_arg4)) := by
  unfold V; after_results_simp; rfl

set_option maxHeartbeats 4000000 in
theorem V_cosI : V m c main_v23 = cosI (m ((c.tc : Thread nD τ).loc main_arg5)) := by
  unfold V; after_results_simp; rfl

set_option maxHeartbeats 4000000 in
theorem V_sinI : V m c main_v29 = sinI (m ((c.tc : Thread nD τ).loc main_arg5)) := by
  unfold V; after_results_simp; rfl

end Cert.SparseIdeal.Prep

end
-- ==== Proof.Sparse.Elem.lean ====
/- The six blocks stored at a grid point, read at an element over the extended reals. -/
module

public import proofs.«01_k».proof.Proof.Sparse.Tables
public import Idealize.ShloMosaic.Lib.MatmulPlain
public import Idealize.ShloMosaic.Lib.ValueLayoutCasts

@[expose] public section

set_option maxRecDepth 16384

noncomputable section

namespace Cert.SparseIdeal.Prep

open Cert.SparseIdeal Cert.SparseIdeal.Gen
open Idealize.ShloMosaic
open Cert.ProjSpec Cert.SparseSpec

/-! ## Which columns are the first of their group's pairs -/

theorem word64 : ∀ c : Fin 256, IntOp.cmpi .slt (IntOp.andi (BitVec.ofNat 32 c.val) 63#32) 8#32 = if c.val % 64 < 8 then 1#1 else 0#1 := by decide +kernel
theorem word32 : ∀ c : Fin 256, IntOp.cmpi .slt (IntOp.andi (BitVec.ofNat 32 c.val) 31#32) 4#32 = if c.val % 32 < 4 then 1#1 else 0#1 := by decide +kernel

/-- The column's number. -/
theorem iota_apply {n : ℕ} (h) (c : Fin n) : iota .tc ⟨2, ![1, n]⟩ 32 [1] h (ValueIdx.ix2 0 c) = BitVec.ofNat 32 c.val := by
  show BitVec.ofNat 32 (0 * n + c.val) = _
  rw [Nat.zero_mul, Nat.zero_add]

def mask256_64 : IVec S512x256 1 := broadcastTo S512x256 (shapeCast S1x256 (cmpi .slt (andi (iota .tc S1x256 32 [1] iota_S1x256_d1_w32) (broadcast S1x256 63#32)) (broadcast S1x256 8#32)) shapeCasts_S1x256_S1x256) broadcasts_S1x256_S512x256

theorem mask256_64_apply (r : Fin 512) (c : Fin 256) : mask256_64 (ValueIdx.ix2 r c) = if c.val % 64 < 8 then 1#1 else 0#1 := by
  refine (ValueIdx.broadcastTo_1b_ab_apply _ _ r c).trans ((congrFun (shapeCast_self _ _) _).trans ?_)
  refine Eq.trans (congrArg (fun e => IntOp.cmpi .slt (IntOp.andi e 63#32) 8#32) (iota_apply iota_S1x256_d1_w32 c)) ?_
  exact word64 c

def mask256_32 : IVec S512x256 1 := broadcastTo S512x256 (shapeCast S1x256 (cmpi .slt (andi (iota .tc S1x256 32 [1] iota_S1x256_d1_w32) (broadcast S1x256 31#32)) (broadcast S1x256 4#32)) shapeCasts_S1x256_S1x256) broadcasts_S1x256_S512x256

theorem mask256_32_apply (r : Fin 512) (c : Fin 256) : mask256_32 (ValueIdx.ix2 r c) = if c.val % 32 < 4 then 1#1 else 0#1 := by
  refine (ValueIdx.broadcastTo_1b_ab_apply _ _ r c).trans ((congrFun (shapeCast_self _ _) _).trans ?_)
  refine Eq.trans (congrArg (fun e => IntOp.cmpi .slt (IntOp.andi e 31#32) 4#32) (iota_apply iota_S1x256_d1_w32 c)) ?_
  exact word32 c

def mask128_64 : IVec S512x128 1 := broadcastTo S512x128 (shapeCast S1x128 (cmpi .slt (andi (iota .tc S1x128 32 [1] iota_S1x128_d1_w32) (broadcast S1x128 63#32)) (broadcast S1x128 8#32)) shapeCasts_S1x128_S1x128) broadcasts_S1x128_S512x128

theorem mask128_64_apply (r : Fin 512) (c : Fin 128) : mask128_64 (ValueIdx.ix2 r c) = if c.val % 64 < 8 then 1#1 else 0#1 := by
  refine (ValueIdx.broadcastTo_1b_ab_apply _ _ r c).trans ((congrFun (shapeCast_self _ _) _).trans ?_)
  refine Eq.trans (congrArg (fun e => IntOp.cmpi .slt (IntOp.andi e 63#32) 8#32) (iota_apply iota_S1x128_d1_w32 c)) ?_
  exact word64 ⟨c.val, by omega⟩

def mask128_32 : IVec S512x128 1 := broadcastTo S512x128 (shapeCast S1x128 (cmpi .slt (andi (iota .tc S1x128 32 [1] iota_S1x128_d1_w32) (broadcast S1x128 31#32)) (broadcast S1x128 4#32)) shapeCasts_S1x128_S1x128) broadcasts_S1x128_S512x128

theorem mask128_32_apply (r : Fin 512) (c : Fin 128) : mask128_32 (ValueIdx.ix2 r c) = if c.val % 32 < 4 then 1#1 else 0#1 := by
  refine (ValueIdx.broadcastTo_1b_ab_apply _ _ r c).trans ((congrFun (shapeCast_self _ _) _).trans ?_)
  refine Eq.trans (congrArg (fun e => IntOp.cmpi .slt (IntOp.andi e 31#32) 4#32) (iota_apply iota_S1x128_d1_w32 c)) ?_
  exact word32 ⟨c.val, by omega⟩

/-! ## The latent and its products -/

/-- A range of a block's columns. -/
theorem cols_apply {n k off : ℕ} (x : (⟨2, ![512, k]⟩ : Shape).Idx → EReal) (h : (⟨2, ![512, k]⟩ : Shape).Slices ![0, off] ⟨2, ![512, n]⟩) (r : Fin 512) (j : Fin n) (hj : off + j.val < k) :
    extractStridedSlice ⟨2, ![512, n]⟩ ![0, off] x h (ValueIdx.ix2 r j) = at2 x r (off + j.val) :=
  (extractStridedSlice_apply _ _ _ _ (ValueIdx.ix2 r ⟨off + j.val, hj⟩) (fun a => by
    fin_cases a
    · exact (Nat.zero_add _).symm
    · rfl)).trans (at2_lt x r _ hj).symm

theorem rowSum_apply (v : FVec Ideal S512x128 .f32) (a : Fin 512) :
    shapeCast S512x1 (multiReduction .add [1] S512 v 0x00000000#32 reduces_S512x128_S512 (.inl rfl) rfl) shapeCasts_S512_S512x1 (ValueIdx.ix2 a 0)
      = ∑ k : Fin 128, v (ValueIdx.ix2 a k) := by
  refine (ValueIdx.shapeCast_a_a1_apply _ _ a 0).trans ?_
  refine (Ideal.multiReduction_add_single v _ _ _ _ _).trans ?_
  exact Finset.sum_congr rfl fun k _ => congrArg v (funext fun i => by fin_cases i <;> rfl)

variable (x : Vec Ideal S512x384 .f32) (g : Vec Ideal S1x128 .f32) (w : Vec Ideal S128x256 .bf16) (ct st : Vec Ideal S512x256 .f32)

/-- The block's first 128 columns and the reciprocal root mean square of each row of them. -/
def head : FVec Ideal S512x128 .f32 := extractStridedSlice S512x128 ![0, 0] x slices_S512x384_o0_0_S512x128

def rms : FVec Ideal S512x1 .f32 :=
  rsqrt (addf (divf (shapeCast S512x1 (multiReduction .add [1] S512 (mulf (head x) (head x)) 0x00000000#32 reduces_S512x128_S512 (.inl rfl) rfl) shapeCasts_S512_S512x1)
    (broadcast S512x1 (Scalar.ofBits .f32 0x43000000#32))) (broadcast S512x1 (Scalar.ofBits .f32 0x3727C5AC#32)))

theorem head_apply (a : Fin 512) (d : Fin 128) : head x (ValueIdx.ix2 a d) = at2 x a d.val :=
  (cols_apply x slices_S512x384_o0_0_S512x128 a d (by omega)).trans (congrArg (at2 x a) (Nat.zero_add _))

theorem rms_apply (a : Fin 512) :
    rms x (ValueIdx.ix2 a 0) = Ideal.rsqrt (Ideal.div (∑ k : Fin 128, at2 x a k.val * at2 x a k.val) lora + eps) := by
  show Ideal.rsqrt (Ideal.div (shapeCast S512x1 (multiReduction .add [1] S512 (mulf (head x) (head x)) 0x00000000#32 reduces_S512x128_S512 (.inl rfl) rfl) shapeCasts_S512_S512x1 (ValueIdx.ix2 a 0)) lora + eps) = _
  rw [rowSum_apply]
  refine congrArg (fun e => Ideal.rsqrt (Ideal.div e lora + eps)) (Finset.sum_congr rfl fun k _ => ?_)
  exact congrArg₂ (· * ·) (head_apply x a k) (head_apply x a k)

theorem pay6_apply (a : Fin 512) (d : Fin 128) : k0_pay6 x g (ValueIdx.ix2 a d) = latent (at2 x a) (at2 g 0) d := by
  show head x (ValueIdx.ix2 a d) * broadcastTo S512x128 (rms x) broadcasts_S512x1_S512x128 (ValueIdx.ix2 a d)
    * broadcastTo S512x128 g broadcasts_S1x128_S512x128 (ValueIdx.ix2 a d) = _
  have e1 : broadcastTo S512x128 (rms x) broadcasts_S512x1_S512x128 (ValueIdx.ix2 a d) = rms x (ValueIdx.ix2 a 0) :=
    congrArg (rms x) (funext fun i => by fin_cases i <;> rfl)
  rw [e1, rms_apply, head_apply, ValueIdx.broadcastTo_1b_ab_apply]
  exact congrArg _ (at2_val g 0 d).symm

/-- The product of the block's latents with a matrix. -/
def prod : FVec Ideal S512x256 .f32 := matmul (φ₂ := .bf16) dot_S512x128_S128x256_S512x256_1_0_0_1_n_n none (k0_pay6 x g) w (constant S512x256 .f32 0x00000000#32)

theorem prod_apply (a : Fin 512) (c : Fin 256) : prod x g w (ValueIdx.ix2 a c) = lift (at2 x a) (at2 g 0) w c.val := by
  refine (Ideal.matmul_plain_apply (M := 512) (K := 128) (N := 256) none (k0_pay6 x g) w _ a c).trans ?_
  show Ideal.ofBits .f32 0x00000000#32 + _ = _
  rw [Ideal.ofBits_zero_f32, zero_add]
  exact Finset.sum_congr rfl fun d _ => congrArg₂ (· * ·) (pay6_apply x g a d) (at2_val w d c).symm

theorem prod_row (a : Fin 512) : at2 (prod x g w) a = lift (at2 x a) (at2 g 0) w := by
  funext c
  by_cases hc : c < 256
  · exact (at2_lt _ a c hc).trans (prod_apply x g w a ⟨c, hc⟩)
  · refine (dif_neg hc).trans (Finset.sum_eq_zero fun d _ => ?_).symm
    rw [show at2 w d c = 0 from dif_neg hc, mul_zero]

/-! ## The stored blocks -/

variable (C S : ℕ → EReal)

theorem out8_apply (hd : Fin 4) (e : Fin 64) (r : Fin 512) (hc : ∀ c : Fin 256, ct (ValueIdx.ix2 r c) = cosEnt 64 8 C c.val) (hs : ∀ c : Fin 256, st (ValueIdx.ix2 r c) = sinEnt 64 8 S c.val) :
    k0_pay14 (k0_pay8 st) (k0_pay12 x g w) (k0_pay13 x g ct w) (ValueIdx.ix3 hd e r)
      = turn 64 8 (lift (at2 x r) (at2 g 0) w) C S (hd.val * 64 + e.val) * Ideal.ofBits .f32 0x3E000000#32 := by
  show shapeCast S4x64x512 (transpose S256x512 [1, 0] (mulf (addf (mulf (prod x g w) (k0_pay7 ct)) (mulf (select mask256_64 (dynamicRotate 1 248#32 none (prod x g w) rotates_S512x256_d1) (dynamicRotate 1 8#32 none (prod x g w) rotates_S512x256_d1)) (k0_pay8 st))) (broadcast S512x256 (Scalar.ofBits .f32 0x3E000000#32))) transposes_S512x256_p1_0_S256x512) shapeCasts_S256x512_S4x64x512 (ValueIdx.ix3 hd e r) = _
  refine (shapeCast_apply _ _ _ (ValueIdx.ix2 (⟨hd.val * 64 + e.val, by omega⟩ : Fin 256) r) ?_).trans ?_
  · rw [Shape.rowMajor_val_three, Shape.rowMajor_val_two]; rfl
  refine (transpose_apply [1, 0] _ _ _ (ValueIdx.ix2 r (⟨hd.val * 64 + e.val, by omega⟩ : Fin 256)) (fun b => by fin_cases b <;> rfl)).trans ?_
  refine congrArg (· * Ideal.ofBits .f32 0x3E000000#32) ?_
  rw [← prod_row]
  refine block_turn 64 8 (prod x g w) (k0_pay7 ct) (k0_pay8 st) _ 248#32 8#32 (by decide) (by decide) rfl rfl rotates_S512x256_d1 r ⟨hd.val * 64 + e.val, by omega⟩ (mask256_64_apply r _) (fun h => ?_) C S ?_ ?_
  · dsimp only at h ⊢; omega
  · exact (congrFun (shapeCast_self ct _) _).trans (hc _)
  · exact (congrFun (shapeCast_self st _) _).trans (hs _)

theorem out9_apply (hd : Fin 8) (e : Fin 32) (r : Fin 512) (hc : ∀ c : Fin 256, ct (ValueIdx.ix2 r c) = cosEnt 32 4 C c.val) (hs : ∀ c : Fin 256, st (ValueIdx.ix2 r c) = sinEnt 32 4 S c.val) :
    k0_pay15 (k0_pay6 x g) (k0_pay9 ct) (k0_pay10 st) w (ValueIdx.ix3 hd e r)
      = turn 32 4 (lift (at2 x r) (at2 g 0) w) C S (hd.val * 32 + e.val) := by
  show shapeCast S8x32x512 (transpose S256x512 [1, 0] (addf (mulf (prod x g w) (k0_pay9 ct)) (mulf (select mask256_32 (dynamicRotate 1 252#32 none (prod x g w) rotates_S512x256_d1) (dynamicRotate 1 4#32 none (prod x g w) rotates_S512x256_d1)) (k0_pay10 st))) transposes_S512x256_p1_0_S256x512) shapeCasts_S256x512_S8x32x512 (ValueIdx.ix3 hd e r) = _
  refine (shapeCast_apply _ _ _ (ValueIdx.ix2 (⟨hd.val * 32 + e.val, by omega⟩ : Fin 256) r) ?_).trans ?_
  · rw [Shape.rowMajor_val_three, Shape.rowMajor_val_two]; rfl
  refine (transpose_apply [1, 0] _ _ _ (ValueIdx.ix2 r (⟨hd.val * 32 + e.val, by omega⟩ : Fin 256)) (fun b => by fin_cases b <;> rfl)).trans ?_
  rw [← prod_row]
  refine block_turn 32 4 (prod x g w) (k0_pay9 ct) (k0_pay10 st) _ 252#32 4#32 (by decide) (by decide) rfl rfl rotates_S512x256_d1 r ⟨hd.val * 32 + e.val, by omega⟩ (mask256_32_apply r _) (fun h => ?_) C S ?_ ?_
  · dsimp only at h ⊢; omega
  · exact (congrFun (shapeCast_self ct _) _).trans (hc _)
  · exact (congrFun (shapeCast_self st _) _).trans (hs _)

theorem out10_apply (j : Fin 8) (r : Fin 512) : k0_pay5 x (ValueIdx.ix2 j r) = at2 x r (288 + j.val) * Ideal.ofBits .f32 0x3D800000#32 := by
  refine congrArg (· * Ideal.ofBits .f32 0x3D800000#32) ?_
  refine (extractStridedSlice_apply _ _ _ _ (ValueIdx.ix2 (⟨32 + j.val, by omega⟩ : Fin 128) r) (fun a => by
    fin_cases a
    · rfl
    · exact (Nat.zero_add _).symm)).trans ?_
  refine (transpose_apply [1, 0] _ _ _ (ValueIdx.ix2 r (⟨32 + j.val, by omega⟩ : Fin 128)) (fun b => by fin_cases b <;> rfl)).trans ?_
  refine (cols_apply (off := 256) x slices_S512x384_o0_256_S512x128 r ⟨32 + j.val, by omega⟩ (by dsimp only; omega)).trans ?_
  exact congrArg (at2 x r) (by dsimp only; omega)

/-- The first half of a table's columns. -/
theorem half_apply (t : FVec Ideal S512x256 .f32) (r : Fin 512) (c : Fin 128) :
    extractStridedSlice S512x128 ![0, 0] (shapeCast S512x256 t shapeCasts_S512x256_S512x256) slices_S512x256_o0_0_S512x128 (ValueIdx.ix2 r c) = t (ValueIdx.ix2 r ⟨c.val, by omega⟩) := by
  rw [shapeCast_self]
  refine (cols_apply t slices_S512x256_o0_0_S512x128 r c (by omega)).trans ?_
  rw [Nat.zero_add]
  exact at2_lt t r _ _

theorem out11_apply (r : Fin 512) (e : Fin 64) (hc : ∀ c : Fin 256, ct (ValueIdx.ix2 r c) = cosEnt 64 8 C c.val) (hs : ∀ c : Fin 256, st (ValueIdx.ix2 r c) = sinEnt 64 8 S c.val) :
    k0_pay1 (k0_pay16 x) (k0_pay17 (k0_pay7 ct)) (k0_pay18 (k0_pay8 st)) (k0_pay19 x) (ValueIdx.ix2 r e)
      = turn 64 8 (fun c => at2 x r (128 + c)) C S e.val := by
  show extractStridedSlice S512x64 ![0, 0] (addf (mulf (k0_pay16 x) (k0_pay17 (k0_pay7 ct))) (mulf (select mask128_64 (dynamicRotate 1 120#32 none (k0_pay16 x) rotates_S512x128_d1) (dynamicRotate 1 8#32 none (k0_pay16 x) rotates_S512x128_d1)) (k0_pay18 (k0_pay8 st)))) slices_S512x128_o0_0_S512x64 (ValueIdx.ix2 r e) = _
  refine (extractStridedSlice_apply _ _ _ _ (ValueIdx.ix2 r (⟨e.val, by omega⟩ : Fin 128)) (fun a => by
    fin_cases a
    · exact (Nat.zero_add _).symm
    · exact (Nat.zero_add _).symm)).trans ?_
  refine (block_turn 64 8 (k0_pay16 x) (k0_pay17 (k0_pay7 ct)) (k0_pay18 (k0_pay8 st)) _ 120#32 8#32 (by decide) (by decide) rfl rfl rotates_S512x128_d1 r ⟨e.val, by omega⟩ (mask128_64_apply r _) (fun h => ?_) C S ?_ ?_).trans ?_
  · dsimp only at h ⊢; omega
  · exact (half_apply ct r _).trans (hc _)
  · exact (half_apply st r _).trans (hs _)
  · have hx : ∀ c : ℕ, c < 128 → at2 (k0_pay16 x) r c = at2 x r (128 + c) := fun c h =>
      (at2_lt _ r c h).trans (cols_apply (off := 128) x slices_S512x384_o0_128_S512x128 r ⟨c, h⟩ (by dsimp only; omega))
    exact turn_congr 64 8 (at2 (k0_pay16 x) r) (fun c => at2 x r (128 + c)) C S e.val e.val rfl (hx _ (by omega)) (fun h => hx _ (by omega)) (fun h _ => (hx _ (by omega)))

theorem out12_apply (r : Fin 512) (e : Fin 64) : k0_pay2 (k0_pay16 x) (ValueIdx.ix2 r e) = at2 x r (192 + e.val) := by
  refine (cols_apply (off := 64) (k0_pay16 x) slices_S512x128_o0_64_S512x64 r e (by omega)).trans ?_
  refine (at2_lt _ r _ (by omega)).trans ?_
  refine (cols_apply (off := 128) x slices_S512x384_o0_128_S512x128 r ⟨64 + e.val, by omega⟩ (by dsimp only; omega)).trans ?_
  exact congrArg (at2 x r) (by dsimp only; omega)

/-- The first half of a block's columns. -/
def half (t : FVec Ideal S512x256 .f32) : FVec Ideal S512x128 .f32 := extractStridedSlice S512x128 ![0, 0] t slices_S512x256_o0_0_S512x128

theorem out13_apply (r : Fin 512) (e : Fin 32) (hc : ∀ c : Fin 256, ct (ValueIdx.ix2 r c) = cosEnt 32 4 C c.val) (hs : ∀ c : Fin 256, st (ValueIdx.ix2 r c) = sinEnt 32 4 S c.val) :
    k0_pay4 x (k0_pay9 ct) (k0_pay10 st) (ValueIdx.ix2 r e)
      = turn 32 4 (fun c => at2 x r (256 + c)) C S e.val := by
  show extractStridedSlice S512x32 ![0, 0] (addf (mulf (k0_pay3 x) (half (k0_pay9 ct))) (mulf (select mask128_32 (dynamicRotate 1 124#32 none (k0_pay3 x) rotates_S512x128_d1) (dynamicRotate 1 4#32 none (k0_pay3 x) rotates_S512x128_d1)) (half (k0_pay10 st)))) slices_S512x128_o0_0_S512x32 (ValueIdx.ix2 r e) = _
  refine (extractStridedSlice_apply _ _ _ _ (ValueIdx.ix2 r (⟨e.val, by omega⟩ : Fin 128)) (fun a => by
    fin_cases a
    · exact (Nat.zero_add _).symm
    · exact (Nat.zero_add _).symm)).trans ?_
  refine (block_turn 32 4 (k0_pay3 x) (half (k0_pay9 ct)) (half (k0_pay10 st)) mask128_32 124#32 4#32 (by decide) (by decide) rfl rfl rotates_S512x128_d1 r ⟨e.val, by omega⟩ (mask128_32_apply r _) (fun h => ?_) C S ?_ ?_).trans ?_
  · dsimp only at h ⊢; omega
  · exact (half_apply ct r _).trans (hc _)
  · exact (half_apply st r _).trans (hs _)
  · have hx : ∀ c : ℕ, c < 128 → at2 (k0_pay3 x) r c = at2 x r (256 + c) := fun c h =>
      (at2_lt _ r c h).trans (cols_apply (off := 256) x slices_S512x384_o0_256_S512x128 r ⟨c, h⟩ (by dsimp only; omega))
    exact turn_congr 32 4 (at2 (k0_pay3 x) r) (fun c => at2 x r (256 + c)) C S e.val e.val rfl (hx _ (by omega)) (fun h => hx _ (by omega)) (fun h _ => (hx _ (by omega)))

end Cert.SparseIdeal.Prep

end
-- ==== Proof.Sparse.Value.lean ====
/- The six arrays after the run of the sparse mixer's preparation. -/
module

public import proofs.«01_k».proof.Proof.Sparse.Elem
public import proofs.«01_k».proof.Proof.Proj.Rows

@[expose] public section

set_option maxRecDepth 16384

noncomputable section

namespace Cert.SparseIdeal.Prep

open Cert.SparseIdeal Cert.SparseIdeal.Gen
open Idealize.ShloMosaic Idealize.ShloMosaic.TcCoe Idealize.SL.Sem
open Cert.ProjSpec Cert.SparseSpec

/-! ## Which block a grid point reads and writes -/

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![0, 0, t.val] := by decide +kernel
theorem idx9 : ∀ t : Fin grid0.N, win0_9.index t = ![0, 0, t.val] := by decide +kernel
theorem idx10 : ∀ t : Fin grid0.N, win0_10.index t = ![0, t.val] := by decide +kernel
theorem idx11 : ∀ t : Fin grid0.N, win0_11.index t = ![t.val, 0] := by decide +kernel
theorem idx12 : ∀ t : Fin grid0.N, win0_12.index t = ![t.val, 0] := by decide +kernel
theorem idx13 : ∀ t : Fin grid0.N, win0_13.index t = ![t.val, 0] := by decide +kernel

/-- An array index whose coordinates are those of element `(h, e, a)` of slab `t`. -/
theorem emb_slab {n k : Nat} (t : Fin 64) (h : Fin n) (e : Fin k) (a : Fin 512) (p : Fin 3 → Nat) (hp : p = ![0, 0, t.val]) (y : (⟨3, ![n, k, 32768]⟩ : Shape).Idx)
    (h0 : (y 0).val = p 0 * n + 1 * h.val) (h1 : (y 1).val = p 1 * k + 1 * e.val) (h2 : (y 2).val = p 2 * 512 + 1 * a.val) : y = ValueIdx.ix3 h e (rowOf t a) := by
  subst hp
  funext i; refine Fin.ext ?_
  fin_cases i
  · refine h0.trans ?_
    show 0 * n + 1 * h.val = h.val
    omega
  · refine h1.trans ?_
    show 0 * k + 1 * e.val = e.val
    omega
  · refine h2.trans ?_
    show t.val * 512 + 1 * a.val = t.val * 512 + a.val
    omega

/-- The slab an element is in. -/
theorem mem_slab {n k : Nat} (i : (⟨3, ![n, k, 32768]⟩ : Shape).Idx) (p : Fin 3 → Nat) (hp : p = ![0, 0, (i 2).val / 512]) (x : Fin 3) :
    p x * (![n, k, 512] : Fin 3 → Nat) x ≤ (i x).val ∧ (i x).val < p x * (![n, k, 512] : Fin 3 → Nat) x + (![n, k, 512] : Fin 3 → Nat) x := by
  subst hp
  have h0 : (i 0).val < n := (i 0).isLt
  have h1 : (i 1).val < k := (i 1).isLt
  fin_cases x
  · show 0 * n ≤ (i 0).val ∧ (i 0).val < 0 * n + n
    omega
  · show 0 * k ≤ (i 1).val ∧ (i 1).val < 0 * k + k
    omega
  · show (i 2).val / 512 * 512 ≤ (i 2).val ∧ (i 2).val < (i 2).val / 512 * 512 + 512
    omega

theorem slab_lt {n k : Nat} (i : (⟨3, ![n, k, 32768]⟩ : Shape).Idx) : (i 2).val / 512 < 64 := by
  have h0 : (i 2).val < 32768 := (i 2).isLt
  omega

/-- The same for columns of a flat array. -/
theorem emb_cols {n : Nat} (t : Fin 64) (j : Fin n) (a : Fin 512) (p : Fin 2 → Nat) (hp : p = ![0, t.val]) (y : (⟨2, ![n, 32768]⟩ : Shape).Idx)
    (h0 : (y 0).val = p 0 * n + 1 * j.val) (h1 : (y 1).val = p 1 * 512 + 1 * a.val) : y = ValueIdx.ix2 j (rowOf t a) := by
  subst hp
  funext i; refine Fin.ext ?_
  fin_cases i
  · refine h0.trans ?_
    show 0 * n + 1 * j.val = j.val
    omega
  · refine h1.trans ?_
    show t.val * 512 + 1 * a.val = t.val * 512 + a.val
    omega

theorem mem_cols {n : Nat} (i : (⟨2, ![n, 32768]⟩ : Shape).Idx) (p : Fin 2 → Nat) (hp : p = ![0, (i 1).val / 512]) (x : Fin 2) :
    p x * (![n, 512] : Fin 2 → Nat) x ≤ (i x).val ∧ (i x).val < p x * (![n, 512] : Fin 2 → Nat) x + (![n, 512] : Fin 2 → Nat) x := by
  subst hp
  have h0 : (i 0).val < n := (i 0).isLt
  fin_cases x
  · show 0 * n ≤ (i 0).val ∧ (i 0).val < 0 * n + n
    omega
  · show (i 1).val / 512 * 512 ≤ (i 1).val ∧ (i 1).val < (i 1).val / 512 * 512 + 512
    omega

theorem cols_lt {n : Nat} (i : (⟨2, ![n, 32768]⟩ : Shape).Idx) : (i 1).val / 512 < 64 := by
  have h0 : (i 1).val < 32768 := (i 1).isLt
  omega

variable (m : (ℓ : Loc nD τ sig) → Buf (Elt Ideal) ℓ) (c : Dev nD)

abbrev xOf : S32768x384.Idx → EReal := m ((c.tc : Thread nD τ).loc main_arg0)
abbrev gOf : S1x128.Idx → EReal := m ((c.tc : Thread nD τ).loc main_arg1)
abbrev wqOf : S128x256.Idx → EReal := m ((c.tc : Thread nD τ).loc main_arg2)
abbrev wiOf : S128x256.Idx → EReal := m ((c.tc : Thread nD τ).loc main_arg3)
abbrev aqOf : FVec Ideal S8x4096x8 .f32 := m ((c.tc : Thread nD τ).loc main_arg4)
abbrev aiOf : FVec Ideal S8x4096x4 .f32 := m ((c.tc : Thread nD τ).loc main_arg5)

/-- A grid point, of which there are 64. -/
abbrev pt (t : Fin grid0.N) : Fin 64 := t.cast N_0

theorem blk0 (t : Fin grid0.N) (a : Fin 512) (j : Fin 384) : iblk m c 0 t (ValueIdx.ix2 a j) = xOf m c (ValueIdx.ix2 (rowOf (pt t) a) j) :=
  (congrFun (V_main_arg0 m c) _).trans (congrArg (xOf m c) (emb_row (pt t) a j _ (idx0 t) ((win0_0.blk t).view.emb (ValueIdx.ix2 a j)) rfl rfl))

theorem blk1 (t : Fin grid0.N) (j : Fin 128) : iblk m c 1 t (ValueIdx.ix2 0 j) = gOf m c (ValueIdx.ix2 0 j) :=
  (congrFun (V_main_arg1 m c) _).trans (congrArg (gOf m c) (emb_one 0 j _ (idx1 t) ((win0_1.blk t).view.emb (ValueIdx.ix2 0 j)) rfl rfl))

theorem blk2 (t : Fin grid0.N) (d : Fin 128) (j : Fin 256) : iblk m c 2 t (ValueIdx.ix2 d j) = wqOf m c (ValueIdx.ix2 d j) :=
  (congrFun (V_main_arg2 m c) _).trans (congrArg (wqOf m c) (emb_one d j _ (idx2 t) ((win0_2.blk t).view.emb (ValueIdx.ix2 d j)) rfl rfl))

theorem blk3 (t : Fin grid0.N) (d : Fin 128) (j : Fin 256) : iblk m c 3 t (ValueIdx.ix2 d j) = wiOf m c (ValueIdx.ix2 d j) :=
  (congrFun (V_main_arg3 m c) _).trans (congrArg (wiOf m c) (emb_one d j _ (idx3 t) ((win0_3.blk t).view.emb (ValueIdx.ix2 d j)) rfl rfl))

theorem blk4 (t : Fin grid0.N) (a : Fin 512) (j : Fin 256) : iblk m c 4 t (ValueIdx.ix2 a j) = cosEnt 64 8 (cosAt (aqOf m c) (rowOf (pt t) a)) j.val :=
  (congrFun (V_cosQ m c) _).trans ((congrArg (cosQ (aqOf m c)) (emb_row (pt t) a j _ (idx4 t) ((win0_4.blk t).view.emb (ValueIdx.ix2 a j)) rfl rfl)).trans (cosQ_apply _ _ _))

theorem blk5 (t : Fin grid0.N) (a : Fin 512) (j : Fin 256) : iblk m c 5 t (ValueIdx.ix2 a j) = sinEnt 64 8 (sinAt (aqOf m c) (rowOf (pt t) a)) j.val :=
  (congrFun (V_sinQ m c) _).trans ((congrArg (sinQ (aqOf m c)) (emb_row (pt t) a j _ (idx5 t) ((win0_5.blk t).view.emb (ValueIdx.ix2 a j)) rfl rfl)).trans (sinQ_apply _ _ _))

theorem blk6 (t : Fin grid0.N) (a : Fin 512) (j : Fin 256) : iblk m c 6 t (ValueIdx.ix2 a j) = cosEnt 32 4 (cosAt (aiOf m c) (rowOf (pt t) a)) j.val :=
  (congrFun (V_cosI m c) _).trans ((congrArg (cosI (aiOf m c)) (emb_row (pt t) a j _ (idx6 t) ((win0_6.blk t).view.emb (ValueIdx.ix2 a j)) rfl rfl)).trans (cosI_apply _ _ _))

theorem blk7 (t : Fin grid0.N) (a : Fin 512) (j : Fin 256) : iblk m c 7 t (ValueIdx.ix2 a j) = sinEnt 32 4 (sinAt (aiOf m c) (rowOf (pt t) a)) j.val :=
  (congrFun (V_sinI m c) _).trans ((congrArg (sinI (aiOf m c)) (emb_row (pt t) a j _ (idx7 t) ((win0_7.blk t).view.emb (ValueIdx.ix2 a j)) rfl rfl)).trans (sinI_apply _ _ _))

theorem row0 (t : Fin grid0.N) (a : Fin 512) : at2 (iblk m c 0 t) a = at2 (xOf m c) (rowOf (pt t) a) := by
  funext j
  by_cases h : j < 384
  · exact (at2_lt _ _ _ h).trans ((blk0 m c t a ⟨j, h⟩).trans (at2_lt _ _ _ h).symm)
  · exact (at2_ge _ _ _ h).trans (at2_ge _ _ _ h).symm

theorem row1 (t : Fin grid0.N) : at2 (iblk m c 1 t) 0 = at2 (gOf m c) 0 := by
  funext j
  by_cases h : j < 128
  · exact (at2_lt _ _ _ h).trans ((blk1 m c t ⟨j, h⟩).trans (at2_lt _ _ _ h).symm)
  · exact (at2_ge _ _ _ h).trans (at2_ge _ _ _ h).symm

theorem all2 (t : Fin grid0.N) : iblk m c 2 t = wqOf m c := by
  funext (y : S128x256.Idx)
  obtain ⟨a, b, rfl⟩ : ∃ (a : Fin 128) (b : Fin 256), y = ValueIdx.ix2 a b := ⟨y 0, y 1, ValueIdx.eq_ix2 y⟩
  exact blk2 m c t a b

theorem all3 (t : Fin grid0.N) : iblk m c 3 t = wiOf m c := by
  funext (y : S128x256.Idx)
  obtain ⟨a, b, rfl⟩ : ∃ (a : Fin 128) (b : Fin 256), y = ValueIdx.ix2 a b := ⟨y 0, y 1, ValueIdx.eq_ix2 y⟩
  exact blk3 m c t a b

/-- The six results' arrays. -/
def qts : S4x64x32768.Idx → EReal := fun i => qAt (xOf m c) (gOf m c) (wqOf m c) (aqOf m c) (i 2) ((i 0).val * 64 + (i 1).val) * Ideal.ofBits .f32 0x3E000000#32
def qits : S8x32x32768.Idx → EReal := fun i => qiAt (xOf m c) (gOf m c) (wiOf m c) (aiOf m c) (i 2) ((i 0).val * 32 + (i 1).val)
def wts : S8x32768.Idx → EReal := fun i => at2 (xOf m c) (i 1) (288 + (i 0).val) * Ideal.ofBits .f32 0x3D800000#32
def keys : S32768x64.Idx → EReal := fun i => kAt (xOf m c) (aqOf m c) (i 0) (i 1).val
def vals : S32768x64.Idx → EReal := fun i => at2 (xOf m c) (i 0) (192 + (i 1).val)
def ikeys : S32768x32.Idx → EReal := fun i => kiAt (xOf m c) (aiOf m c) (i 0) (i 1).val

/-! ## The blocks as stored -/

theorem zero2 : (![0, 0] : Fin 2 → Nat) = fun _ => 0 := funext fun i => by fin_cases i <;> rfl
theorem zero3 : (![0, 0, 0] : Fin 3 → Nat) = fun _ => 0 := funext fun i => by fin_cases i <;> rfl

section
variable (x : Vec Ideal S512x384 .f32) (g : Vec Ideal S1x128 .f32) (w v : Vec Ideal S128x256 .bf16) (a b p q : Vec Ideal S512x256 .f32)

theorem ldx : View.ld x r0_0 = x := View.ld_unit_zero zero2 _ x
theorem ldg : View.ld g r0_1 = g := View.ld_unit_zero zero2 _ g
theorem ldt : View.ld a r0_2 = a := View.ld_unit_zero zero2 _ a
theorem ldw : View.ld w r0_3 = w := View.ld_unit_zero zero2 _ w

theorem out8_eq : out0_8 x g w v a b p q = k0_pay14 (k0_pay8 b) (k0_pay12 x g w) (k0_pay13 x g a w) := by
  refine (View.canon_unit_zero zero3 _ _).trans ?_
  unfold k0_pay20
  rw [ldx, ldg, ldt, ldt, ldw]

theorem out9_eq : out0_9 x g w v a b p q = k0_pay15 (k0_pay6 x g) (k0_pay9 p) (k0_pay10 q) v := by
  refine (View.canon_unit_zero zero3 _ _).trans ?_
  unfold k0_pay21 k0_pay22
  rw [ldx, ldg, ldt, ldt, ldw]

theorem out10_eq : out0_10 x g w v a b p q = k0_pay5 x := by
  refine (View.canon_unit_zero zero2 _ _).trans ?_
  rw [ldx]

theorem out11_eq : out0_11 x g w v a b p q = k0_pay1 (k0_pay16 x) (k0_pay17 (k0_pay7 a)) (k0_pay18 (k0_pay8 b)) (k0_pay19 x) := by
  refine (View.canon_unit_zero zero2 _ _).trans ?_
  unfold k0_pay20 k0_pay23
  rw [ldx, ldt, ldt]

theorem out12_eq : out0_12 x g w v a b p q = k0_pay2 (k0_pay16 x) := by
  refine (View.canon_unit_zero zero2 _ _).trans ?_
  unfold k0_pay23
  rw [ldx]

theorem out13_eq : out0_13 x g w v a b p q = k0_pay4 x (k0_pay9 p) (k0_pay10 q) := by
  refine (View.canon_unit_zero zero2 _ _).trans ?_
  unfold k0_pay21 k0_pay22
  rw [ldx, ldt, ldt]

end

theorem flushed8 (t : Fin cfg0.N) : (dats m 0 c).flushed 8 t = ((cfg0.win 8).blk t).view.read (Elt Ideal) (qts m c) := by
  show (cfg0.win 8).cut (grid0.coords t) ((dats m 0 c).after 8 t) = _
  rw [after0_8, out8_eq]
  funext y
  obtain ⟨h, e, a, rfl⟩ : ∃ (h : Fin 4) (e : Fin 64) (a : Fin 512), y = ValueIdx.ix3 h e a := ⟨y 0, y 1, y 2, ValueIdx.eq_ix3 y⟩
  have he := (congrArg (qts m c) (emb_slab (pt t) h e a _ (idx8 t) ((win0_8.blk t).view.emb (ValueIdx.ix3 h e a)) rfl rfl rfl)).symm
  refine Eq.trans ?_ he
  refine (out8_apply _ _ _ _ _ _ _ h e a (blk4 m c t a) (blk5 m c t a)).trans ?_
  rw [row0, row1, all2]
  rfl

theorem mem_blk8 (t : Fin cfg0.N) (i : S4x64x32768.Idx) : Iff (i ∈ ((cfg0.win 8).blk t).view.set)
    (∀ x : Fin 3, win0_8.index t x * (![4, 64, 512] : Fin 3 → Nat) x ≤ (i x).val ∧ (i x).val < win0_8.index t x * (![4, 64, 512] : Fin 3 → Nat) x + (![4, 64, 512] : Fin 3 → Nat) x) := by
  show Iff (i ∈ ((View.whole main_v30_0).slice (win0_8.rect t)).set) _
  rw [View.set_slice_whole, Rect.mem_set_unit]
  exact Iff.rfl

theorem final8 : (dats m 0 c).arrAt 8 cfg0.N = qts m c :=
  (dats m 0 c).arrAt_eq_of_cover 8 _ (fun t _ => flushed8 m c t) (fun (i : S4x64x32768.Idx) =>
    ⟨⟨(i 2).val / 512, lt_of_lt_of_eq (slab_lt i) N_0.symm⟩, flush0_8 _, (mem_blk8 _ i).2 (mem_slab i _ (idx8 _))⟩)

theorem flushed9 (t : Fin cfg0.N) : (dats m 0 c).flushed 9 t = ((cfg0.win 9).blk t).view.read (Elt Ideal) (qits m c) := by
  show (cfg0.win 9).cut (grid0.coords t) ((dats m 0 c).after 9 t) = _
  rw [after0_9, out9_eq]
  funext y
  obtain ⟨h, e, a, rfl⟩ : ∃ (h : Fin 8) (e : Fin 32) (a : Fin 512), y = ValueIdx.ix3 h e a := ⟨y 0, y 1, y 2, ValueIdx.eq_ix3 y⟩
  have he := (congrArg (qits m c) (emb_slab (pt t) h e a _ (idx9 t) ((win0_9.blk t).view.emb (ValueIdx.ix3 h e a)) rfl rfl rfl)).symm
  refine Eq.trans ?_ he
  refine (out9_apply _ _ _ _ _ _ _ h e a (blk6 m c t a) (blk7 m c t a)).trans ?_
  rw [row0, row1, all3]
  rfl

theorem mem_blk9 (t : Fin cfg0.N) (i : S8x32x32768.Idx) : Iff (i ∈ ((cfg0.win 9).blk t).view.set)
    (∀ x : Fin 3, win0_9.index t x * (![8, 32, 512] : Fin 3 → Nat) x ≤ (i x).val ∧ (i x).val < win0_9.index t x * (![8, 32, 512] : Fin 3 → Nat) x + (![8, 32, 512] : Fin 3 → Nat) x) := by
  show Iff (i ∈ ((View.whole main_v30_1).slice (win0_9.rect t)).set) _
  rw [View.set_slice_whole, Rect.mem_set_unit]
  exact Iff.rfl

theorem final9 : (dats m 0 c).arrAt 9 cfg0.N = qits m c :=
  (dats m 0 c).arrAt_eq_of_cover 9 _ (fun t _ => flushed9 m c t) (fun (i : S8x32x32768.Idx) =>
    ⟨⟨(i 2).val / 512, lt_of_lt_of_eq (slab_lt i) N_0.symm⟩, flush0_9 _, (mem_blk9 _ i).2 (mem_slab i _ (idx9 _))⟩)

theorem flushed10 (t : Fin cfg0.N) : (dats m 0 c).flushed 10 t = ((cfg0.win 10).blk t).view.read (Elt Ideal) (wts m c) := by
  show (cfg0.win 10).cut (grid0.coords t) ((dats m 0 c).after 10 t) = _
  rw [after0_10, out10_eq]
  funext y
  obtain ⟨p, q, rfl⟩ : ∃ (p : Fin 8) (q : Fin 512), y = ValueIdx.ix2 p q := ⟨y 0, y 1, ValueIdx.eq_ix2 y⟩
  have he := (congrArg (wts m c) (emb_cols (pt t) p q _ (idx10 t) ((win0_10.blk t).view.emb (ValueIdx.ix2 p q)) rfl rfl)).symm
  refine Eq.trans ?_ he
  refine (out10_apply _ p q).trans ?_
  rw [row0]
  rfl

theorem mem_blk10 (t : Fin cfg0.N) (i : S8x32768.Idx) : Iff (i ∈ ((cfg0.win 10).blk t).view.set)
    (∀ x : Fin 2, win0_10.index t x * (![8, 512] : Fin 2 → Nat) x ≤ (i x).val ∧ (i x).val < win0_10.index t x * (![8, 512] : Fin 2 → Nat) x + (![8, 512] : Fin 2 → Nat) x) := by
  show Iff (i ∈ ((View.whole main_v30_2).slice (win0_10.rect t)).set) _
  rw [View.set_slice_whole, Rect.mem_set_unit]
  exact Iff.rfl

theorem final10 : (dats m 0 c).arrAt 10 cfg0.N = wts m c :=
  (dats m 0 c).arrAt_eq_of_cover 10 _ (fun t _ => flushed10 m c t) (fun (i : S8x32768.Idx) =>
    ⟨⟨(i 1).val / 512, lt_of_lt_of_eq (cols_lt i) N_0.symm⟩, flush0_10 _, (mem_blk10 _ i).2 (mem_cols i _ (idx10 _))⟩)

theorem flushed11 (t : Fin cfg0.N) : (dats m 0 c).flushed 11 t = ((cfg0.win 11).blk t).view.read (Elt Ideal) (keys m c) := by
  show (cfg0.win 11).cut (grid0.coords t) ((dats m 0 c).after 11 t) = _
  rw [after0_11, out11_eq]
  funext y
  obtain ⟨p, q, rfl⟩ : ∃ (p : Fin 512) (q : Fin 64), y = ValueIdx.ix2 p q := ⟨y 0, y 1, ValueIdx.eq_ix2 y⟩
  have he := (congrArg (keys m c) (emb_row (pt t) p q _ (idx11 t) ((win0_11.blk t).view.emb (ValueIdx.ix2 p q)) rfl rfl)).symm
  refine Eq.trans ?_ he
  refine (out11_apply _ _ _ _ _ p q (blk4 m c t p) (blk5 m c t p)).trans ?_
  rw [row0]
  rfl

theorem mem_blk11 (t : Fin cfg0.N) (i : S32768x64.Idx) : Iff (i ∈ ((cfg0.win 11).blk t).view.set)
    (∀ x : Fin 2, win0_11.index t x * (![512, 64] : Fin 2 → Nat) x ≤ (i x).val ∧ (i x).val < win0_11.index t x * (![512, 64] : Fin 2 → Nat) x + (![512, 64] : Fin 2 → Nat) x) := by
  show Iff (i ∈ ((View.whole main_v30_3).slice (win0_11.rect t)).set) _
  rw [View.set_slice_whole, Rect.mem_set_unit]
  exact Iff.rfl

theorem final11 : (dats m 0 c).arrAt 11 cfg0.N = keys m c :=
  (dats m 0 c).arrAt_eq_of_cover 11 _ (fun t _ => flushed11 m c t) (fun (i : S32768x64.Idx) =>
    ⟨⟨(i 0).val / 512, lt_of_lt_of_eq (row_lt i) N_0.symm⟩, flush0_11 _, (mem_blk11 _ i).2 (mem_row i _ (idx11 _))⟩)

theorem flushed12 (t : Fin cfg0.N) : (dats m 0 c).flushed 12 t = ((cfg0.win 12).blk t).view.read (Elt Ideal) (vals m c) := by
  show (cfg0.win 12).cut (grid0.coords t) ((dats m 0 c).after 12 t) = _
  rw [after0_12, out12_eq]
  funext y
  obtain ⟨p, q, rfl⟩ : ∃ (p : Fin 512) (q : Fin 64), y = ValueIdx.ix2 p q := ⟨y 0, y 1, ValueIdx.eq_ix2 y⟩
  have he := (congrArg (vals m c) (emb_row (pt t) p q _ (idx12 t) ((win0_12.blk t).view.emb (ValueIdx.ix2 p q)) rfl rfl)).symm
  refine Eq.trans ?_ he
  refine (out12_apply _ p q).trans ?_
  rw [row0]
  rfl

theorem mem_blk12 (t : Fin cfg0.N) (i : S32768x64.Idx) : Iff (i ∈ ((cfg0.win 12).blk t).view.set)
    (∀ x : Fin 2, win0_12.index t x * (![512, 64] : Fin 2 → Nat) x ≤ (i x).val ∧ (i x).val < win0_12.index t x * (![512, 64] : Fin 2 → Nat) x + (![512, 64] : Fin 2 → Nat) x) := by
  show Iff (i ∈ ((View.whole main_v30_4).slice (win0_12.rect t)).set) _
  rw [View.set_slice_whole, Rect.mem_set_unit]
  exact Iff.rfl

theorem final12 : (dats m 0 c).arrAt 12 cfg0.N = vals m c :=
  (dats m 0 c).arrAt_eq_of_cover 12 _ (fun t _ => flushed12 m c t) (fun (i : S32768x64.Idx) =>
    ⟨⟨(i 0).val / 512, lt_of_lt_of_eq (row_lt i) N_0.symm⟩, flush0_12 _, (mem_blk12 _ i).2 (mem_row i _ (idx12 _))⟩)

theorem flushed13 (t : Fin cfg0.N) : (dats m 0 c).flushed 13 t = ((cfg0.win 13).blk t).view.read (Elt Ideal) (ikeys m c) := by
  show (cfg0.win 13).cut (grid0.coords t) ((dats m 0 c).after 13 t) = _
  rw [after0_13, out13_eq]
  funext y
  obtain ⟨p, q, rfl⟩ : ∃ (p : Fin 512) (q : Fin 32), y = ValueIdx.ix2 p q := ⟨y 0, y 1, ValueIdx.eq_ix2 y⟩
  have he := (congrArg (ikeys m c) (emb_row (pt t) p q _ (idx13 t) ((win0_13.blk t).view.emb (ValueIdx.ix2 p q)) rfl rfl)).symm
  refine Eq.trans ?_ he
  refine (out13_apply _ _ _ _ _ p q (blk6 m c t p) (blk7 m c t p)).trans ?_
  rw [row0]
  rfl

theorem mem_blk13 (t : Fin cfg0.N) (i : S32768x32.Idx) : Iff (i ∈ ((cfg0.win 13).blk t).view.set)
    (∀ x : Fin 2, win0_13.index t x * (![512, 32] : Fin 2 → Nat) x ≤ (i x).val ∧ (i x).val < win0_13.index t x * (![512, 32] : Fin 2 → Nat) x + (![512, 32] : Fin 2 → Nat) x) := by
  show Iff (i ∈ ((View.whole main_v30_5).slice (win0_13.rect t)).set) _
  rw [View.set_slice_whole, Rect.mem_set_unit]
  exact Iff.rfl

theorem final13 : (dats m 0 c).arrAt 13 cfg0.N = ikeys m c :=
  (dats m 0 c).arrAt_eq_of_cover 13 _ (fun t _ => flushed13 m c t) (fun (i : S32768x32.Idx) =>
    ⟨⟨(i 0).val / 512, lt_of_lt_of_eq (row_lt i) N_0.symm⟩, flush0_13 _, (mem_blk13 _ i).2 (mem_row i _ (idx13 _))⟩)

end Cert.SparseIdeal.Prep

end
-- ==== Proof.Sparse.Ref.lean ====
/- The reference's preparation of the sparse mixer, read at an element. -/
module

public import proofs.«01_k».proof.Proof.Gen.SparseRefIdeal.Run
public import proofs.«01_k».proof.Proof.Sparse.Spec
public import Idealize.ShloMosaic.Lib.StackMember
public import Idealize.ShloMosaic.Lib.Pipeline.Value
public import Idealize.ShloMosaic.Lib.IdealHost

@[expose] public section

set_option maxRecDepth 16384

noncomputable section

namespace Cert.SparseRefIdeal.Prep

open Cert.SparseRefIdeal Cert.SparseRefIdeal.Gen
open Idealize.ShloMosaic
open Cert.ProjSpec Cert.SparseSpec

/-! ## Rank 3: a row's columns turned -/

/-- The first columns and the next turned as pairs, the rest kept. -/
def turned3 {G H h r : ℕ} (x : FVec Ideal ⟨3, ![8, 4096, G]⟩ .f32) (C S : FVec Ideal ⟨3, ![8, 4096, h]⟩ .f32)
    (s1 : (⟨3, ![8, 4096, G]⟩ : Shape).Slices ![0, 0, 0] ⟨3, ![8, 4096, H]⟩) (s2 : (⟨3, ![8, 4096, H]⟩ : Shape).Slices ![0, 0, 0] ⟨3, ![8, 4096, h]⟩) (s3 : (⟨3, ![8, 4096, H]⟩ : Shape).Slices ![0, 0, h] ⟨3, ![8, 4096, h]⟩)
    (s4 : (⟨3, ![8, 4096, G]⟩ : Shape).Slices ![0, 0, H] ⟨3, ![8, 4096, r]⟩) (c1 : Shape.Concatenates [⟨3, ![8, 4096, h]⟩, ⟨3, ![8, 4096, h]⟩] ⟨3, ![8, 4096, H]⟩ 2) (c2 : Shape.Concatenates [⟨3, ![8, 4096, H]⟩, ⟨3, ![8, 4096, r]⟩] ⟨3, ![8, 4096, G]⟩ 2) :
    FVec Ideal ⟨3, ![8, 4096, G]⟩ .f32 :=
  concatenate ⟨3, ![8, 4096, G]⟩ 2 [⟨⟨3, ![8, 4096, H]⟩, concatenate ⟨3, ![8, 4096, H]⟩ 2
      [⟨⟨3, ![8, 4096, h]⟩, subf (mulf (extractStridedSlice ⟨3, ![8, 4096, h]⟩ ![0, 0, 0] (extractStridedSlice ⟨3, ![8, 4096, H]⟩ ![0, 0, 0] x s1) s2) C) (mulf (extractStridedSlice ⟨3, ![8, 4096, h]⟩ ![0, 0, h] (extractStridedSlice ⟨3, ![8, 4096, H]⟩ ![0, 0, 0] x s1) s3) S)⟩,
        ⟨⟨3, ![8, 4096, h]⟩, addf (mulf (extractStridedSlice ⟨3, ![8, 4096, h]⟩ ![0, 0, 0] (extractStridedSlice ⟨3, ![8, 4096, H]⟩ ![0, 0, 0] x s1) s2) S) (mulf (extractStridedSlice ⟨3, ![8, 4096, h]⟩ ![0, 0, h] (extractStridedSlice ⟨3, ![8, 4096, H]⟩ ![0, 0, 0] x s1) s3) C)⟩] c1⟩,
    ⟨⟨3, ![8, 4096, r]⟩, extractStridedSlice ⟨3, ![8, 4096, r]⟩ ![0, 0, H] x s4⟩] c2

theorem cut3 {G k o : ℕ} (x : (⟨3, ![8, 4096, G]⟩ : Shape).Idx → EReal) (hs : (⟨3, ![8, 4096, G]⟩ : Shape).Slices ![0, 0, o] ⟨3, ![8, 4096, k]⟩) (b : Fin 8) (s : Fin 4096) (j : Fin k) (hj : o + j.val < G) :
    extractStridedSlice ⟨3, ![8, 4096, k]⟩ ![0, 0, o] x hs (ValueIdx.ix3 b s j) = x (ValueIdx.ix3 b s ⟨o + j.val, hj⟩) :=
  extractStridedSlice_apply _ _ _ _ _ (fun a => by
    fin_cases a
    · exact (Nat.zero_add _).symm
    · exact (Nat.zero_add _).symm
    · rfl)

theorem turned3_apply {G H h r : ℕ} (x : FVec Ideal ⟨3, ![8, 4096, G]⟩ .f32) (C S : FVec Ideal ⟨3, ![8, 4096, h]⟩ .f32)
    (s1 : (⟨3, ![8, 4096, G]⟩ : Shape).Slices ![0, 0, 0] ⟨3, ![8, 4096, H]⟩) (s2 : (⟨3, ![8, 4096, H]⟩ : Shape).Slices ![0, 0, 0] ⟨3, ![8, 4096, h]⟩) (s3 : (⟨3, ![8, 4096, H]⟩ : Shape).Slices ![0, 0, h] ⟨3, ![8, 4096, h]⟩)
    (s4 : (⟨3, ![8, 4096, G]⟩ : Shape).Slices ![0, 0, H] ⟨3, ![8, 4096, r]⟩) (c1 : Shape.Concatenates [⟨3, ![8, 4096, h]⟩, ⟨3, ![8, 4096, h]⟩] ⟨3, ![8, 4096, H]⟩ 2) (c2 : Shape.Concatenates [⟨3, ![8, 4096, H]⟩, ⟨3, ![8, 4096, r]⟩] ⟨3, ![8, 4096, G]⟩ 2)
    (hH : H = h + h) (hG : G = H + r) (b : Fin 8) (s : Fin 4096) (y Cf Sf : ℕ → EReal) (o : ℕ) (ho : ∀ k, k < G → (o + k) % G = k)
    (hy : ∀ k : Fin G, x (ValueIdx.ix3 b s k) = y (o + k.val)) (hC : ∀ k : Fin h, C (ValueIdx.ix3 b s k) = Cf k.val) (hS : ∀ k : Fin h, S (ValueIdx.ix3 b s k) = Sf k.val) (c : Fin G) :
    turned3 x C S s1 s2 s3 s4 c1 c2 (ValueIdx.ix3 b s c) = turn G h y Cf Sf (o + c.val) := by
  have hc := c.isLt
  have lo : ∀ k : Fin h, extractStridedSlice ⟨3, ![8, 4096, h]⟩ ![0, 0, 0] (extractStridedSlice ⟨3, ![8, 4096, H]⟩ ![0, 0, 0] x s1) s2 (ValueIdx.ix3 b s k) = y (o + k.val) := fun k => by
    have hk := k.isLt
    refine (cut3 _ s2 b s k (by omega)).trans ((cut3 _ s1 b s _ (by dsimp only; omega)).trans ((hy _).trans ?_))
    exact congrArg y (by dsimp only; omega)
  have hi : ∀ k : Fin h, extractStridedSlice ⟨3, ![8, 4096, h]⟩ ![0, 0, h] (extractStridedSlice ⟨3, ![8, 4096, H]⟩ ![0, 0, 0] x s1) s3 (ValueIdx.ix3 b s k) = y (o + h + k.val) := fun k => by
    have hk := k.isLt
    refine (cut3 _ s3 b s k (by omega)).trans ((cut3 _ s1 b s _ (by dsimp only; omega)).trans ((hy _).trans ?_))
    exact congrArg y (by dsimp only; omega)
  unfold turned3
  by_cases h1 : c.val < h
  · refine (concatenate_pair_apply_left 2 _ _ c2 _ rfl (ValueIdx.ix3 b s (⟨c.val, by omega⟩ : Fin H)) (fun a => by fin_cases a <;> rfl)).trans ?_
    refine (concatenate_pair_apply_left 2 _ _ c1 _ rfl (ValueIdx.ix3 b s (⟨c.val, h1⟩ : Fin h)) (fun a => by fin_cases a <;> rfl)).trans ?_
    rw [turn_first G h y Cf Sf (o + c.val) c.val (ho _ hc) h1]
    refine congrArg₂ (· - ·) (congrArg₂ (· * ·) (lo _) (hC _)) (congrArg₂ (· * ·) ((hi _).trans (congrArg y ?_)) (hS _))
    dsimp only; omega
  · by_cases h2 : c.val < H
    · refine (concatenate_pair_apply_left 2 _ _ c2 _ rfl (ValueIdx.ix3 b s (⟨c.val, h2⟩ : Fin H)) (fun a => by fin_cases a <;> rfl)).trans ?_
      refine (concatenate_pair_apply_right 2 _ _ c1 _ rfl rfl (ValueIdx.ix3 b s (⟨c.val - h, by omega⟩ : Fin h)) (fun a ha => ?_) ?_).trans ?_
      · fin_cases a
        · rfl
        · rfl
        · exact absurd rfl ha
      · show c.val - h + h = c.val
        omega
      · rw [turn_second G h y Cf Sf (o + c.val) (c.val - h) (by rw [ho _ hc]; omega) (by omega)]
        refine congrArg₂ (· + ·) (congrArg₂ (· * ·) ((lo _).trans (congrArg y ?_)) (hS _)) (congrArg₂ (· * ·) ((hi _).trans (congrArg y ?_)) (hC _))
        · dsimp only; omega
        · dsimp only; omega
    · refine (concatenate_pair_apply_right 2 _ _ c2 _ rfl rfl (ValueIdx.ix3 b s (⟨c.val - H, by omega⟩ : Fin r)) (fun a ha => ?_) ?_).trans ?_
      · fin_cases a
        · rfl
        · rfl
        · exact absurd rfl ha
      · show c.val - H + H = c.val
        omega
      · rw [turn_rest G h y Cf Sf (o + c.val) (by rw [ho _ hc]; omega)]
        refine (cut3 _ s4 b s _ (by dsimp only; omega)).trans ((hy _).trans (congrArg y ?_))
        dsimp only; omega

/-! ## Rank 4: a row's columns turned -/

/-- The first columns and the next turned as pairs, the rest kept. -/
def turned4 {n G H h r : ℕ} (x : FVec Ideal ⟨4, ![8, 4096, n, G]⟩ .f32) (C S : FVec Ideal ⟨4, ![8, 4096, n, h]⟩ .f32)
    (s1 : (⟨4, ![8, 4096, n, G]⟩ : Shape).Slices ![0, 0, 0, 0] ⟨4, ![8, 4096, n, H]⟩) (s2 : (⟨4, ![8, 4096, n, H]⟩ : Shape).Slices ![0, 0, 0, 0] ⟨4, ![8, 4096, n, h]⟩) (s3 : (⟨4, ![8, 4096, n, H]⟩ : Shape).Slices ![0, 0, 0, h] ⟨4, ![8, 4096, n, h]⟩)
    (s4 : (⟨4, ![8, 4096, n, G]⟩ : Shape).Slices ![0, 0, 0, H] ⟨4, ![8, 4096, n, r]⟩) (c1 : Shape.Concatenates [⟨4, ![8, 4096, n, h]⟩, ⟨4, ![8, 4096, n, h]⟩] ⟨4, ![8, 4096, n, H]⟩ 3) (c2 : Shape.Concatenates [⟨4, ![8, 4096, n, H]⟩, ⟨4, ![8, 4096, n, r]⟩] ⟨4, ![8, 4096, n, G]⟩ 3) :
    FVec Ideal ⟨4, ![8, 4096, n, G]⟩ .f32 :=
  concatenate ⟨4, ![8, 4096, n, G]⟩ 3 [⟨⟨4, ![8, 4096, n, H]⟩, concatenate ⟨4, ![8, 4096, n, H]⟩ 3
      [⟨⟨4, ![8, 4096, n, h]⟩, subf (mulf (extractStridedSlice ⟨4, ![8, 4096, n, h]⟩ ![0, 0, 0, 0] (extractStridedSlice ⟨4, ![8, 4096, n, H]⟩ ![0, 0, 0, 0] x s1) s2) C) (mulf (extractStridedSlice ⟨4, ![8, 4096, n, h]⟩ ![0, 0, 0, h] (extractStridedSlice ⟨4, ![8, 4096, n, H]⟩ ![0, 0, 0, 0] x s1) s3) S)⟩,
        ⟨⟨4, ![8, 4096, n, h]⟩, addf (mulf (extractStridedSlice ⟨4, ![8, 4096, n, h]⟩ ![0, 0, 0, 0] (extractStridedSlice ⟨4, ![8, 4096, n, H]⟩ ![0, 0, 0, 0] x s1) s2) S) (mulf (extractStridedSlice ⟨4, ![8, 4096, n, h]⟩ ![0, 0, 0, h] (extractStridedSlice ⟨4, ![8, 4096, n, H]⟩ ![0, 0, 0, 0] x s1) s3) C)⟩] c1⟩,
    ⟨⟨4, ![8, 4096, n, r]⟩, extractStridedSlice ⟨4, ![8, 4096, n, r]⟩ ![0, 0, 0, H] x s4⟩] c2

theorem cut4 {n G k o : ℕ} (x : (⟨4, ![8, 4096, n, G]⟩ : Shape).Idx → EReal) (hs : (⟨4, ![8, 4096, n, G]⟩ : Shape).Slices ![0, 0, 0, o] ⟨4, ![8, 4096, n, k]⟩) (b : Fin 8) (s : Fin 4096) (p : Fin n) (j : Fin k) (hj : o + j.val < G) :
    extractStridedSlice ⟨4, ![8, 4096, n, k]⟩ ![0, 0, 0, o] x hs (ValueIdx.ix4 b s p j) = x (ValueIdx.ix4 b s p ⟨o + j.val, hj⟩) :=
  extractStridedSlice_apply _ _ _ _ _ (fun a => by
    fin_cases a
    · exact (Nat.zero_add _).symm
    · exact (Nat.zero_add _).symm
    · exact (Nat.zero_add _).symm
    · rfl)

theorem turned4_apply {n G H h r : ℕ} (x : FVec Ideal ⟨4, ![8, 4096, n, G]⟩ .f32) (C S : FVec Ideal ⟨4, ![8, 4096, n, h]⟩ .f32)
    (s1 : (⟨4, ![8, 4096, n, G]⟩ : Shape).Slices ![0, 0, 0, 0] ⟨4, ![8, 4096, n, H]⟩) (s2 : (⟨4, ![8, 4096, n, H]⟩ : Shape).Slices ![0, 0, 0, 0] ⟨4, ![8, 4096, n, h]⟩) (s3 : (⟨4, ![8, 4096, n, H]⟩ : Shape).Slices ![0, 0, 0, h] ⟨4, ![8, 4096, n, h]⟩)
    (s4 : (⟨4, ![8, 4096, n, G]⟩ : Shape).Slices ![0, 0, 0, H] ⟨4, ![8, 4096, n, r]⟩) (c1 : Shape.Concatenates [⟨4, ![8, 4096, n, h]⟩, ⟨4, ![8, 4096, n, h]⟩] ⟨4, ![8, 4096, n, H]⟩ 3) (c2 : Shape.Concatenates [⟨4, ![8, 4096, n, H]⟩, ⟨4, ![8, 4096, n, r]⟩] ⟨4, ![8, 4096, n, G]⟩ 3)
    (hH : H = h + h) (hG : G = H + r) (b : Fin 8) (s : Fin 4096) (p : Fin n) (y Cf Sf : ℕ → EReal) (o : ℕ) (ho : ∀ k, k < G → (o + k) % G = k)
    (hy : ∀ k : Fin G, x (ValueIdx.ix4 b s p k) = y (o + k.val)) (hC : ∀ k : Fin h, C (ValueIdx.ix4 b s p k) = Cf k.val) (hS : ∀ k : Fin h, S (ValueIdx.ix4 b s p k) = Sf k.val) (c : Fin G) :
    turned4 x C S s1 s2 s3 s4 c1 c2 (ValueIdx.ix4 b s p c) = turn G h y Cf Sf (o + c.val) := by
  have hc := c.isLt
  have lo : ∀ k : Fin h, extractStridedSlice ⟨4, ![8, 4096, n, h]⟩ ![0, 0, 0, 0] (extractStridedSlice ⟨4, ![8, 4096, n, H]⟩ ![0, 0, 0, 0] x s1) s2 (ValueIdx.ix4 b s p k) = y (o + k.val) := fun k => by
    have hk := k.isLt
    refine (cut4 _ s2 b s p k (by omega)).trans ((cut4 _ s1 b s p _ (by dsimp only; omega)).trans ((hy _).trans ?_))
    exact congrArg y (by dsimp only; omega)
  have hi : ∀ k : Fin h, extractStridedSlice ⟨4, ![8, 4096, n, h]⟩ ![0, 0, 0, h] (extractStridedSlice ⟨4, ![8, 4096, n, H]⟩ ![0, 0, 0, 0] x s1) s3 (ValueIdx.ix4 b s p k) = y (o + h + k.val) := fun k => by
    have hk := k.isLt
    refine (cut4 _ s3 b s p k (by omega)).trans ((cut4 _ s1 b s p _ (by dsimp only; omega)).trans ((hy _).trans ?_))
    exact congrArg y (by dsimp only; omega)
  unfold turned4
  by_cases h1 : c.val < h
  · refine (concatenate_pair_apply_left 3 _ _ c2 _ rfl (ValueIdx.ix4 b s p (⟨c.val, by omega⟩ : Fin H)) (fun a => by fin_cases a <;> rfl)).trans ?_
    refine (concatenate_pair_apply_left 3 _ _ c1 _ rfl (ValueIdx.ix4 b s p (⟨c.val, h1⟩ : Fin h)) (fun a => by fin_cases a <;> rfl)).trans ?_
    rw [turn_first G h y Cf Sf (o + c.val) c.val (ho _ hc) h1]
    refine congrArg₂ (· - ·) (congrArg₂ (· * ·) (lo _) (hC _)) (congrArg₂ (· * ·) ((hi _).trans (congrArg y ?_)) (hS _))
    dsimp only; omega
  · by_cases h2 : c.val < H
    · refine (concatenate_pair_apply_left 3 _ _ c2 _ rfl (ValueIdx.ix4 b s p (⟨c.val, h2⟩ : Fin H)) (fun a => by fin_cases a <;> rfl)).trans ?_
      refine (concatenate_pair_apply_right 3 _ _ c1 _ rfl rfl (ValueIdx.ix4 b s p (⟨c.val - h, by omega⟩ : Fin h)) (fun a ha => ?_) ?_).trans ?_
      · fin_cases a
        · rfl
        · rfl
        · rfl
        · exact absurd rfl ha
      · show c.val - h + h = c.val
        omega
      · rw [turn_second G h y Cf Sf (o + c.val) (c.val - h) (by rw [ho _ hc]; omega) (by omega)]
        refine congrArg₂ (· + ·) (congrArg₂ (· * ·) ((lo _).trans (congrArg y ?_)) (hS _)) (congrArg₂ (· * ·) ((hi _).trans (congrArg y ?_)) (hC _))
        · dsimp only; omega
        · dsimp only; omega
    · refine (concatenate_pair_apply_right 3 _ _ c2 _ rfl rfl (ValueIdx.ix4 b s p (⟨c.val - H, by omega⟩ : Fin r)) (fun a ha => ?_) ?_).trans ?_
      · fin_cases a
        · rfl
        · rfl
        · rfl
        · exact absurd rfl ha
      · show c.val - H + H = c.val
        omega
      · rw [turn_rest G h y Cf Sf (o + c.val) (by rw [ho _ hc]; omega)]
        refine (cut4 _ s4 b s p _ (by dsimp only; omega)).trans ((hy _).trans (congrArg y ?_))
        dsimp only; omega

/-! ## The latent and its products -/

theorem dot_apply (A : FVec Ideal S8x4096x128 .f32) (B : FVec Ideal S128x256 .f32) (b : Fin 8) (s : Fin 4096) (f : Fin 256) :
    Host.dotGeneral dot_S8x4096x128_S128x256_S8x4096x256_2_0_01_1_n_n none A B (ValueIdx.ix3 b s f)
      = ∑ c : Fin 128, A (ValueIdx.ix3 b s c) * B (ValueIdx.ix2 c f) := by
  show FloatOps.dotGeneral _ _ _ A B (ValueIdx.ix3 b s f) = _
  rw [Ideal.dotGeneral_apply, ← Equiv.sum_comp (ValueIdx.contrEquiv1 dot_S8x4096x128_S128x256_S8x4096x256_2_0_01_1_n_n 128 rfl rfl).symm]
  refine Finset.sum_congr rfl fun c _ => ?_
  have hc := ValueIdx.contrEquiv1_symm_val dot_S8x4096x128_S128x256_S8x4096x256_2_0_01_1_n_n 128 rfl rfl c
  have hl : dot_S8x4096x128_S128x256_S8x4096x256_2_0_01_1_n_n.lhsIdx (ValueIdx.ix3 b s f) ((ValueIdx.contrEquiv1 _ 128 rfl rfl).symm c) = ValueIdx.ix3 b s c := by
    funext a; apply Fin.ext
    match a with
    | ⟨0, _⟩ => simp [DotDims.lhsIdx, dot_S8x4096x128_S128x256_S8x4096x256_2_0_01_1_n_n]; rfl
    | ⟨1, _⟩ => simp [DotDims.lhsIdx, dot_S8x4096x128_S128x256_S8x4096x256_2_0_01_1_n_n]; rfl
    | ⟨2, _⟩ => simp [DotDims.lhsIdx, dot_S8x4096x128_S128x256_S8x4096x256_2_0_01_1_n_n]; exact hc
  have hr : dot_S8x4096x128_S128x256_S8x4096x256_2_0_01_1_n_n.rhsIdx (ValueIdx.ix3 b s f) ((ValueIdx.contrEquiv1 _ 128 rfl rfl).symm c) = ValueIdx.ix2 c f := by
    funext a; apply Fin.ext
    match a with
    | ⟨0, _⟩ => simp [DotDims.rhsIdx, dot_S8x4096x128_S128x256_S8x4096x256_2_0_01_1_n_n]; exact hc
    | ⟨1, _⟩ => simp [DotDims.rhsIdx, dot_S8x4096x128_S128x256_S8x4096x256_2_0_01_1_n_n]; rfl
  rw [hl, hr]

variable (X : FVec Ideal S32768x384 .f32) (g : FVec Ideal S1x128 .f32) (w : FVec Ideal S128x256 .bf16)
variable (A : FVec Ideal S8x4096x8 .f32) (B : FVec Ideal S8x4096x4 .f32)

/-- The rows by batch entry and position. -/
def stack : FVec Ideal S8x4096x384 .f32 := shapeCast S8x4096x384 X shapeCasts_S32768x384_S8x4096x384

theorem feat_apply {n off : ℕ} (h : S8x4096x384.Slices ![0, 0, off] ⟨3, ![8, 4096, n]⟩) (i : Fin 32768) (j : Fin n) (hj : off + j.val < 384) :
    extractStridedSlice ⟨3, ![8, 4096, n]⟩ ![0, 0, off] (stack X) h (ValueIdx.ix3 (bt i) (ps i) j) = at2 X i (off + j.val) := by
  refine (cut3 _ h _ _ j hj).trans ((shapeCast_apply X _ _ (ValueIdx.ix2 i ⟨off + j.val, hj⟩) ?_).trans (at2_lt X i _ hj).symm)
  rw [Shape.rowMajor_val_three, Shape.rowMajor_val_two]
  show i.val * 384 + (off + j.val) = (i.val / 4096 * 4096 + i.val % 4096) * 384 + (off + j.val)
  rw [Nat.div_add_mod' i.val 4096]

/-- The latent's part of a row, and the reciprocal root mean square of it. -/
def head : FVec Ideal S8x4096x128 .f32 := extractStridedSlice S8x4096x128 ![0, 0, 0] (stack X) slices_S8x4096x384_S8x4096x128_0_0_0

def rms : FVec Ideal S8x4096x1 .f32 :=
  Host.rsqrt (addf (Host.divf (broadcastInDim S8x4096x1 ![0, 1] bcast_S8x4096_S8x4096x1_0_1 (Host.reduceAdd (mulf (head X) (head X)) (constant S_ .f32 0x00000000#32) reducesTo_S8x4096x128_S8x4096_d2 h_S_)) (broadcastInDim S8x4096x1 ![] bcast_S_S8x4096x1 (constant S_ .f32 0x43000000#32))) (broadcastInDim S8x4096x1 ![] bcast_S_S8x4096x1 (constant S_ .f32 0x3727C5AC#32)))

def norm : FVec Ideal S8x4096x128 .f32 :=
  mulf (mulf (head X) (broadcastInDim S8x4096x128 ![0, 1, 2] bcast_S8x4096x1_S8x4096x128_0_1_2 (rms X))) (broadcastInDim S8x4096x128 ![0, 1, 2] bcast_S1x1x128_S8x4096x128_0_1_2 (broadcastInDim S1x1x128 ![1, 2] bcast_S1x128_S1x1x128_1_2 g))

def proj : FVec Ideal S8x4096x256 .f32 :=
  Host.dotGeneral dot_S8x4096x128_S128x256_S8x4096x256_2_0_01_1_n_n none (norm X g) (extf .f32 w bitsLt_bf16_f32)

theorem head_apply (i : Fin 32768) (d : Fin 128) : head X (ValueIdx.ix3 (bt i) (ps i) d) = at2 X i d.val :=
  (feat_apply X slices_S8x4096x384_S8x4096x128_0_0_0 i d (by omega)).trans (congrArg (at2 X i) (Nat.zero_add _))

theorem sum_apply (v : FVec Ideal S8x4096x128 .f32) (b : Fin 8) (s : Fin 4096) :
    Host.reduceAdd v (constant S_ .f32 0x00000000#32) reducesTo_S8x4096x128_S8x4096_d2 h_S_ (ValueIdx.ix2 b s) = ∑ k : Fin 128, v (ValueIdx.ix3 b s k) := by
  refine (ValueIdx.hostReduceAdd_apply _ _ _ _ _).trans ?_
  have hred : S8x4096x128.Reduces [2] S8x4096 := by decide
  refine (Ideal.hostReduceAdd_single _ hred _ _ _).trans ?_
  show Ideal.ofBits .f32 0x00000000#32 + _ = _
  rw [Ideal.ofBits_zero_f32, zero_add]
  exact Finset.sum_congr rfl fun k _ => congrArg v (funext fun i => by fin_cases i <;> rfl)

theorem rms_apply (i : Fin 32768) :
    rms X (ValueIdx.ix3 (bt i) (ps i) 0) = Ideal.rsqrt (Ideal.div (∑ k : Fin 128, at2 X i k.val * at2 X i k.val) lora + eps) := by
  show Ideal.rsqrt (Ideal.div (broadcastInDim S8x4096x1 ![0, 1] bcast_S8x4096_S8x4096x1_0_1 (Host.reduceAdd (mulf (head X) (head X)) (constant S_ .f32 0x00000000#32) reducesTo_S8x4096x128_S8x4096_d2 h_S_) (ValueIdx.ix3 (bt i) (ps i) 0))
    (broadcastInDim S8x4096x1 ![] bcast_S_S8x4096x1 (constant (F := Ideal) S_ .f32 0x43000000#32) (ValueIdx.ix3 (bt i) (ps i) 0)) + broadcastInDim S8x4096x1 ![] bcast_S_S8x4096x1 (constant (F := Ideal) S_ .f32 0x3727C5AC#32) (ValueIdx.ix3 (bt i) (ps i) 0)) = _
  have e1 := broadcastInDim_apply ![0, 1] bcast_S8x4096_S8x4096x1_0_1 (Host.reduceAdd (mulf (head X) (head X)) (constant S_ .f32 0x00000000#32) reducesTo_S8x4096x128_S8x4096_d2 h_S_) (ValueIdx.ix3 (bt i) (ps i) 0) (ValueIdx.ix2 (bt i) (ps i)) (fun a => by fin_cases a <;> rfl)
  rw [e1, sum_apply]
  refine congrArg (fun e => Ideal.rsqrt (Ideal.div e lora + eps)) (Finset.sum_congr rfl fun k _ => ?_)
  exact congrArg₂ (· * ·) (head_apply X i k) (head_apply X i k)

theorem norm_apply (i : Fin 32768) (d : Fin 128) : norm X g (ValueIdx.ix3 (bt i) (ps i) d) = latent (at2 X i) (at2 g 0) d := by
  show head X (ValueIdx.ix3 (bt i) (ps i) d) * broadcastInDim S8x4096x128 ![0, 1, 2] bcast_S8x4096x1_S8x4096x128_0_1_2 (rms X) (ValueIdx.ix3 (bt i) (ps i) d)
      * broadcastInDim S8x4096x128 ![0, 1, 2] bcast_S1x1x128_S8x4096x128_0_1_2 (broadcastInDim S1x1x128 ![1, 2] bcast_S1x128_S1x1x128_1_2 g) (ValueIdx.ix3 (bt i) (ps i) d) = _
  have e1 := broadcastInDim_apply ![0, 1, 2] bcast_S8x4096x1_S8x4096x128_0_1_2 (rms X) (ValueIdx.ix3 (bt i) (ps i) d) (ValueIdx.ix3 (bt i) (ps i) 0) (fun a => by fin_cases a <;> rfl)
  have e2 := broadcastInDim_apply ![0, 1, 2] bcast_S1x1x128_S8x4096x128_0_1_2 (broadcastInDim S1x1x128 ![1, 2] bcast_S1x128_S1x1x128_1_2 g) (ValueIdx.ix3 (bt i) (ps i) d) (ValueIdx.ix3 0 0 d) (fun a => by fin_cases a <;> rfl)
  have e3 := broadcastInDim_apply ![1, 2] bcast_S1x128_S1x1x128_1_2 g (ValueIdx.ix3 0 0 d) (ValueIdx.ix2 0 d) (fun a => by fin_cases a <;> rfl)
  rw [e1, e2, e3, rms_apply, head_apply]
  exact congrArg _ (at2_val g 0 d).symm

theorem proj_apply (i : Fin 32768) (c : Fin 256) : proj X g w (ValueIdx.ix3 (bt i) (ps i) c) = lift (at2 X i) (at2 g 0) w c.val := by
  refine (dot_apply _ _ _ _ _).trans ?_
  exact Finset.sum_congr rfl fun d _ => congrArg₂ (· * ·) (norm_apply X g i d) (at2_val w d c).symm

/-! ## The six results -/

/-- The heads' queries turned. -/
def queryQ : FVec Ideal S8x4096x4x64 .f32 :=
  turned4 (shapeCast S8x4096x4x64 (proj X g w) shapeCasts_S8x4096x256_S8x4096x4x64)
    (broadcastInDim S8x4096x4x8 ![0, 1, 2, 3] bcast_S8x4096x1x8_S8x4096x4x8_0_1_2_3 (Host.cos (shapeCast S8x4096x1x8 A shapeCasts_S8x4096x8_S8x4096x1x8)))
    (broadcastInDim S8x4096x4x8 ![0, 1, 2, 3] bcast_S8x4096x1x8_S8x4096x4x8_0_1_2_3 (Host.sin (shapeCast S8x4096x1x8 A shapeCasts_S8x4096x8_S8x4096x1x8)))
    slices_S8x4096x4x64_S8x4096x4x16_0_0_0_0 slices_S8x4096x4x16_S8x4096x4x8_0_0_0_0 slices_S8x4096x4x16_S8x4096x4x8_0_0_0_8 slices_S8x4096x4x64_S8x4096x4x48_0_0_0_16
    concatenates_S8x4096x4x8_S8x4096x4x8_S8x4096x4x16_d3 concatenates_S8x4096x4x16_S8x4096x4x48_S8x4096x4x64_d3

theorem angleQ_apply (i : Fin 32768) (p : Fin 4) (k : Fin 8) (f : FVec Ideal S8x4096x1x8 .f32) :
    broadcastInDim S8x4096x4x8 ![0, 1, 2, 3] bcast_S8x4096x1x8_S8x4096x4x8_0_1_2_3 f (ValueIdx.ix4 (bt i) (ps i) p k) = f (ValueIdx.ix4 (bt i) (ps i) 0 k) :=
  broadcastInDim_apply _ _ _ _ _ (fun a => by fin_cases a <;> rfl)

theorem givenQ_apply (i : Fin 32768) (k : Fin 8) :
    shapeCast S8x4096x1x8 A shapeCasts_S8x4096x8_S8x4096x1x8 (ValueIdx.ix4 (bt i) (ps i) 0 k) = A (ValueIdx.ix3 (bt i) (ps i) k) := by
  refine shapeCast_apply _ _ _ _ ?_
  rw [Shape.rowMajor_val_four, Shape.rowMajor_val_three]
  show ((bt i).val * 4096 + (ps i).val) * 8 + k.val = (((bt i).val * 4096 + (ps i).val) * 1 + 0) * 8 + k.val
  omega

theorem queryQ_apply (i : Fin 32768) (p : Fin 4) (e : Fin 64) :
    queryQ X g w A (ValueIdx.ix4 (bt i) (ps i) p e) = qAt X g w A i (p.val * 64 + e.val) := by
  refine turned4_apply (G := 64) (h := 8) _ _ _ _ _ _ _ _ _ rfl rfl (bt i) (ps i) p (lift (at2 X i) (at2 g 0) w) (cosAt A i) (sinAt A i) (p.val * 64) (fun k hk => by omega) (fun k => ?_) (fun k => ?_) (fun k => ?_) e
  · refine (shapeCast_apply _ _ _ (ValueIdx.ix3 (bt i) (ps i) (⟨p.val * 64 + k.val, by omega⟩ : Fin 256)) ?_).trans (proj_apply X g w i _)
    rw [Shape.rowMajor_val_four, Shape.rowMajor_val_three]
    show ((bt i).val * 4096 + (ps i).val) * 256 + (p.val * 64 + k.val) = (((bt i).val * 4096 + (ps i).val) * 4 + p.val) * 64 + k.val
    omega
  · refine (angleQ_apply i p k _).trans ((congrArg (FloatOps.hostUnary (F := Ideal) (φ := .f32) .cos) (givenQ_apply A i k)).trans (cosAt_lt A i k.val k.isLt).symm)
  · refine (angleQ_apply i p k _).trans ((congrArg (FloatOps.hostUnary (F := Ideal) (φ := .f32) .sin) (givenQ_apply A i k)).trans (sinAt_lt A i k.val k.isLt).symm)

/-- The heads moved in front of the rows. -/
theorem frontQ_apply (v : FVec Ideal S8x4096x4x64 .f32) (p : Fin 4) (e : Fin 64) (i : Fin 32768) :
    shapeCast S4x64x32768 (transpose S4x64x8x4096 [2, 3, 0, 1] v transposes_S8x4096x4x64_S4x64x8x4096_2_3_0_1) shapeCasts_S4x64x8x4096_S4x64x32768 (ValueIdx.ix3 p e i)
      = v (ValueIdx.ix4 (bt i) (ps i) p e) := by
  refine (shapeCast_apply _ _ _ (ValueIdx.ix4 p e (bt i) (ps i)) ?_).trans ?_
  · rw [Shape.rowMajor_val_four, Shape.rowMajor_val_three]
    show ((p.val * 64 + e.val) * 8 + i.val / 4096) * 4096 + i.val % 4096 = (p.val * 64 + e.val) * 32768 + i.val
    omega
  · exact transpose_apply [2, 3, 0, 1] v _ _ (ValueIdx.ix4 (bt i) (ps i) p e) (fun b => by fin_cases b <;> rfl)

/-- The key turned. -/
def keyQ : FVec Ideal S8x4096x64 .f32 :=
  turned3 (extractStridedSlice S8x4096x64 ![0, 0, 128] (stack X) slices_S8x4096x384_S8x4096x64_0_0_128) (Host.cos A) (Host.sin A)
    slices_S8x4096x64_S8x4096x16_0_0_0 slices_S8x4096x16_S8x4096x8_0_0_0 slices_S8x4096x16_S8x4096x8_0_0_8 slices_S8x4096x64_S8x4096x48_0_0_16
    concatenates_S8x4096x8_S8x4096x8_S8x4096x16_d2 concatenates_S8x4096x16_S8x4096x48_S8x4096x64_d2

theorem keyQ_apply (i : Fin 32768) (e : Fin 64) : keyQ X A (ValueIdx.ix3 (bt i) (ps i) e) = kAt X A i e.val := by
  refine (turned3_apply (G := 64) (h := 8) _ _ _ _ _ _ _ _ _ rfl rfl (bt i) (ps i) (fun c => at2 X i (128 + c)) (cosAt A i) (sinAt A i) 0 (fun k hk => by omega) (fun k => ?_) (fun k => ?_) (fun k => ?_) e).trans ?_
  · rw [Nat.zero_add]; exact feat_apply X _ i k (by omega)
  · exact (cosAt_lt A i k.val k.isLt).symm
  · exact (sinAt_lt A i k.val k.isLt).symm
  · rw [Nat.zero_add]; rfl

/-- The heads' queries turned. -/
def queryI : FVec Ideal S8x4096x8x32 .f32 :=
  turned4 (shapeCast S8x4096x8x32 (proj X g w) shapeCasts_S8x4096x256_S8x4096x8x32)
    (broadcastInDim S8x4096x8x4 ![0, 1, 2, 3] bcast_S8x4096x1x4_S8x4096x8x4_0_1_2_3 (Host.cos (shapeCast S8x4096x1x4 B shapeCasts_S8x4096x4_S8x4096x1x4)))
    (broadcastInDim S8x4096x8x4 ![0, 1, 2, 3] bcast_S8x4096x1x4_S8x4096x8x4_0_1_2_3 (Host.sin (shapeCast S8x4096x1x4 B shapeCasts_S8x4096x4_S8x4096x1x4)))
    slices_S8x4096x8x32_S8x4096x8x8_0_0_0_0 slices_S8x4096x8x8_S8x4096x8x4_0_0_0_0 slices_S8x4096x8x8_S8x4096x8x4_0_0_0_4 slices_S8x4096x8x32_S8x4096x8x24_0_0_0_8
    concatenates_S8x4096x8x4_S8x4096x8x4_S8x4096x8x8_d3 concatenates_S8x4096x8x8_S8x4096x8x24_S8x4096x8x32_d3

theorem angleI_apply (i : Fin 32768) (p : Fin 8) (k : Fin 4) (f : FVec Ideal S8x4096x1x4 .f32) :
    broadcastInDim S8x4096x8x4 ![0, 1, 2, 3] bcast_S8x4096x1x4_S8x4096x8x4_0_1_2_3 f (ValueIdx.ix4 (bt i) (ps i) p k) = f (ValueIdx.ix4 (bt i) (ps i) 0 k) :=
  broadcastInDim_apply _ _ _ _ _ (fun a => by fin_cases a <;> rfl)

theorem givenI_apply (i : Fin 32768) (k : Fin 4) :
    shapeCast S8x4096x1x4 B shapeCasts_S8x4096x4_S8x4096x1x4 (ValueIdx.ix4 (bt i) (ps i) 0 k) = B (ValueIdx.ix3 (bt i) (ps i) k) := by
  refine shapeCast_apply _ _ _ _ ?_
  rw [Shape.rowMajor_val_four, Shape.rowMajor_val_three]
  show ((bt i).val * 4096 + (ps i).val) * 4 + k.val = (((bt i).val * 4096 + (ps i).val) * 1 + 0) * 4 + k.val
  omega

theorem queryI_apply (i : Fin 32768) (p : Fin 8) (e : Fin 32) :
    queryI X g w B (ValueIdx.ix4 (bt i) (ps i) p e) = qiAt X g w B i (p.val * 32 + e.val) := by
  refine turned4_apply (G := 32) (h := 4) _ _ _ _ _ _ _ _ _ rfl rfl (bt i) (ps i) p (lift (at2 X i) (at2 g 0) w) (cosAt B i) (sinAt B i) (p.val * 32) (fun k hk => by omega) (fun k => ?_) (fun k => ?_) (fun k => ?_) e
  · refine (shapeCast_apply _ _ _ (ValueIdx.ix3 (bt i) (ps i) (⟨p.val * 32 + k.val, by omega⟩ : Fin 256)) ?_).trans (proj_apply X g w i _)
    rw [Shape.rowMajor_val_four, Shape.rowMajor_val_three]
    show ((bt i).val * 4096 + (ps i).val) * 256 + (p.val * 32 + k.val) = (((bt i).val * 4096 + (ps i).val) * 8 + p.val) * 32 + k.val
    omega
  · refine (angleI_apply i p k _).trans ((congrArg (FloatOps.hostUnary (F := Ideal) (φ := .f32) .cos) (givenI_apply B i k)).trans (cosAt_lt B i k.val k.isLt).symm)
  · refine (angleI_apply i p k _).trans ((congrArg (FloatOps.hostUnary (F := Ideal) (φ := .f32) .sin) (givenI_apply B i k)).trans (sinAt_lt B i k.val k.isLt).symm)

/-- The heads moved in front of the rows. -/
theorem frontI_apply (v : FVec Ideal S8x4096x8x32 .f32) (p : Fin 8) (e : Fin 32) (i : Fin 32768) :
    shapeCast S8x32x32768 (transpose S8x32x8x4096 [2, 3, 0, 1] v transposes_S8x4096x8x32_S8x32x8x4096_2_3_0_1) shapeCasts_S8x32x8x4096_S8x32x32768 (ValueIdx.ix3 p e i)
      = v (ValueIdx.ix4 (bt i) (ps i) p e) := by
  refine (shapeCast_apply _ _ _ (ValueIdx.ix4 p e (bt i) (ps i)) ?_).trans ?_
  · rw [Shape.rowMajor_val_four, Shape.rowMajor_val_three]
    show ((p.val * 32 + e.val) * 8 + i.val / 4096) * 4096 + i.val % 4096 = (p.val * 32 + e.val) * 32768 + i.val
    omega
  · exact transpose_apply [2, 3, 0, 1] v _ _ (ValueIdx.ix4 (bt i) (ps i) p e) (fun b => by fin_cases b <;> rfl)

/-- The key turned. -/
def keyI : FVec Ideal S8x4096x32 .f32 :=
  turned3 (extractStridedSlice S8x4096x32 ![0, 0, 256] (stack X) slices_S8x4096x384_S8x4096x32_0_0_256) (Host.cos B) (Host.sin B)
    slices_S8x4096x32_S8x4096x8_0_0_0 slices_S8x4096x8_S8x4096x4_0_0_0 slices_S8x4096x8_S8x4096x4_0_0_4 slices_S8x4096x32_S8x4096x24_0_0_8
    concatenates_S8x4096x4_S8x4096x4_S8x4096x8_d2 concatenates_S8x4096x8_S8x4096x24_S8x4096x32_d2

theorem keyI_apply (i : Fin 32768) (e : Fin 32) : keyI X B (ValueIdx.ix3 (bt i) (ps i) e) = kiAt X B i e.val := by
  refine (turned3_apply (G := 32) (h := 4) _ _ _ _ _ _ _ _ _ rfl rfl (bt i) (ps i) (fun c => at2 X i (256 + c)) (cosAt B i) (sinAt B i) 0 (fun k hk => by omega) (fun k => ?_) (fun k => ?_) (fun k => ?_) e).trans ?_
  · rw [Nat.zero_add]; exact feat_apply X _ i k (by omega)
  · exact (cosAt_lt B i k.val k.isLt).symm
  · exact (sinAt_lt B i k.val k.isLt).symm
  · rw [Nat.zero_add]; rfl

/-- Batch entries and positions as rows. -/
theorem flat_apply {n : ℕ} (v : (⟨3, ![8, 4096, n]⟩ : Shape).Idx → EReal) (h : (⟨3, ![8, 4096, n]⟩ : Shape).ShapeCasts ⟨2, ![32768, n]⟩) (i : Fin 32768) (j : Fin n) :
    shapeCast ⟨2, ![32768, n]⟩ v h (ValueIdx.ix2 i j) = v (ValueIdx.ix3 (bt i) (ps i) j) := by
  refine shapeCast_apply _ _ _ _ ?_
  rw [Shape.rowMajor_val_three, Shape.rowMajor_val_two]
  show (i.val / 4096 * 4096 + i.val % 4096) * n + j.val = i.val * n + j.val
  rw [Nat.div_add_mod' i.val 4096]

end Cert.SparseRefIdeal.Prep

end
-- ==== Proof.Sparse.Claims.lean ====
/- The claims about the sparse mixer's preparation. -/
module

public import proofs.«01_k».proof.Defs
public import proofs.«01_k».proof.Proof.Gen.Sparse.Frame
public import proofs.«01_k».proof.Proof.Sparse.Value
public import proofs.«01_k».proof.Proof.Sparse.Ref
public import Idealize.ShloMosaic.Lib.Claim
public import Idealize.ShloMosaic.Lib.Quiescent

@[expose] public section

set_option maxRecDepth 16384

noncomputable section

/-! ## The reference's six results, of arrays -/

namespace Cert.SparseRefIdeal.Prep

open Cert.SparseRefIdeal Cert.SparseRefIdeal.Gen
open Idealize.ShloMosaic Cert.SparseSpec

variable (X : FVec Ideal S32768x384 .f32) (g : FVec Ideal S1x128 .f32) (w : FVec Ideal S128x256 .bf16)
variable (A : FVec Ideal S8x4096x8 .f32) (B : FVec Ideal S8x4096x4 .f32)

/-- The index weights and the values, by batch entry and position. -/
def weight : FVec Ideal S8x4096x8 .f32 :=
  mulf (extractStridedSlice S8x4096x8 ![0, 0, 288] (stack X) slices_S8x4096x384_S8x4096x8_0_0_288) (broadcastInDim S8x4096x8 ![] bcast_S_S8x4096x8 (constant S_ .f32 0x3D800000#32))

def value : FVec Ideal S8x4096x64 .f32 :=
  extractStridedSlice S8x4096x64 ![0, 0, 192] (stack X) slices_S8x4096x384_S8x4096x64_0_0_192

theorem weight_apply (r : Fin 32768) (p : Fin 8) : weight X (ValueIdx.ix3 (bt r) (ps r) p) = at2 X r (288 + p.val) * Ideal.ofBits .f32 0x3D800000#32 :=
  congrArg (· * Ideal.ofBits .f32 0x3D800000#32) (feat_apply X slices_S8x4096x384_S8x4096x8_0_0_288 r p (by omega))

theorem value_apply (r : Fin 32768) (e : Fin 64) : value X (ValueIdx.ix3 (bt r) (ps r) e) = at2 X r (192 + e.val) :=
  feat_apply X slices_S8x4096x384_S8x4096x64_0_0_192 r e (by omega)

/-- The scaled queries, the index queries, the index weights, the keys, the values and the index keys. -/
def res0 : FVec Ideal S4x64x32768 .bf16 :=
  truncf .bf16 (shapeCast S4x64x32768 (transpose S4x64x8x4096 [2, 3, 0, 1] (mulf (queryQ X g w A) (broadcastInDim S8x4096x4x64 ![] bcast_S_S8x4096x4x64 (constant S_ .f32 0x3E000000#32))) transposes_S8x4096x4x64_S4x64x8x4096_2_3_0_1) shapeCasts_S4x64x8x4096_S4x64x32768) bitsLt_bf16_f32

def res1 : FVec Ideal S8x32x32768 .bf16 :=
  truncf .bf16 (shapeCast S8x32x32768 (transpose S8x32x8x4096 [2, 3, 0, 1] (queryI X g w B) transposes_S8x4096x8x32_S8x32x8x4096_2_3_0_1) shapeCasts_S8x32x8x4096_S8x32x32768) bitsLt_bf16_f32

def res2 : FVec Ideal S8x32768 .f32 :=
  transpose S8x32768 [1, 0] (shapeCast S32768x8 (weight X) shapeCasts_S8x4096x8_S32768x8) transposes_S32768x8_S8x32768_1_0

def res3 : FVec Ideal S32768x64 .bf16 :=
  truncf .bf16 (shapeCast S32768x64 (keyQ X A) shapeCasts_S8x4096x64_S32768x64) bitsLt_bf16_f32

def res4 : FVec Ideal S32768x64 .bf16 :=
  truncf .bf16 (shapeCast S32768x64 (value X) shapeCasts_S8x4096x64_S32768x64) bitsLt_bf16_f32

def res5 : FVec Ideal S32768x32 .bf16 :=
  truncf .bf16 (shapeCast S32768x32 (keyI X B) shapeCasts_S8x4096x32_S32768x32) bitsLt_bf16_f32

theorem res0_eq : res0 X g w A = fun i => qAt X g w A (i 2) ((i 0).val * 64 + (i 1).val) * Ideal.ofBits .f32 0x3E000000#32 := by
  funext i
  obtain ⟨p, e, r, rfl⟩ : ∃ (p : Fin 4) (e : Fin 64) (r : Fin 32768), i = ValueIdx.ix3 p e r := ⟨i 0, i 1, i 2, ValueIdx.eq_ix3 i⟩
  refine Eq.trans (b := (mulf (queryQ X g w A) (broadcastInDim S8x4096x4x64 ![] bcast_S_S8x4096x4x64 (constant S_ .f32 0x3E000000#32))) (ValueIdx.ix4 (bt r) (ps r) p e)) (frontQ_apply (mulf (queryQ X g w A) (broadcastInDim S8x4096x4x64 ![] bcast_S_S8x4096x4x64 (constant S_ .f32 0x3E000000#32))) p e r) ?_
  exact congrArg (· * Ideal.ofBits .f32 0x3E000000#32) (queryQ_apply X g w A r p e)

theorem res1_eq : res1 X g w B = fun i => qiAt X g w B (i 2) ((i 0).val * 32 + (i 1).val) := by
  funext i
  obtain ⟨p, e, r, rfl⟩ : ∃ (p : Fin 8) (e : Fin 32) (r : Fin 32768), i = ValueIdx.ix3 p e r := ⟨i 0, i 1, i 2, ValueIdx.eq_ix3 i⟩
  exact Eq.trans (b := queryI X g w B (ValueIdx.ix4 (bt r) (ps r) p e)) (frontI_apply (queryI X g w B) p e r) (queryI_apply X g w B r p e)

theorem res2_eq : res2 X = fun i => at2 X (i 1) (288 + (i 0).val) * Ideal.ofBits .f32 0x3D800000#32 := by
  funext i
  obtain ⟨p, r, rfl⟩ : ∃ (p : Fin 8) (r : Fin 32768), i = ValueIdx.ix2 p r := ⟨i 0, i 1, ValueIdx.eq_ix2 i⟩
  show res2 X (ValueIdx.ix2 p r) = at2 X r (288 + p.val) * Ideal.ofBits .f32 0x3D800000#32
  refine Eq.trans (b := shapeCast S32768x8 (weight X) shapeCasts_S8x4096x8_S32768x8 (ValueIdx.ix2 r p)) (transpose_apply [1, 0] (shapeCast S32768x8 (weight X) shapeCasts_S8x4096x8_S32768x8) transposes_S32768x8_S8x32768_1_0 (ValueIdx.ix2 p r) (ValueIdx.ix2 r p) (fun b => by fin_cases b <;> rfl)) ?_
  refine (flat_apply (weight X) shapeCasts_S8x4096x8_S32768x8 r p).trans ?_
  exact weight_apply X r p

theorem res3_eq : res3 X A = fun i => kAt X A (i 0) (i 1).val := by
  funext i
  obtain ⟨r, e, rfl⟩ : ∃ (r : Fin 32768) (e : Fin 64), i = ValueIdx.ix2 r e := ⟨i 0, i 1, ValueIdx.eq_ix2 i⟩
  exact Eq.trans (b := keyQ X A (ValueIdx.ix3 (bt r) (ps r) e)) (flat_apply (keyQ X A) shapeCasts_S8x4096x64_S32768x64 r e) (keyQ_apply X A r e)

theorem res4_eq : res4 X = fun i => at2 X (i 0) (192 + (i 1).val) := by
  funext i
  obtain ⟨r, e, rfl⟩ : ∃ (r : Fin 32768) (e : Fin 64), i = ValueIdx.ix2 r e := ⟨i 0, i 1, ValueIdx.eq_ix2 i⟩
  show res4 X (ValueIdx.ix2 r e) = at2 X r (192 + e.val)
  exact Eq.trans (b := value X (ValueIdx.ix3 (bt r) (ps r) e)) (flat_apply (value X) shapeCasts_S8x4096x64_S32768x64 r e) (value_apply X r e)

theorem res5_eq : res5 X B = fun i => kiAt X B (i 0) (i 1).val := by
  funext i
  obtain ⟨r, e, rfl⟩ : ∃ (r : Fin 32768) (e : Fin 32), i = ValueIdx.ix2 r e := ⟨i 0, i 1, ValueIdx.eq_ix2 i⟩
  exact Eq.trans (b := keyI X B (ValueIdx.ix3 (bt r) (ps r) e)) (flat_apply (keyI X B) shapeCasts_S8x4096x32_S32768x32 r e) (keyI_apply X B r e)

end Cert.SparseRefIdeal.Prep

namespace Cert.SparseClaims

open Idealize.ShloMosaic Idealize.ShloMosaic.TcCoe Idealize.SL.Sem

theorem printed_frame : quiescent_Sparse := fun m g _ => Cert.Sparse.Gen.frame m g

theorem ideal_frame : quiescent_SparseIdeal := fun m g _ => Cert.SparseIdeal.Gen.frame m g

theorem reference_frame : quiescent_SparseRefIdeal := fun m g _ =>
  (θ_run _ _ _).mono (fun r h => ⟨fun c => (h c).2.2.2.2.2.2, sem_eq_zero_of_no_sems rfl r.2⟩) (Cert.SparseRefIdeal.Value.run m g)

theorem value : algebraic_SparseIdeal_SparseRefIdeal := fun m g m' g' _ hag => by
  refine ⟨fun c => Cert.SparseIdeal.Prep.qts m c, fun c => Cert.SparseIdeal.Prep.qits m c, fun c => Cert.SparseIdeal.Prep.wts m c,
    fun c => Cert.SparseIdeal.Prep.keys m c, fun c => Cert.SparseIdeal.Prep.vals m c, fun c => Cert.SparseIdeal.Prep.ikeys m c, ?_, ?_⟩
  · refine (θ_run _ _ _).mono (fun r q => fun c => ?_) (θ_run_and (Cert.SparseIdeal.Gen.run_main m g) (Cert.SparseIdeal.Gen.unchanged m g))
    exact ⟨((q.1 c).1 8).trans (Cert.SparseIdeal.Prep.final8 m c), ((q.1 c).1 9).trans (Cert.SparseIdeal.Prep.final9 m c),
      ((q.1 c).1 10).trans (Cert.SparseIdeal.Prep.final10 m c), ((q.1 c).1 11).trans (Cert.SparseIdeal.Prep.final11 m c),
      ((q.1 c).1 12).trans (Cert.SparseIdeal.Prep.final12 m c), ((q.1 c).1 13).trans (Cert.SparseIdeal.Prep.final13 m c), q.2 c⟩
  · refine (θ_run _ _ _).mono (fun r q => fun c => ?_) (Cert.SparseRefIdeal.Value.run m' g')
    obtain ⟨e0, e1, e2, e3, e4, e5⟩ := hag c
    refine ⟨(q c).1.trans ((Cert.SparseRefIdeal.Prep.res0_eq _ _ _ _).trans ?_), (q c).2.1.trans ((Cert.SparseRefIdeal.Prep.res1_eq _ _ _ _).trans ?_),
      (q c).2.2.1.trans ((Cert.SparseRefIdeal.Prep.res2_eq _).trans ?_), (q c).2.2.2.1.trans ((Cert.SparseRefIdeal.Prep.res3_eq _ _).trans ?_),
      (q c).2.2.2.2.1.trans ((Cert.SparseRefIdeal.Prep.res4_eq _).trans ?_), (q c).2.2.2.2.2.1.trans ((Cert.SparseRefIdeal.Prep.res5_eq _ _).trans ?_), (q c).2.2.2.2.2.2⟩
    · unfold Cert.SparseIdeal.Prep.qts
      rw [e0, e1, e2, e4]
    · unfold Cert.SparseIdeal.Prep.qits
      rw [e0, e1, e3, e5]
    · unfold Cert.SparseIdeal.Prep.wts
      rw [e0]
    · unfold Cert.SparseIdeal.Prep.keys
      rw [e0, e4]
    · unfold Cert.SparseIdeal.Prep.vals
      rw [e0]
    · unfold Cert.SparseIdeal.Prep.ikeys
      rw [e0, e5]

end Cert.SparseClaims

end
-- ==== Proof.lean ====
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Ffn.Claims
public import proofs.«01_k».proof.Proof.Gen.Pre_ranges
public import proofs.«01_k».proof.Proof.InProj.Claims
public import proofs.«01_k».proof.Proof.NextProj.Claims
public import proofs.«01_k».proof.Proof.FinalNorm.Claims
public import proofs.«01_k».proof.Proof.OutProj.Claims
public import proofs.«01_k».proof.Proof.Mod.Claims
public import proofs.«01_k».proof.Proof.Sparse.Claims
public import proofs.«01_k».proof.Proof.Gen.Pre_finite
public import proofs.«01_k».proof.Proof.Gen.InProj
public import proofs.«01_k».proof.Proof.Gen.InProj.Skeleton
public import proofs.«01_k».proof.Proof.Gen.InProj.Launch
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Value
public import proofs.«01_k».proof.Proof.Gen.InProjIdeal.Frame
public import proofs.«01_k».proof.Proof.Gen.InProjRefIdeal
public import proofs.«01_k».proof.Proof.Gen.InProjRefIdeal.Run
public import proofs.«01_k».proof.Proof.Gen.NextProj
public import proofs.«01_k».proof.Proof.Gen.NextProj.Skeleton
public import proofs.«01_k».proof.Proof.Gen.NextProj.Launch
public import proofs.«01_k».proof.Proof.Gen.NextProj.Frame
public import proofs.«01_k».proof.Proof.Gen.NextProjIdeal
public import proofs.«01_k».proof.Proof.Gen.NextProjIdeal.Skeleton
public import proofs.«01_k».proof.Proof.Gen.NextProjIdeal.Launch
public import proofs.«01_k».proof.Proof.Gen.NextProjIdeal.Value
public import proofs.«01_k».proof.Proof.Gen.NextProjIdeal.Frame
public import proofs.«01_k».proof.Proof.Gen.NextProjRefIdeal
public import proofs.«01_k».proof.Proof.Gen.NextProjRefIdeal.Run
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Value
public import proofs.«01_k».proof.Proof.Gen.FinalNormIdeal.Frame
public import proofs.«01_k».proof.Proof.Gen.FinalNormRefIdeal
public import proofs.«01_k».proof.Proof.Gen.FinalNormRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.Mod
public import proofs.«01_k».proof.Proof.Gen.Mod.Skeleton
public import proofs.«01_k».proof.Proof.Gen.Mod.Launch
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Sparse
public import proofs.«01_k».proof.Proof.Gen.Sparse.Skeleton
public import proofs.«01_k».proof.Proof.Gen.Sparse.Launch
public import proofs.«01_k».proof.Proof.Gen.Sparse.Frame
public import proofs.«01_k».proof.Proof.Gen.SparseIdeal
public import proofs.«01_k».proof.Proof.Gen.SparseIdeal.Skeleton
public import proofs.«01_k».proof.Proof.Gen.SparseIdeal.Launch
public import proofs.«01_k».proof.Proof.Gen.SparseIdeal.Frame
public import proofs.«01_k».proof.Proof.Gen.SparseRefIdeal
public import proofs.«01_k».proof.Proof.Gen.SparseRefIdeal.Run
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel2.Gen.facts, Cert.Kernel2Ideal.Gen.facts, Cert.Reference2Ideal.Gen.facts,
  Cert.InProj.Gen.facts, Cert.InProjIdeal.Gen.facts, Cert.InProjRefIdeal.Gen.facts,
  Cert.NextProj.Gen.facts, Cert.NextProjIdeal.Gen.facts, Cert.NextProjRefIdeal.Gen.facts,
  Cert.FinalNorm.Gen.facts, Cert.FinalNormIdeal.Gen.facts, Cert.FinalNormRefIdeal.Gen.facts,
  Cert.OutProj.Gen.facts, Cert.OutProjIdeal.Gen.facts, Cert.OutProjRefIdeal.Gen.facts,
  Cert.Mod.Gen.facts, Cert.ModIdeal.Gen.facts, Cert.ModRefIdeal.Gen.facts,
  Cert.Sparse.Gen.facts, Cert.SparseIdeal.Gen.facts, Cert.SparseRefIdeal.Gen.facts, Cert.Pre_ranges.Gen.facts, Cert.Pre_finite.Gen.facts,
  FfnClaims.printed_frame, FfnClaims.ideal_frame, FfnClaims.reference_frame, FfnClaims.reference_frame_ranges,
  InProjClaims.printed_frame, InProjClaims.ideal_frame, InProjClaims.reference_frame,
  NextProjClaims.printed_frame, NextProjClaims.ideal_frame, NextProjClaims.reference_frame,
  FinalNormClaims.printed_frame, FinalNormClaims.ideal_frame, FinalNormClaims.reference_frame,
  OutProjClaims.printed_frame, OutProjClaims.ideal_frame, OutProjClaims.ideal_frame_finite, OutProjClaims.reference_frame, OutProjClaims.reference_frame_finite,
  ModClaims.printed_frame, ModClaims.ideal_frame, ModClaims.reference_frame,
  SparseClaims.printed_frame, SparseClaims.ideal_frame, SparseClaims.reference_frame,
  trivial, FfnClaims.value, trivial, InProjClaims.value, trivial, NextProjClaims.value, trivial, FinalNormClaims.value,
  trivial, OutProjClaims.value,
  trivial, ModClaims.value,
  trivial, SparseClaims.value⟩

end Cert.Proof

end
